-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_tables_fit : Cert.Pre_tables_fit.Facts] (m : (ℓ : Loc Cert.Kernel5.nD Cert.Kernel5.τ Cert.Kernel5.sig) → Buf (Elt Bits) ℓ) : Prop :=
  ∀ c : Dev Cert.Kernel5.nD,
    (Cert.Pre_tables_fit.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5))).1 = (fun _ => 1#1)
    ∧ (Cert.Pre_tables_fit.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5))).2 = (fun _ => 1#1)

def Pre_Kernel5Ideal [hPre_tables_fit : Cert.Pre_tables_fit.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_tables_fit.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_tables_fit.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2 = (fun _ => 1#1)

def Pre_Kernel5Ideal_rows_fit [hPre_rows_fit : Cert.Pre_rows_fit.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_rows_fit.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_rows_fit.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.1 = (fun _ => 1#1)
    ∧ (Cert.Pre_rows_fit.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_rows_fit [hPre_rows_fit : Cert.Pre_rows_fit.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_rows_fit.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).1 = (fun _ => 1#1)
    ∧ (Cert.Pre_rows_fit.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.1 = (fun _ => 1#1)
    ∧ (Cert.Pre_rows_fit.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] [hPre_tables_fit : Cert.Pre_tables_fit.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] [hPre_tables_fit : Cert.Pre_tables_fit.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_rows_fit [hKernel5Ideal : Cert.Kernel5Ideal.Facts] [hPre_rows_fit : Cert.Pre_rows_fit.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_rows_fit m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_rows_fit [hReference5Ideal : Cert.Reference5Ideal.Facts] [hPre_rows_fit : Cert.Pre_rows_fit.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_rows_fit m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v67_0)) (v1 : (c : Dev Cert.KernelIdeal.nD) → Buf (Elt Ideal) ((c.tc : Thread Cert.KernelIdeal.nD Cert.KernelIdeal.τ).loc Cert.KernelIdeal.main_v67_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67_0) = v0 c
          ∧ r.2.mem ((c.tc : Thread Cert.KernelIdeal.nD Cert.KernelIdeal.τ).loc Cert.KernelIdeal.main_v67_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v88_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_rows_fit [hKernel5Ideal : Cert.Kernel5Ideal.Facts] [hReference5Ideal : Cert.Reference5Ideal.Facts] [hPre_rows_fit : Cert.Pre_rows_fit.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_rows_fit m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v189) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_tables_fit : Cert.Pre_tables_fit.Facts) (hPre_rows_fit : Cert.Pre_rows_fit.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_tables_fit := hPre_tables_fit)
    ∧ quiescent_Kernel5Ideal (hKernel5Ideal := hKernel5Ideal) (hPre_tables_fit := hPre_tables_fit)
    ∧ quiescent_Kernel5Ideal_pre_rows_fit (hKernel5Ideal := hKernel5Ideal) (hPre_rows_fit := hPre_rows_fit)
    ∧ quiescent_Reference5Ideal (hReference5Ideal := hReference5Ideal)
    ∧ quiescent_Reference5Ideal_pre_rows_fit (hReference5Ideal := hReference5Ideal) (hPre_rows_fit := hPre_rows_fit)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_rows_fit (hKernel5Ideal := hKernel5Ideal) (hReference5Ideal := hReference5Ideal) (hPre_rows_fit := hPre_rows_fit)
-- ==== Pre_rows_fit.lean ====
abbrev S72 : Shape := ⟨1, ![72]⟩
abbrev S73 : Shape := ⟨1, ![73]⟩
abbrev S294912x128 : Shape := ⟨2, ![294912, 128]⟩
abbrev S8x1024x3584 : Shape := ⟨3, ![8, 1024, 3584]⟩
abbrev S8x3584x1024 : Shape := ⟨3, ![8, 3584, 1024]⟩
abbrev S72x512x1024 : Shape := ⟨3, ![72, 512, 1024]⟩
abbrev S1 : Shape := ⟨1, ![1]⟩
abbrev S_ : Shape := ⟨0, ![]⟩
abbrev S72x1x1 : Shape := ⟨3, ![72, 1, 1]⟩

class Facts : Prop where
  shapeCasts_S294912x128_S72x512x1024 : S294912x128.ShapeCasts S72x512x1024
  slices_S73_S1_0 : S73.Slices ![0] S1
  shapeCasts_S1_S_ : S1.ShapeCasts S_
  bcast_S_S72x512x1024 : S_.BroadcastsInDim S72x512x1024 (![] : Fin 0 → Fin S72x512x1024.rank)
  slices_S73_S72_1 : S73.Slices ![1] S72
  shapeCasts_S72_S72x1x1 : S72.ShapeCasts S72x1x1
  bcast_S72x1x1_S72x512x1024_0_1_2 : S72x1x1.BroadcastsInDim S72x512x1024 (![0, 1, 2] : Fin 3 → Fin S72x512x1024.rank)
  bcast_S_S72 : S_.BroadcastsInDim S72 (![] : Fin 0 → Fin S72.rank)
  bcast_S_S1 : S_.BroadcastsInDim S1 (![] : Fin 0 → Fin S1.rank)

variable [Facts]

def fn_part1 {F : FTy → Type} [FloatOps F] (main_v0 : FVec F S72x512x1024 .f32) (main_v11 : IVec S72x512x1024 1) (main_v16 : IVec S72 1) (main_v19 : IVec S1 1) (main_cst : FVec F S_ .f32) : IVec S72 1 × IVec S1 1 × IVec S72x512x1024 1 :=
  let main_v20 : FVec F S72x512x1024 .f32 := broadcastInDim S72x512x1024 ![] bcast_S_S72x512x1024 main_cst
  let main_v21 : IVec S72x512x1024 1 := cmpf .oeq main_v0 main_v20
  let main_v22 : IVec S72x512x1024 1 := ori main_v11 main_v21
  (main_v16, main_v19, main_v22)

def fn {F : FTy → Type} [FloatOps F] (main_arg0 : IVec S72 32) (main_arg1 : IVec S73 32) (main_arg2 : FVec F S294912x128 .f32) (main_arg3 : FVec F S8x1024x3584 .bf16) (main_arg4 : FVec F S8x1024x3584 .bf16) (main_arg5 : FVec F S8x3584x1024 .bf16) : IVec S72 1 × IVec S1 1 × IVec S72x512x1024 1 :=
  let main_v0 : FVec F S72x512x1024 .f32 := shapeCast S72x512x1024 main_arg2 shapeCasts_S294912x128_S72x512x1024
  let main_v1 : IVec S72x512x1024 32 := iotaInDim S72x512x1024 32 0
  let main_v2 : IVec S72x512x1024 32 := iotaInDim S72x512x1024 32 1
  let main_v3 : IVec S1 32 := (extractStridedSlice S1 ![0] · slices_S73_S1_0) main_arg1
  let main_v4 : IVec S_ 32 := shapeCast S_ main_v3 shapeCasts_S1_S_
  let main_v5 : IVec S72x512x1024 32 := broadcastInDim S72x512x1024 ![] bcast_S_S72x512x1024 main_v4
  let main_v6 : IVec S72x512x1024 1 := cmpi .sge main_v1 main_v5
  let main_v7 : IVec S72 32 := (extractStridedSlice S72 ![1] · slices_S73_S72_1) main_arg1
  let main_v8 : IVec S72x1x1 32 := shapeCast S72x1x1 main_v7 shapeCasts_S72_S72x1x1
  let main_v9 : IVec S72x512x1024 32 := broadcastInDim S72x512x1024 ![0, 1, 2] bcast_S72x1x1_S72x512x1024_0_1_2 main_v8
  let main_v10 : IVec S72x512x1024 1 := cmpi .slt main_v2 main_v9
  let main_v11 : IVec S72x512x1024 1 := ori main_v6 main_v10
  let main_c : IVec S_ 32 := constantI S_ 32 0#32
  let main_v12 : IVec S72 32 := broadcastInDim S72 ![] bcast_S_S72 main_c
  let main_v13 : IVec S72 1 := cmpi .sge main_arg0 main_v12
  let main_c_0 : IVec S_ 32 := constantI S_ 32 7#32
  let main_v14 : IVec S72 32 := broadcastInDim S72 ![] bcast_S_S72 main_c_0
  let main_v15 : IVec S72 1 := cmpi .sle main_arg0 main_v14
  let main_v16 : IVec S72 1 := andi main_v13 main_v15
  let main_v17 : IVec S1 32 := (extractStridedSlice S1 ![0] · slices_S73_S1_0) main_arg1
  let main_c_1 : IVec S_ 32 := constantI S_ 32 1#32
  let main_v18 : IVec S1 32 := broadcastInDim S1 ![] bcast_S_S1 main_c_1
  let main_v19 : IVec S1 1 := cmpi .sge main_v17 main_v18
  let main_cst : FVec F S_ .f32 := constant S_ .f32 0x00000000#32
  fn_part1 (F := F) main_v0 main_v11 main_v16 main_v19 main_cst
-- ==== Pre_tables_fit.lean ====
abbrev S72 : Shape := ⟨1, ![72]⟩
abbrev S73 : Shape := ⟨1, ![73]⟩
abbrev S294912x128 : Shape := ⟨2, ![294912, 128]⟩
abbrev S8x1024x3584 : Shape := ⟨3, ![8, 1024, 3584]⟩
abbrev S8x3584x1024 : Shape := ⟨3, ![8, 3584, 1024]⟩
abbrev S_ : Shape := ⟨0, ![]⟩
abbrev S1 : Shape := ⟨1, ![1]⟩

class Facts : Prop where
  bcast_S_S72 : S_.BroadcastsInDim S72 (![] : Fin 0 → Fin S72.rank)
  slices_S73_S1_0 : S73.Slices ![0] S1
  bcast_S_S1 : S_.BroadcastsInDim S1 (![] : Fin 0 → Fin S1.rank)

variable [Facts]

def fn {F : FTy → Type} [FloatOps F] (main_arg0 : IVec S72 32) (main_arg1 : IVec S73 32) (main_arg2 : FVec F S294912x128 .f32) (main_arg3 : FVec F S8x1024x3584 .bf16) (main_arg4 : FVec F S8x1024x3584 .bf16) (main_arg5 : FVec F S8x3584x1024 .bf16) : IVec S72 1 × IVec S1 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 7#32
  let main_v2 : IVec S72 32 := broadcastInDim S72 ![] bcast_S_S72 main_c_0
  let main_v3 : IVec S72 1 := cmpi .sle main_arg0 main_v2
  let main_v4 : IVec S72 1 := andi main_v1 main_v3
  let main_v5 : IVec S1 32 := (extractStridedSlice S1 ![0] · slices_S73_S1_0) main_arg1
  let main_c_1 : IVec S_ 32 := constantI S_ 32 1#32
  let main_v6 : IVec S1 32 := broadcastInDim S1 ![] bcast_S_S1 main_c_1
  let main_v7 : IVec S1 1 := cmpi .sge main_v5 main_v6
  (main_v4, main_v7)
-- ==== Kernel.lean ====
abbrev S8x2048x7680 : Shape := ⟨3, ![8, 2048, 7680]⟩
abbrev S8x4x128x256 : Shape := ⟨4, ![8, 4, 128, 256]⟩
abbrev S2048 : Shape := ⟨1, ![2048]⟩
abbrev S_ : Shape := ⟨0, ![]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x1x256 : Shape := ⟨3, ![4, 1, 256]⟩
abbrev S8x2048x1024 : Shape := ⟨3, ![8, 2048, 1024]⟩
abbrev S1x512x512 : Shape := ⟨3, ![1, 512, 512]⟩
abbrev S512x128 : Shape := ⟨2, ![512, 128]⟩
abbrev S1x4x128x256 : Shape := ⟨4, ![1, 4, 128, 256]⟩
abbrev S1x512x1024 : Shape := ⟨3, ![1, 512, 1024]⟩
abbrev S4x128x256 : Shape := ⟨3, ![4, 128, 256]⟩
abbrev S1x128x256 : Shape := ⟨3, ![1, 128, 256]⟩
abbrev S128x256 : Shape := ⟨2, ![128, 256]⟩
abbrev S1x128x1 : Shape := ⟨3, ![1, 128, 1]⟩
abbrev S1x1x256 : Shape := ⟨3, ![1, 1, 256]⟩
abbrev S1x256 : Shape := ⟨2, ![1, 256]⟩

abbrev nBuf : Space → Nat
  | .hbm => 86
  | .vmem => 27
  | .smem => 0
  | _ => 0

abbrev bufTy : (tb : Table) → Fin (tcTables nBuf tb) → BufTy
  | .hbm, ⟨0, _⟩ => ⟨S8x2048x7680, .bf16⟩
  | .hbm, ⟨1, _⟩ => ⟨S8x4x128x256, .f32⟩
  | .hbm, ⟨2, _⟩ => ⟨S2048, .f32⟩
  | .hbm, ⟨3, _⟩ => ⟨S_, .f32⟩
  | .hbm, ⟨4, _⟩ => ⟨S2048, .f32⟩
  | .hbm, ⟨5, _⟩ => ⟨S2048, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S2048x1, .f32⟩
  | .hbm, ⟨15, _⟩ => ⟨S1x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x64, .f32⟩
  | .hbm, ⟨21, _⟩ => ⟨S2048x128, .f32⟩
  | .hbm, ⟨22, _⟩ => ⟨S2048x64, .f32⟩
  | .hbm, ⟨23, _⟩ => ⟨S2048x128, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S4, .f32⟩
  | .hbm, ⟨35, _⟩ => ⟨S128, .f32⟩
  | .hbm, ⟨36, _⟩ => ⟨S128x1, .f32⟩
  | .hbm, ⟨37, _⟩ => ⟨S1x128, .f32⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S_, .f32⟩
  | .hbm, ⟨42, _⟩ => ⟨S128x128, .f32⟩
  | .hbm, ⟨43, _⟩ => ⟨S128x128, .i1⟩
  | .hbm, ⟨44, _⟩ => ⟨S_, .f32⟩
  | .hbm, ⟨45, _⟩ => ⟨S128x128, .f32⟩
  | .hbm, ⟨46, _⟩ => ⟨S128x128, .f32⟩
  | .hbm, ⟨47, _⟩ => ⟨S1x128x128, .f32⟩
  | .hbm, ⟨48, _⟩ => ⟨S4x1x1, .f32⟩
  | .hbm, ⟨49, _⟩ => ⟨S4x128x128, .f32⟩
  | .hbm, ⟨50, _⟩ => ⟨S4x128x128, .f32⟩
  | .hbm, ⟨51, _⟩ => ⟨S4x128x128, .f32⟩
  | .hbm, ⟨52, _⟩ => ⟨S4x128x128, .f32⟩
  | .hbm, ⟨53, _⟩ => ⟨S_, .f32⟩
  | .hbm, ⟨54, _⟩ => ⟨S_, .f32⟩
  | .hbm, ⟨55, _⟩ => ⟨S4x128x128, .i1⟩
  | .hbm, ⟨56, _⟩ => ⟨S4x128x128, .f32⟩
  | .hbm, ⟨57, _⟩ => ⟨S4x128x128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S1x128, .f32⟩
  | .hbm, ⟨62, _⟩ => ⟨S4x1, .f32⟩
  | .hbm, ⟨63, _⟩ => ⟨S4x128, .f32⟩
  | .hbm, ⟨64, _⟩ => ⟨S4x128, .f32⟩
  | .hbm, ⟨65, _⟩ => ⟨S4x128, .f32⟩
  | .hbm, ⟨66, _⟩ => ⟨S4x128, .f32⟩
  | .hbm, ⟨67, _⟩ => ⟨S4x128x1, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S4x1, .f32⟩
  | .hbm, ⟨73, _⟩ => ⟨S4x128, .f32⟩
  | .hbm, ⟨74, _⟩ => ⟨S4x128, .f32⟩
  | .hbm, ⟨75, _⟩ => ⟨S4x128, .f32⟩
  | .hbm, ⟨76, _⟩ => ⟨S4x128, .f32⟩
  | .hbm, ⟨77, _⟩ => ⟨S4x128x1, .f32⟩
  | .hbm, ⟨78, _⟩ => ⟨S_, .f32⟩
  | .hbm, ⟨79, _⟩ => ⟨S4, .f32⟩
  | .hbm, ⟨80, _⟩ => ⟨S4, .f32⟩
  | .hbm, ⟨81, _⟩ => ⟨S4, .f32⟩
  | .hbm, ⟨82, _⟩ => ⟨S4x1x1, .f32⟩
  | .hbm, ⟨83, _⟩ => ⟨S4x1x256, .f32⟩
  | .hbm, ⟨84, _⟩ => ⟨S8x2048x1024, .bf16⟩
  | .hbm, ⟨85, _⟩ => ⟨S8x4x128x256, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S1x4x128x256, .f32⟩
  | .local _ .vmem, ⟨17, _⟩ => ⟨S1x4x128x256, .f32⟩
  | .local _ .vmem, ⟨18, _⟩ => ⟨S4x128x128, .f32⟩
  | .local _ .vmem, ⟨19, _⟩ => ⟨S4x128x1, .f32⟩
  | .local _ .vmem, ⟨20, _⟩ => ⟨S4x128x1, .f32⟩
  | .local _ .vmem, ⟨21, _⟩ => ⟨S4x1x256, .f32⟩
  | .local _ .vmem, ⟨22, _⟩ => ⟨S1x512x1024, .bf16⟩
  | .local _ .vmem, ⟨23, _⟩ => ⟨S1x512x1024, .bf16⟩
  | .local _ .vmem, ⟨24, _⟩ => ⟨S1x4x128x256, .f32⟩
  | .local _ .vmem, ⟨25, _⟩ => ⟨S1x4x128x256, .f32⟩
  | .local _ .vmem, ⟨26, _⟩ => ⟨S4x128x256, .f32⟩
  | _, _ => ⟨S8x2048x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_v34 : Ref sig .tc := ⟨.hbm, 43, rfl⟩
abbrev main_cst_6 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_7 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67_0 : Ref sig .tc := ⟨.hbm, 84, rfl⟩
abbrev main_v67_1 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_4 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_5 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4x1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S8x2048x7680 : Shape := ⟨3, ![8, 2048, 7680]⟩
abbrev S8x4x128x256 : Shape := ⟨4, ![8, 4, 128, 256]⟩
abbrev S8x2048x512 : Shape := ⟨3, ![8, 2048, 512]⟩
abbrev S8x2048x1024 : Shape := ⟨3, ![8, 2048, 1024]⟩
abbrev S2048 : Shape := ⟨1, ![2048]⟩
abbrev S_ : Shape := ⟨0, ![]⟩
abbrev S8x2048x4x128 : Shape := ⟨4, ![8, 2048, 4, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S8x2048x4x64 : Shape := ⟨4, ![8, 2048, 4, 64]⟩
abbrev S8x2048x4x256 : Shape := ⟨4, ![8, 2048, 4, 256]⟩
abbrev S4 : Shape := ⟨1, ![4]⟩
abbrev S8x4x2048x128 : Shape := ⟨4, ![8, 4, 2048, 128]⟩
abbrev S8x4x16x128x128 : Shape := ⟨5, ![8, 4, 16, 128, 128]⟩
abbrev S16x8x4x128x128 : Shape := ⟨5, ![16, 8, 4, 128, 128]⟩
abbrev S8x4x2048x256 : Shape := ⟨4, ![8, 4, 2048, 256]⟩
abbrev S8x4x16x128x256 : Shape := ⟨5, ![8, 4, 16, 128, 256]⟩
abbrev S16x8x4x128x256 : Shape := ⟨5, ![16, 8, 4, 128, 256]⟩
abbrev S1x8x4x128x128 : Shape := ⟨5, ![1, 8, 4, 128, 128]⟩
abbrev S8x4x128x128 : Shape := ⟨4, ![8, 4, 128, 128]⟩
abbrev S1x8x4x128x256 : Shape := ⟨5, ![1, 8, 4, 128, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4x128x128 : Shape := ⟨4, ![1, 4, 128, 128]⟩
abbrev S4x1 : Shape := ⟨2, ![4, 1]⟩
abbrev S4x128 : Shape := ⟨2, ![4, 128]⟩
abbrev S1x4x128x1 : Shape := ⟨4, ![1, 4, 128, 1]⟩
abbrev S1x4x1x1 : Shape := ⟨4, ![1, 4, 1, 1]⟩
abbrev S8x2048x4 : Shape := ⟨3, ![8, 2048, 4]⟩
abbrev S8x2048x4x1 : Shape := ⟨4, ![8, 2048, 4, 1]⟩

abbrev nBuf : Space → Nat
  | .hbm => 239
  | .vmem => 0
  | .smem => 0
  | _ => 0

abbrev hbmTy0_0 (i : Nat) : BufTy := match i % 128 with
  | 0 => ⟨S8x2048x7680, .bf16⟩
  | 1 => ⟨S8x4x128x256, .f32⟩
  | 2 => ⟨S8x2048x512, .bf16⟩
  | 3 => ⟨S8x2048x512, .bf16⟩
  | 4 => ⟨S8x2048x1024, .bf16⟩
  | 5 => ⟨S2048, .f32⟩
  | 6 => ⟨S_, .f32⟩
  | 7 => ⟨S2048, .f32⟩
  | 8 => ⟨S2048, .f32⟩
  | 9 => ⟨S8x2048x512, .f32⟩
  | 10 => ⟨S8x2048x4x128, .f32⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S2048x1, .f32⟩
  | 20 => ⟨S1x64, .f32⟩
  | 21 => ⟨S2048x64, .f32⟩
  | 22 => ⟨S2048x64, .f32⟩
  | 23 => ⟨S2048x64, .f32⟩
  | 24 => ⟨S2048x64, .f32⟩
  | 25 => ⟨S1x2048x1x64, .f32⟩
  | 26 => ⟨S2048x64, .f32⟩
  | 27 => ⟨S1x2048x1x64, .f32⟩
  | 28 => ⟨S8x2048x4x64, .f32⟩
  | 29 => ⟨S8x2048x4x64, .f32⟩
  | 30 => ⟨S8x2048x4x64, .f32⟩
  | 31 => ⟨S8x2048x4x64, .f32⟩
  | 32 => ⟨S8x2048x4x64, .f32⟩
  | 33 => ⟨S8x2048x4x64, .f32⟩
  | 34 => ⟨S8x2048x4x64, .f32⟩
  | 35 => ⟨S8x2048x4x64, .f32⟩
  | 36 => ⟨S8x2048x4x64, .f32⟩
  | 37 => ⟨S8x2048x4x64, .f32⟩
  | 38 => ⟨S8x2048x4x64, .f32⟩
  | 39 => ⟨S8x2048x4x64, .f32⟩
  | 40 => ⟨S8x2048x4x128, .f32⟩
  | 41 => ⟨S8x2048x512, .f32⟩
  | 42 => ⟨S8x2048x4x128, .f32⟩
  | 43 => ⟨S64, .f32⟩
  | 44 => ⟨S64, .f32⟩
  | 45 => ⟨S_, .f32⟩
  | 46 => ⟨S64, .f32⟩
  | 47 => ⟨S64, .f32⟩
  | 48 => ⟨S_, .f32⟩
  | 49 => ⟨S64, .f32⟩
  | 50 => ⟨S64, .f32⟩
  | 51 => ⟨S2048x1, .f32⟩
  | 52 => ⟨S1x64, .f32⟩
  | 53 => ⟨S2048x64, .f32⟩
  | 54 => ⟨S2048x64, .f32⟩
  | 55 => ⟨S2048x64, .f32⟩
  | 56 => ⟨S2048x64, .f32⟩
  | 57 => ⟨S1x2048x1x64, .f32⟩
  | 58 => ⟨S2048x64, .f32⟩
  | 59 => ⟨S1x2048x1x64, .f32⟩
  | 60 => ⟨S8x2048x4x64, .f32⟩
  | 61 => ⟨S8x2048x4x64, .f32⟩
  | 62 => ⟨S8x2048x4x64, .f32⟩
  | 63 => ⟨S8x2048x4x64, .f32⟩
  | 64 => ⟨S8x2048x4x64, .f32⟩
  | 65 => ⟨S8x2048x4x64, .f32⟩
  | 66 => ⟨S8x2048x4x64, .f32⟩
  | 67 => ⟨S8x2048x4x64, .f32⟩
  | 68 => ⟨S8x2048x4x64, .f32⟩
  | 69 => ⟨S8x2048x4x64, .f32⟩
  | 70 => ⟨S8x2048x4x64, .f32⟩
  | 71 => ⟨S8x2048x4x64, .f32⟩
  | 72 => ⟨S8x2048x4x128, .f32⟩
  | 73 => ⟨S_, .f32⟩
  | 74 => ⟨S8x2048x4x128, .f32⟩
  | 75 => ⟨S8x2048x4x128, .f32⟩
  | 76 => ⟨S8x2048x1024, .f32⟩
  | 77 => ⟨S8x2048x4x256, .f32⟩
  | 78 => ⟨S4, .f32⟩
  | 79 => ⟨S_, .f32⟩
  | 80 => ⟨S4, .f32⟩
  | 81 => ⟨S4, .f32⟩
  | 82 => ⟨S_, .f32⟩
  | 83 => ⟨S4, .f32⟩
  | 84 => ⟨S4, .f32⟩
  | 85 => ⟨S_, .f32⟩
  | 86 => ⟨S4, .f32⟩
  | 87 => ⟨S4, .f32⟩
  | 88 => ⟨S4, .f32⟩
  | 89 => ⟨S8x4x2048x128, .f32⟩
  | 90 => ⟨S8x4x16x128x128, .f32⟩
  | 91 => ⟨S16x8x4x128x128, .f32⟩
  | 92 => ⟨S8x4x2048x128, .f32⟩
  | 93 => ⟨S8x4x16x128x128, .f32⟩
  | 94 => ⟨S16x8x4x128x128, .f32⟩
  | 95 => ⟨S8x4x2048x256, .f32⟩
  | 96 => ⟨S8x4x16x128x256, .f32⟩
  | 97 => ⟨S16x8x4x128x256, .f32⟩
  | 98 => ⟨S_, .f32⟩
  | 99 => ⟨S16x8x4x128x256, .f32⟩
  | 100 => ⟨S_, .i32⟩
  | 101 => ⟨S16x8x4x128x128, .f32⟩
  | 102 => ⟨S16x8x4x128x128, .f32⟩
  | 103 => ⟨S16x8x4x128x256, .f32⟩
  | 104 => ⟨S4, .f32⟩
  | 105 => ⟨S_, .i32⟩
  | 106 => ⟨S8x4x128x256, .f32⟩
  | 107 => ⟨S16x8x4x128x256, .f32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S1x8x4x128x128, .f32⟩
  | 115 => ⟨S8x4x128x128, .f32⟩
  | 116 => ⟨S_, .i32⟩
  | 117 => ⟨S_, .i32⟩
  | 118 => ⟨S_, .i32⟩
  | 119 => ⟨S_, .i32⟩
  | 120 => ⟨S1x8x4x128x128, .f32⟩
  | 121 => ⟨S8x4x128x128, .f32⟩
  | 122 => ⟨S_, .i32⟩
  | 123 => ⟨S_, .i32⟩
  | 124 => ⟨S_, .i32⟩
  | 125 => ⟨S_, .i32⟩
  | 126 => ⟨S1x8x4x128x256, .f32⟩
  | 127 => ⟨S8x4x128x256, .f32⟩
  | _ => ⟨S8x2048x7680, .bf16⟩

abbrev hbmTy0_1 (i : Nat) : BufTy := match i % 128 with
  | 0 => ⟨S128, .f32⟩
  | 1 => ⟨S128x1, .f32⟩
  | 2 => ⟨S1x128, .f32⟩
  | 3 => ⟨S128x128, .f32⟩
  | 4 => ⟨S128x128, .f32⟩
  | 5 => ⟨S128x128, .f32⟩
  | 6 => ⟨S_, .f32⟩
  | 7 => ⟨S128x128, .f32⟩
  | 8 => ⟨S128x128, .i1⟩
  | 9 => ⟨S_, .f32⟩
  | 10 => ⟨S128x128, .f32⟩
  | 11 => ⟨S128x128, .f32⟩
  | 12 => ⟨S1x128x128, .f32⟩
  | 13 => ⟨S4x1x1, .f32⟩
  | 14 => ⟨S4x128x128, .f32⟩
  | 15 => ⟨S4x128x128, .f32⟩
  | 16 => ⟨S4x128x128, .f32⟩
  | 17 => ⟨S4x128x128, .f32⟩
  | 18 => ⟨S_, .f32⟩
  | 19 => ⟨S_, .f32⟩
  | 20 => ⟨S4x128x128, .i1⟩
  | 21 => ⟨S4x128x128, .f32⟩
  | 22 => ⟨S4x128x128, .f32⟩
  | 23 => ⟨S8x4x128x128, .f32⟩
  | 24 => ⟨S1x4x128x128, .f32⟩
  | 25 => ⟨S8x4x128x128, .f32⟩
  | 26 => ⟨S8x4x128x128, .f32⟩
  | 27 => ⟨S_, .f32⟩
  | 28 => ⟨S128, .f32⟩
  | 29 => ⟨S128, .f32⟩
  | 30 => ⟨S1x128, .f32⟩
  | 31 => ⟨S4x1, .f32⟩
  | 32 => ⟨S4x128, .f32⟩
  | 33 => ⟨S4x128, .f32⟩
  | 34 => ⟨S4x128, .f32⟩
  | 35 => ⟨S4x128, .f32⟩
  | 36 => ⟨S1x4x128x1, .f32⟩
  | 37 => ⟨S8x4x128x256, .f32⟩
  | 38 => ⟨S8x4x128x256, .f32⟩
  | 39 => ⟨S8x4x128x256, .f32⟩
  | 40 => ⟨S8x4x128x256, .f32⟩
  | 41 => ⟨S8x4x128x256, .f32⟩
  | 42 => ⟨S_, .f32⟩
  | 43 => ⟨S128, .f32⟩
  | 44 => ⟨S128, .f32⟩
  | 45 => ⟨S1x128, .f32⟩
  | 46 => ⟨S4x1, .f32⟩
  | 47 => ⟨S4x128, .f32⟩
  | 48 => ⟨S4x128, .f32⟩
  | 49 => ⟨S4x128, .f32⟩
  | 50 => ⟨S4x128, .f32⟩
  | 51 => ⟨S1x4x128x1, .f32⟩
  | 52 => ⟨S_, .f32⟩
  | 53 => ⟨S4, .f32⟩
  | 54 => ⟨S4, .f32⟩
  | 55 => ⟨S4, .f32⟩
  | 56 => ⟨S1x4x1x1, .f32⟩
  | 57 => ⟨S8x4x128x256, .f32⟩
  | 58 => ⟨S8x4x128x256, .f32⟩
  | 59 => ⟨S8x4x128x128, .f32⟩
  | 60 => ⟨S8x4x128x128, .f32⟩
  | 61 => ⟨S8x4x128x256, .f32⟩
  | 62 => ⟨S8x4x128x256, .f32⟩
  | 63 => ⟨S1x8x4x128x256, .f32⟩
  | 64 => ⟨S_, .i32⟩
  | 65 => ⟨S_, .i32⟩
  | 66 => ⟨S_, .i32⟩
  | 67 => ⟨S_, .i32⟩
  | 68 => ⟨S16x8x4x128x256, .f32⟩
  | 69 => ⟨S_, .i32⟩
  | 70 => ⟨S_, .i32⟩
  | 71 => ⟨S8x4x16x128x256, .f32⟩
  | 72 => ⟨S8x4x2048x256, .f32⟩
  | 73 => ⟨S8x2048x4x256, .f32⟩
  | 74 => ⟨S_, .f32⟩
  | 75 => ⟨S8x2048x4, .f32⟩
  | 76 => ⟨S8x2048x4x1, .f32⟩
  | 77 => ⟨S_, .f32⟩
  | 78 => ⟨S8x2048x4x1, .f32⟩
  | 79 => ⟨S8x2048x4x1, .f32⟩
  | 80 => ⟨S8x2048x4x256, .f32⟩
  | 81 => ⟨S8x2048x4x256, .f32⟩
  | 82 => ⟨S8x2048x4x256, .f32⟩
  | 83 => ⟨S_, .f32⟩
  | 84 => ⟨S8x2048x4, .f32⟩
  | 85 => ⟨S8x2048x4x1, .f32⟩
  | 86 => ⟨S_, .f32⟩
  | 87 => ⟨S8x2048x4x1, .f32⟩
  | 88 => ⟨S8x2048x4x1, .f32⟩
  | 89 => ⟨S8x2048x4x256, .f32⟩
  | 90 => ⟨S8x2048x4x256, .f32⟩
  | 91 => ⟨S_, .f32⟩
  | 92 => ⟨S8x2048x4x1, .f32⟩
  | 93 => ⟨S8x2048x4x1, .f32⟩
  | 94 => ⟨S8x2048x4x1, .f32⟩
  | 95 => ⟨S8x2048x4x256, .f32⟩
  | 96 => ⟨S8x2048x4x256, .f32⟩
  | 97 => ⟨S8x2048x1024, .f32⟩
  | 98 => ⟨S8x2048x1024, .bf16⟩
  | 99 => ⟨S8x2048x1024, .f32⟩
  | 100 => ⟨S8x2048x1024, .f32⟩
  | 101 => ⟨S8x2048x1024, .f32⟩
  | 102 => ⟨S_, .f32⟩
  | 103 => ⟨S8x2048x1024, .f32⟩
  | 104 => ⟨S8x2048x1024, .f32⟩
  | 105 => ⟨S_, .f32⟩
  | 106 => ⟨S8x2048x1024, .f32⟩
  | 107 => ⟨S8x2048x1024, .f32⟩
  | 108 => ⟨S8x2048x1024, .f32⟩
  | 109 => ⟨S8x2048x1024, .f32⟩
  | 110 => ⟨S8x2048x1024, .bf16⟩
  | _ => ⟨S8x2048x7680, .bf16⟩

abbrev hbmTy (i : Nat) : BufTy := match i / 128 with
  | 0 => hbmTy0_0 i
  | 1 => hbmTy0_1 i
  | _ => ⟨S8x2048x7680, .bf16⟩

abbrev bufTy : (tb : Table) → Fin (tcTables nBuf tb) → BufTy
  | .hbm, ⟨i, _⟩ => hbmTy i
  | _, _ => ⟨S8x2048x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_2 : Ref sig .tc := ⟨.hbm, 45, rfl⟩
abbrev main_v40 : Ref sig .tc := ⟨.hbm, 46, rfl⟩
abbrev main_v41 : Ref sig .tc := ⟨.hbm, 47, rfl⟩
abbrev main_cst_3 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_cst_4 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_cst_5 : Ref sig .tc := ⟨.hbm, 79, rfl⟩
abbrev main_v71 : Ref sig .tc := ⟨.hbm, 80, rfl⟩
abbrev main_v72 : Ref sig .tc := ⟨.hbm, 81, rfl⟩
abbrev main_cst_6 : Ref sig .tc := ⟨.hbm, 82, rfl⟩
abbrev main_v73 : Ref sig .tc := ⟨.hbm, 83, rfl⟩
abbrev main_v74 : Ref sig .tc := ⟨.hbm, 84, rfl⟩
abbrev main_cst_7 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_cst_8 : Ref sig .tc := ⟨.hbm, 98, rfl⟩
abbrev main_v87 : Ref sig .tc := ⟨.hbm, 99, rfl⟩
abbrev main_c : Ref sig .tc := ⟨.hbm, 100, rfl⟩
abbrev main_v88_0 : Ref sig .tc := ⟨.hbm, 101, rfl⟩
abbrev main_v88_1 : Ref sig .tc := ⟨.hbm, 102, rfl⟩
abbrev main_v88_2 : Ref sig .tc := ⟨.hbm, 103, rfl⟩
abbrev main_v88_3 : Ref sig .tc := ⟨.hbm, 104, rfl⟩
abbrev main_v88_4 : Ref sig .tc := ⟨.hbm, 105, rfl⟩
abbrev main_v88_5 : Ref sig .tc := ⟨.hbm, 106, rfl⟩
abbrev main_v88_6 : Ref sig .tc := ⟨.hbm, 107, rfl⟩
abbrev main_while0c_c_20 : Ref sig .tc := ⟨.hbm, 108, rfl⟩
abbrev main_while0c_v116 : Ref sig .tc := ⟨.hbm, 109, rfl⟩
abbrev main_while0b_call0_c : Ref sig .tc := ⟨.hbm, 110, rfl⟩
abbrev main_while0b_call0_c_0 : Ref sig .tc := ⟨.hbm, 111, rfl⟩
abbrev main_while0b_call0_c_1 : Ref sig .tc := ⟨.hbm, 112, rfl⟩
abbrev main_while0b_call0_c_2 : Ref sig .tc := ⟨.hbm, 113, rfl⟩
abbrev main_while0b_call0_v0 : Ref sig .tc := ⟨.hbm, 114, rfl⟩
abbrev main_while0b_v116 : Ref sig .tc := ⟨.hbm, 115, rfl⟩
abbrev main_while0b_call1_c : Ref sig .tc := ⟨.hbm, 116, rfl⟩
abbrev main_while0b_call1_c_0 : Ref sig .tc := ⟨.hbm, 117, rfl⟩
abbrev main_while0b_call1_c_1 : Ref sig .tc := ⟨.hbm, 118, rfl⟩
abbrev main_while0b_call1_c_2 : Ref sig .tc := ⟨.hbm, 119, rfl⟩
abbrev main_while0b_call1_v0 : Ref sig .tc := ⟨.hbm, 120, rfl⟩
abbrev main_while0b_v117 : Ref sig .tc := ⟨.hbm, 121, rfl⟩
abbrev main_while0b_call2_c : Ref sig .tc := ⟨.hbm, 122, rfl⟩
abbrev main_while0b_call2_c_0 : Ref sig .tc := ⟨.hbm, 123, rfl⟩
abbrev main_while0b_call2_c_1 : Ref sig .tc := ⟨.hbm, 124, rfl⟩
abbrev main_while0b_call2_c_2 : Ref sig .tc := ⟨.hbm, 125, rfl⟩
abbrev main_while0b_call2_v0 : Ref sig .tc := ⟨.hbm, 126, rfl⟩
abbrev main_while0b_v118 : Ref sig .tc := ⟨.hbm, 127, rfl⟩
abbrev main_while0b_v119 : Ref sig .tc := ⟨.hbm, 128, rfl⟩
abbrev main_while0b_v120 : Ref sig .tc := ⟨.hbm, 129, rfl⟩
abbrev main_while0b_v121 : Ref sig .tc := ⟨.hbm, 130, rfl⟩
abbrev main_while0b_v122 : Ref sig .tc := ⟨.hbm, 131, rfl⟩
abbrev main_while0b_v123 : Ref sig .tc := ⟨.hbm, 132, rfl⟩
abbrev main_while0b_v124 : Ref sig .tc := ⟨.hbm, 133, rfl⟩
abbrev main_while0b_cst_20 : Ref sig .tc := ⟨.hbm, 134, rfl⟩
abbrev main_while0b_v125 : Ref sig .tc := ⟨.hbm, 135, rfl⟩
abbrev main_while0b_v126 : Ref sig .tc := ⟨.hbm, 136, rfl⟩
abbrev main_while0b_cst_21 : Ref sig .tc := ⟨.hbm, 137, rfl⟩
abbrev main_while0b_v127 : Ref sig .tc := ⟨.hbm, 138, rfl⟩
abbrev main_while0b_v128 : Ref sig .tc := ⟨.hbm, 139, rfl⟩
abbrev main_while0b_v129 : Ref sig .tc := ⟨.hbm, 140, rfl⟩
abbrev main_while0b_v130 : Ref sig .tc := ⟨.hbm, 141, rfl⟩
abbrev main_while0b_v131 : Ref sig .tc := ⟨.hbm, 142, rfl⟩
abbrev main_while0b_v132 : Ref sig .tc := ⟨.hbm, 143, rfl⟩
abbrev main_while0b_v133 : Ref sig .tc := ⟨.hbm, 144, rfl⟩
abbrev main_while0b_v134 : Ref sig .tc := ⟨.hbm, 145, rfl⟩
abbrev main_while0b_cst_22 : Ref sig .tc := ⟨.hbm, 146, rfl⟩
abbrev main_while0b_call3_v0 : Ref sig .tc := ⟨.hbm, 147, rfl⟩
abbrev main_while0b_call3_v1 : Ref sig .tc := ⟨.hbm, 148, rfl⟩
abbrev main_while0b_call3_v2 : Ref sig .tc := ⟨.hbm, 149, rfl⟩
abbrev main_while0b_v135 : Ref sig .tc := ⟨.hbm, 150, rfl⟩
abbrev main_while0b_v136 : Ref sig .tc := ⟨.hbm, 151, rfl⟩
abbrev main_while0b_v137 : Ref sig .tc := ⟨.hbm, 152, rfl⟩
abbrev main_while0b_v138 : Ref sig .tc := ⟨.hbm, 153, rfl⟩
abbrev main_while0b_v139 : Ref sig .tc := ⟨.hbm, 154, rfl⟩
abbrev main_while0b_cst_23 : Ref sig .tc := ⟨.hbm, 155, rfl⟩
abbrev main_while0b_v140 : Ref sig .tc := ⟨.hbm, 156, rfl⟩
abbrev main_while0b_v141 : Ref sig .tc := ⟨.hbm, 157, rfl⟩
abbrev main_while0b_v142 : Ref sig .tc := ⟨.hbm, 158, rfl⟩
abbrev main_while0b_v143 : Ref sig .tc := ⟨.hbm, 159, rfl⟩
abbrev main_while0b_v144 : Ref sig .tc := ⟨.hbm, 160, rfl⟩
abbrev main_while0b_v145 : Ref sig .tc := ⟨.hbm, 161, rfl⟩
abbrev main_while0b_v146 : Ref sig .tc := ⟨.hbm, 162, rfl⟩
abbrev main_while0b_v147 : Ref sig .tc := ⟨.hbm, 163, rfl⟩
abbrev main_while0b_v148 : Ref sig .tc := ⟨.hbm, 164, rfl⟩
abbrev main_while0b_v149 : Ref sig .tc := ⟨.hbm, 165, rfl⟩
abbrev main_while0b_v150 : Ref sig .tc := ⟨.hbm, 166, rfl⟩
abbrev main_while0b_v151 : Ref sig .tc := ⟨.hbm, 167, rfl⟩
abbrev main_while0b_v152 : Ref sig .tc := ⟨.hbm, 168, rfl⟩
abbrev main_while0b_v153 : Ref sig .tc := ⟨.hbm, 169, rfl⟩
abbrev main_while0b_cst_24 : Ref sig .tc := ⟨.hbm, 170, rfl⟩
abbrev main_while0b_v154 : Ref sig .tc := ⟨.hbm, 171, rfl⟩
abbrev main_while0b_v155 : Ref sig .tc := ⟨.hbm, 172, rfl⟩
abbrev main_while0b_v156 : Ref sig .tc := ⟨.hbm, 173, rfl⟩
abbrev main_while0b_v157 : Ref sig .tc := ⟨.hbm, 174, rfl⟩
abbrev main_while0b_v158 : Ref sig .tc := ⟨.hbm, 175, rfl⟩
abbrev main_while0b_v159 : Ref sig .tc := ⟨.hbm, 176, rfl⟩
abbrev main_while0b_v160 : Ref sig .tc := ⟨.hbm, 177, rfl⟩
abbrev main_while0b_v161 : Ref sig .tc := ⟨.hbm, 178, rfl⟩
abbrev main_while0b_v162 : Ref sig .tc := ⟨.hbm, 179, rfl⟩
abbrev main_while0b_cst_25 : Ref sig .tc := ⟨.hbm, 180, rfl⟩
abbrev main_while0b_v163 : Ref sig .tc := ⟨.hbm, 181, rfl⟩
abbrev main_while0b_v164 : Ref sig .tc := ⟨.hbm, 182, rfl⟩
abbrev main_while0b_v165 : Ref sig .tc := ⟨.hbm, 183, rfl⟩
abbrev main_while0b_v166 : Ref sig .tc := ⟨.hbm, 184, rfl⟩
abbrev main_while0b_v167 : Ref sig .tc := ⟨.hbm, 185, rfl⟩
abbrev main_while0b_v168 : Ref sig .tc := ⟨.hbm, 186, rfl⟩
abbrev main_while0b_v169 : Ref sig .tc := ⟨.hbm, 187, rfl⟩
abbrev main_while0b_v170 : Ref sig .tc := ⟨.hbm, 188, rfl⟩
abbrev main_while0b_v171 : Ref sig .tc := ⟨.hbm, 189, rfl⟩
abbrev main_while0b_v172 : Ref sig .tc := ⟨.hbm, 190, rfl⟩
abbrev main_while0b_call4_v0 : Ref sig .tc := ⟨.hbm, 191, rfl⟩
abbrev main_while0b_call4_c : Ref sig .tc := ⟨.hbm, 192, rfl⟩
abbrev main_while0b_call4_c_0 : Ref sig .tc := ⟨.hbm, 193, rfl⟩
abbrev main_while0b_call4_c_1 : Ref sig .tc := ⟨.hbm, 194, rfl⟩
abbrev main_while0b_call4_c_2 : Ref sig .tc := ⟨.hbm, 195, rfl⟩
abbrev main_while0b_v173 : Ref sig .tc := ⟨.hbm, 196, rfl⟩
abbrev main_while0b_c_26 : Ref sig .tc := ⟨.hbm, 197, rfl⟩
abbrev main_while0b_v174 : Ref sig .tc := ⟨.hbm, 198, rfl⟩
abbrev main_v89 : Ref sig .tc := ⟨.hbm, 199, rfl⟩
abbrev main_v90 : Ref sig .tc := ⟨.hbm, 200, rfl⟩
abbrev main_v91 : Ref sig .tc := ⟨.hbm, 201, rfl⟩
abbrev main_cst_9 : Ref sig .tc := ⟨.hbm, 202, rfl⟩
abbrev main_v92 : Ref sig .tc := ⟨.hbm, 203, rfl⟩
abbrev main_v93 : Ref sig .tc := ⟨.hbm, 204, rfl⟩
abbrev main_cst_10 : Ref sig .tc := ⟨.hbm, 205, rfl⟩
abbrev main_v94 : Ref sig .tc := ⟨.hbm, 206, rfl⟩
abbrev main_v95 : Ref sig .tc := ⟨.hbm, 207, rfl⟩
abbrev main_v96 : Ref sig .tc := ⟨.hbm, 208, rfl⟩
abbrev main_v97 : Ref sig .tc := ⟨.hbm, 209, rfl⟩
abbrev main_v98 : Ref sig .tc := ⟨.hbm, 210, rfl⟩
abbrev main_cst_11 : Ref sig .tc := ⟨.hbm, 211, rfl⟩
abbrev main_v99 : Ref sig .tc := ⟨.hbm, 212, rfl⟩
abbrev main_v100 : Ref sig .tc := ⟨.hbm, 213, rfl⟩
abbrev main_cst_12 : Ref sig .tc := ⟨.hbm, 214, rfl⟩
abbrev main_v101 : Ref sig .tc := ⟨.hbm, 215, rfl⟩
abbrev main_v102 : Ref sig .tc := ⟨.hbm, 216, rfl⟩
abbrev main_v103 : Ref sig .tc := ⟨.hbm, 217, rfl⟩
abbrev main_v104 : Ref sig .tc := ⟨.hbm, 218, rfl⟩
abbrev main_cst_13 : Ref sig .tc := ⟨.hbm, 219, rfl⟩
abbrev main_v105 : Ref sig .tc := ⟨.hbm, 220, rfl⟩
abbrev main_v106 : Ref sig .tc := ⟨.hbm, 221, rfl⟩
abbrev main_v107 : Ref sig .tc := ⟨.hbm, 222, rfl⟩
abbrev main_v108 : Ref sig .tc := ⟨.hbm, 223, rfl⟩
abbrev main_v109 : Ref sig .tc := ⟨.hbm, 224, rfl⟩
abbrev main_v110 : Ref sig .tc := ⟨.hbm, 225, rfl⟩
abbrev main_v111 : Ref sig .tc := ⟨.hbm, 226, rfl⟩
abbrev main_v112 : Ref sig .tc := ⟨.hbm, 227, rfl⟩
abbrev main_call5_v0 : Ref sig .tc := ⟨.hbm, 228, rfl⟩
abbrev main_call5_v1 : Ref sig .tc := ⟨.hbm, 229, rfl⟩
abbrev main_call5_cst : Ref sig .tc := ⟨.hbm, 230, rfl⟩
abbrev main_call5_v2 : Ref sig .tc := ⟨.hbm, 231, rfl⟩
abbrev main_call5_v3 : Ref sig .tc := ⟨.hbm, 232, rfl⟩
abbrev main_call5_cst_0 : Ref sig .tc := ⟨.hbm, 233, rfl⟩
abbrev main_call5_v4 : Ref sig .tc := ⟨.hbm, 234, rfl⟩
abbrev main_call5_v5 : Ref sig .tc := ⟨.hbm, 235, rfl⟩
abbrev main_v113 : Ref sig .tc := ⟨.hbm, 236, rfl⟩
abbrev main_v114 : Ref sig .tc := ⟨.hbm, 237, rfl⟩
abbrev main_v115 : Ref sig .tc := ⟨.hbm, 238, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S16384x1024 : Shape := ⟨2, ![16384, 1024]⟩
abbrev S1024x2816 : Shape := ⟨2, ![1024, 2816]⟩
abbrev S2816x1024 : Shape := ⟨2, ![2816, 1024]⟩
abbrev S512x1024 : Shape := ⟨2, ![512, 1024]⟩
abbrev S1024x1408 : Shape := ⟨2, ![1024, 1408]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1408x1024, .bf16⟩
  | .local _ .vmem, ⟨9, _⟩ => ⟨S1408x1024, .bf16⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def k0_cond1 (i : grid0.Coords) : BitVec 1 :=
  let arg1 : BitVec 32 := BitVec.ofNat 32 (i 1).val
  let c0_i32 : BitVec 32 := 0#32
  let v11 : BitVec 1 := Scalar.cmpi .eq arg1 c0_i32
  let v12 : BitVec 32 := Scalar.extui v11
  let c0_i32_9 : BitVec 32 := 0#32
  let v13 : BitVec 1 := Scalar.cmpi .ne v12 c0_i32_9
  v13

def k0_cond2 (i : grid0.Coords) : BitVec 1 :=
  let arg1 : BitVec 32 := BitVec.ofNat 32 (i 1).val
  let c0_i32_10 : BitVec 32 := 0#32
  let v14 : BitVec 1 := Scalar.cmpi .sgt arg1 c0_i32_10
  let v15 : BitVec 32 := Scalar.extui v14
  let c0_i32_11 : BitVec 32 := 0#32
  let v16 : BitVec 1 := Scalar.cmpi .ne v15 c0_i32_11
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S16384x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S16384x2816, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048x512 : Shape := ⟨3, ![8, 2048, 512]⟩
abbrev S8x2048x7680 : Shape := ⟨3, ![8, 2048, 7680]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 29
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x1024, .bf16⟩
  | .hbm, ⟨3, _⟩ => ⟨S8x2048x512, .bf16⟩
  | .hbm, ⟨4, _⟩ => ⟨S8x2048x7680, .bf16⟩
  | .hbm, ⟨5, _⟩ => ⟨S512x1024, .bf16⟩
  | .hbm, ⟨6, _⟩ => ⟨S1024x1024, .bf16⟩
  | .hbm, ⟨7, _⟩ => ⟨S512x1024, .bf16⟩
  | .hbm, ⟨8, _⟩ => ⟨S1024x1024, .bf16⟩
  | .hbm, ⟨9, _⟩ => ⟨S1024, .f32⟩
  | .hbm, ⟨10, _⟩ => ⟨S1x1024, .f32⟩
  | .hbm, ⟨11, _⟩ => ⟨S8x2048x1024, .f32⟩
  | .hbm, ⟨12, _⟩ => ⟨S8x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S512x1024, .bf16⟩
  | .local _ .vmem, ⟨21, _⟩ => ⟨S1024x1024, .bf16⟩
  | .local _ .vmem, ⟨22, _⟩ => ⟨S512x1024, .bf16⟩
  | .local _ .vmem, ⟨23, _⟩ => ⟨S1024x1024, .bf16⟩
  | .local _ .vmem, ⟨24, _⟩ => ⟨S1x1024, .f32⟩
  | .local _ .vmem, ⟨25, _⟩ => ⟨S1x512x1024, .f32⟩
  | .local _ .vmem, ⟨26, _⟩ => ⟨S1x512x1024, .f32⟩
  | .local _ .vmem, ⟨27, _⟩ => ⟨S1x512x1024, .bf16⟩
  | .local _ .vmem, ⟨28, _⟩ => ⟨S1x512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_5 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_7 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_8 (i : grid0.Coords) : Fin 3 → Nat :=
  let arg0 : BitVec 32 := BitVec.ofNat 32 (i 0).val
  let arg1 : BitVec 32 := BitVec.ofNat 32 (i 1).val
  let c13_i32 : BitVec 32 := 13#32
  let c0_i32 : BitVec 32 := 0#32
  ![arg0.toNat, arg1.toNat, c13_i32.toNat]

def cc0_transform_9 (i : grid0.Coords) : Fin 3 → Nat :=
  let arg0 : BitVec 32 := BitVec.ofNat 32 (i 0).val
  let arg1 : BitVec 32 := BitVec.ofNat 32 (i 1).val
  let c14_i32 : BitVec 32 := 14#32
  let c0_i32 : BitVec 32 := 0#32
  ![arg0.toNat, arg1.toNat, c14_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S8x2048x1024 : Shape := ⟨3, ![8, 2048, 1024]⟩
abbrev S8x2048x512 : Shape := ⟨3, ![8, 2048, 512]⟩
abbrev S8x2048x7680 : Shape := ⟨3, ![8, 2048, 7680]⟩
abbrev S512x1024 : Shape := ⟨2, ![512, 1024]⟩
abbrev S1024x1024 : Shape := ⟨2, ![1024, 1024]⟩
abbrev S1024 : Shape := ⟨1, ![1024]⟩
abbrev S8x2048x3072 : Shape := ⟨3, ![8, 2048, 3072]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x1024, .bf16⟩
  | .hbm, ⟨3, _⟩ => ⟨S8x2048x512, .bf16⟩
  | .hbm, ⟨4, _⟩ => ⟨S8x2048x7680, .bf16⟩
  | .hbm, ⟨5, _⟩ => ⟨S512x1024, .bf16⟩
  | .hbm, ⟨6, _⟩ => ⟨S1024x1024, .bf16⟩
  | .hbm, ⟨7, _⟩ => ⟨S512x1024, .bf16⟩
  | .hbm, ⟨8, _⟩ => ⟨S1024x1024, .bf16⟩
  | .hbm, ⟨9, _⟩ => ⟨S1024, .f32⟩
  | .hbm, ⟨10, _⟩ => ⟨S8x2048x3072, .bf16⟩
  | .hbm, ⟨11, _⟩ => ⟨S8x2048x3072, .f32⟩
  | .hbm, ⟨12, _⟩ => ⟨S8x2048x3072, .f32⟩
  | .hbm, ⟨13, _⟩ => ⟨S8x2048x3072, .f32⟩
  | .hbm, ⟨14, _⟩ => ⟨S_, .f32⟩
  | .hbm, ⟨15, _⟩ => ⟨S8x2048x3072, .f32⟩
  | .hbm, ⟨16, _⟩ => ⟨S8x2048x3072, .f32⟩
  | .hbm, ⟨17, _⟩ => ⟨S_, .f32⟩
  | .hbm, ⟨18, _⟩ => ⟨S8x2048x3072, .f32⟩
  | .hbm, ⟨19, _⟩ => ⟨S8x2048x3072, .f32⟩
  | .hbm, ⟨20, _⟩ => ⟨S8x2048x1024, .f32⟩
  | .hbm, ⟨21, _⟩ => ⟨S8x2048x512, .f32⟩
  | .hbm, ⟨22, _⟩ => ⟨S512x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S1024x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x512, .f32⟩
  | .hbm, ⟨33, _⟩ => ⟨S512x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S1024x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S8x2048x1, .f32⟩
  | .hbm, ⟨51, _⟩ => ⟨S8x2048x1024, .f32⟩
  | .hbm, ⟨52, _⟩ => ⟨S8x2048x1024, .f32⟩
  | .hbm, ⟨53, _⟩ => ⟨S1x1x1024, .f32⟩
  | .hbm, ⟨54, _⟩ => ⟨S8x2048x1024, .f32⟩
  | .hbm, ⟨55, _⟩ => ⟨S8x2048x1024, .f32⟩
  | .hbm, ⟨56, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_1 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel4.lean ====
abbrev S8x2048x1024 : Shape := ⟨3, ![8, 2048, 1024]⟩
abbrev S128x1024 : Shape := ⟨2, ![128, 1024]⟩
abbrev S1024 : Shape := ⟨1, ![1024]⟩
abbrev S2x1024x7680 : Shape := ⟨3, ![2, 1024, 7680]⟩
abbrev S1x1024 : Shape := ⟨2, ![1, 1024]⟩
abbrev S8x2048x7680 : Shape := ⟨3, ![8, 2048, 7680]⟩
abbrev S128x7680 : Shape := ⟨2, ![128, 7680]⟩
abbrev S1x512x1024 : Shape := ⟨3, ![1, 512, 1024]⟩
abbrev S1x1024x2560 : Shape := ⟨3, ![1, 1024, 2560]⟩
abbrev S1x512x2560 : Shape := ⟨3, ![1, 512, 2560]⟩
abbrev S128x2560 : Shape := ⟨2, ![128, 2560]⟩
abbrev S1024x2560 : Shape := ⟨2, ![1024, 2560]⟩
abbrev S128 : Shape := ⟨1, ![128]⟩
abbrev S128x1 : Shape := ⟨2, ![128, 1]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x2560 : Shape := ⟨2, ![256, 2560]⟩
abbrev S1x256x2560 : Shape := ⟨3, ![1, 256, 2560]⟩

abbrev nBuf : Space → Nat
  | .hbm => 7
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S128x1024, .f32⟩
  | .hbm, ⟨2, _⟩ => ⟨S1024, .f32⟩
  | .hbm, ⟨3, _⟩ => ⟨S2x1024x7680, .f32⟩
  | .hbm, ⟨4, _⟩ => ⟨S1x1024, .f32⟩
  | .hbm, ⟨5, _⟩ => ⟨S8x2048x7680, .bf16⟩
  | .hbm, ⟨6, _⟩ => ⟨S128x7680, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024x2560, .f32⟩
  | .local _ .vmem, ⟨4, _⟩ => ⟨S1x1024x2560, .f32⟩
  | .local _ .vmem, ⟨5, _⟩ => ⟨S128x1024, .f32⟩
  | .local _ .vmem, ⟨6, _⟩ => ⟨S1x512x2560, .bf16⟩
  | .local _ .vmem, ⟨7, _⟩ => ⟨S1x512x2560, .bf16⟩
  | .local _ .vmem, ⟨8, _⟩ => ⟨S128x2560, .bf16⟩
  | .local _ .vmem, ⟨9, _⟩ => ⟨S128x2560, .bf16⟩
  | .local _ .vmem, ⟨10, _⟩ => ⟨S1024x2560, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![3, 8, 4], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x512x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Reference4Ideal.lean ====
abbrev S8x2048x1024 : Shape := ⟨3, ![8, 2048, 1024]⟩
abbrev S128x1024 : Shape := ⟨2, ![128, 1024]⟩
abbrev S1024 : Shape := ⟨1, ![1024]⟩
abbrev S2x1024x7680 : Shape := ⟨3, ![2, 1024, 7680]⟩
abbrev S1x1024x7680 : Shape := ⟨3, ![1, 1024, 7680]⟩
abbrev S1024x7680 : Shape := ⟨2, ![1024, 7680]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x7680 : Shape := ⟨3, ![8, 2048, 7680]⟩
abbrev S128 : Shape := ⟨1, ![128]⟩
abbrev S128x1 : Shape := ⟨2, ![128, 1]⟩
abbrev S1x1024 : Shape := ⟨2, ![1, 1024]⟩
abbrev S128x7680 : Shape := ⟨2, ![128, 7680]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S128x1024, .f32⟩
  | .hbm, ⟨2, _⟩ => ⟨S1024, .f32⟩
  | .hbm, ⟨3, _⟩ => ⟨S2x1024x7680, .f32⟩
  | .hbm, ⟨4, _⟩ => ⟨S1x1024x7680, .f32⟩
  | .hbm, ⟨5, _⟩ => ⟨S1024x7680, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x7680, .f32⟩
  | .hbm, ⟨23, _⟩ => ⟨S8x2048x7680, .bf16⟩
  | .hbm, ⟨24, _⟩ => ⟨S128x1024, .f32⟩
  | .hbm, ⟨25, _⟩ => ⟨S_, .f32⟩
  | .hbm, ⟨26, _⟩ => ⟨S128, .f32⟩
  | .hbm, ⟨27, _⟩ => ⟨S128x1, .f32⟩
  | .hbm, ⟨28, _⟩ => ⟨S_, .f32⟩
  | .hbm, ⟨29, _⟩ => ⟨S128x1, .f32⟩
  | .hbm, ⟨30, _⟩ => ⟨S128x1, .f32⟩
  | .hbm, ⟨31, _⟩ => ⟨S_, .f32⟩
  | .hbm, ⟨32, _⟩ => ⟨S128x1, .f32⟩
  | .hbm, ⟨33, _⟩ => ⟨S128x1, .f32⟩
  | .hbm, ⟨34, _⟩ => ⟨S128x1, .f32⟩
  | .hbm, ⟨35, _⟩ => ⟨S128x1024, .f32⟩
  | .hbm, ⟨36, _⟩ => ⟨S128x1024, .f32⟩
  | .hbm, ⟨37, _⟩ => ⟨S1x1024, .f32⟩
  | .hbm, ⟨38, _⟩ => ⟨S128x1024, .f32⟩
  | .hbm, ⟨39, _⟩ => ⟨S128x1024, .f32⟩
  | .hbm, ⟨40, _⟩ => ⟨S128x7680, .f32⟩
  | .hbm, ⟨41, _⟩ => ⟨S128x7680, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel5.lean ====
abbrev S72 : Shape := ⟨1, ![72]⟩
abbrev S73 : Shape := ⟨1, ![73]⟩
abbrev S294912x128 : Shape := ⟨2, ![294912, 128]⟩
abbrev S8x1024x3584 : Shape := ⟨3, ![8, 1024, 3584]⟩
abbrev S8x3584x1024 : Shape := ⟨3, ![8, 3584, 1024]⟩
abbrev S4096x128 : Shape := ⟨2, ![4096, 128]⟩
abbrev S1 : Shape := ⟨1, ![1]⟩
abbrev S1x1024x1792 : Shape := ⟨3, ![1, 1024, 1792]⟩
abbrev S1x1792x1024 : Shape := ⟨3, ![1, 1792, 1024]⟩
abbrev S512x1024 : Shape := ⟨2, ![512, 1024]⟩
abbrev S512x128 : Shape := ⟨2, ![512, 128]⟩
abbrev S1x1024x256 : Shape := ⟨3, ![1, 1024, 256]⟩
abbrev S1024x256 : Shape := ⟨2, ![1024, 256]⟩
abbrev S512x256 : Shape := ⟨2, ![512, 256]⟩
abbrev S512x1792 : Shape := ⟨2, ![512, 1792]⟩
abbrev S1792x1024 : Shape := ⟨2, ![1792, 1024]⟩
abbrev S256x1024 : Shape := ⟨2, ![256, 1024]⟩
abbrev S256x256 : Shape := ⟨2, ![256, 256]⟩
abbrev S256x1792 : Shape := ⟨2, ![256, 1792]⟩

abbrev nBuf : Space → Nat
  | .hbm => 5
  | .vmem => 12
  | .smem => 2
  | _ => 0

abbrev bufTy : (tb : Table) → Fin (tcTables nBuf tb) → BufTy
  | .hbm, ⟨0, _⟩ => ⟨S294912x128, .f32⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S294912x128, .f32⟩
  | .local _ .vmem, ⟨0, _⟩ => ⟨S4096x128, .f32⟩
  | .local _ .vmem, ⟨1, _⟩ => ⟨S4096x128, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S4096x128, .f32⟩
  | .local _ .vmem, ⟨9, _⟩ => ⟨S4096x128, .f32⟩
  | .local _ .vmem, ⟨10, _⟩ => ⟨S512x1024, .bf16⟩
  | .local _ .vmem, ⟨11, _⟩ => ⟨S512x1024, .f32⟩
  | .local _ .smem, ⟨0, _⟩ => ⟨S72, .i32⟩
  | .local _ .smem, ⟨1, _⟩ => ⟨S73, .i32⟩
  | _, _ => ⟨S294912x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let c1_i32 : BitVec 32 := 1#32
  let arg0 : BitVec 32 := BitVec.ofNat 32 (i 0).val
  let v11 : BitVec 32 := Scalar.addi c1_i32 arg0
  let v12 : Index := Scalar.indexCast v11
  ![v12.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond9 (i : grid0.Coords) : BitVec 1 :=
  let arg1 : BitVec 32 := BitVec.ofNat 32 (i 1).val
  let c1_i32_7 : BitVec 32 := 1#32
  let v20 : BitVec 1 := Scalar.cmpi .eq arg1 c1_i32_7
  let v21 : BitVec 32 := Scalar.extui v20
  let c0_i32_8 : BitVec 32 := 0#32
  let v22 : BitVec 1 := Scalar.cmpi .ne v21 c0_i32_8
  v22

def k0_cond10 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S73_S1_0 : ∀ a, (![0] : Fin 1 → Nat) a + S1.size a ≤ S73.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S73) ![0] S1.size inb_S73_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (inb_S73_S1_0 : ∀ a, (![0] : Fin 1 → Nat) a + S1.size a ≤ S73.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S73) ![0] S1.size inb_S73_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S73_S1_0 : ∀ a, (![0] : Fin 1 → Nat) a + S1.size a ≤ S73.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S73) ![0] S1.size inb_S73_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S72.size a) (numel1_S1 : S1.numel = 1) (inb_S73_S1_0 : ∀ a, (![0] : Fin 1 → Nat) a + S1.size a ≤ S73.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S73) ![0] S1.size inb_S73_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S72 : Shape := ⟨1, ![72]⟩
abbrev S73 : Shape := ⟨1, ![73]⟩
abbrev S294912x128 : Shape := ⟨2, ![294912, 128]⟩
abbrev S8x1024x3584 : Shape := ⟨3, ![8, 1024, 3584]⟩
abbrev S8x3584x1024 : Shape := ⟨3, ![8, 3584, 1024]⟩
abbrev S36864x1024 : Shape := ⟨2, ![36864, 1024]⟩
abbrev S72x512x1 : Shape := ⟨3, ![72, 512, 1]⟩
abbrev S1 : Shape := ⟨1, ![1]⟩
abbrev S_ : Shape := ⟨0, ![]⟩
abbrev S72x1x1 : Shape := ⟨3, ![72, 1, 1]⟩
abbrev S72x512x1024 : Shape := ⟨3, ![72, 512, 1024]⟩
abbrev S1x1024x3584 : Shape := ⟨3, ![1, 1024, 3584]⟩
abbrev S1024x3584 : Shape := ⟨2, ![1024, 3584]⟩
abbrev S36864x3584 : Shape := ⟨2, ![36864, 3584]⟩
abbrev S1x3584x1024 : Shape := ⟨3, ![1, 3584, 1024]⟩
abbrev S3584x1024 : Shape := ⟨2, ![3584, 1024]⟩

abbrev nBuf : Space → Nat
  | .hbm => 301
  | .vmem => 0
  | .smem => 0
  | _ => 0

abbrev hbmTy0_0 (i : Nat) : BufTy := match i % 128 with
  | 0 => ⟨S72, .i32⟩
  | 1 => ⟨S73, .i32⟩
  | 2 => ⟨S294912x128, .f32⟩
  | 3 => ⟨S8x1024x3584, .bf16⟩
  | 4 => ⟨S8x1024x3584, .bf16⟩
  | 5 => ⟨S8x3584x1024, .bf16⟩
  | 6 => ⟨S36864x1024, .f32⟩
  | 7 => ⟨S72x512x1, .i32⟩
  | 8 => ⟨S72x512x1, .i32⟩
  | 9 => ⟨S1, .i32⟩
  | 10 => ⟨S_, .i32⟩
  | 11 => ⟨S72x512x1, .i32⟩
  | 12 => ⟨S72x512x1, .i1⟩
  | 13 => ⟨S72, .i32⟩
  | 14 => ⟨S72x1x1, .i32⟩
  | 15 => ⟨S72x512x1, .i32⟩
  | 16 => ⟨S72x512x1, .i1⟩
  | 17 => ⟨S72x512x1, .i1⟩
  | 18 => ⟨S_, .f32⟩
  | 19 => ⟨S72x512x1024, .f32⟩
  | 20 => ⟨S1x1024x3584, .bf16⟩
  | 21 => ⟨S1024x3584, .bf16⟩
  | 22 => ⟨S1024x3584, .f32⟩
  | 23 => ⟨S36864x3584, .f32⟩
  | 24 => ⟨S36864x3584, .f32⟩
  | 25 => ⟨S36864x3584, .f32⟩
  | 26 => ⟨S_, .f32⟩
  | 27 => ⟨S36864x3584, .f32⟩
  | 28 => ⟨S36864x3584, .f32⟩
  | 29 => ⟨S_, .f32⟩
  | 30 => ⟨S36864x3584, .f32⟩
  | 31 => ⟨S36864x3584, .f32⟩
  | 32 => ⟨S36864x3584, .f32⟩
  | 33 => ⟨S1x1024x3584, .bf16⟩
  | 34 => ⟨S1024x3584, .bf16⟩
  | 35 => ⟨S1024x3584, .f32⟩
  | 36 => ⟨S36864x3584, .f32⟩
  | 37 => ⟨S36864x3584, .f32⟩
  | 38 => ⟨S1x3584x1024, .bf16⟩
  | 39 => ⟨S3584x1024, .bf16⟩
  | 40 => ⟨S3584x1024, .f32⟩
  | 41 => ⟨S36864x1024, .f32⟩
  | 42 => ⟨S72x1x1, .i32⟩
  | 43 => ⟨S_, .i32⟩
  | 44 => ⟨S72x1x1, .i32⟩
  | 45 => ⟨S72x1x1, .i1⟩
  | 46 => ⟨S72x512x1, .i1⟩
  | 47 => ⟨S72x512x1, .i1⟩
  | 48 => ⟨S72x512x1024, .f32⟩
  | 49 => ⟨S_, .f32⟩
  | 50 => ⟨S_, .f32⟩
  | 51 => ⟨S72x512x1024, .i1⟩
  | 52 => ⟨S72x512x1024, .f32⟩
  | 53 => ⟨S72x512x1024, .f32⟩
  | 54 => ⟨S72x512x1024, .f32⟩
  | 55 => ⟨S1x1024x3584, .bf16⟩
  | 56 => ⟨S1024x3584, .bf16⟩
  | 57 => ⟨S1024x3584, .f32⟩
  | 58 => ⟨S36864x3584, .f32⟩
  | 59 => ⟨S36864x3584, .f32⟩
  | 60 => ⟨S36864x3584, .f32⟩
  | 61 => ⟨S_, .f32⟩
  | 62 => ⟨S36864x3584, .f32⟩
  | 63 => ⟨S36864x3584, .f32⟩
  | 64 => ⟨S_, .f32⟩
  | 65 => ⟨S36864x3584, .f32⟩
  | 66 => ⟨S36864x3584, .f32⟩
  | 67 => ⟨S36864x3584, .f32⟩
  | 68 => ⟨S1x1024x3584, .bf16⟩
  | 69 => ⟨S1024x3584, .bf16⟩
  | 70 => ⟨S1024x3584, .f32⟩
  | 71 => ⟨S36864x3584, .f32⟩
  | 72 => ⟨S36864x3584, .f32⟩
  | 73 => ⟨S1x3584x1024, .bf16⟩
  | 74 => ⟨S3584x1024, .bf16⟩
  | 75 => ⟨S3584x1024, .f32⟩
  | 76 => ⟨S36864x1024, .f32⟩
  | 77 => ⟨S72x1x1, .i32⟩
  | 78 => ⟨S_, .i32⟩
  | 79 => ⟨S72x1x1, .i32⟩
  | 80 => ⟨S72x1x1, .i1⟩
  | 81 => ⟨S72x512x1, .i1⟩
  | 82 => ⟨S72x512x1, .i1⟩
  | 83 => ⟨S72x512x1024, .f32⟩
  | 84 => ⟨S_, .f32⟩
  | 85 => ⟨S_, .f32⟩
  | 86 => ⟨S72x512x1024, .i1⟩
  | 87 => ⟨S72x512x1024, .f32⟩
  | 88 => ⟨S72x512x1024, .f32⟩
  | 89 => ⟨S72x512x1024, .f32⟩
  | 90 => ⟨S1x1024x3584, .bf16⟩
  | 91 => ⟨S1024x3584, .bf16⟩
  | 92 => ⟨S1024x3584, .f32⟩
  | 93 => ⟨S36864x3584, .f32⟩
  | 94 => ⟨S36864x3584, .f32⟩
  | 95 => ⟨S36864x3584, .f32⟩
  | 96 => ⟨S_, .f32⟩
  | 97 => ⟨S36864x3584, .f32⟩
  | 98 => ⟨S36864x3584, .f32⟩
  | 99 => ⟨S_, .f32⟩
  | 100 => ⟨S36864x3584, .f32⟩
  | 101 => ⟨S36864x3584, .f32⟩
  | 102 => ⟨S36864x3584, .f32⟩
  | 103 => ⟨S1x1024x3584, .bf16⟩
  | 104 => ⟨S1024x3584, .bf16⟩
  | 105 => ⟨S1024x3584, .f32⟩
  | 106 => ⟨S36864x3584, .f32⟩
  | 107 => ⟨S36864x3584, .f32⟩
  | 108 => ⟨S1x3584x1024, .bf16⟩
  | 109 => ⟨S3584x1024, .bf16⟩
  | 110 => ⟨S3584x1024, .f32⟩
  | 111 => ⟨S36864x1024, .f32⟩
  | 112 => ⟨S72x1x1, .i32⟩
  | 113 => ⟨S_, .i32⟩
  | 114 => ⟨S72x1x1, .i32⟩
  | 115 => ⟨S72x1x1, .i1⟩
  | 116 => ⟨S72x512x1, .i1⟩
  | 117 => ⟨S72x512x1, .i1⟩
  | 118 => ⟨S72x512x1024, .f32⟩
  | 119 => ⟨S_, .f32⟩
  | 120 => ⟨S_, .f32⟩
  | 121 => ⟨S72x512x1024, .i1⟩
  | 122 => ⟨S72x512x1024, .f32⟩
  | 123 => ⟨S72x512x1024, .f32⟩
  | 124 => ⟨S72x512x1024, .f32⟩
  | 125 => ⟨S1x1024x3584, .bf16⟩
  | 126 => ⟨S1024x3584, .bf16⟩
  | 127 => ⟨S1024x3584, .f32⟩
  | _ => ⟨S72, .i32⟩

abbrev hbmTy0_1 (i : Nat) : BufTy := match i % 128 with
  | 0 => ⟨S36864x3584, .f32⟩
  | 1 => ⟨S36864x3584, .f32⟩
  | 2 => ⟨S36864x3584, .f32⟩
  | 3 => ⟨S_, .f32⟩
  | 4 => ⟨S36864x3584, .f32⟩
  | 5 => ⟨S36864x3584, .f32⟩
  | 6 => ⟨S_, .f32⟩
  | 7 => ⟨S36864x3584, .f32⟩
  | 8 => ⟨S36864x3584, .f32⟩
  | 9 => ⟨S36864x3584, .f32⟩
  | 10 => ⟨S1x1024x3584, .bf16⟩
  | 11 => ⟨S1024x3584, .bf16⟩
  | 12 => ⟨S1024x3584, .f32⟩
  | 13 => ⟨S36864x3584, .f32⟩
  | 14 => ⟨S36864x3584, .f32⟩
  | 15 => ⟨S1x3584x1024, .bf16⟩
  | 16 => ⟨S3584x1024, .bf16⟩
  | 17 => ⟨S3584x1024, .f32⟩
  | 18 => ⟨S36864x1024, .f32⟩
  | 19 => ⟨S72x1x1, .i32⟩
  | 20 => ⟨S_, .i32⟩
  | 21 => ⟨S72x1x1, .i32⟩
  | 22 => ⟨S72x1x1, .i1⟩
  | 23 => ⟨S72x512x1, .i1⟩
  | 24 => ⟨S72x512x1, .i1⟩
  | 25 => ⟨S72x512x1024, .f32⟩
  | 26 => ⟨S_, .f32⟩
  | 27 => ⟨S_, .f32⟩
  | 28 => ⟨S72x512x1024, .i1⟩
  | 29 => ⟨S72x512x1024, .f32⟩
  | 30 => ⟨S72x512x1024, .f32⟩
  | 31 => ⟨S72x512x1024, .f32⟩
  | 32 => ⟨S1x1024x3584, .bf16⟩
  | 33 => ⟨S1024x3584, .bf16⟩
  | 34 => ⟨S1024x3584, .f32⟩
  | 35 => ⟨S36864x3584, .f32⟩
  | 36 => ⟨S36864x3584, .f32⟩
  | 37 => ⟨S36864x3584, .f32⟩
  | 38 => ⟨S_, .f32⟩
  | 39 => ⟨S36864x3584, .f32⟩
  | 40 => ⟨S36864x3584, .f32⟩
  | 41 => ⟨S_, .f32⟩
  | 42 => ⟨S36864x3584, .f32⟩
  | 43 => ⟨S36864x3584, .f32⟩
  | 44 => ⟨S36864x3584, .f32⟩
  | 45 => ⟨S1x1024x3584, .bf16⟩
  | 46 => ⟨S1024x3584, .bf16⟩
  | 47 => ⟨S1024x3584, .f32⟩
  | 48 => ⟨S36864x3584, .f32⟩
  | 49 => ⟨S36864x3584, .f32⟩
  | 50 => ⟨S1x3584x1024, .bf16⟩
  | 51 => ⟨S3584x1024, .bf16⟩
  | 52 => ⟨S3584x1024, .f32⟩
  | 53 => ⟨S36864x1024, .f32⟩
  | 54 => ⟨S72x1x1, .i32⟩
  | 55 => ⟨S_, .i32⟩
  | 56 => ⟨S72x1x1, .i32⟩
  | 57 => ⟨S72x1x1, .i1⟩
  | 58 => ⟨S72x512x1, .i1⟩
  | 59 => ⟨S72x512x1, .i1⟩
  | 60 => ⟨S72x512x1024, .f32⟩
  | 61 => ⟨S_, .f32⟩
  | 62 => ⟨S_, .f32⟩
  | 63 => ⟨S72x512x1024, .i1⟩
  | 64 => ⟨S72x512x1024, .f32⟩
  | 65 => ⟨S72x512x1024, .f32⟩
  | 66 => ⟨S72x512x1024, .f32⟩
  | 67 => ⟨S1x1024x3584, .bf16⟩
  | 68 => ⟨S1024x3584, .bf16⟩
  | 69 => ⟨S1024x3584, .f32⟩
  | 70 => ⟨S36864x3584, .f32⟩
  | 71 => ⟨S36864x3584, .f32⟩
  | 72 => ⟨S36864x3584, .f32⟩
  | 73 => ⟨S_, .f32⟩
  | 74 => ⟨S36864x3584, .f32⟩
  | 75 => ⟨S36864x3584, .f32⟩
  | 76 => ⟨S_, .f32⟩
  | 77 => ⟨S36864x3584, .f32⟩
  | 78 => ⟨S36864x3584, .f32⟩
  | 79 => ⟨S36864x3584, .f32⟩
  | 80 => ⟨S1x1024x3584, .bf16⟩
  | 81 => ⟨S1024x3584, .bf16⟩
  | 82 => ⟨S1024x3584, .f32⟩
  | 83 => ⟨S36864x3584, .f32⟩
  | 84 => ⟨S36864x3584, .f32⟩
  | 85 => ⟨S1x3584x1024, .bf16⟩
  | 86 => ⟨S3584x1024, .bf16⟩
  | 87 => ⟨S3584x1024, .f32⟩
  | 88 => ⟨S36864x1024, .f32⟩
  | 89 => ⟨S72x1x1, .i32⟩
  | 90 => ⟨S_, .i32⟩
  | 91 => ⟨S72x1x1, .i32⟩
  | 92 => ⟨S72x1x1, .i1⟩
  | 93 => ⟨S72x512x1, .i1⟩
  | 94 => ⟨S72x512x1, .i1⟩
  | 95 => ⟨S72x512x1024, .f32⟩
  | 96 => ⟨S_, .f32⟩
  | 97 => ⟨S_, .f32⟩
  | 98 => ⟨S72x512x1024, .i1⟩
  | 99 => ⟨S72x512x1024, .f32⟩
  | 100 => ⟨S72x512x1024, .f32⟩
  | 101 => ⟨S72x512x1024, .f32⟩
  | 102 => ⟨S1x1024x3584, .bf16⟩
  | 103 => ⟨S1024x3584, .bf16⟩
  | 104 => ⟨S1024x3584, .f32⟩
  | 105 => ⟨S36864x3584, .f32⟩
  | 106 => ⟨S36864x3584, .f32⟩
  | 107 => ⟨S36864x3584, .f32⟩
  | 108 => ⟨S_, .f32⟩
  | 109 => ⟨S36864x3584, .f32⟩
  | 110 => ⟨S36864x3584, .f32⟩
  | 111 => ⟨S_, .f32⟩
  | 112 => ⟨S36864x3584, .f32⟩
  | 113 => ⟨S36864x3584, .f32⟩
  | 114 => ⟨S36864x3584, .f32⟩
  | 115 => ⟨S1x1024x3584, .bf16⟩
  | 116 => ⟨S1024x3584, .bf16⟩
  | 117 => ⟨S1024x3584, .f32⟩
  | 118 => ⟨S36864x3584, .f32⟩
  | 119 => ⟨S36864x3584, .f32⟩
  | 120 => ⟨S1x3584x1024, .bf16⟩
  | 121 => ⟨S3584x1024, .bf16⟩
  | 122 => ⟨S3584x1024, .f32⟩
  | 123 => ⟨S36864x1024, .f32⟩
  | 124 => ⟨S72x1x1, .i32⟩
  | 125 => ⟨S_, .i32⟩
  | 126 => ⟨S72x1x1, .i32⟩
  | 127 => ⟨S72x1x1, .i1⟩
  | _ => ⟨S72, .i32⟩

abbrev hbmTy0_2 (i : Nat) : BufTy := match i % 128 with
  | 0 => ⟨S72x512x1, .i1⟩
  | 1 => ⟨S72x512x1, .i1⟩
  | 2 => ⟨S72x512x1024, .f32⟩
  | 3 => ⟨S_, .f32⟩
  | 4 => ⟨S_, .f32⟩
  | 5 => ⟨S72x512x1024, .i1⟩
  | 6 => ⟨S72x512x1024, .f32⟩
  | 7 => ⟨S72x512x1024, .f32⟩
  | 8 => ⟨S72x512x1024, .f32⟩
  | 9 => ⟨S1x1024x3584, .bf16⟩
  | 10 => ⟨S1024x3584, .bf16⟩
  | 11 => ⟨S1024x3584, .f32⟩
  | 12 => ⟨S36864x3584, .f32⟩
  | 13 => ⟨S36864x3584, .f32⟩
  | 14 => ⟨S36864x3584, .f32⟩
  | 15 => ⟨S_, .f32⟩
  | 16 => ⟨S36864x3584, .f32⟩
  | 17 => ⟨S36864x3584, .f32⟩
  | 18 => ⟨S_, .f32⟩
  | 19 => ⟨S36864x3584, .f32⟩
  | 20 => ⟨S36864x3584, .f32⟩
  | 21 => ⟨S36864x3584, .f32⟩
  | 22 => ⟨S1x1024x3584, .bf16⟩
  | 23 => ⟨S1024x3584, .bf16⟩
  | 24 => ⟨S1024x3584, .f32⟩
  | 25 => ⟨S36864x3584, .f32⟩
  | 26 => ⟨S36864x3584, .f32⟩
  | 27 => ⟨S1x3584x1024, .bf16⟩
  | 28 => ⟨S3584x1024, .bf16⟩
  | 29 => ⟨S3584x1024, .f32⟩
  | 30 => ⟨S36864x1024, .f32⟩
  | 31 => ⟨S72x1x1, .i32⟩
  | 32 => ⟨S_, .i32⟩
  | 33 => ⟨S72x1x1, .i32⟩
  | 34 => ⟨S72x1x1, .i1⟩
  | 35 => ⟨S72x512x1, .i1⟩
  | 36 => ⟨S72x512x1, .i1⟩
  | 37 => ⟨S72x512x1024, .f32⟩
  | 38 => ⟨S_, .f32⟩
  | 39 => ⟨S_, .f32⟩
  | 40 => ⟨S72x512x1024, .i1⟩
  | 41 => ⟨S72x512x1024, .f32⟩
  | 42 => ⟨S72x512x1024, .f32⟩
  | 43 => ⟨S72x512x1024, .f32⟩
  | 44 => ⟨S294912x128, .f32⟩
  | _ => ⟨S72, .i32⟩

abbrev hbmTy (i : Nat) : BufTy := match i / 128 with
  | 0 => hbmTy0_0 i
  | 1 => hbmTy0_1 i
  | 2 => hbmTy0_2 i
  | _ => ⟨S72, .i32⟩

abbrev bufTy : (tb : Table) → Fin (tcTables nBuf tb) → BufTy
  | .hbm, ⟨i, _⟩ => hbmTy i
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_0 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_1 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_2 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_call4_v0 : Ref sig .tc := ⟨.hbm, 94, rfl⟩
abbrev main_call4_v1 : Ref sig .tc := ⟨.hbm, 95, rfl⟩
abbrev main_call4_cst : Ref sig .tc := ⟨.hbm, 96, rfl⟩
abbrev main_call4_v2 : Ref sig .tc := ⟨.hbm, 97, rfl⟩
abbrev main_call4_v3 : Ref sig .tc := ⟨.hbm, 98, rfl⟩
abbrev main_call4_cst_0 : Ref sig .tc := ⟨.hbm, 99, rfl⟩
abbrev main_call4_v4 : Ref sig .tc := ⟨.hbm, 100, rfl⟩
abbrev main_call4_v5 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_c_3 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_4 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_call6_v0 : Ref sig .tc := ⟨.hbm, 129, rfl⟩
abbrev main_call6_v1 : Ref sig .tc := ⟨.hbm, 130, rfl⟩
abbrev main_call6_cst : Ref sig .tc := ⟨.hbm, 131, rfl⟩
abbrev main_call6_v2 : Ref sig .tc := ⟨.hbm, 132, rfl⟩
abbrev main_call6_v3 : Ref sig .tc := ⟨.hbm, 133, rfl⟩
abbrev main_call6_cst_0 : Ref sig .tc := ⟨.hbm, 134, rfl⟩
abbrev main_call6_v4 : Ref sig .tc := ⟨.hbm, 135, rfl⟩
abbrev main_call6_v5 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_c_5 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_cst_6 : Ref sig .tc := ⟨.hbm, 154, rfl⟩
abbrev main_call7_v0 : Ref sig .tc := ⟨.hbm, 155, rfl⟩
abbrev main_call7_v1 : Ref sig .tc := ⟨.hbm, 156, rfl⟩
abbrev main_call7_v2 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_call8_v0 : Ref sig .tc := ⟨.hbm, 164, rfl⟩
abbrev main_call8_v1 : Ref sig .tc := ⟨.hbm, 165, rfl⟩
abbrev main_call8_cst : Ref sig .tc := ⟨.hbm, 166, rfl⟩
abbrev main_call8_v2 : Ref sig .tc := ⟨.hbm, 167, rfl⟩
abbrev main_call8_v3 : Ref sig .tc := ⟨.hbm, 168, rfl⟩
abbrev main_call8_cst_0 : Ref sig .tc := ⟨.hbm, 169, rfl⟩
abbrev main_call8_v4 : Ref sig .tc := ⟨.hbm, 170, rfl⟩
abbrev main_call8_v5 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_c_7 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_cst_8 : Ref sig .tc := ⟨.hbm, 189, rfl⟩
abbrev main_call9_v0 : Ref sig .tc := ⟨.hbm, 190, rfl⟩
abbrev main_call9_v1 : Ref sig .tc := ⟨.hbm, 191, rfl⟩
abbrev main_call9_v2 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_call10_v0 : Ref sig .tc := ⟨.hbm, 199, rfl⟩
abbrev main_call10_v1 : Ref sig .tc := ⟨.hbm, 200, rfl⟩
abbrev main_call10_cst : Ref sig .tc := ⟨.hbm, 201, rfl⟩
abbrev main_call10_v2 : Ref sig .tc := ⟨.hbm, 202, rfl⟩
abbrev main_call10_v3 : Ref sig .tc := ⟨.hbm, 203, rfl⟩
abbrev main_call10_cst_0 : Ref sig .tc := ⟨.hbm, 204, rfl⟩
abbrev main_call10_v4 : Ref sig .tc := ⟨.hbm, 205, rfl⟩
abbrev main_call10_v5 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_c_9 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_cst_10 : Ref sig .tc := ⟨.hbm, 224, rfl⟩
abbrev main_call11_v0 : Ref sig .tc := ⟨.hbm, 225, rfl⟩
abbrev main_call11_v1 : Ref sig .tc := ⟨.hbm, 226, rfl⟩
abbrev main_call11_v2 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_call12_v0 : Ref sig .tc := ⟨.hbm, 234, rfl⟩
abbrev main_call12_v1 : Ref sig .tc := ⟨.hbm, 235, rfl⟩
abbrev main_call12_cst : Ref sig .tc := ⟨.hbm, 236, rfl⟩
abbrev main_call12_v2 : Ref sig .tc := ⟨.hbm, 237, rfl⟩
abbrev main_call12_v3 : Ref sig .tc := ⟨.hbm, 238, rfl⟩
abbrev main_call12_cst_0 : Ref sig .tc := ⟨.hbm, 239, rfl⟩
abbrev main_call12_v4 : Ref sig .tc := ⟨.hbm, 240, rfl⟩
abbrev main_call12_v5 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_v157 : Ref sig .tc := ⟨.hbm, 250, rfl⟩
abbrev main_v158 : Ref sig .tc := ⟨.hbm, 251, rfl⟩
abbrev main_v159 : Ref sig .tc := ⟨.hbm, 252, rfl⟩
abbrev main_c_11 : Ref sig .tc := ⟨.hbm, 253, rfl⟩
abbrev main_v160 : Ref sig .tc := ⟨.hbm, 254, rfl⟩
abbrev main_v161 : Ref sig .tc := ⟨.hbm, 255, rfl⟩
abbrev main_v162 : Ref sig .tc := ⟨.hbm, 256, rfl⟩
abbrev main_v163 : Ref sig .tc := ⟨.hbm, 257, rfl⟩
abbrev main_v164 : Ref sig .tc := ⟨.hbm, 258, rfl⟩
abbrev main_cst_12 : Ref sig .tc := ⟨.hbm, 259, rfl⟩
abbrev main_call13_v0 : Ref sig .tc := ⟨.hbm, 260, rfl⟩
abbrev main_call13_v1 : Ref sig .tc := ⟨.hbm, 261, rfl⟩
abbrev main_call13_v2 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_call14_v0 : Ref sig .tc := ⟨.hbm, 269, rfl⟩
abbrev main_call14_v1 : Ref sig .tc := ⟨.hbm, 270, rfl⟩
abbrev main_call14_cst : Ref sig .tc := ⟨.hbm, 271, rfl⟩
abbrev main_call14_v2 : Ref sig .tc := ⟨.hbm, 272, rfl⟩
abbrev main_call14_v3 : Ref sig .tc := ⟨.hbm, 273, rfl⟩
abbrev main_call14_cst_0 : Ref sig .tc := ⟨.hbm, 274, rfl⟩
abbrev main_call14_v4 : Ref sig .tc := ⟨.hbm, 275, rfl⟩
abbrev main_call14_v5 : Ref sig .tc := ⟨.hbm, 276, rfl⟩
abbrev main_v171 : Ref sig .tc := ⟨.hbm, 277, rfl⟩
abbrev main_v172 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_v176 : Ref sig .tc := ⟨.hbm, 282, rfl⟩
abbrev main_v177 : Ref sig .tc := ⟨.hbm, 283, rfl⟩
abbrev main_v178 : Ref sig .tc := ⟨.hbm, 284, rfl⟩
abbrev main_v179 : Ref sig .tc := ⟨.hbm, 285, rfl⟩
abbrev main_v180 : Ref sig .tc := ⟨.hbm, 286, rfl⟩
abbrev main_v181 : Ref sig .tc := ⟨.hbm, 287, rfl⟩
abbrev main_c_13 : Ref sig .tc := ⟨.hbm, 288, rfl⟩
abbrev main_v182 : Ref sig .tc := ⟨.hbm, 289, rfl⟩
abbrev main_v183 : Ref sig .tc := ⟨.hbm, 290, rfl⟩
abbrev main_v184 : Ref sig .tc := ⟨.hbm, 291, rfl⟩
abbrev main_v185 : Ref sig .tc := ⟨.hbm, 292, rfl⟩
abbrev main_v186 : Ref sig .tc := ⟨.hbm, 293, rfl⟩
abbrev main_cst_14 : Ref sig .tc := ⟨.hbm, 294, rfl⟩
abbrev main_call15_v0 : Ref sig .tc := ⟨.hbm, 295, rfl⟩
abbrev main_call15_v1 : Ref sig .tc := ⟨.hbm, 296, rfl⟩
abbrev main_call15_v2 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩

abbrev nD : Nat := 1
abbrev τ : Topo := Topo.v7x

variable {F : FTy → Type} [FloatOps F]
-- ==== Proof.RetBlock.lean ====
module
public import proofs.«01_k».proof.Proof.Gen.KernelIdeal.Value
public import Idealize.ShloMosaic.Lib.Pipeline.ReadBack
public import Idealize.ShloMosaic.Lib.Pipeline.ValueKit

/-!
# The retention kernel's block, read off the printed body

One grid point of the retention kernel handles four chunks of 128 rows for four heads. Each (chunk, head) pair
performs the same two computations: the new state of the head (`newSt`) and the normalised, gated output tile (`outB`).
This file states those two once and shows that the sixteen unrolled copies in the kernel are instances of them, the state
passing from chunk to chunk (`ST`).
-/

@[expose] public section

set_option maxRecDepth 16384

open Idealize.ShloMosaic Idealize.ShloMosaic.TcCoe Idealize.SL.Sem
open Cert.KernelIdeal Cert.KernelIdeal.Gen

noncomputable section

namespace Cert.KernelIdeal.Ret

variable {F : FTy → Type} [FloatOps F]

/-- The state of one head after a chunk: the decayed old state plus the chunk's keys (rotated, scaled and decayed) against its values. -/
def newSt (cs sn : Vec F S128x128 .f32) (k : Vec F S1x128x128 .bf16) (v : Vec F S1x128x256 .bf16) (st : Vec F S1x128x256 .f32)
    (kd : Vec F S1x128x1 .f32) (fl : Vec F S1x1x256 .f32) : Vec F S1x128x256 .f32 :=
  k0_pay10 (k0_pay5 cs sn k) (k0_pay6 v) (k0_pay8 st) kd fl

/-- The output tile of one head and chunk: attention inside the chunk plus the read of the state, normalised and gated. -/
def outB (cs sn : Vec F S128x128 .f32) (q k : Vec F S1x128x128 .bf16) (v : Vec F S1x128x256 .bf16) (st : Vec F S1x128x256 .f32)
    (dc : Vec F S1x128x128 .f32) (cr : Vec F S1x128x1 .f32) (g : Vec F S1x128x256 .bf16) : Vec F S1x128x256 .bf16 :=
  k0_pay14 (k0_pay11 g) (k0_pay12 (k0_pay6 v) (k0_pay7 cs sn q) (k0_pay8 st) (k0_pay9 cs sn q k) dc cr)
    (k0_pay13 (k0_pay6 v) (k0_pay7 cs sn q) (k0_pay8 st) (k0_pay9 cs sn q k) dc cr)

/-- The states of the four heads after `n` chunks of a block, from the states before it. -/
def ST (cs sn : ℕ → Vec F S128x128 .f32) (k : ℕ → Fin 4 → Vec F S1x128x128 .bf16) (v : ℕ → Fin 4 → Vec F S1x128x256 .bf16)
    (kd : Fin 4 → Vec F S1x128x1 .f32) (fl : Fin 4 → Vec F S1x1x256 .f32) (s0 : Fin 4 → Vec F S1x128x256 .f32) :
    ℕ → Fin 4 → Vec F S1x128x256 .f32
  | 0, h => s0 h
  | n + 1, h => newSt (cs n) (sn n) (k n h) (v n h) (ST cs sn k v kd fl s0 n h) (kd h) (fl h)

/-- The 128 rows of chunk `n` of a rotation table. -/
def rdT (arg : Memref sig .tc .vmem S512x128 .f32) (harg : arg.IsWhole) (x : Vec F S512x128 .f32) (n : ℕ) : Vec F S128x128 .f32 :=
  View.readAt (Elt F) arg.view (Rect.unit (s := S512x128) ![128 * (n % 4), 0] S128x128.size
    (by intro a; fin_cases a <;> simp [S512x128, S128x128] <;> omega)).toLoadRect (harg.unread x)

/-- The tile of chunk `n` and head `h` of a block of queries or keys. -/
def rdQ (arg : Memref sig .tc .vmem S1x512x512 .bf16) (harg : arg.IsWhole) (x : Vec F S1x512x512 .bf16) (n : ℕ) (h : Fin 4) :
    Vec F S1x128x128 .bf16 :=
  View.readAt (Elt F) arg.view (Rect.unit (s := S1x512x512) ![0, 128 * (n % 4), 128 * h.val] S1x128x128.size
    (by intro a; have := h.isLt; fin_cases a <;> simp [S1x512x512, S1x128x128] <;> omega)).toLoadRect (harg.unread x)

/-- The tile of chunk `n` and of head `j` of the two a block of values or gates holds. -/
def rdV (arg : Memref sig .tc .vmem S1x512x512 .bf16) (harg : arg.IsWhole) (x : Vec F S1x512x512 .bf16) (n j : ℕ) :
    Vec F S1x128x256 .bf16 :=
  View.readAt (Elt F) arg.view (Rect.unit (s := S1x512x512) ![0, 128 * (n % 4), 256 * (j % 2)] S1x128x256.size
    (by intro a; fin_cases a <;> simp [S1x512x512, S1x128x256] <;> omega)).toLoadRect (harg.unread x)

/-- The tile of chunk `n` and head `h` of the values (or gates), which lie in two blocks of two heads each. -/
def rdVV (arg arg' : Memref sig .tc .vmem S1x512x512 .bf16) (harg : arg.IsWhole) (harg' : arg'.IsWhole) (x x' : Vec F S1x512x512 .bf16)
    (n : ℕ) : Fin 4 → Vec F S1x128x256 .bf16
  | 0 => rdV arg harg x n 0
  | 1 => rdV arg harg x n 1
  | 2 => rdV arg' harg' x' n 0
  | 3 => rdV arg' harg' x' n 1

/-- Head `h`'s within-chunk decay matrix. -/
def rdD (arg : Memref sig .tc .vmem S4x128x128 .f32) (harg : arg.IsWhole) (x : Vec F S4x128x128 .f32) (h : Fin 4) : Vec F S1x128x128 .f32 :=
  View.readAt (Elt F) arg.view (Rect.unit (s := S4x128x128) ![h.val, 0, 0] S1x128x128.size
    (by intro a; have := h.isLt; fin_cases a <;> simp [S4x128x128, S1x128x128] <;> omega)).toLoadRect (harg.unread x)

/-- Head `h`'s row of a table of one number per row of a chunk. -/
def rdC (arg : Memref sig .tc .vmem S4x128x1 .f32) (harg : arg.IsWhole) (x : Vec F S4x128x1 .f32) (h : Fin 4) : Vec F S1x128x1 .f32 :=
  View.readAt (Elt F) arg.view (Rect.unit (s := S4x128x1) ![h.val, 0, 0] S1x128x1.size
    (by intro a; have := h.isLt; fin_cases a <;> simp [S4x128x1, S1x128x1] <;> omega)).toLoadRect (harg.unread x)

/-- Head `h`'s decay over a whole chunk, repeated along the value axis. -/
def rdF (arg : Memref sig .tc .vmem S4x1x256 .f32) (harg : arg.IsWhole) (x : Vec F S4x1x256 .f32) (h : Fin 4) : Vec F S1x1x256 .f32 :=
  View.readAt (Elt F) arg.view (Rect.unit (s := S4x1x256) ![h.val, 0, 0] S1x1x256.size
    (by intro a; have := h.isLt; fin_cases a <;> simp [S4x1x256, S1x1x256] <;> omega)).toLoadRect (harg.unread x)

/-- The rectangle of head `h` in the four states. -/
abbrev rS (h : Fin 4) : Rect S4x128x256 := Rect.unit (s := S4x128x256) ![h.val, 0, 0] S1x128x256.size
    (by intro a; have := h.isLt; fin_cases a <;> simp [S4x128x256, S1x128x256] <;> omega)

/-- The rectangle of chunk `n` and head `h` in the output block. -/
abbrev rO (n : ℕ) (h : Fin 4) : Rect S1x512x1024 := Rect.unit (s := S1x512x1024) ![0, 128 * (n % 4), 256 * h.val] S1x128x256.size
    (by intro a; have := h.isLt; fin_cases a <;> simp [S1x512x1024, S1x128x256] <;> omega)

/-- Head `h` of four states. -/
def ldS (s : Vec F S4x128x256 .f32) (h : Fin 4) : Vec F S1x128x256 .f32 := View.ld s (rS h)

variable (c : Dev nD) (i : grid0.Coords)
  (arg2 : Memref sig .tc .vmem S1x512x512 .bf16) (harg2 : arg2.IsWhole)
  (arg3 : Memref sig .tc .vmem S1x512x512 .bf16) (harg3 : arg3.IsWhole)
  (arg4 : Memref sig .tc .vmem S1x512x512 .bf16) (harg4 : arg4.IsWhole)
  (arg5 : Memref sig .tc .vmem S1x512x512 .bf16) (harg5 : arg5.IsWhole)
  (arg6 : Memref sig .tc .vmem S1x512x512 .bf16) (harg6 : arg6.IsWhole)
  (arg7 : Memref sig .tc .vmem S1x512x512 .bf16) (harg7 : arg7.IsWhole)
  (arg8 : Memref sig .tc .vmem S512x128 .f32) (harg8 : arg8.IsWhole)
  (arg9 : Memref sig .tc .vmem S512x128 .f32) (harg9 : arg9.IsWhole)
  (arg10 : Memref sig .tc .vmem S1x4x128x256 .f32) (harg10 : arg10.IsWhole)
  (arg11 : Memref sig .tc .vmem S4x128x128 .f32) (harg11 : arg11.IsWhole)
  (arg12 : Memref sig .tc .vmem S4x128x1 .f32) (harg12 : arg12.IsWhole)
  (arg13 : Memref sig .tc .vmem S4x128x1 .f32) (harg13 : arg13.IsWhole)
  (arg14 : Memref sig .tc .vmem S4x1x256 .f32) (harg14 : arg14.IsWhole)
  (arg15 : Memref sig .tc .vmem S1x512x1024 .bf16) (harg15 : arg15.IsWhole)
  (arg16 : Memref sig .tc .vmem S1x4x128x256 .f32) (harg16 : arg16.IsWhole)
  (arg17 : Memref sig .tc .vmem S4x128x256 .f32) (harg17 : arg17.IsWhole)
  (x0 : Vec F S1x512x512 .bf16)
  (x1 : Vec F S1x512x512 .bf16)
  (x2 : Vec F S1x512x512 .bf16)
  (x3 : Vec F S1x512x512 .bf16)
  (x4 : Vec F S1x512x512 .bf16)
  (x5 : Vec F S1x512x512 .bf16)
  (x6 : Vec F S512x128 .f32)
  (x7 : Vec F S512x128 .f32)
  (x8 : Vec F S1x4x128x256 .f32)
  (x9 : Vec F S4x128x128 .f32)
  (x10 : Vec F S4x128x1 .f32)
  (x11 : Vec F S4x128x1 .f32)
  (x12 : Vec F S4x1x256 .f32)
  (xs0 : Vec F S4x128x256 .f32)

/-- The state of head 0 the kernel reads at chunk 0 (case A) is the head's state after 0 chunks. -/
theorem stA_0_0 : kernelRun0_A.sl.v28 c arg10 harg10 arg17 x8 = ST (rdT arg8 harg8 x6) (rdT arg9 harg9 x7) (rdQ arg3 harg3 x1) (rdVV arg4 arg5 harg4 harg5 x2 x3) (rdC arg13 harg13 x11) (rdF arg14 harg14 x12) (ldS (k0_pay2 (View.readAt (Elt F) arg10.view (Rect.unit (s := S1x4x128x256) ![0, 0, 0, 0] S1x4x128x256.size inb_S1x4x128x256_S1x4x128x256_0_0_0_0).toLoadRect (harg10.unread x8)))) 0 0 := by
  unfold kernelRun0_A.sl.v28 kernelRun0_A.sl.HS0_1
  exact View.readCov_fill (Val := Elt F) _ _ _ _ (rS 0) (by decide)

/-- The state of head 1 the kernel reads at chunk 0 (case A) is the head's state after 0 chunks. -/
theorem stA_0_1 : kernelRun0_A.sl.v106 c arg3 harg3 arg4 harg4 arg8 harg8 arg9 harg9 arg10 harg10 arg13 harg13 arg14 harg14 arg17 x1 x2 x6 x7 x8 x11 x12 = ST (rdT arg8 harg8 x6) (rdT arg9 harg9 x7) (rdQ arg3 harg3 x1) (rdVV arg4 arg5 harg4 harg5 x2 x3) (rdC arg13 harg13 x11) (rdF arg14 harg14 x12) (ldS (k0_pay2 (View.readAt (Elt F) arg10.view (Rect.unit (s := S1x4x128x256) ![0, 0, 0, 0] S1x4x128x256.size inb_S1x4x128x256_S1x4x128x256_0_0_0_0).toLoadRect (harg10.unread x8)))) 0 1 := by
  unfold kernelRun0_A.sl.v106 kernelRun0_A.sl.HS0_2 kernelRun0_A.sl.HS0_1
  refine (View.readCov_skip (Val := Elt F) _ _ _ _ _ (by decide)).trans ?_
  exact View.readCov_fill (Val := Elt F) _ _ _ _ (rS 1) (by decide)

/-- The state of head 2 the kernel reads at chunk 0 (case A) is the head's state after 0 chunks. -/
theorem stA_0_2 : kernelRun0_A.sl.v184 c arg3 harg3 arg4 harg4 arg8 harg8 arg9 harg9 arg10 harg10 arg13 harg13 arg14 harg14 arg17 x1 x2 x6 x7 x8 x11 x12 = ST (rdT arg8 harg8 x6) (rdT arg9 harg9 x7) (rdQ arg3 harg3 x1) (rdVV arg4 arg5 harg4 harg5 x2 x3) (rdC arg13 harg13 x11) (rdF arg14 harg14 x12) (ldS (k0_pay2 (View.readAt (Elt F) arg10.view (Rect.unit (s := S1x4x128x256) ![0, 0, 0, 0] S1x4x128x256.size inb_S1x4x128x256_S1x4x128x256_0_0_0_0).toLoadRect (harg10.unread x8)))) 0 2 := by
  unfold kernelRun0_A.sl.v184 kernelRun0_A.sl.HS0_3 kernelRun0_A.sl.HS0_2 kernelRun0_A.sl.HS0_1
  refine (View.readCov_skip (Val := Elt F) _ _ _ _ _ (by decide)).trans ?_
  refine (View.readCov_skip (Val := Elt F) _ _ _ _ _ (by decide)).trans ?_
  exact View.readCov_fill (Val := Elt F) _ _ _ _ (rS 2) (by decide)

/-- The state of head 3 the kernel reads at chunk 0 (case A) is the head's state after 0 chunks. -/
theorem stA_0_3 : kernelRun0_A.sl.v262 c arg3 harg3 arg4 harg4 arg5 harg5 arg8 harg8 arg9 harg9 arg10 harg10 arg13 harg13 arg14 harg14 arg17 x1 x2 x3 x6 x7 x8 x11 x12 = ST (rdT arg8 harg8 x6) (rdT arg9 harg9 x7) (rdQ arg3 harg3 x1) (rdVV arg4 arg5 harg4 harg5 x2 x3) (rdC arg13 harg13 x11) (rdF arg14 harg14 x12) (ldS (k0_pay2 (View.readAt (Elt F) arg10.view (Rect.unit (s := S1x4x128x256) ![0, 0, 0, 0] S1x4x128x256.size inb_S1x4x128x256_S1x4x128x256_0_0_0_0).toLoadRect (harg10.unread x8)))) 0 3 := by
  unfold kernelRun0_A.sl.v262 kernelRun0_A.sl.HS0_4 kernelRun0_A.sl.HS0_3 kernelRun0_A.sl.HS0_2 kernelRun0_A.sl.HS0_1
  refine (View.readCov_skip (Val := Elt F) _ _ _ _ _ (by decide)).trans ?_
  refine (View.readCov_skip (Val := Elt F) _ _ _ _ _ (by decide)).trans ?_
  refine (View.readCov_skip (Val := Elt F) _ _ _ _ _ (by decide)).trans ?_
  exact View.readCov_fill (Val := Elt F) _ _ _ _ (rS 3) (by decide)

/-- The state of head 0 the kernel reads at chunk 1 (case A) is the head's state after 1 chunks. -/
theorem stA_1_0 : kernelRun0_A.sl.v344 c arg3 harg3 arg4 harg4 arg5 harg5 arg8 harg8 arg9 harg9 arg10 harg10 arg13 harg13 arg14 harg14 arg17 x1 x2 x3 x6 x7 x8 x11 x12 = ST (rdT arg8 harg8 x6) (rdT arg9 harg9 x7) (rdQ arg3 harg3 x1) (rdVV arg4 arg5 harg4 harg5 x2 x3) (rdC arg13 harg13 x11) (rdF arg14 harg14 x12) (ldS (k0_pay2 (View.readAt (Elt F) arg10.view (Rect.unit (s := S1x4x128x256) ![0, 0, 0, 0] S1x4x128x256.size inb_S1x4x128x256_S1x4x128x256_0_0_0_0).toLoadRect (harg10.unread x8)))) 1 0 := by
  have e : kernelRun0_A.sl.v344 c arg3 harg3 arg4 harg4 arg5 harg5 arg8 harg8 arg9 harg9 arg10 harg10 arg13 harg13 arg14 harg14 arg17 x1 x2 x3 x6 x7 x8 x11 x12 = newSt (rdT arg8 harg8 x6 0) (rdT arg9 harg9 x7 0) (rdQ arg3 harg3 x1 0 0) (rdVV arg4 arg5 harg4 harg5 x2 x3 0 0) (kernelRun0_A.sl.v28 c arg10 harg10 arg17 x8) (rdC arg13 harg13 x11 0) (rdF arg14 harg14 x12 0) := by
    unfold kernelRun0_A.sl.v344 kernelRun0_A.sl.HS0_5 kernelRun0_A.sl.HS0_4 kernelRun0_A.sl.HS0_3 kernelRun0_A.sl.HS0_2
    refine (View.readCov_skip (Val := Elt F) _ _ _ _ _ (by decide)).trans ?_
    refine (View.readCov_skip (Val := Elt F) _ _ _ _ _ (by decide)).trans ?_
    refine (View.readCov_skip (Val := Elt F) _ _ _ _ _ (by decide)).trans ?_
    exact View.readCov_cons_toLoadRect (Val := Elt F) _ (rS 0) _ _
  rw [e, stA_0_0]; rfl

/-- The state of head 1 the kernel reads at chunk 1 (case A) is the head's state after 1 chunks. -/
theorem stA_1_1 : kernelRun0_A.sl.v422 c arg3 harg3 arg4 harg4 arg5 harg5 arg8 harg8 arg9 harg9 arg10 harg10 arg13 harg13 arg14 harg14 arg17 x1 x2 x3 x6 x7 x8 x11 x12 = ST (rdT arg8 harg8 x6) (rdT arg9 harg9 x7) (rdQ arg3 harg3 x1) (rdVV arg4 arg5 harg4 harg5 x2 x3) (rdC arg13 harg13 x11) (rdF arg14 harg14 x12) (ldS (k0_pay2 (View.readAt (Elt F) arg10.view (Rect.unit (s := S1x4x128x256) ![0, 0, 0, 0] S1x4x128x256.size inb_S1x4x128x256_S1x4x128x256_0_0_0_0).toLoadRect (harg10.unread x8)))) 1 1 := by
  have e : kernelRun0_A.sl.v422 c arg3 harg3 arg4 harg4 arg5 harg5 arg8 harg8 arg9 harg9 arg10 harg10 arg13 harg13 arg14 harg14 arg17 x1 x2 x3 x6 x7 x8 x11 x12 = newSt (rdT arg8 harg8 x6 0) (rdT arg9 harg9 x7 0) (rdQ arg3 harg3 x1 0 1) (rdVV arg4 arg5 harg4 harg5 x2 x3 0 1) (kernelRun0_A.sl.v106 c arg3 harg3 arg4 harg4 arg8 harg8 arg9 harg9 arg10 harg10 arg13 harg13 arg14 harg14 arg17 x1 x2 x6 x7 x8 x11 x12) (rdC arg13 harg13 x11 1) (rdF arg14 harg14 x12 1) := by
    unfold kernelRun0_A.sl.v422 kernelRun0_A.sl.HS0_6 kernelRun0_A.sl.HS0_5 kernelRun0_A.sl.HS0_4 kernelRun0_A.sl.HS0_3
    refine (View.readCov_skip (Val := Elt F) _ _ _ _ _ (by decide)).trans ?_
    refine (View.readCov_skip (Val := Elt F) _ _ _ _ _ (by decide)).trans ?_
    refine (View.readCov_skip (Val := Elt F) _ _ _ _ _ (by decide)).trans ?_
    exact View.readCov_cons_toLoadRect (Val := Elt F) _ (rS 1) _ _
  rw [e, stA_0_1]; rfl

/-- The state of head 2 the kernel reads at chunk 1 (case A) is the head's state after 1 chunks. -/
theorem stA_1_2 : kernelRun0_A.sl.v500 c arg3 harg3 arg4 harg4 arg5 harg5 arg8 harg8 arg9 harg9 arg10 harg10 arg13 harg13 arg14 harg14 arg17 x1 x2 x3 x6 x7 x8 x11 x12 = ST (rdT arg8 harg8 x6) (rdT arg9 harg9 x7) (rdQ arg3 harg3 x1) (rdVV arg4 arg5 harg4 harg5 x2 x3) (rdC arg13 harg13 x11) (rdF arg14 harg14 x12) (ldS (k0_pay2 (View.readAt (Elt F) arg10.view (Rect.unit (s := S1x4x128x256) ![0, 0, 0, 0] S1x4x128x256.size inb_S1x4x128x256_S1x4x128x256_0_0_0_0).toLoadRect (harg10.unread x8)))) 1 2 := by
  have e : kernelRun0_A.sl.v500 c arg3 harg3 arg4 harg4 arg5 harg5 arg8 harg8 arg9 harg9 arg10 harg10 arg13 harg13 arg14 harg14 arg17 x1 x2 x3 x6 x7 x8 x11 x12 = newSt (rdT arg8 harg8 x6 0) (rdT arg9 harg9 x7 0) (rdQ arg3 harg3 x1 0 2) (rdVV arg4 arg5 harg4 harg5 x2 x3 0 2) (kernelRun0_A.sl.v184 c arg3 harg3 arg4 harg4 arg8 harg8 arg9 harg9 arg10 harg10 arg13 harg13 arg14 harg14 arg17 x1 x2 x6 x7 x8 x11 x12) (rdC arg13 harg13 x11 2) (rdF arg14 harg14 x12 2) := by
    unfold kernelRun0_A.sl.v500 kernelRun0_A.sl.HS0_7 kernelRun0_A.sl.HS0_6 kernelRun0_A.sl.HS0_5 kernelRun0_A.sl.HS0_4
    refine (View.readCov_skip (Val := Elt F) _ _ _ _ _ (by decide)).trans ?_
    refine (View.readCov_skip (Val := Elt F) _ _ _ _ _ (by decide)).trans ?_
    refine (View.readCov_skip (Val := Elt F) _ _ _ _ _ (by decide)).trans ?_
    exact View.readCov_cons_toLoadRect (Val := Elt F) _ (rS 2) _ _
  rw [e, stA_0_2]; rfl

/-- The state of head 3 the kernel reads at chunk 1 (case A) is the head's state after 1 chunks. -/
theorem stA_1_3 : kernelRun0_A.sl.v578 c arg3 harg3 arg4 harg4 arg5 harg5 arg8 harg8 arg9 harg9 arg10 harg10 arg13 harg13 arg14 harg14 arg17 x1 x2 x3 x6 x7 x8 x11 x12 = ST (rdT arg8 harg8 x6) (rdT arg9 harg9 x7) (rdQ arg3 harg3 x1) (rdVV arg4 arg5 harg4 harg5 x2 x3) (rdC arg13 harg13 x11) (rdF arg14 harg14 x12) (ldS (k0_pay2 (View.readAt (Elt F) arg10.view (Rect.unit (s := S1x4x128x256) ![0, 0, 0, 0] S1x4x128x256.size inb_S1x4x128x256_S1x4x128x256_0_0_0_0).toLoadRect (harg10.unread x8)))) 1 3 := by
  have e : kernelRun0_A.sl.v578 c arg3 harg3 arg4 harg4 arg5 harg5 arg8 harg8 arg9 harg9 arg10 harg10 arg13 harg13 arg14 harg14 arg17 x1 x2 x3 x6 x7 x8 x11 x12 = newSt (rdT arg8 harg8 x6 0) (rdT arg9 harg9 x7 0) (rdQ arg3 harg3 x1 0 3) (rdVV arg4 arg5 harg4 harg5 x2 x3 0 3) (kernelRun0_A.sl.v262 c arg3 harg3 arg4 harg4 arg5 harg5 arg8 harg8 arg9 harg9 arg10 harg10 arg13 harg13 arg14 harg14 arg17 x1 x2 x3 x6 x7 x8 x11 x12) (rdC arg13 harg13 x11 3) (rdF arg14 harg14 x12 3) := by
    unfold kernelRun0_A.sl.v578 kernelRun0_A.sl.HS0_8 kernelRun0_A.sl.HS0_7 kernelRun0_A.sl.HS0_6 kernelRun0_A.sl.HS0_5
    refine (View.readCov_skip (Val := Elt F) _ _ _ _ _ (by decide)).trans ?_
    refine (View.readCov_skip (Val := Elt F) _ _ _ _ _ (by decide)).trans ?_
    refine (View.readCov_skip (Val := Elt F) _ _ _ _ _ (by decide)).trans ?_
    exact View.readCov_cons_toLoadRect (Val := Elt F) _ (rS 3) _ _
  rw [e, stA_0_3]; rfl

/-- The state of head 0 the kernel reads at chunk 2 (case A) is the head's state after 2 chunks. -/
theorem stA_2_0 : kernelRun0_A.sl.v660 c arg3 harg3 arg4 harg4 arg5 harg5 arg8 harg8 arg9 harg9 arg10 harg10 arg13 harg13 arg14 harg14 arg17 x1 x2 x3 x6 x7 x8 x11 x12 = ST (rdT arg8 harg8 x6) (rdT arg9 harg9 x7) (rdQ arg3 harg3 x1) (rdVV arg4 arg5 harg4 harg5 x2 x3) (rdC arg13 harg13 x11) (rdF arg14 harg14 x12) (ldS (k0_pay2 (View.readAt (Elt F) arg10.view (Rect.unit (s := S1x4x128x256) ![0, 0, 0, 0] S1x4x128x256.size inb_S1x4x128x256_S1x4x128x256_0_0_0_0).toLoadRect (harg10.unread x8)))) 2 0 := by
  have e : kernelRun0_A.sl.v660 c arg3 harg3 arg4 harg4 arg5 harg5 arg8 harg8 arg9 harg9 arg10 harg10 arg13 harg13 arg14 harg14 arg17 x1 x2 x3 x6 x7 x8 x11 x12 = newSt (rdT arg8 harg8 x6 1) (rdT arg9 harg9 x7 1) (rdQ arg3 harg3 x1 1 0) (rdVV arg4 arg5 harg4 harg5 x2 x3 1 0) (kernelRun0_A.sl.v344 c arg3 harg3 arg4 harg4 arg5 harg5 arg8 harg8 arg9 harg9 arg10 harg10 arg13 harg13 arg14 harg14 arg17 x1 x2 x3 x6 x7 x8 x11 x12) (rdC arg13 harg13 x11 0) (rdF arg14 harg14 x12 0) := by
    unfold kernelRun0_A.sl.v660 kernelRun0_A.sl.HS0_9 kernelRun0_A.sl.HS0_8 kernelRun0_A.sl.HS0_7 kernelRun0_A.sl.HS0_6
    refine (View.readCov_skip (Val := Elt F) _ _ _ _ _ (by decide)).trans ?_
    refine (View.readCov_skip (Val := Elt F) _ _ _ _ _ (by decide)).trans ?_
    refine (View.readCov_skip (Val := Elt F) _ _ _ _ _ (by decide)).trans ?_
    exact View.readCov_cons_toLoadRect (Val := Elt F) _ (rS 0) _ _
  rw [e, stA_1_0]; rfl

/-- The state of head 1 the kernel reads at chunk 2 (case A) is the head's state after 2 chunks. -/
theorem stA_2_1 : kernelRun0_A.sl.v738 c arg3 harg3 arg4 harg4 arg5 harg5 arg8 harg8 arg9 harg9 arg10 harg10 arg13 harg13 arg14 harg14 arg17 x1 x2 x3 x6 x7 x8 x11 x12 = ST (rdT arg8 harg8 x6) (rdT arg9 harg9 x7) (rdQ arg3 harg3 x1) (rdVV arg4 arg5 harg4 harg5 x2 x3) (rdC arg13 harg13 x11) (rdF arg14 harg14 x12) (ldS (k0_pay2 (View.readAt (Elt F) arg10.view (Rect.unit (s := S1x4x128x256) ![0, 0, 0, 0] S1x4x128x256.size inb_S1x4x128x256_S1x4x128x256_0_0_0_0).toLoadRect (harg10.unread x8)))) 2 1 := by
  have e : kernelRun0_A.sl.v738 c arg3 harg3 arg4 harg4 arg5 harg5 arg8 harg8 arg9 harg9 arg10 harg10 arg13 harg13 arg14 harg14 arg17 x1 x2 x3 x6 x7 x8 x11 x12 = newSt (rdT arg8 harg8 x6 1) (rdT arg9 harg9 x7 1) (rdQ arg3 harg3 x1 1 1) (rdVV arg4 arg5 harg4 harg5 x2 x3 1 1) (kernelRun0_A.sl.v422 c arg3 harg3 arg4 harg4 arg5 harg5 arg8 harg8 arg9 harg9 arg10 harg10 arg13 harg13 arg14 harg14 arg17 x1 x2 x3 x6 x7 x8 x11 x12) (rdC arg13 harg13 x11 1) (rdF arg14 harg14 x12 1) := by
    unfold kernelRun0_A.sl.v738 kernelRun0_A.sl.HS0_10 kernelRun0_A.sl.HS0_9 kernelRun0_A.sl.HS0_8 kernelRun0_A.sl.HS0_7
    refine (View.readCov_skip (Val := Elt F) _ _ _ _ _ (by decide)).trans ?_
    refine (View.readCov_skip (Val := Elt F) _ _ _ _ _ (by decide)).trans ?_
    refine (View.readCov_skip (Val := Elt F) _ _ _ _ _ (by decide)).trans ?_
    exact View.readCov_cons_toLoadRect (Val := Elt F) _ (rS 1) _ _
  rw [e, stA_1_1]; rfl

/-- The state of head 2 the kernel reads at chunk 2 (case A) is the head's state after 2 chunks. -/
theorem stA_2_2 : kernelRun0_A.sl.v816 c arg3 harg3 arg4 harg4 arg5 harg5 arg8 harg8 arg9 harg9 arg10 harg10 arg13 harg13 arg14 harg14 arg17 x1 x2 x3 x6 x7 x8 x11 x12 = ST (rdT arg8 harg8 x6) (rdT arg9 harg9 x7) (rdQ arg3 harg3 x1) (rdVV arg4 arg5 harg4 harg5 x2 x3) (rdC arg13 harg13 x11) (rdF arg14 harg14 x12) (ldS (k0_pay2 (View.readAt (Elt F) arg10.view (Rect.unit (s := S1x4x128x256) ![0, 0, 0, 0] S1x4x128x256.size inb_S1x4x128x256_S1x4x128x256_0_0_0_0).toLoadRect (harg10.unread x8)))) 2 2 := by
  have e : kernelRun0_A.sl.v816 c arg3 harg3 arg4 harg4 arg5 harg5 arg8 harg8 arg9 harg9 arg10 harg10 arg13 harg13 arg14 harg14 arg17 x1 x2 x3 x6 x7 x8 x11 x12 = newSt (rdT arg8 harg8 x6 1) (rdT arg9 harg9 x7 1) (rdQ arg3 harg3 x1 1 2) (rdVV arg4 arg5 harg4 harg5 x2 x3 1 2) (kernelRun0_A.sl.v500 c arg3 harg3 arg4 harg4 arg5 harg5 arg8 harg8 arg9 harg9 arg10 harg10 arg13 harg13 arg14 harg14 arg17 x1 x2 x3 x6 x7 x8 x11 x12) (rdC arg13 harg13 x11 2) (rdF arg14 harg14 x12 2) := by
    unfold kernelRun0_A.sl.v816 kernelRun0_A.sl.HS0_11 kernelRun0_A.sl.HS0_10 kernelRun0_A.sl.HS0_9 kernelRun0_A.sl.HS0_8
    refine (View.readCov_skip (Val := Elt F) _ _ _ _ _ (by decide)).trans ?_
    refine (View.readCov_skip (Val := Elt F) _ _ _ _ _ (by decide)).trans ?_
    refine (View.readCov_skip (Val := Elt F) _ _ _ _ _ (by decide)).trans ?_
    exact View.readCov_cons_toLoadRect (Val := Elt F) _ (rS 2) _ _
  rw [e, stA_1_2]; rfl

/-- The state of head 3 the kernel reads at chunk 2 (case A) is the head's state after 2 chunks. -/
theorem stA_2_3 : kernelRun0_A.sl.v894 c arg3 harg3 arg4 harg4 arg5 harg5 arg8 harg8 arg9 harg9 arg10 harg10 arg13 harg13 arg14 harg14 arg17 x1 x2 x3 x6 x7 x8 x11 x12 = ST (rdT arg8 harg8 x6) (rdT arg9 harg9 x7) (rdQ arg3 harg3 x1) (rdVV arg4 arg5 harg4 harg5 x2 x3) (rdC arg13 harg13 x11) (rdF arg14 harg14 x12) (ldS (k0_pay2 (View.readAt (Elt F) arg10.view (Rect.unit (s := S1x4x128x256) ![0, 0, 0, 0] S1x4x128x256.size inb_S1x4x128x256_S1x4x128x256_0_0_0_0).toLoadRect (harg10.unread x8)))) 2 3 := by
  have e : kernelRun0_A.sl.v894 c arg3 harg3 arg4 harg4 arg5 harg5 arg8 harg8 arg9 harg9 arg10 harg10 arg13 harg13 arg14 harg14 arg17 x1 x2 x3 x6 x7 x8 x11 x12 = newSt (rdT arg8 harg8 x6 1) (rdT arg9 harg9 x7 1) (rdQ arg3 harg3 x1 1 3) (rdVV arg4 arg5 harg4 harg5 x2 x3 1 3) (kernelRun0_A.sl.v578 c arg3 harg3 arg4 harg4 arg5 harg5 arg8 harg8 arg9 harg9 arg10 harg10 arg13 harg13 arg14 harg14 arg17 x1 x2 x3 x6 x7 x8 x11 x12) (rdC arg13 harg13 x11 3) (rdF arg14 harg14 x12 3) := by
    unfold kernelRun0_A.sl.v894 kernelRun0_A.sl.HS0_12 kernelRun0_A.sl.HS0_11 kernelRun0_A.sl.HS0_10 kernelRun0_A.sl.HS0_9
    refine (View.readCov_skip (Val := Elt F) _ _ _ _ _ (by decide)).trans ?_
    refine (View.readCov_skip (Val := Elt F) _ _ _ _ _ (by decide)).trans ?_
    refine (View.readCov_skip (Val := Elt F) _ _ _ _ _ (by decide)).trans ?_
    exact View.readCov_cons_toLoadRect (Val := Elt F) _ (rS 3) _ _
  rw [e, stA_1_3]; rfl

/-- The state of head 0 the kernel reads at chunk 3 (case A) is the head's state after 3 chunks. -/
theorem stA_3_0 : kernelRun0_A.sl.v976 c arg3 harg3 arg4 harg4 arg5 harg5 arg8 harg8 arg9 harg9 arg10 harg10 arg13 harg13 arg14 harg14 arg17 x1 x2 x3 x6 x7 x8 x11 x12 = ST (rdT arg8 harg8 x6) (rdT arg9 harg9 x7) (rdQ arg3 harg3 x1) (rdVV arg4 arg5 harg4 harg5 x2 x3) (rdC arg13 harg13 x11) (rdF arg14 harg14 x12) (ldS (k0_pay2 (View.readAt (Elt F) arg10.view (Rect.unit (s := S1x4x128x256) ![0, 0, 0, 0] S1x4x128x256.size inb_S1x4x128x256_S1x4x128x256_0_0_0_0).toLoadRect (harg10.unread x8)))) 3 0 := by
  have e : kernelRun0_A.sl.v976 c arg3 harg3 arg4 harg4 arg5 harg5 arg8 harg8 arg9 harg9 arg10 harg10 arg13 harg13 arg14 harg14 arg17 x1 x2 x3 x6 x7 x8 x11 x12 = newSt (rdT arg8 harg8 x6 2) (rdT arg9 harg9 x7 2) (rdQ arg3 harg3 x1 2 0) (rdVV arg4 arg5 harg4 harg5 x2 x3 2 0) (kernelRun0_A.sl.v660 c arg3 harg3 arg4 harg4 arg5 harg5 arg8 harg8 arg9 harg9 arg10 harg10 arg13 harg13 arg14 harg14 arg17 x1 x2 x3 x6 x7 x8 x11 x12) (rdC arg13 harg13 x11 0) (rdF arg14 harg14 x12 0) := by
    unfold kernelRun0_A.sl.v976 kernelRun0_A.sl.HS0_13 kernelRun0_A.sl.HS0_12 kernelRun0_A.sl.HS0_11 kernelRun0_A.sl.HS0_10
    refine (View.readCov_skip (Val := Elt F) _ _ _ _ _ (by decide)).trans ?_
    refine (View.readCov_skip (Val := Elt F) _ _ _ _ _ (by decide)).trans ?_
    refine (View.readCov_skip (Val := Elt F) _ _ _ _ _ (by decide)).trans ?_
    exact View.readCov_cons_toLoadRect (Val := Elt F) _ (rS 0) _ _
  rw [e, stA_2_0]; rfl

/-- The state of head 1 the kernel reads at chunk 3 (case A) is the head's state after 3 chunks. -/
theorem stA_3_1 : kernelRun0_A.sl.v1054 c arg3 harg3 arg4 harg4 arg5 harg5 arg8 harg8 arg9 harg9 arg10 harg10 arg13 harg13 arg14 harg14 arg17 x1 x2 x3 x6 x7 x8 x11 x12 = ST (rdT arg8 harg8 x6) (rdT arg9 harg9 x7) (rdQ arg3 harg3 x1) (rdVV arg4 arg5 harg4 harg5 x2 x3) (rdC arg13 harg13 x11) (rdF arg14 harg14 x12) (ldS (k0_pay2 (View.readAt (Elt F) arg10.view (Rect.unit (s := S1x4x128x256) ![0, 0, 0, 0] S1x4x128x256.size inb_S1x4x128x256_S1x4x128x256_0_0_0_0).toLoadRect (harg10.unread x8)))) 3 1 := by
  have e : kernelRun0_A.sl.v1054 c arg3 harg3 arg4 harg4 arg5 harg5 arg8 harg8 arg9 harg9 arg10 harg10 arg13 harg13 arg14 harg14 arg17 x1 x2 x3 x6 x7 x8 x11 x12 = newSt (rdT arg8 harg8 x6 2) (rdT arg9 harg9 x7 2) (rdQ arg3 harg3 x1 2 1) (rdVV arg4 arg5 harg4 harg5 x2 x3 2 1) (kernelRun0_A.sl.v738 c arg3 harg3 arg4 harg4 arg5 harg5 arg8 harg8 arg9 harg9 arg10 harg10 arg13 harg13 arg14 harg14 arg17 x1 x2 x3 x6 x7 x8 x11 x12) (rdC arg13 harg13 x11 1) (rdF arg14 harg14 x12 1) := by
    unfold kernelRun0_A.sl.v1054 kernelRun0_A.sl.HS0_14 kernelRun0_A.sl.HS0_13 kernelRun0_A.sl.HS0_12 kernelRun0_A.sl.HS0_11
    refine (View.readCov_skip (Val := Elt F) _ _ _ _ _ (by decide)).trans ?_
    refine (View.readCov_skip (Val := Elt F) _ _ _ _ _ (by decide)).trans ?_
    refine (View.readCov_skip (Val := Elt F) _ _ _ _ _ (by decide)).trans ?_
    exact View.readCov_cons_toLoadRect (Val := Elt F) _ (rS 1) _ _
  rw [e, stA_2_1]; rfl

/-- The state of head 2 the kernel reads at chunk 3 (case A) is the head's state after 3 chunks. -/
theorem stA_3_2 : kernelRun0_A.sl.v1132 c arg3 harg3 arg4 harg4 arg5 harg5 arg8 harg8 arg9 harg9 arg10 harg10 arg13 harg13 arg14 harg14 arg17 x1 x2 x3 x6 x7 x8 x11 x12 = ST (rdT arg8 harg8 x6) (rdT arg9 harg9 x7) (rdQ arg3 harg3 x1) (rdVV arg4 arg5 harg4 harg5 x2 x3) (rdC arg13 harg13 x11) (rdF arg14 harg14 x12) (ldS (k0_pay2 (View.readAt (Elt F) arg10.view (Rect.unit (s := S1x4x128x256) ![0, 0, 0, 0] S1x4x128x256.size inb_S1x4x128x256_S1x4x128x256_0_0_0_0).toLoadRect (harg10.unread x8)))) 3 2 := by
  have e : kernelRun0_A.sl.v1132 c arg3 harg3 arg4 harg4 arg5 harg5 arg8 harg8 arg9 harg9 arg10 harg10 arg13 harg13 arg14 harg14 arg17 x1 x2 x3 x6 x7 x8 x11 x12 = newSt (rdT arg8 harg8 x6 2) (rdT arg9 harg9 x7 2) (rdQ arg3 harg3 x1 2 2) (rdVV arg4 arg5 harg4 harg5 x2 x3 2 2) (kernelRun0_A.sl.v816 c arg3 harg3 arg4 harg4 arg5 harg5 arg8 harg8 arg9 harg9 arg10 harg10 arg13 harg13 arg14 harg14 arg17 x1 x2 x3 x6 x7 x8 x11 x12) (rdC arg13 harg13 x11 2) (rdF arg14 harg14 x12 2) := by
    unfold kernelRun0_A.sl.v1132 kernelRun0_A.sl.HS0_15 kernelRun0_A.sl.HS0_14 kernelRun0_A.sl.HS0_13 kernelRun0_A.sl.HS0_12
    refine (View.readCov_skip (Val := Elt F) _ _ _ _ _ (by decide)).trans ?_
    refine (View.readCov_skip (Val := Elt F) _ _ _ _ _ (by decide)).trans ?_
    refine (View.readCov_skip (Val := Elt F) _ _ _ _ _ (by decide)).trans ?_
    exact View.readCov_cons_toLoadRect (Val := Elt F) _ (rS 2) _ _
  rw [e, stA_2_2]; rfl

/-- The state of head 3 the kernel reads at chunk 3 (case A) is the head's state after 3 chunks. -/
theorem stA_3_3 : kernelRun0_A.sl.v1210 c arg3 harg3 arg4 harg4 arg5 harg5 arg8 harg8 arg9 harg9 arg10 harg10 arg13 harg13 arg14 harg14 arg17 x1 x2 x3 x6 x7 x8 x11 x12 = ST (rdT arg8 harg8 x6) (rdT arg9 harg9 x7) (rdQ arg3 harg3 x1) (rdVV arg4 arg5 harg4 harg5 x2 x3) (rdC arg13 harg13 x11) (rdF arg14 harg14 x12) (ldS (k0_pay2 (View.readAt (Elt F) arg10.view (Rect.unit (s := S1x4x128x256) ![0, 0, 0, 0] S1x4x128x256.size inb_S1x4x128x256_S1x4x128x256_0_0_0_0).toLoadRect (harg10.unread x8)))) 3 3 := by
  have e : kernelRun0_A.sl.v1210 c arg3 harg3 arg4 harg4 arg5 harg5 arg8 harg8 arg9 harg9 arg10 harg10 arg13 harg13 arg14 harg14 arg17 x1 x2 x3 x6 x7 x8 x11 x12 = newSt (rdT arg8 harg8 x6 2) (rdT arg9 harg9 x7 2) (rdQ arg3 harg3 x1 2 3) (rdVV arg4 arg5 harg4 harg5 x2 x3 2 3) (kernelRun0_A.sl.v894 c arg3 harg3 arg4 harg4 arg5 harg5 arg8 harg8 arg9 harg9 arg10 harg10 arg13 harg13 arg14 harg14 arg17 x1 x2 x3 x6 x7 x8 x11 x12) (rdC arg13 harg13 x11 3) (rdF arg14 harg14 x12 3) := by
    unfold kernelRun0_A.sl.v1210 kernelRun0_A.sl.HS0_16 kernelRun0_A.sl.HS0_15 kernelRun0_A.sl.HS0_14 kernelRun0_A.sl.HS0_13
    refine (View.readCov_skip (Val := Elt F) _ _ _ _ _ (by decide)).trans ?_
    refine (View.readCov_skip (Val := Elt F) _ _ _ _ _ (by decide)).trans ?_
    refine (View.readCov_skip (Val := Elt F) _ _ _ _ _ (by decide)).trans ?_
    exact View.readCov_cons_toLoadRect (Val := Elt F) _ (rS 3) _ _
  rw [e, stA_2_3]; rfl

/-- The state of head 0 the kernel reads at chunk 0 (case B) is the head's state after 0 chunks. -/
theorem stB_0_0 : View.readAt (Elt F) arg17.view (Rect.unit (s := S4x128x256) ![0, 0, 0] S1x128x256.size inb_S4x128x256_S1x128x256_0_0_0).toLoadRect (harg17.unread xs0) = ST (rdT arg8 harg8 x6) (rdT arg9 harg9 x7) (rdQ arg3 harg3 x1) (rdVV arg4 arg5 harg4 harg5 x2 x3) (rdC arg13 harg13 x11) (rdF arg14 harg14 x12) (ldS xs0) 0 0 := by
  exact congrArg (fun X => View.ld X (rS 0)) (harg17.read_unread xs0)

/-- The state of head 1 the kernel reads at chunk 0 (case B) is the head's state after 0 chunks. -/
theorem stB_0_1 : kernelRun0_B.sl.v106 c arg17 harg17 xs0 = ST (rdT arg8 harg8 x6) (rdT arg9 harg9 x7) (rdQ arg3 harg3 x1) (rdVV arg4 arg5 harg4 harg5 x2 x3) (rdC arg13 harg13 x11) (rdF arg14 harg14 x12) (ldS xs0) 0 1 := by
  exact congrArg (fun X => View.ld X (rS 1)) (harg17.read_unread xs0)

/-- The state of head 2 the kernel reads at chunk 0 (case B) is the head's state after 0 chunks. -/
theorem stB_0_2 : kernelRun0_B.sl.v184 c arg17 harg17 xs0 = ST (rdT arg8 harg8 x6) (rdT arg9 harg9 x7) (rdQ arg3 harg3 x1) (rdVV arg4 arg5 harg4 harg5 x2 x3) (rdC arg13 harg13 x11) (rdF arg14 harg14 x12) (ldS xs0) 0 2 := by
  exact congrArg (fun X => View.ld X (rS 2)) (harg17.read_unread xs0)

/-- The state of head 3 the kernel reads at chunk 0 (case B) is the head's state after 0 chunks. -/
theorem stB_0_3 : kernelRun0_B.sl.v262 c arg17 harg17 xs0 = ST (rdT arg8 harg8 x6) (rdT arg9 harg9 x7) (rdQ arg3 harg3 x1) (rdVV arg4 arg5 harg4 harg5 x2 x3) (rdC arg13 harg13 x11) (rdF arg14 harg14 x12) (ldS xs0) 0 3 := by
  exact congrArg (fun X => View.ld X (rS 3)) (harg17.read_unread xs0)

/-- The state of head 0 the kernel reads at chunk 1 (case B) is the head's state after 1 chunks. -/
theorem stB_1_0 : kernelRun0_B.sl.v344 c arg3 harg3 arg4 harg4 arg5 harg5 arg8 harg8 arg9 harg9 arg13 harg13 arg14 harg14 arg17 harg17 x1 x2 x3 x6 x7 x11 x12 xs0 = ST (rdT arg8 harg8 x6) (rdT arg9 harg9 x7) (rdQ arg3 harg3 x1) (rdVV arg4 arg5 harg4 harg5 x2 x3) (rdC arg13 harg13 x11) (rdF arg14 harg14 x12) (ldS xs0) 1 0 := by
  have e : kernelRun0_B.sl.v344 c arg3 harg3 arg4 harg4 arg5 harg5 arg8 harg8 arg9 harg9 arg13 harg13 arg14 harg14 arg17 harg17 x1 x2 x3 x6 x7 x11 x12 xs0 = newSt (rdT arg8 harg8 x6 0) (rdT arg9 harg9 x7 0) (rdQ arg3 harg3 x1 0 0) (rdVV arg4 arg5 harg4 harg5 x2 x3 0 0) (View.readAt (Elt F) arg17.view (Rect.unit (s := S4x128x256) ![0, 0, 0] S1x128x256.size inb_S4x128x256_S1x128x256_0_0_0).toLoadRect (harg17.unread xs0)) (rdC arg13 harg13 x11 0) (rdF arg14 harg14 x12 0) := by
    unfold kernelRun0_B.sl.v344 kernelRun0_B.sl.HS0_4
    refine (View.readCov_skip (Val := Elt F) _ _ _ _ _ (by decide)).trans ?_
    refine (View.readCov_skip (Val := Elt F) _ _ _ _ _ (by decide)).trans ?_
    refine (View.readCov_skip (Val := Elt F) _ _ _ _ _ (by decide)).trans ?_
    exact View.readCov_cons_toLoadRect (Val := Elt F) _ (rS 0) _ _
  rw [e, stB_0_0]; rfl

/-- The state of head 1 the kernel reads at chunk 1 (case B) is the head's state after 1 chunks. -/
theorem stB_1_1 : kernelRun0_B.sl.v422 c arg3 harg3 arg4 harg4 arg5 harg5 arg8 harg8 arg9 harg9 arg13 harg13 arg14 harg14 arg17 harg17 x1 x2 x3 x6 x7 x11 x12 xs0 = ST (rdT arg8 harg8 x6) (rdT arg9 harg9 x7) (rdQ arg3 harg3 x1) (rdVV arg4 arg5 harg4 harg5 x2 x3) (rdC arg13 harg13 x11) (rdF arg14 harg14 x12) (ldS xs0) 1 1 := by
  have e : kernelRun0_B.sl.v422 c arg3 harg3 arg4 harg4 arg5 harg5 arg8 harg8 arg9 harg9 arg13 harg13 arg14 harg14 arg17 harg17 x1 x2 x3 x6 x7 x11 x12 xs0 = newSt (rdT arg8 harg8 x6 0) (rdT arg9 harg9 x7 0) (rdQ arg3 harg3 x1 0 1) (rdVV arg4 arg5 harg4 harg5 x2 x3 0 1) (kernelRun0_B.sl.v106 c arg17 harg17 xs0) (rdC arg13 harg13 x11 1) (rdF arg14 harg14 x12 1) := by
    unfold kernelRun0_B.sl.v422 kernelRun0_B.sl.HS0_5 kernelRun0_B.sl.HS0_4
    refine (View.readCov_skip (Val := Elt F) _ _ _ _ _ (by decide)).trans ?_
    refine (View.readCov_skip (Val := Elt F) _ _ _ _ _ (by decide)).trans ?_
    refine (View.readCov_skip (Val := Elt F) _ _ _ _ _ (by decide)).trans ?_
    exact View.readCov_cons_toLoadRect (Val := Elt F) _ (rS 1) _ _
  rw [e, stB_0_1]; rfl

/-- The state of head 2 the kernel reads at chunk 1 (case B) is the head's state after 1 chunks. -/
theorem stB_1_2 : kernelRun0_B.sl.v500 c arg3 harg3 arg4 harg4 arg5 harg5 arg8 harg8 arg9 harg9 arg13 harg13 arg14 harg14 arg17 harg17 x1 x2 x3 x6 x7 x11 x12 xs0 = ST (rdT arg8 harg8 x6) (rdT arg9 harg9 x7) (rdQ arg3 harg3 x1) (rdVV arg4 arg5 harg4 harg5 x2 x3) (rdC arg13 harg13 x11) (rdF arg14 harg14 x12) (ldS xs0) 1 2 := by
  have e : kernelRun0_B.sl.v500 c arg3 harg3 arg4 harg4 arg5 harg5 arg8 harg8 arg9 harg9 arg13 harg13 arg14 harg14 arg17 harg17 x1 x2 x3 x6 x7 x11 x12 xs0 = newSt (rdT arg8 harg8 x6 0) (rdT arg9 harg9 x7 0) (rdQ arg3 harg3 x1 0 2) (rdVV arg4 arg5 harg4 harg5 x2 x3 0 2) (kernelRun0_B.sl.v184 c arg17 harg17 xs0) (rdC arg13 harg13 x11 2) (rdF arg14 harg14 x12 2) := by
    unfold kernelRun0_B.sl.v500 kernelRun0_B.sl.HS0_6 kernelRun0_B.sl.HS0_5 kernelRun0_B.sl.HS0_4
    refine (View.readCov_skip (Val := Elt F) _ _ _ _ _ (by decide)).trans ?_
    refine (View.readCov_skip (Val := Elt F) _ _ _ _ _ (by decide)).trans ?_
    refine (View.readCov_skip (Val := Elt F) _ _ _ _ _ (by decide)).trans ?_
    exact View.readCov_cons_toLoadRect (Val := Elt F) _ (rS 2) _ _
  rw [e, stB_0_2]; rfl

/-- The state of head 3 the kernel reads at chunk 1 (case B) is the head's state after 1 chunks. -/
theorem stB_1_3 : kernelRun0_B.sl.v578 c arg3 harg3 arg4 harg4 arg5 harg5 arg8 harg8 arg9 harg9 arg13 harg13 arg14 harg14 arg17 harg17 x1 x2 x3 x6 x7 x11 x12 xs0 = ST (rdT arg8 harg8 x6) (rdT arg9 harg9 x7) (rdQ arg3 harg3 x1) (rdVV arg4 arg5 harg4 harg5 x2 x3) (rdC arg13 harg13 x11) (rdF arg14 harg14 x12) (ldS xs0) 1 3 := by
  have e : kernelRun0_B.sl.v578 c arg3 harg3 arg4 harg4 arg5 harg5 arg8 harg8 arg9 harg9 arg13 harg13 arg14 harg14 arg17 harg17 x1 x2 x3 x6 x7 x11 x12 xs0 = newSt (rdT arg8 harg8 x6 0) (rdT arg9 harg9 x7 0) (rdQ arg3 harg3 x1 0 3) (rdVV arg4 arg5 harg4 harg5 x2 x3 0 3) (kernelRun0_B.sl.v262 c arg17 harg17 xs0) (rdC arg13 harg13 x11 3) (rdF arg14 harg14 x12 3) := by
    unfold kernelRun0_B.sl.v578 kernelRun0_B.sl.HS0_7 kernelRun0_B.sl.HS0_6 kernelRun0_B.sl.HS0_5 kernelRun0_B.sl.HS0_4
    refine (View.readCov_skip (Val := Elt F) _ _ _ _ _ (by decide)).trans ?_
    refine (View.readCov_skip (Val := Elt F) _ _ _ _ _ (by decide)).trans ?_
    refine (View.readCov_skip (Val := Elt F) _ _ _ _ _ (by decide)).trans ?_
    exact View.readCov_cons_toLoadRect (Val := Elt F) _ (rS 3) _ _
  rw [e, stB_0_3]; rfl

/-- The state of head 0 the kernel reads at chunk 2 (case B) is the head's state after 2 chunks. -/
theorem stB_2_0 : kernelRun0_B.sl.v660 c arg3 harg3 arg4 harg4 arg5 harg5 arg8 harg8 arg9 harg9 arg13 harg13 arg14 harg14 arg17 harg17 x1 x2 x3 x6 x7 x11 x12 xs0 = ST (rdT arg8 harg8 x6) (rdT arg9 harg9 x7) (rdQ arg3 harg3 x1) (rdVV arg4 arg5 harg4 harg5 x2 x3) (rdC arg13 harg13 x11) (rdF arg14 harg14 x12) (ldS xs0) 2 0 := by
  have e : kernelRun0_B.sl.v660 c arg3 harg3 arg4 harg4 arg5 harg5 arg8 harg8 arg9 harg9 arg13 harg13 arg14 harg14 arg17 harg17 x1 x2 x3 x6 x7 x11 x12 xs0 = newSt (rdT arg8 harg8 x6 1) (rdT arg9 harg9 x7 1) (rdQ arg3 harg3 x1 1 0) (rdVV arg4 arg5 harg4 harg5 x2 x3 1 0) (kernelRun0_B.sl.v344 c arg3 harg3 arg4 harg4 arg5 harg5 arg8 harg8 arg9 harg9 arg13 harg13 arg14 harg14 arg17 harg17 x1 x2 x3 x6 x7 x11 x12 xs0) (rdC arg13 harg13 x11 0) (rdF arg14 harg14 x12 0) := by
    unfold kernelRun0_B.sl.v660 kernelRun0_B.sl.HS0_8 kernelRun0_B.sl.HS0_7 kernelRun0_B.sl.HS0_6 kernelRun0_B.sl.HS0_5
    refine (View.readCov_skip (Val := Elt F) _ _ _ _ _ (by decide)).trans ?_
    refine (View.readCov_skip (Val := Elt F) _ _ _ _ _ (by decide)).trans ?_
    refine (View.readCov_skip (Val := Elt F) _ _ _ _ _ (by decide)).trans ?_
    exact View.readCov_cons_toLoadRect (Val := Elt F) _ (rS 0) _ _
  rw [e, stB_1_0]; rfl

/-- The state of head 1 the kernel reads at chunk 2 (case B) is the head's state after 2 chunks. -/
theorem stB_2_1 : kernelRun0_B.sl.v738 c arg3 harg3 arg4 harg4 arg5 harg5 arg8 harg8 arg9 harg9 arg13 harg13 arg14 harg14 arg17 harg17 x1 x2 x3 x6 x7 x11 x12 xs0 = ST (rdT arg8 harg8 x6) (rdT arg9 harg9 x7) (rdQ arg3 harg3 x1) (rdVV arg4 arg5 harg4 harg5 x2 x3) (rdC arg13 harg13 x11) (rdF arg14 harg14 x12) (ldS xs0) 2 1 := by
  have e : kernelRun0_B.sl.v738 c arg3 harg3 arg4 harg4 arg5 harg5 arg8 harg8 arg9 harg9 arg13 harg13 arg14 harg14 arg17 harg17 x1 x2 x3 x6 x7 x11 x12 xs0 = newSt (rdT arg8 harg8 x6 1) (rdT arg9 harg9 x7 1) (rdQ arg3 harg3 x1 1 1) (rdVV arg4 arg5 harg4 harg5 x2 x3 1 1) (kernelRun0_B.sl.v422 c arg3 harg3 arg4 harg4 arg5 harg5 arg8 harg8 arg9 harg9 arg13 harg13 arg14 harg14 arg17 harg17 x1 x2 x3 x6 x7 x11 x12 xs0) (rdC arg13 harg13 x11 1) (rdF arg14 harg14 x12 1) := by
    unfold kernelRun0_B.sl.v738 kernelRun0_B.sl.HS0_9 kernelRun0_B.sl.HS0_8 kernelRun0_B.sl.HS0_7 kernelRun0_B.sl.HS0_6
    refine (View.readCov_skip (Val := Elt F) _ _ _ _ _ (by decide)).trans ?_
    refine (View.readCov_skip (Val := Elt F) _ _ _ _ _ (by decide)).trans ?_
    refine (View.readCov_skip (Val := Elt F) _ _ _ _ _ (by decide)).trans ?_
    exact View.readCov_cons_toLoadRect (Val := Elt F) _ (rS 1) _ _
  rw [e, stB_1_1]; rfl

/-- The state of head 2 the kernel reads at chunk 2 (case B) is the head's state after 2 chunks. -/
theorem stB_2_2 : kernelRun0_B.sl.v816 c arg3 harg3 arg4 harg4 arg5 harg5 arg8 harg8 arg9 harg9 arg13 harg13 arg14 harg14 arg17 harg17 x1 x2 x3 x6 x7 x11 x12 xs0 = ST (rdT arg8 harg8 x6) (rdT arg9 harg9 x7) (rdQ arg3 harg3 x1) (rdVV arg4 arg5 harg4 harg5 x2 x3) (rdC arg13 harg13 x11) (rdF arg14 harg14 x12) (ldS xs0) 2 2 := by
  have e : kernelRun0_B.sl.v816 c arg3 harg3 arg4 harg4 arg5 harg5 arg8 harg8 arg9 harg9 arg13 harg13 arg14 harg14 arg17 harg17 x1 x2 x3 x6 x7 x11 x12 xs0 = newSt (rdT arg8 harg8 x6 1) (rdT arg9 harg9 x7 1) (rdQ arg3 harg3 x1 1 2) (rdVV arg4 arg5 harg4 harg5 x2 x3 1 2) (kernelRun0_B.sl.v500 c arg3 harg3 arg4 harg4 arg5 harg5 arg8 harg8 arg9 harg9 arg13 harg13 arg14 harg14 arg17 harg17 x1 x2 x3 x6 x7 x11 x12 xs0) (rdC arg13 harg13 x11 2) (rdF arg14 harg14 x12 2) := by
    unfold kernelRun0_B.sl.v816 kernelRun0_B.sl.HS0_10 kernelRun0_B.sl.HS0_9 kernelRun0_B.sl.HS0_8 kernelRun0_B.sl.HS0_7
    refine (View.readCov_skip (Val := Elt F) _ _ _ _ _ (by decide)).trans ?_
    refine (View.readCov_skip (Val := Elt F) _ _ _ _ _ (by decide)).trans ?_
    refine (View.readCov_skip (Val := Elt F) _ _ _ _ _ (by decide)).trans ?_
    exact View.readCov_cons_toLoadRect (Val := Elt F) _ (rS 2) _ _
  rw [e, stB_1_2]; rfl

/-- The state of head 3 the kernel reads at chunk 2 (case B) is the head's state after 2 chunks. -/
theorem stB_2_3 : kernelRun0_B.sl.v894 c arg3 harg3 arg4 harg4 arg5 harg5 arg8 harg8 arg9 harg9 arg13 harg13 arg14 harg14 arg17 harg17 x1 x2 x3 x6 x7 x11 x12 xs0 = ST (rdT arg8 harg8 x6) (rdT arg9 harg9 x7) (rdQ arg3 harg3 x1) (rdVV arg4 arg5 harg4 harg5 x2 x3) (rdC arg13 harg13 x11) (rdF arg14 harg14 x12) (ldS xs0) 2 3 := by
  have e : kernelRun0_B.sl.v894 c arg3 harg3 arg4 harg4 arg5 harg5 arg8 harg8 arg9 harg9 arg13 harg13 arg14 harg14 arg17 harg17 x1 x2 x3 x6 x7 x11 x12 xs0 = newSt (rdT arg8 harg8 x6 1) (rdT arg9 harg9 x7 1) (rdQ arg3 harg3 x1 1 3) (rdVV arg4 arg5 harg4 harg5 x2 x3 1 3) (kernelRun0_B.sl.v578 c arg3 harg3 arg4 harg4 arg5 harg5 arg8 harg8 arg9 harg9 arg13 harg13 arg14 harg14 arg17 harg17 x1 x2 x3 x6 x7 x11 x12 xs0) (rdC arg13 harg13 x11 3) (rdF arg14 harg14 x12 3) := by
    unfold kernelRun0_B.sl.v894 kernelRun0_B.sl.HS0_11 kernelRun0_B.sl.HS0_10 kernelRun0_B.sl.HS0_9 kernelRun0_B.sl.HS0_8
    refine (View.readCov_skip (Val := Elt F) _ _ _ _ _ (by decide)).trans ?_
    refine (View.readCov_skip (Val := Elt F) _ _ _ _ _ (by decide)).trans ?_
    refine (View.readCov_skip (Val := Elt F) _ _ _ _ _ (by decide)).trans ?_
    exact View.readCov_cons_toLoadRect (Val := Elt F) _ (rS 3) _ _
  rw [e, stB_1_3]; rfl

/-- The state of head 0 the kernel reads at chunk 3 (case B) is the head's state after 3 chunks. -/
theorem stB_3_0 : kernelRun0_B.sl.v976 c arg3 harg3 arg4 harg4 arg5 harg5 arg8 harg8 arg9 harg9 arg13 harg13 arg14 harg14 arg17 harg17 x1 x2 x3 x6 x7 x11 x12 xs0 = ST (rdT arg8 harg8 x6) (rdT arg9 harg9 x7) (rdQ arg3 harg3 x1) (rdVV arg4 arg5 harg4 harg5 x2 x3) (rdC arg13 harg13 x11) (rdF arg14 harg14 x12) (ldS xs0) 3 0 := by
  have e : kernelRun0_B.sl.v976 c arg3 harg3 arg4 harg4 arg5 harg5 arg8 harg8 arg9 harg9 arg13 harg13 arg14 harg14 arg17 harg17 x1 x2 x3 x6 x7 x11 x12 xs0 = newSt (rdT arg8 harg8 x6 2) (rdT arg9 harg9 x7 2) (rdQ arg3 harg3 x1 2 0) (rdVV arg4 arg5 harg4 harg5 x2 x3 2 0) (kernelRun0_B.sl.v660 c arg3 harg3 arg4 harg4 arg5 harg5 arg8 harg8 arg9 harg9 arg13 harg13 arg14 harg14 arg17 harg17 x1 x2 x3 x6 x7 x11 x12 xs0) (rdC arg13 harg13 x11 0) (rdF arg14 harg14 x12 0) := by
    unfold kernelRun0_B.sl.v976 kernelRun0_B.sl.HS0_12 kernelRun0_B.sl.HS0_11 kernelRun0_B.sl.HS0_10 kernelRun0_B.sl.HS0_9
    refine (View.readCov_skip (Val := Elt F) _ _ _ _ _ (by decide)).trans ?_
    refine (View.readCov_skip (Val := Elt F) _ _ _ _ _ (by decide)).trans ?_
    refine (View.readCov_skip (Val := Elt F) _ _ _ _ _ (by decide)).trans ?_
    exact View.readCov_cons_toLoadRect (Val := Elt F) _ (rS 0) _ _
  rw [e, stB_2_0]; rfl

/-- The state of head 1 the kernel reads at chunk 3 (case B) is the head's state after 3 chunks. -/
theorem stB_3_1 : kernelRun0_B.sl.v1054 c arg3 harg3 arg4 harg4 arg5 harg5 arg8 harg8 arg9 harg9 arg13 harg13 arg14 harg14 arg17 harg17 x1 x2 x3 x6 x7 x11 x12 xs0 = ST (rdT arg8 harg8 x6) (rdT arg9 harg9 x7) (rdQ arg3 harg3 x1) (rdVV arg4 arg5 harg4 harg5 x2 x3) (rdC arg13 harg13 x11) (rdF arg14 harg14 x12) (ldS xs0) 3 1 := by
  have e : kernelRun0_B.sl.v1054 c arg3 harg3 arg4 harg4 arg5 harg5 arg8 harg8 arg9 harg9 arg13 harg13 arg14 harg14 arg17 harg17 x1 x2 x3 x6 x7 x11 x12 xs0 = newSt (rdT arg8 harg8 x6 2) (rdT arg9 harg9 x7 2) (rdQ arg3 harg3 x1 2 1) (rdVV arg4 arg5 harg4 harg5 x2 x3 2 1) (kernelRun0_B.sl.v738 c arg3 harg3 arg4 harg4 arg5 harg5 arg8 harg8 arg9 harg9 arg13 harg13 arg14 harg14 arg17 harg17 x1 x2 x3 x6 x7 x11 x12 xs0) (rdC arg13 harg13 x11 1) (rdF arg14 harg14 x12 1) := by
    unfold kernelRun0_B.sl.v1054 kernelRun0_B.sl.HS0_13 kernelRun0_B.sl.HS0_12 kernelRun0_B.sl.HS0_11 kernelRun0_B.sl.HS0_10
    refine (View.readCov_skip (Val := Elt F) _ _ _ _ _ (by decide)).trans ?_
    refine (View.readCov_skip (Val := Elt F) _ _ _ _ _ (by decide)).trans ?_
    refine (View.readCov_skip (Val := Elt F) _ _ _ _ _ (by decide)).trans ?_
    exact View.readCov_cons_toLoadRect (Val := Elt F) _ (rS 1) _ _
  rw [e, stB_2_1]; rfl

/-- The state of head 2 the kernel reads at chunk 3 (case B) is the head's state after 3 chunks. -/
theorem stB_3_2 : kernelRun0_B.sl.v1132 c arg3 harg3 arg4 harg4 arg5 harg5 arg8 harg8 arg9 harg9 arg13 harg13 arg14 harg14 arg17 harg17 x1 x2 x3 x6 x7 x11 x12 xs0 = ST (rdT arg8 harg8 x6) (rdT arg9 harg9 x7) (rdQ arg3 harg3 x1) (rdVV arg4 arg5 harg4 harg5 x2 x3) (rdC arg13 harg13 x11) (rdF arg14 harg14 x12) (ldS xs0) 3 2 := by
  have e : kernelRun0_B.sl.v1132 c arg3 harg3 arg4 harg4 arg5 harg5 arg8 harg8 arg9 harg9 arg13 harg13 arg14 harg14 arg17 harg17 x1 x2 x3 x6 x7 x11 x12 xs0 = newSt (rdT arg8 harg8 x6 2) (rdT arg9 harg9 x7 2) (rdQ arg3 harg3 x1 2 2) (rdVV arg4 arg5 harg4 harg5 x2 x3 2 2) (kernelRun0_B.sl.v816 c arg3 harg3 arg4 harg4 arg5 harg5 arg8 harg8 arg9 harg9 arg13 harg13 arg14 harg14 arg17 harg17 x1 x2 x3 x6 x7 x11 x12 xs0) (rdC arg13 harg13 x11 2) (rdF arg14 harg14 x12 2) := by
    unfold kernelRun0_B.sl.v1132 kernelRun0_B.sl.HS0_14 kernelRun0_B.sl.HS0_13 kernelRun0_B.sl.HS0_12 kernelRun0_B.sl.HS0_11
    refine (View.readCov_skip (Val := Elt F) _ _ _ _ _ (by decide)).trans ?_
    refine (View.readCov_skip (Val := Elt F) _ _ _ _ _ (by decide)).trans ?_
    refine (View.readCov_skip (Val := Elt F) _ _ _ _ _ (by decide)).trans ?_
    exact View.readCov_cons_toLoadRect (Val := Elt F) _ (rS 2) _ _
  rw [e, stB_2_2]; rfl

/-- The state of head 3 the kernel reads at chunk 3 (case B) is the head's state after 3 chunks. -/
theorem stB_3_3 : kernelRun0_B.sl.v1210 c arg3 harg3 arg4 harg4 arg5 harg5 arg8 harg8 arg9 harg9 arg13 harg13 arg14 harg14 arg17 harg17 x1 x2 x3 x6 x7 x11 x12 xs0 = ST (rdT arg8 harg8 x6) (rdT arg9 harg9 x7) (rdQ arg3 harg3 x1) (rdVV arg4 arg5 harg4 harg5 x2 x3) (rdC arg13 harg13 x11) (rdF arg14 harg14 x12) (ldS xs0) 3 3 := by
  have e : kernelRun0_B.sl.v1210 c arg3 harg3 arg4 harg4 arg5 harg5 arg8 harg8 arg9 harg9 arg13 harg13 arg14 harg14 arg17 harg17 x1 x2 x3 x6 x7 x11 x12 xs0 = newSt (rdT arg8 harg8 x6 2) (rdT arg9 harg9 x7 2) (rdQ arg3 harg3 x1 2 3) (rdVV arg4 arg5 harg4 harg5 x2 x3 2 3) (kernelRun0_B.sl.v894 c arg3 harg3 arg4 harg4 arg5 harg5 arg8 harg8 arg9 harg9 arg13 harg13 arg14 harg14 arg17 harg17 x1 x2 x3 x6 x7 x11 x12 xs0) (rdC arg13 harg13 x11 3) (rdF arg14 harg14 x12 3) := by
    unfold kernelRun0_B.sl.v1210 kernelRun0_B.sl.HS0_15 kernelRun0_B.sl.HS0_14 kernelRun0_B.sl.HS0_13 kernelRun0_B.sl.HS0_12
    refine (View.readCov_skip (Val := Elt F) _ _ _ _ _ (by decide)).trans ?_
    refine (View.readCov_skip (Val := Elt F) _ _ _ _ _ (by decide)).trans ?_
    refine (View.readCov_skip (Val := Elt F) _ _ _ _ _ (by decide)).trans ?_
    exact View.readCov_cons_toLoadRect (Val := Elt F) _ (rS 3) _ _
  rw [e, stB_2_3]; rfl

/-- A block of four chunks by four heads, put together from its sixteen tiles. -/
def glueO (T : ℕ → Fin 4 → Vec F S1x128x256 .bf16) : Vec F S1x512x1024 .bf16 := fun y =>
  T ((y 1).val / 128) ⟨(y 2).val / 256, by have h : (y 2).val < 1024 := (y 2).isLt; omega⟩
    (ix3 0 ⟨(y 1).val % 128, Nat.mod_lt _ (by decide)⟩ ⟨(y 2).val % 256, Nat.mod_lt _ (by decide)⟩)

/-- Four states in one buffer. -/
def glueS (S : Fin 4 → Vec F S1x128x256 .f32) : Vec F S4x128x256 .f32 := fun y => S (y 0) (ix3 0 (y 1) (y 2))

/-- A stored tile is the tile of the assembled block. -/
theorem piece_eq (T : ℕ → Fin 4 → Vec F S1x128x256 .bf16) (n : ℕ) (h : Fin 4) (w : Vec F S1x128x256 .bf16) (hw : w = T (n % 4) h)
    (x : S1x128x256.Idx) : w x = glueO T ((rO n h).emb x) := by
  subst hw
  have h0 : (x 0).val < 1 := (x 0).isLt
  have h1 : (x 1).val < 128 := (x 1).isLt
  have h2 : (x 2).val < 256 := (x 2).isLt
  have hh := h.isLt
  have e1 : (((rO n h).emb x) 1).val = 128 * (n % 4) + (x 1).val := by simp [Rect.emb, Rect.unit]
  have e2 : (((rO n h).emb x) 2).val = 256 * h.val + (x 2).val := by simp [Rect.emb, Rect.unit]
  unfold glueO
  simp only [e1, e2]
  have a1 : (128 * (n % 4) + (x 1).val) / 128 = n % 4 := by omega
  have a2 : (128 * (n % 4) + (x 1).val) % 128 = (x 1).val := by omega
  have a3 : (256 * h.val + (x 2).val) / 256 = h.val := by omega
  have a4 : (256 * h.val + (x 2).val) % 256 = (x 2).val := by omega
  simp only [a1, a2, a3, a4]
  congr 1
  funext a
  fin_cases a
  · apply Fin.ext; show (x 0).val = 0; omega
  · rfl
  · rfl

/-- A stored state is the state of the assembled buffer. -/
theorem pieceS_eq (T : Fin 4 → Vec F S1x128x256 .f32) (h : Fin 4) (w : Vec F S1x128x256 .f32) (hw : w = T h)
    (x : S1x128x256.Idx) : w x = glueS T ((rS h).emb x) := by
  subst hw
  have h0 : (x 0).val < 1 := (x 0).isLt
  have e0 : ((rS h).emb x) 0 = h := by apply Fin.ext; simp [Rect.emb, Rect.unit]
  have e1 : ((rS h).emb x) 1 = x 1 := by apply Fin.ext; simp [Rect.emb, Rect.unit]
  have e2 : ((rS h).emb x) 2 = x 2 := by apply Fin.ext; simp [Rect.emb, Rect.unit]
  unfold glueS
  rw [e0, e1, e2]
  congr 1
  funext a
  fin_cases a
  · apply Fin.ext; show (x 0).val = 0; omega
  · rfl
  · rfl

/-- What case A leaves in the output block: the sixteen tiles `outB`. -/
theorem outA_eq (hc0 : cond0_0 i) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 = glueO (fun n h => outB (rdT arg8 harg8 x6 n) (rdT arg9 harg9 x7 n) (rdQ arg2 harg2 x0 n h) (rdQ arg3 harg3 x1 n h) (rdVV arg4 arg5 harg4 harg5 x2 x3 n h) (ST (rdT arg8 harg8 x6) (rdT arg9 harg9 x7) (rdQ arg3 harg3 x1) (rdVV arg4 arg5 harg4 harg5 x2 x3) (rdC arg13 harg13 x11) (rdF arg14 harg14 x12) (ldS (k0_pay2 (View.readAt (Elt F) arg10.view (Rect.unit (s := S1x4x128x256) ![0, 0, 0, 0] S1x4x128x256.size inb_S1x4x128x256_S1x4x128x256_0_0_0_0).toLoadRect (harg10.unread x8)))) n h) (rdD arg11 harg11 x9 h) (rdC arg12 harg12 x10 h) (rdVV arg6 arg7 harg6 harg7 x4 x5 n h)) := by
  refine (View.read_writes_junk_eq_canon (Val := Elt F) _ _).trans (funext fun y => View.canon_apply_of_pieces (Val := Elt F) _ _ (View.PiecesOf.mem ?_) y (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 y))
  exact ⟨fun x => piece_eq _ 3 3 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 3 3) (stA_3_3 c arg3 harg3 arg4 harg4 arg5 harg5 arg8 harg8 arg9 harg9 arg10 harg10 arg13 harg13 arg14 harg14 arg17 x1 x2 x3 x6 x7 x8 x11 x12)) x,
    fun x => piece_eq _ 3 2 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 3 2) (stA_3_2 c arg3 harg3 arg4 harg4 arg5 harg5 arg8 harg8 arg9 harg9 arg10 harg10 arg13 harg13 arg14 harg14 arg17 x1 x2 x3 x6 x7 x8 x11 x12)) x,
    fun x => piece_eq _ 3 1 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 3 1) (stA_3_1 c arg3 harg3 arg4 harg4 arg5 harg5 arg8 harg8 arg9 harg9 arg10 harg10 arg13 harg13 arg14 harg14 arg17 x1 x2 x3 x6 x7 x8 x11 x12)) x,
    fun x => piece_eq _ 3 0 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 3 0) (stA_3_0 c arg3 harg3 arg4 harg4 arg5 harg5 arg8 harg8 arg9 harg9 arg10 harg10 arg13 harg13 arg14 harg14 arg17 x1 x2 x3 x6 x7 x8 x11 x12)) x,
    fun x => piece_eq _ 2 3 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 2 3) (stA_2_3 c arg3 harg3 arg4 harg4 arg5 harg5 arg8 harg8 arg9 harg9 arg10 harg10 arg13 harg13 arg14 harg14 arg17 x1 x2 x3 x6 x7 x8 x11 x12)) x,
    fun x => piece_eq _ 2 2 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 2 2) (stA_2_2 c arg3 harg3 arg4 harg4 arg5 harg5 arg8 harg8 arg9 harg9 arg10 harg10 arg13 harg13 arg14 harg14 arg17 x1 x2 x3 x6 x7 x8 x11 x12)) x,
    fun x => piece_eq _ 2 1 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 2 1) (stA_2_1 c arg3 harg3 arg4 harg4 arg5 harg5 arg8 harg8 arg9 harg9 arg10 harg10 arg13 harg13 arg14 harg14 arg17 x1 x2 x3 x6 x7 x8 x11 x12)) x,
    fun x => piece_eq _ 2 0 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 2 0) (stA_2_0 c arg3 harg3 arg4 harg4 arg5 harg5 arg8 harg8 arg9 harg9 arg10 harg10 arg13 harg13 arg14 harg14 arg17 x1 x2 x3 x6 x7 x8 x11 x12)) x,
    fun x => piece_eq _ 1 3 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 1 3) (stA_1_3 c arg3 harg3 arg4 harg4 arg5 harg5 arg8 harg8 arg9 harg9 arg10 harg10 arg13 harg13 arg14 harg14 arg17 x1 x2 x3 x6 x7 x8 x11 x12)) x,
    fun x => piece_eq _ 1 2 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 1 2) (stA_1_2 c arg3 harg3 arg4 harg4 arg5 harg5 arg8 harg8 arg9 harg9 arg10 harg10 arg13 harg13 arg14 harg14 arg17 x1 x2 x3 x6 x7 x8 x11 x12)) x,
    fun x => piece_eq _ 1 1 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 1 1) (stA_1_1 c arg3 harg3 arg4 harg4 arg5 harg5 arg8 harg8 arg9 harg9 arg10 harg10 arg13 harg13 arg14 harg14 arg17 x1 x2 x3 x6 x7 x8 x11 x12)) x,
    fun x => piece_eq _ 1 0 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 1 0) (stA_1_0 c arg3 harg3 arg4 harg4 arg5 harg5 arg8 harg8 arg9 harg9 arg10 harg10 arg13 harg13 arg14 harg14 arg17 x1 x2 x3 x6 x7 x8 x11 x12)) x,
    fun x => piece_eq _ 0 3 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 0 3) (stA_0_3 c arg3 harg3 arg4 harg4 arg5 harg5 arg8 harg8 arg9 harg9 arg10 harg10 arg13 harg13 arg14 harg14 arg17 x1 x2 x3 x6 x7 x8 x11 x12)) x,
    fun x => piece_eq _ 0 2 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 0 2) (stA_0_2 c arg3 harg3 arg4 harg4 arg5 harg5 arg8 harg8 arg9 harg9 arg10 harg10 arg13 harg13 arg14 harg14 arg17 x1 x2 x3 x6 x7 x8 x11 x12)) x,
    fun x => piece_eq _ 0 1 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 0 1) (stA_0_1 c arg3 harg3 arg4 harg4 arg5 harg5 arg8 harg8 arg9 harg9 arg10 harg10 arg13 harg13 arg14 harg14 arg17 x1 x2 x3 x6 x7 x8 x11 x12)) x,
    fun x => piece_eq _ 0 0 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 0 0) (stA_0_0 c arg3 harg3 arg4 harg4 arg5 harg5 arg8 harg8 arg9 harg9 arg10 harg10 arg13 harg13 arg14 harg14 arg17 x1 x2 x3 x6 x7 x8 x11 x12)) x, trivial⟩

/-- What case A leaves in the carried states: the states after four chunks. -/
theorem canonSA : View.canon (kernelRun0_A.sl.HS0_17 c arg3 harg3 arg4 harg4 arg5 harg5 arg8 harg8 arg9 harg9 arg10 harg10 arg13 harg13 arg14 harg14 arg17 x1 x2 x3 x6 x7 x8 x11 x12) = glueS (ST (rdT arg8 harg8 x6) (rdT arg9 harg9 x7) (rdQ arg3 harg3 x1) (rdVV arg4 arg5 harg4 harg5 x2 x3) (rdC arg13 harg13 x11) (rdF arg14 harg14 x12) (ldS (k0_pay2 (View.readAt (Elt F) arg10.view (Rect.unit (s := S1x4x128x256) ![0, 0, 0, 0] S1x4x128x256.size inb_S1x4x128x256_S1x4x128x256_0_0_0_0).toLoadRect (harg10.unread x8)))) 4) := by
  refine funext fun y => ?_
  unfold kernelRun0_A.sl.HS0_17 kernelRun0_A.sl.HS0_16 kernelRun0_A.sl.HS0_15 kernelRun0_A.sl.HS0_14
  refine View.canon_append_of_piecesOf (Val := Elt F) _ (kernelRun0_A.sl.HS0_13 c arg3 harg3 arg4 harg4 arg5 harg5 arg8 harg8 arg9 harg9 arg10 harg10 arg13 harg13 arg14 harg14 arg17 x1 x2 x3 x6 x7 x8 x11 x12) [_, _, _, _] ⟨fun x => pieceS_eq _ 3 _ (congrArg (fun s => newSt (rdT arg8 harg8 x6 3) (rdT arg9 harg9 x7 3) (rdQ arg3 harg3 x1 3 3) (rdVV arg4 arg5 harg4 harg5 x2 x3 3 3) s (rdC arg13 harg13 x11 3) (rdF arg14 harg14 x12 3)) (stA_3_3 c arg3 harg3 arg4 harg4 arg5 harg5 arg8 harg8 arg9 harg9 arg10 harg10 arg13 harg13 arg14 harg14 arg17 x1 x2 x3 x6 x7 x8 x11 x12)) x,
    fun x => pieceS_eq _ 2 _ (congrArg (fun s => newSt (rdT arg8 harg8 x6 3) (rdT arg9 harg9 x7 3) (rdQ arg3 harg3 x1 3 2) (rdVV arg4 arg5 harg4 harg5 x2 x3 3 2) s (rdC arg13 harg13 x11 2) (rdF arg14 harg14 x12 2)) (stA_3_2 c arg3 harg3 arg4 harg4 arg5 harg5 arg8 harg8 arg9 harg9 arg10 harg10 arg13 harg13 arg14 harg14 arg17 x1 x2 x3 x6 x7 x8 x11 x12)) x,
    fun x => pieceS_eq _ 1 _ (congrArg (fun s => newSt (rdT arg8 harg8 x6 3) (rdT arg9 harg9 x7 3) (rdQ arg3 harg3 x1 3 1) (rdVV arg4 arg5 harg4 harg5 x2 x3 3 1) s (rdC arg13 harg13 x11 1) (rdF arg14 harg14 x12 1)) (stA_3_1 c arg3 harg3 arg4 harg4 arg5 harg5 arg8 harg8 arg9 harg9 arg10 harg10 arg13 harg13 arg14 harg14 arg17 x1 x2 x3 x6 x7 x8 x11 x12)) x,
    fun x => pieceS_eq _ 0 _ (congrArg (fun s => newSt (rdT arg8 harg8 x6 3) (rdT arg9 harg9 x7 3) (rdQ arg3 harg3 x1 3 0) (rdVV arg4 arg5 harg4 harg5 x2 x3 3 0) s (rdC arg13 harg13 x11 0) (rdF arg14 harg14 x12 0)) (stA_3_0 c arg3 harg3 arg4 harg4 arg5 harg5 arg8 harg8 arg9 harg9 arg10 harg10 arg13 harg13 arg14 harg14 arg17 x1 x2 x3 x6 x7 x8 x11 x12)) x, trivial⟩ y ?_
  exact View.cover_of_tiledL (Val := Elt F) (s := S4x128x256) _ S1x128x256.size (by sl_kernel_rfl) y

/-- The carried states after a grid point of case A. -/
theorem soutA_eq (hc0 : cond0_0 i) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 = glueS (ST (rdT arg8 harg8 x6) (rdT arg9 harg9 x7) (rdQ arg3 harg3 x1) (rdVV arg4 arg5 harg4 harg5 x2 x3) (rdC arg13 harg13 x11) (rdF arg14 harg14 x12) (ldS (k0_pay2 (View.readAt (Elt F) arg10.view (Rect.unit (s := S1x4x128x256) ![0, 0, 0, 0] S1x4x128x256.size inb_S1x4x128x256_S1x4x128x256_0_0_0_0).toLoadRect (harg10.unread x8)))) 4) :=
  (View.read_writes_junk_eq_canon (Val := Elt F) _ _).trans (canonSA c arg3 harg3 arg4 harg4 arg5 harg5 arg8 harg8 arg9 harg9 arg10 harg10 arg13 harg13 arg14 harg14 arg17 x1 x2 x3 x6 x7 x8 x11 x12)

/-- The states case A writes to the state result: the carried ones. -/
theorem outSA_eq (hc0 : cond0_0 i) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 = k0_pay1 (glueS (ST (rdT arg8 harg8 x6) (rdT arg9 harg9 x7) (rdQ arg3 harg3 x1) (rdVV arg4 arg5 harg4 harg5 x2 x3) (rdC arg13 harg13 x11) (rdF arg14 harg14 x12) (ldS (k0_pay2 (View.readAt (Elt F) arg10.view (Rect.unit (s := S1x4x128x256) ![0, 0, 0, 0] S1x4x128x256.size inb_S1x4x128x256_S1x4x128x256_0_0_0_0).toLoadRect (harg10.unread x8)))) 4)) := by
  refine (View.read_writes_junk_eq_canon (Val := Elt F) _ _).trans ?_
  refine (View.canon_cons_unit_lit' (Val := Elt F) (S := S1x4x128x256) _ _ _ (by decide)).trans (congrArg k0_pay1 ?_)
  refine (View.readCov_eq_canon' (Val := Elt F) _ _ _).trans ?_
  rw [canonSA]
  exact View.ld_unit_lit' (Val := Elt F) (S := S4x128x256) _ _ (by decide)

/-- What case B leaves in the output block: the sixteen tiles `outB`. -/
theorem outB_eq (hc0 : ¬cond0_0 i) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xs0 = glueO (fun n h => outB (rdT arg8 harg8 x6 n) (rdT arg9 harg9 x7 n) (rdQ arg2 harg2 x0 n h) (rdQ arg3 harg3 x1 n h) (rdVV arg4 arg5 harg4 harg5 x2 x3 n h) (ST (rdT arg8 harg8 x6) (rdT arg9 harg9 x7) (rdQ arg3 harg3 x1) (rdVV arg4 arg5 harg4 harg5 x2 x3) (rdC arg13 harg13 x11) (rdF arg14 harg14 x12) (ldS xs0) n h) (rdD arg11 harg11 x9 h) (rdC arg12 harg12 x10 h) (rdVV arg6 arg7 harg6 harg7 x4 x5 n h)) := by
  refine (View.read_writes_junk_eq_canon (Val := Elt F) _ _).trans (funext fun y => View.canon_apply_of_pieces (Val := Elt F) _ _ (View.PiecesOf.mem ?_) y (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xs0 y))
  exact ⟨fun x => piece_eq _ 3 3 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 3 3) (stB_3_3 c arg3 harg3 arg4 harg4 arg5 harg5 arg8 harg8 arg9 harg9 arg13 harg13 arg14 harg14 arg17 harg17 x1 x2 x3 x6 x7 x11 x12 xs0)) x,
    fun x => piece_eq _ 3 2 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 3 2) (stB_3_2 c arg3 harg3 arg4 harg4 arg5 harg5 arg8 harg8 arg9 harg9 arg13 harg13 arg14 harg14 arg17 harg17 x1 x2 x3 x6 x7 x11 x12 xs0)) x,
    fun x => piece_eq _ 3 1 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 3 1) (stB_3_1 c arg3 harg3 arg4 harg4 arg5 harg5 arg8 harg8 arg9 harg9 arg13 harg13 arg14 harg14 arg17 harg17 x1 x2 x3 x6 x7 x11 x12 xs0)) x,
    fun x => piece_eq _ 3 0 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 3 0) (stB_3_0 c arg3 harg3 arg4 harg4 arg5 harg5 arg8 harg8 arg9 harg9 arg13 harg13 arg14 harg14 arg17 harg17 x1 x2 x3 x6 x7 x11 x12 xs0)) x,
    fun x => piece_eq _ 2 3 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 2 3) (stB_2_3 c arg3 harg3 arg4 harg4 arg5 harg5 arg8 harg8 arg9 harg9 arg13 harg13 arg14 harg14 arg17 harg17 x1 x2 x3 x6 x7 x11 x12 xs0)) x,
    fun x => piece_eq _ 2 2 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 2 2) (stB_2_2 c arg3 harg3 arg4 harg4 arg5 harg5 arg8 harg8 arg9 harg9 arg13 harg13 arg14 harg14 arg17 harg17 x1 x2 x3 x6 x7 x11 x12 xs0)) x,
    fun x => piece_eq _ 2 1 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 2 1) (stB_2_1 c arg3 harg3 arg4 harg4 arg5 harg5 arg8 harg8 arg9 harg9 arg13 harg13 arg14 harg14 arg17 harg17 x1 x2 x3 x6 x7 x11 x12 xs0)) x,
    fun x => piece_eq _ 2 0 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 2 0) (stB_2_0 c arg3 harg3 arg4 harg4 arg5 harg5 arg8 harg8 arg9 harg9 arg13 harg13 arg14 harg14 arg17 harg17 x1 x2 x3 x6 x7 x11 x12 xs0)) x,
    fun x => piece_eq _ 1 3 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 1 3) (stB_1_3 c arg3 harg3 arg4 harg4 arg5 harg5 arg8 harg8 arg9 harg9 arg13 harg13 arg14 harg14 arg17 harg17 x1 x2 x3 x6 x7 x11 x12 xs0)) x,
    fun x => piece_eq _ 1 2 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 1 2) (stB_1_2 c arg3 harg3 arg4 harg4 arg5 harg5 arg8 harg8 arg9 harg9 arg13 harg13 arg14 harg14 arg17 harg17 x1 x2 x3 x6 x7 x11 x12 xs0)) x,
    fun x => piece_eq _ 1 1 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 1 1) (stB_1_1 c arg3 harg3 arg4 harg4 arg5 harg5 arg8 harg8 arg9 harg9 arg13 harg13 arg14 harg14 arg17 harg17 x1 x2 x3 x6 x7 x11 x12 xs0)) x,
    fun x => piece_eq _ 1 0 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 1 0) (stB_1_0 c arg3 harg3 arg4 harg4 arg5 harg5 arg8 harg8 arg9 harg9 arg13 harg13 arg14 harg14 arg17 harg17 x1 x2 x3 x6 x7 x11 x12 xs0)) x,
    fun x => piece_eq _ 0 3 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 0 3) (stB_0_3 c arg3 harg3 arg4 harg4 arg5 harg5 arg8 harg8 arg9 harg9 arg13 harg13 arg14 harg14 arg17 harg17 x1 x2 x3 x6 x7 x11 x12 xs0)) x,
    fun x => piece_eq _ 0 2 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 0 2) (stB_0_2 c arg3 harg3 arg4 harg4 arg5 harg5 arg8 harg8 arg9 harg9 arg13 harg13 arg14 harg14 arg17 harg17 x1 x2 x3 x6 x7 x11 x12 xs0)) x,
    fun x => piece_eq _ 0 1 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 0 1) (stB_0_1 c arg3 harg3 arg4 harg4 arg5 harg5 arg8 harg8 arg9 harg9 arg13 harg13 arg14 harg14 arg17 harg17 x1 x2 x3 x6 x7 x11 x12 xs0)) x,
    fun x => piece_eq _ 0 0 _ (congrArg (fun s => (fun (n : ℕ) (h : Fin 4) => outB (rdT arg8 harg8 x6 n) (rdT arg9 harg9 x7 n) (rdQ arg2 harg2 x0 n h) (rdQ arg3 harg3 x1 n h) (rdVV arg4 arg5 harg4 harg5 x2 x3 n h) s (rdD arg11 harg11 x9 h) (rdC arg12 harg12 x10 h) (rdVV arg6 arg7 harg6 harg7 x4 x5 n h)) 0 0) (stB_0_0 arg3 harg3 arg4 harg4 arg5 harg5 arg8 harg8 arg9 harg9 arg13 harg13 arg14 harg14 arg17 harg17 x1 x2 x3 x6 x7 x11 x12 xs0)) x, trivial⟩

/-- What case B leaves in the carried states: the states after four chunks. -/
theorem canonSB : View.canon (kernelRun0_B.sl.HS0_16 c arg3 harg3 arg4 harg4 arg5 harg5 arg8 harg8 arg9 harg9 arg13 harg13 arg14 harg14 arg17 harg17 x1 x2 x3 x6 x7 x11 x12 xs0) = glueS (ST (rdT arg8 harg8 x6) (rdT arg9 harg9 x7) (rdQ arg3 harg3 x1) (rdVV arg4 arg5 harg4 harg5 x2 x3) (rdC arg13 harg13 x11) (rdF arg14 harg14 x12) (ldS xs0) 4) := by
  refine funext fun y => ?_
  unfold kernelRun0_B.sl.HS0_16 kernelRun0_B.sl.HS0_15 kernelRun0_B.sl.HS0_14 kernelRun0_B.sl.HS0_13
  refine View.canon_append_of_piecesOf (Val := Elt F) _ (kernelRun0_B.sl.HS0_12 c arg3 harg3 arg4 harg4 arg5 harg5 arg8 harg8 arg9 harg9 arg13 harg13 arg14 harg14 arg17 harg17 x1 x2 x3 x6 x7 x11 x12 xs0) [_, _, _, _] ⟨fun x => pieceS_eq _ 3 _ (congrArg (fun s => newSt (rdT arg8 harg8 x6 3) (rdT arg9 harg9 x7 3) (rdQ arg3 harg3 x1 3 3) (rdVV arg4 arg5 harg4 harg5 x2 x3 3 3) s (rdC arg13 harg13 x11 3) (rdF arg14 harg14 x12 3)) (stB_3_3 c arg3 harg3 arg4 harg4 arg5 harg5 arg8 harg8 arg9 harg9 arg13 harg13 arg14 harg14 arg17 harg17 x1 x2 x3 x6 x7 x11 x12 xs0)) x,
    fun x => pieceS_eq _ 2 _ (congrArg (fun s => newSt (rdT arg8 harg8 x6 3) (rdT arg9 harg9 x7 3) (rdQ arg3 harg3 x1 3 2) (rdVV arg4 arg5 harg4 harg5 x2 x3 3 2) s (rdC arg13 harg13 x11 2) (rdF arg14 harg14 x12 2)) (stB_3_2 c arg3 harg3 arg4 harg4 arg5 harg5 arg8 harg8 arg9 harg9 arg13 harg13 arg14 harg14 arg17 harg17 x1 x2 x3 x6 x7 x11 x12 xs0)) x,
    fun x => pieceS_eq _ 1 _ (congrArg (fun s => newSt (rdT arg8 harg8 x6 3) (rdT arg9 harg9 x7 3) (rdQ arg3 harg3 x1 3 1) (rdVV arg4 arg5 harg4 harg5 x2 x3 3 1) s (rdC arg13 harg13 x11 1) (rdF arg14 harg14 x12 1)) (stB_3_1 c arg3 harg3 arg4 harg4 arg5 harg5 arg8 harg8 arg9 harg9 arg13 harg13 arg14 harg14 arg17 harg17 x1 x2 x3 x6 x7 x11 x12 xs0)) x,
    fun x => pieceS_eq _ 0 _ (congrArg (fun s => newSt (rdT arg8 harg8 x6 3) (rdT arg9 harg9 x7 3) (rdQ arg3 harg3 x1 3 0) (rdVV arg4 arg5 harg4 harg5 x2 x3 3 0) s (rdC arg13 harg13 x11 0) (rdF arg14 harg14 x12 0)) (stB_3_0 c arg3 harg3 arg4 harg4 arg5 harg5 arg8 harg8 arg9 harg9 arg13 harg13 arg14 harg14 arg17 harg17 x1 x2 x3 x6 x7 x11 x12 xs0)) x, trivial⟩ y ?_
  exact View.cover_of_tiledL (Val := Elt F) (s := S4x128x256) _ S1x128x256.size (by sl_kernel_rfl) y

/-- The carried states after a grid point of case B. -/
theorem soutB_eq (hc0 : ¬cond0_0 i) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xs0 = glueS (ST (rdT arg8 harg8 x6) (rdT arg9 harg9 x7) (rdQ arg3 harg3 x1) (rdVV arg4 arg5 harg4 harg5 x2 x3) (rdC arg13 harg13 x11) (rdF arg14 harg14 x12) (ldS xs0) 4) :=
  (View.read_writes_junk_eq_canon (Val := Elt F) _ _).trans (canonSB c arg3 harg3 arg4 harg4 arg5 harg5 arg8 harg8 arg9 harg9 arg13 harg13 arg14 harg14 arg17 harg17 x1 x2 x3 x6 x7 x11 x12 xs0)

/-- The states case B writes to the state result: the carried ones. -/
theorem outSB_eq (hc0 : ¬cond0_0 i) : out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xs0 = k0_pay1 (glueS (ST (rdT arg8 harg8 x6) (rdT arg9 harg9 x7) (rdQ arg3 harg3 x1) (rdVV arg4 arg5 harg4 harg5 x2 x3) (rdC arg13 harg13 x11) (rdF arg14 harg14 x12) (ldS xs0) 4)) := by
  refine (View.read_writes_junk_eq_canon (Val := Elt F) _ _).trans ?_
  refine (View.canon_cons_unit_lit' (Val := Elt F) (S := S1x4x128x256) _ _ _ (by decide)).trans (congrArg k0_pay1 ?_)
  refine (View.readCov_eq_canon' (Val := Elt F) _ _ _).trans ?_
  rw [canonSB]
  exact View.ld_unit_lit' (Val := Elt F) (S := S4x128x256) _ _ (by decide)

end Cert.KernelIdeal.Ret

end
-- ==== Proof.RetState.lean ====
module
public import proofs.«01_k».proof.Proof.RetBlock
public import Idealize.ShloMosaic.Lib.Pointwise

/-!
# The retention kernel over its grid

The 32 grid points run through the batch entries and, inside one, through the sixteen chunks of 128 rows, four chunks a point.
This file reads each point's blocks as parts of the arrays and shows by induction over the points that the carried states are
the states after that many chunks of the batch entry, so that every output tile is `outB` of the arrays' own tiles.
-/

@[expose] public section

set_option maxRecDepth 16384

open Idealize.ShloMosaic Idealize.ShloMosaic.TcCoe Idealize.SL.Sem
open Cert.KernelIdeal Cert.KernelIdeal.Gen

noncomputable section

namespace Cert.KernelIdeal.Ret

variable {F : FTy → Type} [FloatOps F]

/-- Rows `128 n …` of a rotation table of 2048 rows. -/
def tT (C : Vec F S2048x128 .f32) (n : ℕ) : Vec F S128x128 .f32 := fun x =>
  C (ix2 ⟨128 * (n % 16) + (x 0).val, by have h : (x 0).val < 128 := (x 0).isLt; omega⟩ (x 1))

/-- The 128-column tile of batch entry `b`, chunk `n`, head `h` of the projected inputs, from column `off` on. -/
def tQ (Z : Vec F S8x2048x7680 .bf16) (off : Fin 7000) (b : Fin 8) (n : ℕ) (h : Fin 4) : Vec F S1x128x128 .bf16 := fun x =>
  Z (ix3 b ⟨128 * (n % 16) + (x 1).val, by have h : (x 1).val < 128 := (x 1).isLt; omega⟩
    ⟨off.val + 128 * h.val + (x 2).val, by have h : (x 2).val < 128 := (x 2).isLt; have := off.isLt; have := h; omega⟩)

/-- The 256-column tile of batch entry `b`, chunk `n`, head `h` of the projected inputs, from column `off` on. -/
def tV (Z : Vec F S8x2048x7680 .bf16) (off : Fin 6500) (b : Fin 8) (n : ℕ) (h : Fin 4) : Vec F S1x128x256 .bf16 := fun x =>
  Z (ix3 b ⟨128 * (n % 16) + (x 1).val, by have h : (x 1).val < 128 := (x 1).isLt; omega⟩
    ⟨off.val + 256 * h.val + (x 2).val, by have h : (x 2).val < 256 := (x 2).isLt; have := off.isLt; have := h; omega⟩)

/-- Batch entry `b`'s state of head `h`. -/
def tS (S : Vec F S8x4x128x256 .f32) (b : Fin 8) (h : Fin 4) : Vec F S1x128x256 .f32 := fun x => S (ix4 b h (x 1) (x 2))

/-- Head `h`'s decay matrix. -/
def tD (D : Vec F S4x128x128 .f32) (h : Fin 4) : Vec F S1x128x128 .f32 := fun x => D (ix3 h (x 1) (x 2))

/-- Head `h`'s column of a per-row table. -/
def tC (D : Vec F S4x128x1 .f32) (h : Fin 4) : Vec F S1x128x1 .f32 := fun x => D (ix3 h (x 1) (x 2))

/-- Head `h`'s row of the whole-chunk decay. -/
def tF (D : Vec F S4x1x256 .f32) (h : Fin 4) : Vec F S1x1x256 .f32 := fun x => D (ix3 h (x 1) (x 2))

/-- The window indices at a grid point: batch entry `t / 4`, block of rows `t % 4`, and the fixed column blocks. -/
theorem idx : ∀ t : Fin cfg0.N, win0_0.index t = ![t.val / 4, t.val % 4, 1] ∧ win0_1.index t = ![t.val / 4, t.val % 4, 2]
    ∧ win0_2.index t = ![t.val / 4, t.val % 4, 3] ∧ win0_3.index t = ![t.val / 4, t.val % 4, 4]
    ∧ win0_4.index t = ![t.val / 4, t.val % 4, 5] ∧ win0_5.index t = ![t.val / 4, t.val % 4, 6]
    ∧ win0_6.index t = ![t.val % 4, 0] ∧ win0_7.index t = ![t.val % 4, 0] ∧ win0_8.index t = ![t.val / 4, 0, 0, 0]
    ∧ win0_9.index t = ![0, 0, 0] ∧ win0_10.index t = ![0, 0, 0] ∧ win0_11.index t = ![0, 0, 0] ∧ win0_12.index t = ![0, 0, 0] :=
  (by decide +kernel : ∀ t : Fin grid0.N, _)

variable (m : (ℓ : Loc nD τ sig) → Buf (Elt F) ℓ) (c : Dev nD)

/-- The batch entry of a grid point. -/
def bOf (t : Fin cfg0.N) : Fin 8 := ⟨t.val / 4, by have h : t.val < 32 := t.isLt; omega⟩

/-- The projected inputs. -/
abbrev aZ : Vec F S8x2048x7680 .bf16 := m ((c : Thread nD τ).loc main_arg0)
/-- The states the recurrence starts from. -/
abbrev aS : Vec F S8x4x128x256 .f32 := m ((c : Thread nD τ).loc main_arg1)

/-- The table the host prepares for input 6 of the call. -/
abbrev aC : Vec F S2048x128 .f32 := V m c main_v16
/-- The table the host prepares for input 7 of the call. -/
abbrev aN : Vec F S2048x128 .f32 := V m c main_v18
/-- The table the host prepares for input 9 of the call. -/
abbrev aD : Vec F S4x128x128 .f32 := V m c main_v43
/-- The table the host prepares for input 10 of the call. -/
abbrev aX : Vec F S4x128x1 .f32 := V m c main_v52
/-- The table the host prepares for input 11 of the call. -/
abbrev aK : Vec F S4x128x1 .f32 := V m c main_v61
/-- The table the host prepares for input 12 of the call. -/
abbrev aF : Vec F S4x1x256 .f32 := V m c main_v66
/-- The tile a grid point reads of input 0 is the array's. -/
theorem rd_q (t : Fin cfg0.N) (n : ℕ) (hn : n < 4) (h : Fin 4) :
    rdQ (ms0_0 t) (hs0_0 t) (iblk m c 0 t) n h = tQ (aZ m c) 512 (bOf t) (4 * (t.val % 4) + n) h := by
  funext x
  have h32 : t.val < 32 := t.isLt
  have hh := h.isLt
  idx_vars x
  unfold rdQ tQ bOf
  rw [View.readAt_eq_ld, Memref.IsWhole.read_unread]
  have hn' : n % 4 = n := Nat.mod_eq_of_lt hn
  have hm' : (4 * (t.val % 4) + n) % 16 = 4 * (t.val % 4) + n := Nat.mod_eq_of_lt (by omega)
  pointwise
  blk_simp [iblk]
  rw [V_main_arg0]
  blk_ext [idx t]

/-- The tile a grid point reads of input 1 is the array's. -/
theorem rd_k (t : Fin cfg0.N) (n : ℕ) (hn : n < 4) (h : Fin 4) :
    rdQ (ms0_1 t) (hs0_1 t) (iblk m c 1 t) n h = tQ (aZ m c) 1024 (bOf t) (4 * (t.val % 4) + n) h := by
  funext x
  have h32 : t.val < 32 := t.isLt
  have hh := h.isLt
  idx_vars x
  unfold rdQ tQ bOf
  rw [View.readAt_eq_ld, Memref.IsWhole.read_unread]
  have hn' : n % 4 = n := Nat.mod_eq_of_lt hn
  have hm' : (4 * (t.val % 4) + n) % 16 = 4 * (t.val % 4) + n := Nat.mod_eq_of_lt (by omega)
  pointwise
  blk_simp [iblk]
  rw [V_main_arg0]
  blk_ext [idx t]

/-- The tile of head 0 a grid point reads of input 2 is the array's. -/
theorem rd_v0 (t : Fin cfg0.N) (n : ℕ) (hn : n < 4) :
    rdV (ms0_2 t) (hs0_2 t) (iblk m c 2 t) n 0 = tV (aZ m c) 1536 (bOf t) (4 * (t.val % 4) + n) 0 := by
  funext x
  have h32 : t.val < 32 := t.isLt
  idx_vars x
  unfold rdV tV bOf
  rw [View.readAt_eq_ld, Memref.IsWhole.read_unread]
  have hn' : n % 4 = n := Nat.mod_eq_of_lt hn
  have hm' : (4 * (t.val % 4) + n) % 16 = 4 * (t.val % 4) + n := Nat.mod_eq_of_lt (by omega)
  pointwise
  blk_simp [iblk]
  rw [V_main_arg0]
  blk_ext [idx t]

/-- The tile of head 1 a grid point reads of input 2 is the array's. -/
theorem rd_v1 (t : Fin cfg0.N) (n : ℕ) (hn : n < 4) :
    rdV (ms0_2 t) (hs0_2 t) (iblk m c 2 t) n 1 = tV (aZ m c) 1536 (bOf t) (4 * (t.val % 4) + n) 1 := by
  funext x
  have h32 : t.val < 32 := t.isLt
  idx_vars x
  unfold rdV tV bOf
  rw [View.readAt_eq_ld, Memref.IsWhole.read_unread]
  have hn' : n % 4 = n := Nat.mod_eq_of_lt hn
  have hm' : (4 * (t.val % 4) + n) % 16 = 4 * (t.val % 4) + n := Nat.mod_eq_of_lt (by omega)
  pointwise
  blk_simp [iblk]
  rw [V_main_arg0]
  blk_ext [idx t]

/-- The tile of head 2 a grid point reads of input 3 is the array's. -/
theorem rd_v2 (t : Fin cfg0.N) (n : ℕ) (hn : n < 4) :
    rdV (ms0_3 t) (hs0_3 t) (iblk m c 3 t) n 0 = tV (aZ m c) 1536 (bOf t) (4 * (t.val % 4) + n) 2 := by
  funext x
  have h32 : t.val < 32 := t.isLt
  idx_vars x
  unfold rdV tV bOf
  rw [View.readAt_eq_ld, Memref.IsWhole.read_unread]
  have hn' : n % 4 = n := Nat.mod_eq_of_lt hn
  have hm' : (4 * (t.val % 4) + n) % 16 = 4 * (t.val % 4) + n := Nat.mod_eq_of_lt (by omega)
  pointwise
  blk_simp [iblk]
  rw [V_main_arg0]
  blk_ext [idx t]

/-- The tile of head 3 a grid point reads of input 3 is the array's. -/
theorem rd_v3 (t : Fin cfg0.N) (n : ℕ) (hn : n < 4) :
    rdV (ms0_3 t) (hs0_3 t) (iblk m c 3 t) n 1 = tV (aZ m c) 1536 (bOf t) (4 * (t.val % 4) + n) 3 := by
  funext x
  have h32 : t.val < 32 := t.isLt
  idx_vars x
  unfold rdV tV bOf
  rw [View.readAt_eq_ld, Memref.IsWhole.read_unread]
  have hn' : n % 4 = n := Nat.mod_eq_of_lt hn
  have hm' : (4 * (t.val % 4) + n) % 16 = 4 * (t.val % 4) + n := Nat.mod_eq_of_lt (by omega)
  pointwise
  blk_simp [iblk]
  rw [V_main_arg0]
  blk_ext [idx t]

/-- The tile a grid point reads of inputs 2 and 3 is the array's. -/
theorem rd_v (t : Fin cfg0.N) (n : ℕ) (hn : n < 4) (h : Fin 4) :
    rdVV (ms0_2 t) (ms0_3 t) (hs0_2 t) (hs0_3 t) (iblk m c 2 t) (iblk m c 3 t) n h = tV (aZ m c) 1536 (bOf t) (4 * (t.val % 4) + n) h := by
  fin_cases h
  · exact rd_v0 m c t n hn
  · exact rd_v1 m c t n hn
  · exact rd_v2 m c t n hn
  · exact rd_v3 m c t n hn

/-- The tile of head 0 a grid point reads of input 4 is the array's. -/
theorem rd_g0 (t : Fin cfg0.N) (n : ℕ) (hn : n < 4) :
    rdV (ms0_4 t) (hs0_4 t) (iblk m c 4 t) n 0 = tV (aZ m c) 2560 (bOf t) (4 * (t.val % 4) + n) 0 := by
  funext x
  have h32 : t.val < 32 := t.isLt
  idx_vars x
  unfold rdV tV bOf
  rw [View.readAt_eq_ld, Memref.IsWhole.read_unread]
  have hn' : n % 4 = n := Nat.mod_eq_of_lt hn
  have hm' : (4 * (t.val % 4) + n) % 16 = 4 * (t.val % 4) + n := Nat.mod_eq_of_lt (by omega)
  pointwise
  blk_simp [iblk]
  rw [V_main_arg0]
  blk_ext [idx t]

/-- The tile of head 1 a grid point reads of input 4 is the array's. -/
theorem rd_g1 (t : Fin cfg0.N) (n : ℕ) (hn : n < 4) :
    rdV (ms0_4 t) (hs0_4 t) (iblk m c 4 t) n 1 = tV (aZ m c) 2560 (bOf t) (4 * (t.val % 4) + n) 1 := by
  funext x
  have h32 : t.val < 32 := t.isLt
  idx_vars x
  unfold rdV tV bOf
  rw [View.readAt_eq_ld, Memref.IsWhole.read_unread]
  have hn' : n % 4 = n := Nat.mod_eq_of_lt hn
  have hm' : (4 * (t.val % 4) + n) % 16 = 4 * (t.val % 4) + n := Nat.mod_eq_of_lt (by omega)
  pointwise
  blk_simp [iblk]
  rw [V_main_arg0]
  blk_ext [idx t]

/-- The tile of head 2 a grid point reads of input 5 is the array's. -/
theorem rd_g2 (t : Fin cfg0.N) (n : ℕ) (hn : n < 4) :
    rdV (ms0_5 t) (hs0_5 t) (iblk m c 5 t) n 0 = tV (aZ m c) 2560 (bOf t) (4 * (t.val % 4) + n) 2 := by
  funext x
  have h32 : t.val < 32 := t.isLt
  idx_vars x
  unfold rdV tV bOf
  rw [View.readAt_eq_ld, Memref.IsWhole.read_unread]
  have hn' : n % 4 = n := Nat.mod_eq_of_lt hn
  have hm' : (4 * (t.val % 4) + n) % 16 = 4 * (t.val % 4) + n := Nat.mod_eq_of_lt (by omega)
  pointwise
  blk_simp [iblk]
  rw [V_main_arg0]
  blk_ext [idx t]

/-- The tile of head 3 a grid point reads of input 5 is the array's. -/
theorem rd_g3 (t : Fin cfg0.N) (n : ℕ) (hn : n < 4) :
    rdV (ms0_5 t) (hs0_5 t) (iblk m c 5 t) n 1 = tV (aZ m c) 2560 (bOf t) (4 * (t.val % 4) + n) 3 := by
  funext x
  have h32 : t.val < 32 := t.isLt
  idx_vars x
  unfold rdV tV bOf
  rw [View.readAt_eq_ld, Memref.IsWhole.read_unread]
  have hn' : n % 4 = n := Nat.mod_eq_of_lt hn
  have hm' : (4 * (t.val % 4) + n) % 16 = 4 * (t.val % 4) + n := Nat.mod_eq_of_lt (by omega)
  pointwise
  blk_simp [iblk]
  rw [V_main_arg0]
  blk_ext [idx t]

/-- The tile a grid point reads of inputs 4 and 5 is the array's. -/
theorem rd_g (t : Fin cfg0.N) (n : ℕ) (hn : n < 4) (h : Fin 4) :
    rdVV (ms0_4 t) (ms0_5 t) (hs0_4 t) (hs0_5 t) (iblk m c 4 t) (iblk m c 5 t) n h = tV (aZ m c) 2560 (bOf t) (4 * (t.val % 4) + n) h := by
  fin_cases h
  · exact rd_g0 m c t n hn
  · exact rd_g1 m c t n hn
  · exact rd_g2 m c t n hn
  · exact rd_g3 m c t n hn

/-- The rows a grid point reads of the table of input 6 are the table's. -/
theorem rd_cos (t : Fin cfg0.N) (n : ℕ) (hn : n < 4) :
    rdT (ms0_6 t) (hs0_6 t) (iblk m c 6 t) n = tT (aC m c) (4 * (t.val % 4) + n) := by
  funext x
  have h32 : t.val < 32 := t.isLt
  idx_vars x
  unfold rdT tT
  rw [View.readAt_eq_ld, Memref.IsWhole.read_unread]
  have hn' : n % 4 = n := Nat.mod_eq_of_lt hn
  have hm' : (4 * (t.val % 4) + n) % 16 = 4 * (t.val % 4) + n := Nat.mod_eq_of_lt (by omega)
  pointwise
  blk_simp [iblk]
  unfold aC
  generalize V m c main_v16 = X
  blk_ext [idx t]

/-- The rows a grid point reads of the table of input 7 are the table's. -/
theorem rd_sin (t : Fin cfg0.N) (n : ℕ) (hn : n < 4) :
    rdT (ms0_7 t) (hs0_7 t) (iblk m c 7 t) n = tT (aN m c) (4 * (t.val % 4) + n) := by
  funext x
  have h32 : t.val < 32 := t.isLt
  idx_vars x
  unfold rdT tT
  rw [View.readAt_eq_ld, Memref.IsWhole.read_unread]
  have hn' : n % 4 = n := Nat.mod_eq_of_lt hn
  have hm' : (4 * (t.val % 4) + n) % 16 = 4 * (t.val % 4) + n := Nat.mod_eq_of_lt (by omega)
  pointwise
  blk_simp [iblk]
  unfold aN
  generalize V m c main_v18 = X
  blk_ext [idx t]

/-- The part a grid point reads of the table of input 9 is the table's. -/
theorem rd_D (t : Fin cfg0.N) (h : Fin 4) :
    rdD (ms0_9 t) (hs0_9 t) (iblk m c 9 t) h = tD (aD m c) h := by
  funext x
  have h32 : t.val < 32 := t.isLt
  have hh := h.isLt
  idx_vars x
  unfold rdD tD
  rw [View.readAt_eq_ld, Memref.IsWhole.read_unread]
  pointwise
  blk_simp [iblk]
  unfold aD
  generalize V m c main_v43 = X
  blk_ext [idx t]

/-- The part a grid point reads of the table of input 10 is the table's. -/
theorem rd_X (t : Fin cfg0.N) (h : Fin 4) :
    rdC (ms0_10 t) (hs0_10 t) (iblk m c 10 t) h = tC (aX m c) h := by
  funext x
  have h32 : t.val < 32 := t.isLt
  have hh := h.isLt
  idx_vars x
  unfold rdC tC
  rw [View.readAt_eq_ld, Memref.IsWhole.read_unread]
  pointwise
  blk_simp [iblk]
  unfold aX
  generalize V m c main_v52 = X
  blk_ext [idx t]

/-- The part a grid point reads of the table of input 11 is the table's. -/
theorem rd_K (t : Fin cfg0.N) (h : Fin 4) :
    rdC (ms0_11 t) (hs0_11 t) (iblk m c 11 t) h = tC (aK m c) h := by
  funext x
  have h32 : t.val < 32 := t.isLt
  have hh := h.isLt
  idx_vars x
  unfold rdC tC
  rw [View.readAt_eq_ld, Memref.IsWhole.read_unread]
  pointwise
  blk_simp [iblk]
  unfold aK
  generalize V m c main_v61 = X
  blk_ext [idx t]

/-- The part a grid point reads of the table of input 12 is the table's. -/
theorem rd_F (t : Fin cfg0.N) (h : Fin 4) :
    rdF (ms0_12 t) (hs0_12 t) (iblk m c 12 t) h = tF (aF m c) h := by
  funext x
  have h32 : t.val < 32 := t.isLt
  have hh := h.isLt
  idx_vars x
  unfold rdF tF
  rw [View.readAt_eq_ld, Memref.IsWhole.read_unread]
  pointwise
  blk_simp [iblk]
  unfold aF
  generalize V m c main_v66 = X
  blk_ext [idx t]

/-- The starting state a grid point reads is the array's. -/
theorem rd_s (t : Fin cfg0.N) (h : Fin 4) :
    ldS (k0_pay2 (View.readAt (Elt F) (ms0_8 t).view (Rect.unit (s := S1x4x128x256) ![0, 0, 0, 0] S1x4x128x256.size inb_S1x4x128x256_S1x4x128x256_0_0_0_0).toLoadRect ((hs0_8 t).unread (iblk m c 8 t)))) h = tS (aS m c) (bOf t) h := by
  funext x
  have h32 : t.val < 32 := t.isLt
  have hh := h.isLt
  idx_vars x
  unfold ldS tS bOf
  rw [View.readAt_eq_ld, Memref.IsWhole.read_unread]
  pointwise [k0_pay2]
  blk_simp [iblk]
  rw [V_main_arg1]
  blk_ext [idx t]

/-- Head `h` of four assembled states. -/
theorem ldS_glueS (T : Fin 4 → Vec F S1x128x256 .f32) (h : Fin 4) : ldS (glueS T) h = T h := by
  funext x
  exact (pieceS_eq T h (T h) rfl x).symm

/-- The states after `N + n` chunks are those after `n` chunks that start from the ones after `N`. -/
theorem ST_shift (cs sn cs' sn' : ℕ → Vec F S128x128 .f32) (k k' : ℕ → Fin 4 → Vec F S1x128x128 .bf16) (v v' : ℕ → Fin 4 → Vec F S1x128x256 .bf16)
    (kd kd' : Fin 4 → Vec F S1x128x1 .f32) (fl fl' : Fin 4 → Vec F S1x1x256 .f32) (s s' : Fin 4 → Vec F S1x128x256 .f32) (N : ℕ)
    (hc : ∀ n < 4, cs' n = cs (N + n)) (hs : ∀ n < 4, sn' n = sn (N + n)) (hk : ∀ n < 4, ∀ h, k' n h = k (N + n) h)
    (hv : ∀ n < 4, ∀ h, v' n h = v (N + n) h) (hkd : ∀ h, kd' h = kd h) (hfl : ∀ h, fl' h = fl h)
    (h0 : ∀ h, s' h = ST cs sn k v kd fl s N h) :
    ∀ n ≤ 4, ∀ h, ST cs' sn' k' v' kd' fl' s' n h = ST cs sn k v kd fl s (N + n) h
  | 0, _, h => h0 h
  | n + 1, hn, h => by
    have ih := ST_shift cs sn cs' sn' k k' v v' kd kd' fl fl' s s' N hc hs hk hv hkd hfl h0 n (by omega) h
    show newSt _ _ _ _ _ _ _ = newSt _ _ _ _ _ _ _
    rw [ih, hc n hn, hs n hn, hk n hn, hv n hn, hkd, hfl]
    rfl

/-- Two blocks whose sixteen tiles agree are equal. -/
theorem glueO_congr (T T' : ℕ → Fin 4 → Vec F S1x128x256 .bf16) (h : ∀ n < 4, ∀ j, T n j = T' n j) : glueO T = glueO T' := by
  funext y
  have h1 : (y 1).val < 512 := (y 1).isLt
  unfold glueO
  rw [h _ (by omega)]

/-- The states of batch entry `b` after `n` chunks, from the arrays. -/
abbrev GS (b : Fin 8) : ℕ → Fin 4 → Vec F S1x128x256 .f32 :=
  ST (tT (aC m c)) (tT (aN m c)) (tQ (aZ m c) 1024 b) (tV (aZ m c) 1536 b) (tC (aK m c)) (tF (aF m c)) (tS (aS m c) b)

/-- The output tile of batch entry `b`, chunk `n`, head `h`, from the arrays. -/
abbrev GO (b : Fin 8) (n : ℕ) (h : Fin 4) : Vec F S1x128x256 .bf16 :=
  outB (tT (aC m c) n) (tT (aN m c) n) (tQ (aZ m c) 512 b n h) (tQ (aZ m c) 1024 b n h) (tV (aZ m c) 1536 b n h) (GS m c b n h)
    (tD (aD m c) h) (tC (aX m c) h) (tV (aZ m c) 2560 b n h)

/-- The states inside a grid point, if it starts from the right ones. -/
theorem block_st (t : Fin cfg0.N) (s : Fin 4 → Vec F S1x128x256 .f32) (h0 : ∀ h, s h = GS m c (bOf t) (4 * (t.val % 4)) h) (n : ℕ) (hn : n ≤ 4)
    (h : Fin 4) : ST (rdT (ms0_6 t) (hs0_6 t) (iblk m c 6 t)) (rdT (ms0_7 t) (hs0_7 t) (iblk m c 7 t)) (rdQ (ms0_1 t) (hs0_1 t) (iblk m c 1 t)) (rdVV (ms0_2 t) (ms0_3 t) (hs0_2 t) (hs0_3 t) (iblk m c 2 t) (iblk m c 3 t)) (rdC (ms0_11 t) (hs0_11 t) (iblk m c 11 t)) (rdF (ms0_12 t) (hs0_12 t) (iblk m c 12 t)) s n h = GS m c (bOf t) (4 * (t.val % 4) + n) h :=
  ST_shift _ _ _ _ _ _ _ _ _ _ _ _ _ _ _ (fun n hn => rd_cos m c t n hn) (fun n hn => rd_sin m c t n hn) (fun n hn h => rd_k m c t n hn h)
    (fun n hn h => rd_v m c t n hn h) (fun h => rd_K m c t h) (fun h => rd_F m c t h) h0 n hn h

/-- The output tiles inside a grid point, if it starts from the right states. -/
theorem block_out (t : Fin cfg0.N) (s : Fin 4 → Vec F S1x128x256 .f32) (h0 : ∀ h, s h = GS m c (bOf t) (4 * (t.val % 4)) h) :
    glueO (fun n h => outB (rdT (ms0_6 t) (hs0_6 t) (iblk m c 6 t) n) (rdT (ms0_7 t) (hs0_7 t) (iblk m c 7 t) n) (rdQ (ms0_0 t) (hs0_0 t) (iblk m c 0 t) n h)
      (rdQ (ms0_1 t) (hs0_1 t) (iblk m c 1 t) n h) (rdVV (ms0_2 t) (ms0_3 t) (hs0_2 t) (hs0_3 t) (iblk m c 2 t) (iblk m c 3 t) n h) (ST (rdT (ms0_6 t) (hs0_6 t) (iblk m c 6 t)) (rdT (ms0_7 t) (hs0_7 t) (iblk m c 7 t)) (rdQ (ms0_1 t) (hs0_1 t) (iblk m c 1 t)) (rdVV (ms0_2 t) (ms0_3 t) (hs0_2 t) (hs0_3 t) (iblk m c 2 t) (iblk m c 3 t)) (rdC (ms0_11 t) (hs0_11 t) (iblk m c 11 t)) (rdF (ms0_12 t) (hs0_12 t) (iblk m c 12 t)) s n h)
      (rdD (ms0_9 t) (hs0_9 t) (iblk m c 9 t) h) (rdC (ms0_10 t) (hs0_10 t) (iblk m c 10 t) h)
      (rdVV (ms0_4 t) (ms0_5 t) (hs0_4 t) (hs0_5 t) (iblk m c 4 t) (iblk m c 5 t) n h))
    = glueO (fun n h => GO m c (bOf t) (4 * (t.val % 4) + n) h) := by
  refine glueO_congr _ _ fun n hn h => ?_
  rw [block_st m c t s h0 n (by omega) h, rd_cos m c t n hn, rd_sin m c t n hn, rd_q m c t n hn, rd_k m c t n hn, rd_v m c t n hn, rd_g m c t n hn,
    rd_D, rd_X]

/-- What a grid point leaves, if it starts from the right states: the output tiles, the state result and the carried states. -/
def Good (t : Fin cfg0.N) (o : Vec F S1x512x1024 .bf16 × Vec F S1x4x128x256 .f32 × Vec F S4x128x256 .f32) : Prop :=
  o.1 = glueO (fun n h => GO m c (bOf t) (4 * (t.val % 4) + n) h) ∧ o.2.1 = k0_pay1 (glueS (GS m c (bOf t) (4 * (t.val % 4) + 4)))
    ∧ o.2.2 = glueS (GS m c (bOf t) (4 * (t.val % 4) + 4))

/-- A grid point that starts a batch entry. -/
theorem good_A (t : Fin cfg0.N) (h : t.val % 4 = 0) : Good m c t (outsAt0 m c t.val t.isLt) := by
  rw [outsAt0_A m c t h]
  have h0 : ∀ j, ldS (k0_pay2 (View.readAt (Elt F) (ms0_8 t).view (Rect.unit (s := S1x4x128x256) ![0, 0, 0, 0] S1x4x128x256.size inb_S1x4x128x256_S1x4x128x256_0_0_0_0).toLoadRect ((hs0_8 t).unread (iblk m c 8 t)))) j
      = GS m c (bOf t) (4 * (t.val % 4)) j := fun j => by rw [h, rd_s]; rfl
  have hs : glueS (ST (rdT (ms0_6 t) (hs0_6 t) (iblk m c 6 t)) (rdT (ms0_7 t) (hs0_7 t) (iblk m c 7 t)) (rdQ (ms0_1 t) (hs0_1 t) (iblk m c 1 t)) (rdVV (ms0_2 t) (ms0_3 t) (hs0_2 t) (hs0_3 t) (iblk m c 2 t) (iblk m c 3 t)) (rdC (ms0_11 t) (hs0_11 t) (iblk m c 11 t)) (rdF (ms0_12 t) (hs0_12 t) (iblk m c 12 t)) (ldS (k0_pay2 (View.readAt (Elt F) (ms0_8 t).view (Rect.unit (s := S1x4x128x256) ![0, 0, 0, 0] S1x4x128x256.size inb_S1x4x128x256_S1x4x128x256_0_0_0_0).toLoadRect ((hs0_8 t).unread (iblk m c 8 t))))) 4)
      = glueS (GS m c (bOf t) (4 * (t.val % 4) + 4)) := congrArg glueS (funext fun j => block_st m c t _ h0 4 le_rfl j)
  refine ⟨?_, ?_, ?_⟩
  · dsimp only
    rw [outA_eq]
    exact block_out m c t _ h0
  · dsimp only
    rw [outSA_eq, hs]
  · dsimp only
    rw [soutA_eq, hs]

/-- A grid point inside a batch entry. -/
theorem good_B (t : Fin cfg0.N) (h : ¬t.val % 4 = 0)
    (ih : (outsAt0 m c (t.val - 1) (Nat.lt_of_le_of_lt (Nat.sub_le _ _) t.isLt)).2.2 = glueS (GS m c (bOf t) (4 * (t.val % 4)))) :
    Good m c t (outsAt0 m c t.val t.isLt) := by
  rw [outsAt0_B m c t h, ih]
  have h0 : ∀ j, ldS (glueS (GS m c (bOf t) (4 * (t.val % 4)))) j = GS m c (bOf t) (4 * (t.val % 4)) j := fun j => ldS_glueS _ j
  have hs : glueS (ST (rdT (ms0_6 t) (hs0_6 t) (iblk m c 6 t)) (rdT (ms0_7 t) (hs0_7 t) (iblk m c 7 t)) (rdQ (ms0_1 t) (hs0_1 t) (iblk m c 1 t)) (rdVV (ms0_2 t) (ms0_3 t) (hs0_2 t) (hs0_3 t) (iblk m c 2 t) (iblk m c 3 t)) (rdC (ms0_11 t) (hs0_11 t) (iblk m c 11 t)) (rdF (ms0_12 t) (hs0_12 t) (iblk m c 12 t)) (ldS (glueS (GS m c (bOf t) (4 * (t.val % 4))))) 4)
      = glueS (GS m c (bOf t) (4 * (t.val % 4) + 4)) := congrArg glueS (funext fun j => block_st m c t _ h0 4 le_rfl j)
  refine ⟨?_, ?_, ?_⟩
  · dsimp only
    rw [outB_eq]
    exact block_out m c t _ h0
  · dsimp only
    rw [outSB_eq, hs]
  · dsimp only
    rw [soutB_eq, hs]

/-- What every grid point leaves. -/
theorem good : ∀ (n : ℕ) (hn : n < cfg0.N), Good m c ⟨n, hn⟩ (outsAt0 m c n hn)
  | 0, hn => good_A m c ⟨0, hn⟩ (Nat.zero_mod _)
  | n + 1, hn => by
    by_cases h : (n + 1) % 4 = 0
    · exact good_A m c ⟨n + 1, hn⟩ h
    · refine good_B m c ⟨n + 1, hn⟩ h ?_
      have e := (good n (Nat.lt_of_succ_lt hn)).2.2
      refine e.trans ?_
      have e1 : bOf ⟨n, Nat.lt_of_succ_lt hn⟩ = bOf ⟨n + 1, hn⟩ := Fin.ext (by show n / 4 = (n + 1) / 4; omega)
      have e2 : 4 * (n % 4) + 4 = 4 * ((n + 1) % 4) := by omega
      show glueS (GS m c (bOf ⟨n, Nat.lt_of_succ_lt hn⟩) (4 * (n % 4) + 4)) = glueS (GS m c (bOf ⟨n + 1, hn⟩) (4 * ((n + 1) % 4)))
      rw [e1, e2]

end Cert.KernelIdeal.Ret

end
-- ==== Proof.RetTab.lean ====
module
public import proofs.«01_k».proof.Proof.RetState
public import proofs.«01_k».proof.Proof.Gen.KernelIdeal.Value
public import Idealize.ShloMosaic.Lib.Claim
public import Idealize.ShloMosaic.Lib.Pointwise

/-!
# The retention kernel at the ideal values

The host's tables and the kernel's tiles as formulas: the rotation angle of a position and a column, the logarithm of a head's
decay rate, the rotated query and key entries, one step of the state and one entry of the output.
-/

@[expose] public section

set_option maxRecDepth 16384

open Idealize.ShloMosaic Idealize.ShloMosaic.TcCoe Idealize.SL.Sem
open Cert.KernelIdeal Cert.KernelIdeal.Gen

noncomputable section

namespace Cert.KernelIdeal.Ret

/-- The logarithm of head `h`'s decay rate. -/
def lg (h : ℕ) : EReal := Ideal.log (1 - Ideal.pow (Ideal.ofBits FTy.f32 1073741824#32) (Ideal.ofBits FTy.f32 3231711232#32 - FloatOps.sitofp (F := Ideal) FTy.f32 (BitVec.ofNat 32 h)))

/-- The rotation angle of position `p` and frequency `j`. -/
def ang (p j : ℕ) : EReal := FloatOps.sitofp (F := Ideal) FTy.f32 (BitVec.ofNat 32 p) * Ideal.pow (Ideal.ofBits FTy.f32 1176256512#32)
  (Ideal.div (-FloatOps.sitofp (F := Ideal) FTy.f32 (BitVec.ofNat 32 j)) (Ideal.ofBits FTy.f32 1115684864#32))

/-- The decay of head `h` from row `y` to row `x` of a chunk. -/
def dec (h x y : ℕ) : EReal :=
  let d : EReal := FloatOps.sitofp (F := Ideal) FTy.f32 (BitVec.ofNat 32 x) - FloatOps.sitofp (F := Ideal) FTy.f32 (BitVec.ofNat 32 y)
  if (0 : EReal) ≤ d then Ideal.exp (max d 0 * lg h) else 0

/-- The decay of the carried state at row `x`. -/
def crs (h x : ℕ) : EReal := Ideal.exp ((FloatOps.sitofp (F := Ideal) FTy.f32 (BitVec.ofNat 32 x) + 1) * lg h)

/-- The decay of row `x` up to its chunk's end. -/
def kdc (h x : ℕ) : EReal := Ideal.exp ((Ideal.ofBits FTy.f32 1123942400#32 - FloatOps.sitofp (F := Ideal) FTy.f32 (BitVec.ofNat 32 x)) * lg h)

/-- The decay over a whole chunk. -/
def fdc (h : ℕ) : EReal := Ideal.exp (Ideal.ofBits FTy.f32 1124073472#32 * lg h)

variable (m : (ℓ : Loc nD τ sig) → Buf (Elt Ideal) ℓ) (c : Dev nD)

/-- The cosine table. -/
theorem cos_apply (j : S2048x128.Idx) : (V m c main_v16 : Vec Ideal S2048x128 .f32) j = Ideal.cos (ang (j 0).val (if (j 1).val < 64 then (j 1).val else (j 1).val - 64)) := by
  show StableHlo.after [hostOps0, hostOps0_1, hostOps0_2].flatten (fun b => m (c, b)) (Proc.tc.devRef main_v16) j = _
  simp only [hostOps0, hostOps0_1, hostOps0_2, List.flatten_cons, List.flatten_nil, List.append_nil, List.cons_append, List.nil_append]
  entry_read
  idx_vars j
  pointwise
  by_cases h : j1.val < 64 <;> simp [h, ang]

/-- The sine table, negated in its first half. -/
theorem sin_apply (j : S2048x128.Idx) : (V m c main_v18 : Vec Ideal S2048x128 .f32) j = (if (j 1).val < 64 then -Ideal.sin (ang (j 0).val (j 1).val) else Ideal.sin (ang (j 0).val ((j 1).val - 64))) := by
  show StableHlo.after [hostOps0, hostOps0_1, hostOps0_2].flatten (fun b => m (c, b)) (Proc.tc.devRef main_v18) j = _
  simp only [hostOps0, hostOps0_1, hostOps0_2, List.flatten_cons, List.flatten_nil, List.append_nil, List.cons_append, List.nil_append]
  entry_read
  idx_vars j
  pointwise
  by_cases h : j1.val < 64 <;> simp [h, ang]

/-- The decay matrix. -/
theorem dec_apply (j : S4x128x128.Idx) : (V m c main_v43 : Vec Ideal S4x128x128 .f32) j = dec (j 0).val (j 1).val (j 2).val := by
  show StableHlo.after [hostOps0, hostOps0_1, hostOps0_2].flatten (fun b => m (c, b)) (Proc.tc.devRef main_v43) j = _
  simp only [hostOps0, hostOps0_1, hostOps0_2, List.flatten_cons, List.flatten_nil, List.append_nil, List.cons_append, List.nil_append]
  entry_read
  idx_vars j
  show select (broadcastInDim S4x128x128 ![1, 2] bcast_S128x128_S4x128x128_1_2 (cmpf CmpFPredicate.oge
      (subf (broadcastInDim S128x128 ![0, 1] bcast_S128x1_S128x128_0_1 (broadcastInDim S128x1 ![0] bcast_S128_S128x1_0 (sitofp FTy.f32 (iotaInDim S128 32 0))))
        (broadcastInDim S128x128 ![0, 1] bcast_S1x128_S128x128_0_1 (broadcastInDim S1x128 ![1] bcast_S128_S1x128_1 (sitofp FTy.f32 (iotaInDim S128 32 0)))))
      (broadcastInDim S128x128 ![] bcast_S_S128x128 (constant S_ FTy.f32 0#32))))
    (Host.exp (mulf (broadcastInDim S4x128x128 ![0, 1, 2] bcast_S1x128x128_S4x128x128_0_1_2 (broadcastInDim S1x128x128 ![1, 2] bcast_S128x128_S1x128x128_1_2
        (maximumf (subf (broadcastInDim S128x128 ![0, 1] bcast_S128x1_S128x128_0_1 (broadcastInDim S128x1 ![0] bcast_S128_S128x1_0 (sitofp FTy.f32 (iotaInDim S128 32 0))))
        (broadcastInDim S128x128 ![0, 1] bcast_S1x128_S128x128_0_1 (broadcastInDim S1x128 ![1] bcast_S128_S1x128_1 (sitofp FTy.f32 (iotaInDim S128 32 0)))))
      (broadcastInDim S128x128 ![] bcast_S_S128x128 (constant S_ FTy.f32 0#32)))))
      (broadcastInDim S4x128x128 ![0, 1, 2] bcast_S4x1x1_S4x128x128_0_1_2 (broadcastInDim S4x1x1 ![0] bcast_S4_S4x1x1_0
        (Host.log (subf (broadcastInDim S4 ![] bcast_S_S4 (constant S_ FTy.f32 1065353216#32)) (Host.powf (broadcastInDim S4 ![] bcast_S_S4 (constant S_ FTy.f32 1073741824#32))
          (subf (broadcastInDim S4 ![] bcast_S_S4 (constant S_ FTy.f32 3231711232#32)) (sitofp FTy.f32 (iotaInDim S4 32 0))))))))))
    (broadcastInDim S4x128x128 ![] bcast_S_S4x128x128 (constant S_ FTy.f32 0#32)) (ix3 j0 j1 j2) = _
  pointwise

  simp only [dec, lg]

/-- The decay of the carried state. -/
theorem crs_apply (j : S4x128x1.Idx) : (V m c main_v52 : Vec Ideal S4x128x1 .f32) j = crs (j 0).val (j 1).val := by
  show StableHlo.after [hostOps0, hostOps0_1, hostOps0_2].flatten (fun b => m (c, b)) (Proc.tc.devRef main_v52) j = _
  simp only [hostOps0, hostOps0_1, hostOps0_2, List.flatten_cons, List.flatten_nil, List.append_nil, List.cons_append, List.nil_append]
  entry_read
  idx_vars j
  pointwise
  rfl

/-- The decay up to the chunk's end. -/
theorem kdc_apply (j : S4x128x1.Idx) : (V m c main_v61 : Vec Ideal S4x128x1 .f32) j = kdc (j 0).val (j 1).val := by
  show StableHlo.after [hostOps0, hostOps0_1, hostOps0_2].flatten (fun b => m (c, b)) (Proc.tc.devRef main_v61) j = _
  simp only [hostOps0, hostOps0_1, hostOps0_2, List.flatten_cons, List.flatten_nil, List.append_nil, List.cons_append, List.nil_append]
  entry_read
  idx_vars j
  pointwise
  rfl

/-- The decay over a chunk. -/
theorem fdc_apply (j : S4x1x256.Idx) : (V m c main_v66 : Vec Ideal S4x1x256 .f32) j = fdc (j 0).val := by
  show StableHlo.after [hostOps0, hostOps0_1, hostOps0_2].flatten (fun b => m (c, b)) (Proc.tc.devRef main_v66) j = _
  simp only [hostOps0, hostOps0_1, hostOps0_2, List.flatten_cons, List.flatten_nil, List.append_nil, List.cons_append, List.nil_append]
  entry_read
  idx_vars j
  pointwise
  rfl

/-- The rotated entry of head `h`, column `d`, of the projected input at row `p` of batch entry `b`, from column `off` on. -/
def rope (Z : Vec Ideal S8x2048x7680 .bf16) (off : Fin 7000) (b : Fin 8) (p : Fin 2048) (h : Fin 4) (d : Fin 128) : EReal :=
  if hd : d.val < 64 then
    Z (ix3 b p ⟨off.val + 128 * h.val + d.val, by have := h.isLt; have := off.isLt; omega⟩) * Ideal.cos (ang p.val d.val)
      - Z (ix3 b p ⟨off.val + 128 * h.val + (64 + d.val), by have := h.isLt; have := off.isLt; omega⟩) * Ideal.sin (ang p.val d.val)
  else
    Z (ix3 b p ⟨off.val + 128 * h.val + d.val, by have := h.isLt; have := off.isLt; omega⟩) * Ideal.cos (ang p.val (d.val - 64))
      + Z (ix3 b p ⟨off.val + 128 * h.val + (d.val - 64), by have := h.isLt; have := off.isLt; omega⟩) * Ideal.sin (ang p.val (d.val - 64))

/-- Row `x` of chunk `n`. -/
def row (n : Fin 16) (x : Fin 128) : Fin 2048 := ⟨128 * n.val + x.val, by omega⟩

/-- The value entry of head `h`, column `e`, at row `p` of batch entry `b`. -/
def val (Z : Vec Ideal S8x2048x7680 .bf16) (off : Fin 6500) (b : Fin 8) (p : Fin 2048) (h : Fin 4) (e : Fin 256) : EReal :=
  Z (ix3 b p ⟨off.val + 256 * h.val + e.val, by have := h.isLt; have := off.isLt; omega⟩)

theorem tV_apply (Z : Vec Ideal S8x2048x7680 .bf16) (off : Fin 6500) (b : Fin 8) (n : Fin 16) (h : Fin 4) (z : Fin 1) (x : Fin 128) (e : Fin 256) :
    tV Z off b n.val h (ix3 z x e) = val Z off b (row n x) h e := by
  have hn := Nat.mod_eq_of_lt n.isLt
  unfold tV val row
  congr 2
  exact Fin.ext (by simp [hn])

/-- The tile of the cosine table. -/
theorem tT_cos (n : Fin 16) (x d : Fin 128) :
    tT (aC m c) n.val (ix2 x d) = Ideal.cos (ang (row n x).val (if d.val < 64 then d.val else d.val - 64)) := by
  have hn := Nat.mod_eq_of_lt n.isLt
  refine (cos_apply m c _).trans ?_
  show Ideal.cos (ang (128 * (n.val % 16) + x.val) (if d.val < 64 then d.val else d.val - 64)) = _
  rw [hn]
  rfl

/-- The tile of the signed sine table. -/
theorem tT_sin (n : Fin 16) (x d : Fin 128) :
    tT (aN m c) n.val (ix2 x d) = if d.val < 64 then -Ideal.sin (ang (row n x).val d.val) else Ideal.sin (ang (row n x).val (d.val - 64)) := by
  have hn := Nat.mod_eq_of_lt n.isLt
  refine (sin_apply m c _).trans ?_
  show (if d.val < 64 then -Ideal.sin (ang (128 * (n.val % 16) + x.val) d.val) else Ideal.sin (ang (128 * (n.val % 16) + x.val) (d.val - 64))) = _
  rw [hn]
  rfl

theorem tQ_apply (Z : Vec Ideal S8x2048x7680 .bf16) (off : Fin 7000) (b : Fin 8) (n : Fin 16) (h : Fin 4) (z : Fin 1) (x d : Fin 128) :
    tQ Z off b n.val h (ix3 z x d) = Z (ix3 b (row n x) ⟨off.val + 128 * h.val + d.val, by have := h.isLt; have := off.isLt; omega⟩) := by
  have hn := Nat.mod_eq_of_lt n.isLt
  unfold tQ row
  congr 2
  exact Fin.ext (by simp [hn])

/-- The kernel's rotation: the tile times the cosines plus the tile rotated by 64 columns times the signed sines. -/
theorem rot_apply (off : Fin 7000) (b : Fin 8) (n : Fin 16) (h : Fin 4) (z : Fin 1) (x d d' : Fin 128) (hd' : d'.val = (d.val + 128 - 64) % 128) :
    tQ (aZ m c) off b n.val h (ix3 z x d) * tT (aC m c) n.val (ix2 x d)
      + tQ (aZ m c) off b n.val h (ix3 z x d') * tT (aN m c) n.val (ix2 x d)
    = rope (aZ m c) off b (row n x) h d := by
  rw [tT_cos, tT_sin, tQ_apply, tQ_apply]
  unfold rope
  have hd := d.isLt
  by_cases h1 : d.val < 64
  · have e1 : d'.val = 64 + d.val := by omega
    simp only [h1, e1, if_true, dif_pos, mul_neg, sub_eq_add_neg]
  · have e1 : d'.val = d.val - 64 := by omega
    simp only [h1, e1, if_false, dif_neg, not_false_eq_true]

/-- The rotated and scaled key. -/
def kx (Z : Vec Ideal S8x2048x7680 .bf16) (b : Fin 8) (n : Fin 16) (h : Fin 4) (x d : Fin 128) : EReal :=
  rope Z 1024 b (row n x) h d * Ideal.ofBits .f32 1035273459#32

/-- One step of the state. -/
theorem GS_succ (b : Fin 8) (n : Fin 16) (h : Fin 4) (z : Fin 1) (d : Fin 128) (e : Fin 256) :
    GS m c b (n.val + 1) h (ix3 z d e) = fdc h.val * GS m c b n.val h (ix3 0 d e)
      + ∑ x : Fin 128, kx (aZ m c) b n h x d * kdc h.val x.val * val (aZ m c) 1536 b (row n x) h e := by
  show newSt _ _ _ _ _ _ _ _ = _
  pointwise [newSt, k0_pay10, k0_pay5, k0_pay6, k0_pay8, k0_pay3, k0_pay4]
  simp only [fun x d d' hd => rot_apply m c 1024 b n h 0 x d d' hd, tV_apply]
  have e1 : tF (aF m c) h (ix3 0 0 e) = fdc h.val := fdc_apply m c _
  have e2 : ∀ x : Fin 128, tC (aK m c) h (ix3 0 x 0) = kdc h.val x.val := fun x => kdc_apply m c _
  simp only [e1, e2]
  rfl

/-- An output entry before the normalisation: the part inside the chunk and the part of the carried state. -/
def inn (Z : Vec Ideal S8x2048x7680 .bf16) (b : Fin 8) (n : Fin 16) (h : Fin 4) (S : Fin 128 → Fin 256 → EReal) (x : Fin 128) (e : Fin 256) : EReal :=
  (∑ y : Fin 128, (∑ d : Fin 128, rope Z 512 b (row n x) h d * kx Z b n h y d) * dec h.val x.val y.val * val Z 1536 b (row n y) h e)
    + (∑ d : Fin 128, rope Z 512 b (row n x) h d * S d e) * crs h.val x.val

/-- The state of batch entry `b`, head `h` after `n` chunks, entry by entry. -/
def stE (b : Fin 8) (n : ℕ) (h : Fin 4) (d : Fin 128) (e : Fin 256) : EReal := GS m c b n h (ix3 0 d e)

/-- The centred entries of a tile. -/
def ctr (f : Fin 256 → EReal) (e : Fin 256) : EReal := f e - Ideal.div (∑ e, f e) (Ideal.ofBits .f32 1132462080#32)

theorem P12_apply (b : Fin 8) (n : Fin 16) (h : Fin 4) (x : Fin 128) (e : Fin 256) :
    k0_pay12 (k0_pay6 (tV (aZ m c) 1536 b n.val h)) (k0_pay7 (tT (aC m c) n.val) (tT (aN m c) n.val) (tQ (aZ m c) 512 b n.val h)) (k0_pay8 (GS m c b n.val h))
          (k0_pay9 (tT (aC m c) n.val) (tT (aN m c) n.val) (tQ (aZ m c) 512 b n.val h) (tQ (aZ m c) 1024 b n.val h))
          (tD (aD m c) h) (tC (aX m c) h) (ix2 x e) = ctr (inn (aZ m c) b n h (stE m c b n.val h) x) e := by
  pointwise [k0_pay12, k0_pay7, k0_pay5, k0_pay6, k0_pay8, k0_pay9, k0_pay3, k0_pay4]
  simp only [fun x d d' hd => rot_apply m c 1024 b n h 0 x d d' hd, fun x d d' hd => rot_apply m c 512 b n h 0 x d d' hd, tV_apply]
  have e1 : ∀ x y : Fin 128, tD (aD m c) h (ix3 0 x y) = dec h.val x.val y.val := fun x y => dec_apply m c _
  have e2 : ∀ x : Fin 128, tC (aX m c) h (ix3 0 x 0) = crs h.val x.val := fun x => crs_apply m c _
  simp only [e1, e2]
  rfl

/-- An output entry: the gate times the normalised entry. -/
def oE (Z : Vec Ideal S8x2048x7680 .bf16) (b : Fin 8) (n : Fin 16) (h : Fin 4) (f : Fin 256 → EReal) (x : Fin 128) (e : Fin 256) : EReal :=
  val Z 2560 b (row n x) h e * Ideal.logistic (val Z 2560 b (row n x) h e)
    * (ctr f e * Ideal.rsqrt (Ideal.div (∑ e, ctr f e * ctr f e) (Ideal.ofBits .f32 1132462080#32) + Ideal.ofBits .f32 897988541#32))

theorem GO_apply (b : Fin 8) (n : Fin 16) (h : Fin 4) (z : Fin 1) (x : Fin 128) (e : Fin 256) :
    GO m c b n.val h (ix3 z x e) = oE (aZ m c) b n h (inn (aZ m c) b n h (stE m c b n.val h) x) x e := by
  unfold GO outB
  pointwise [k0_pay14, k0_pay11, k0_pay13]
  generalize hP : k0_pay12 (F := Ideal) _ _ _ _ _ _ = P
  have hP' : ∀ e, P (ix2 x e) = ctr (inn (aZ m c) b n h (stE m c b n.val h) x) e := fun e => by rw [← hP]; exact P12_apply m c b n h x e
  simp only [hP', tV_apply]
  rfl

/-- The state before the first chunk. -/
theorem stE_zero (b : Fin 8) (h : Fin 4) (d : Fin 128) (e : Fin 256) : stE m c b 0 h d e = aS m c (ix4 b h d e) := rfl

theorem stE_succ (b : Fin 8) (n : Fin 16) (h : Fin 4) (d : Fin 128) (e : Fin 256) :
    stE m c b (n.val + 1) h d e = fdc h.val * stE m c b n.val h d e
      + ∑ x : Fin 128, kx (aZ m c) b n h x d * kdc h.val x.val * val (aZ m c) 1536 b (row n x) h e := GS_succ m c b n h 0 d e

/-- The kernel's first result, entry by entry. -/
theorem G13_apply (b : Fin 8) (r : Fin 2048) (j : Fin 1024) (n : Fin 16) (x : Fin 128) (h : Fin 4) (e : Fin 256)
    (hr : r.val = 128 * n.val + x.val) (hj : j.val = 256 * h.val + e.val) :
    (Cert.KernelIdeal.Value.G13 m c : Vec Ideal S8x2048x1024 .bf16) (ix3 b r j) = oE (aZ m c) b n h (inn (aZ m c) b n h (stE m c b n.val h) x) x e := by
  have hb := b.isLt
  have hn := n.isLt
  have hx := x.isLt
  have hh := h.isLt
  have he := e.isLt
  rw [← GO_apply m c b n h 0 x e]
  unfold Cert.KernelIdeal.Value.G13
  have hp : Cert.KernelIdeal.Value.pt13Of (ix3 b r j) = 4 * b.val + n.val / 4 := by
    show 4 * (b.val / 1 - 0) + 1 * (r.val / 512 - 0) + 1 * (j.val / 1024 - 0) = _
    omega
  have hN : 4 * b.val + n.val / 4 < cfg0.N := by show _ < 32; omega
  rw [dif_pos (by rw [hp]; exact hN)]
  have hg := (good m c _ hN).1
  rw [Cert.KernelIdeal.Value.outsAt0_sweep m c _ hN] at hg
  have e0 : ∀ (q : ℕ) (hq : q = 4 * b.val + n.val / 4) (h1 : 0 + q < cfg0.N) (h2 : 0 + (4 * b.val + n.val / 4) < cfg0.N),
      (Pipeline.accAt (fun n h => Cert.KernelIdeal.Value.stAt0 m c n h Cert.KernelIdeal.Value.junk0) (Cert.KernelIdeal.Value.stAt0 m c) 0 q h1).1
        = (Pipeline.accAt (fun n h => Cert.KernelIdeal.Value.stAt0 m c n h Cert.KernelIdeal.Value.junk0) (Cert.KernelIdeal.Value.stAt0 m c) 0 (4 * b.val + n.val / 4) h2).1 := by
    intro q hq h1 h2; subst hq; rfl
  rw [e0 _ hp _ (by omega), hg]
  have hb' : bOf ⟨4 * b.val + n.val / 4, hN⟩ = b := Fin.ext (by show (4 * b.val + n.val / 4) / 4 = b.val; omega)
  rw [hb']
  have hn' : 4 * ((4 * b.val + n.val / 4) % 4) + r.val % 512 / 128 = n.val := by omega
  have hh' : (⟨j.val % 1024 / 256, by omega⟩ : Fin 4) = h := Fin.ext (by show j.val % 1024 / 256 = h.val; omega)
  have hx' : (⟨r.val % 512 % 128, Nat.mod_lt _ (by decide)⟩ : Fin 128) = x := Fin.ext (by show r.val % 512 % 128 = x.val; omega)
  have he' : (⟨j.val % 1024 % 256, Nat.mod_lt _ (by decide)⟩ : Fin 256) = e := Fin.ext (by show j.val % 1024 % 256 = e.val; omega)
  show GO m c b (4 * ((4 * b.val + n.val / 4) % 4) + r.val % 512 / 128) ⟨j.val % 1024 / 256, _⟩ (ix3 0 ⟨r.val % 512 % 128, _⟩ ⟨j.val % 1024 % 256, _⟩) = _
  rw [hn', hh', hx', he']

/-- The kernel's second result, entry by entry. -/
theorem G14_apply (b : Fin 8) (h : Fin 4) (d : Fin 128) (e : Fin 256) :
    (Cert.KernelIdeal.Value.G14 m c : Vec Ideal S8x4x128x256 .f32) (ix4 b h d e) = stE m c b 16 h d e := by
  have hb := b.isLt
  have hh := h.isLt
  have hd := d.isLt
  have he := e.isLt
  unfold Cert.KernelIdeal.Value.G14
  have hp : Cert.KernelIdeal.Value.pt14Of (ix4 b h d e) = 4 * b.val + 3 := by
    show 4 * (1 * (b.val / 1 - 0) + 1 * (h.val / 4 - 0) + 1 * (d.val / 128 - 0) + 1 * (e.val / 256 - 0)) + 3 = _
    omega
  have hN : 4 * b.val + 3 < cfg0.N := by show _ < 32; omega
  rw [dif_pos (by rw [hp]; exact hN)]
  have hg := (good m c _ hN).2.1
  rw [Cert.KernelIdeal.Value.outsAt0_sweep m c _ hN] at hg
  have e0 : ∀ (q : ℕ) (hq : q = 4 * b.val + 3) (h1 : 0 + q < cfg0.N) (h2 : 0 + (4 * b.val + 3) < cfg0.N),
      (Pipeline.accAt (fun n h => Cert.KernelIdeal.Value.stAt0 m c n h Cert.KernelIdeal.Value.junk0) (Cert.KernelIdeal.Value.stAt0 m c) 0 q h1).2.1
        = (Pipeline.accAt (fun n h => Cert.KernelIdeal.Value.stAt0 m c n h Cert.KernelIdeal.Value.junk0) (Cert.KernelIdeal.Value.stAt0 m c) 0 (4 * b.val + 3) h2).2.1 := by
    intro q hq h1 h2; subst hq; rfl
  rw [e0 _ hp _ (by omega), hg]
  have hb' : bOf ⟨4 * b.val + 3, hN⟩ = b := Fin.ext (by show (4 * b.val + 3) / 4 = b.val; omega)
  rw [hb']
  have hn' : 4 * ((4 * b.val + 3) % 4) + 4 = 16 := by omega
  have hl : Cert.KernelIdeal.Value.loc14Of (ix4 b h d e) = ix4 0 h d e := by
    funext a; apply Fin.ext
    match a with
    | ⟨0, _⟩ => show b.val % 1 = 0; omega
    | ⟨1, _⟩ => show h.val % 4 = h.val; omega
    | ⟨2, _⟩ => show d.val % 128 = d.val; omega
    | ⟨3, _⟩ => show e.val % 256 = e.val; omega
  rw [hl]
  show k0_pay1 (glueS (GS m c b (4 * ((4 * b.val + 3) % 4) + 4))) _ = _
  rw [hn']
  pointwise [k0_pay1]
  rfl

end Cert.KernelIdeal.Ret

end
-- ==== Proof.RetRef.lean ====
module
public import proofs.«01_k».proof.Proof.RetTab
public import proofs.«01_k».proof.Proof.Gen.ReferenceIdeal.Run
public import Idealize.ShloMosaic.Lib.Claim
public import Idealize.ShloMosaic.Lib.Pointwise
public import Idealize.ShloMosaic.Lib.DynamicIndex

/-!
# The reference of the retention, entry by entry

The reference's loop carries the state from chunk to chunk and writes each chunk's output into the array of all chunks. By induction
over the trips the carried state is the state of the same recurrence as the kernel's, and the array holds each finished chunk.
-/

@[expose] public section

set_option maxRecDepth 16384

open Idealize.ShloMosaic Idealize.ShloMosaic.TcCoe Idealize.SL.Sem
open Cert.ReferenceIdeal Cert.ReferenceIdeal.Gen Cert.ReferenceIdeal.Value
open Cert.KernelIdeal.Ret (lg ang dec crs kdc fdc rope row val kx inn ctr oE)
open Idealize.ShloMosaic.StableHlo

noncomputable section

namespace Cert.ReferenceIdeal.Ret

/-- The state after a chunk. -/
def refS (lg : FVec Ideal S4 .f32) (s : FVec Ideal S8x4x128x256 .f32) (k : FVec Ideal S8x4x128x128 .f32) (v : FVec Ideal S8x4x128x256 .f32) : FVec Ideal S8x4x128x256 .f32 :=
  addf (mulf (broadcastInDim S8x4x128x256 ![0, 1, 2, 3] bcast_S1x4x1x1_S8x4x128x256_0_1_2_3 (broadcastInDim S1x4x1x1 ![1] bcast_S4_S1x4x1x1_1 (Host.exp (mulf (broadcastInDim S4 ![] bcast_S_S4 (constant S_ .f32 0x43000000#32)) lg)))) s) (Host.dotGeneral dot_S8x4x128x128_S8x4x128x256_S8x4x128x256_2_2_3_3_01_01 none (mulf k (broadcastInDim S8x4x128x128 ![0, 1, 2, 3] bcast_S1x4x128x1_S8x4x128x128_0_1_2_3 (broadcastInDim S1x4x128x1 ![1, 2] bcast_S4x128_S1x4x128x1_1_2 (Host.exp (mulf (broadcastInDim S4x128 ![0, 1] bcast_S1x128_S4x128_0_1 (broadcastInDim S1x128 ![1] bcast_S128_S1x128_1 (subf (broadcastInDim S128 ![] bcast_S_S128 (constant S_ .f32 0x42FE0000#32)) (sitofp (F := Ideal) .f32 (iotaInDim S128 32 0))))) (broadcastInDim S4x128 ![0, 1] bcast_S4x1_S4x128_0_1 (broadcastInDim S4x1 ![0] bcast_S4_S4x1_0 lg))))))) v)

/-- The output of a chunk before the normalisation. -/
def refO (lg : FVec Ideal S4 .f32) (s : FVec Ideal S8x4x128x256 .f32) (q k : FVec Ideal S8x4x128x128 .f32) (v : FVec Ideal S8x4x128x256 .f32) : FVec Ideal S8x4x128x256 .f32 :=
  (addf (Host.dotGeneral dot_S8x4x128x128_S8x4x128x256_S8x4x128x256_3_2_2_3_01_01 none (mulf (Host.dotGeneral dot_S8x4x128x128_S8x4x128x128_S8x4x128x128_3_3_2_2_01_01 none q k) (broadcastInDim S8x4x128x128 ![0, 1, 2, 3] bcast_S1x4x128x128_S8x4x128x128_0_1_2_3 (broadcastInDim S1x4x128x128 ![1, 2, 3] bcast_S4x128x128_S1x4x128x128_1_2_3 (select (broadcastInDim S4x128x128 ![1, 2] bcast_S128x128_S4x128x128_1_2 (cmpf .oge (subf (broadcastInDim S128x128 ![0, 1] bcast_S128x1_S128x128_0_1 (broadcastInDim S128x1 ![0] bcast_S128_S128x1_0 (sitofp (F := Ideal) .f32 (iotaInDim S128 32 0)))) (broadcastInDim S128x128 ![0, 1] bcast_S1x128_S128x128_0_1 (broadcastInDim S1x128 ![1] bcast_S128_S1x128_1 (sitofp (F := Ideal) .f32 (iotaInDim S128 32 0))))) (broadcastInDim S128x128 ![] bcast_S_S128x128 (constant S_ .f32 0x00000000#32)))) (Host.exp (mulf (broadcastInDim S4x128x128 ![0, 1, 2] bcast_S1x128x128_S4x128x128_0_1_2 (broadcastInDim S1x128x128 ![1, 2] bcast_S128x128_S1x128x128_1_2 (maximumf (subf (broadcastInDim S128x128 ![0, 1] bcast_S128x1_S128x128_0_1 (broadcastInDim S128x1 ![0] bcast_S128_S128x1_0 (sitofp (F := Ideal) .f32 (iotaInDim S128 32 0)))) (broadcastInDim S128x128 ![0, 1] bcast_S1x128_S128x128_0_1 (broadcastInDim S1x128 ![1] bcast_S128_S1x128_1 (sitofp (F := Ideal) .f32 (iotaInDim S128 32 0))))) (broadcastInDim S128x128 ![] bcast_S_S128x128 (constant S_ .f32 0x00000000#32))))) (broadcastInDim S4x128x128 ![0, 1, 2] bcast_S4x1x1_S4x128x128_0_1_2 (broadcastInDim S4x1x1 ![0] bcast_S4_S4x1x1_0 lg)))) (broadcastInDim S4x128x128 ![] bcast_S_S4x128x128 (constant S_ .f32 0x00000000#32)))))) v) (mulf (Host.dotGeneral dot_S8x4x128x128_S8x4x128x256_S8x4x128x256_3_2_2_3_01_01 none q s) (broadcastInDim S8x4x128x256 ![0, 1, 2, 3] bcast_S1x4x128x1_S8x4x128x256_0_1_2_3 (broadcastInDim S1x4x128x1 ![1, 2] bcast_S4x128_S1x4x128x1_1_2 (Host.exp (mulf (broadcastInDim S4x128 ![0, 1] bcast_S1x128_S4x128_0_1 (broadcastInDim S1x128 ![1] bcast_S128_S1x128_1 (addf (sitofp (F := Ideal) .f32 (iotaInDim S128 32 0)) (broadcastInDim S128 ![] bcast_S_S128 (constant S_ .f32 0x3F800000#32))))) (broadcastInDim S4x128 ![0, 1] bcast_S4x1_S4x128_0_1 (broadcastInDim S4x1 ![0] bcast_S4_S4x1_0 lg))))))))

/-- The outputs of all chunks, row by row. -/
def refA (a : FVec Ideal S16x8x4x128x256 .f32) : FVec Ideal S8x2048x4x256 .f32 :=
  (transpose S8x2048x4x256 [0, 2, 1, 3] (shapeCast S8x4x2048x256 (transpose S8x4x16x128x256 [1, 2, 0, 3, 4] a transposes_S16x8x4x128x256_S8x4x16x128x256_1_2_0_3_4) shapeCasts_S8x4x16x128x256_S8x4x2048x256) transposes_S8x4x2048x256_S8x2048x4x256_0_2_1_3)

/-- The centred outputs. -/
def refC (o : FVec Ideal S8x2048x4x256 .f32) : FVec Ideal S8x2048x4x256 .f32 :=
  subf o (broadcastInDim S8x2048x4x256 ![0, 1, 2, 3] bcast_S8x2048x4x1_S8x2048x4x256_0_1_2_3 (Host.divf (broadcastInDim S8x2048x4x1 ![0, 1, 2] bcast_S8x2048x4_S8x2048x4x1_0_1_2 (Host.reduceAdd o (constant S_ .f32 0x00000000#32) reducesTo_S8x2048x4x256_S8x2048x4_d3 h_S_)) (broadcastInDim S8x2048x4x1 ![] bcast_S_S8x2048x4x1 (constant S_ .f32 0x43800000#32))))

/-- The gated, normalised outputs. -/
def refN (z : FVec Ideal S8x2048x7680 .bf16) (ct : FVec Ideal S8x2048x4x256 .f32) : FVec Ideal S8x2048x1024 .bf16 :=
  truncf .bf16 (mulf (mulf (extf .f32 (extractStridedSlice S8x2048x1024 ![0, 0, 2560] z slices_S8x2048x7680_S8x2048x1024_0_0_2560) bitsLt_bf16_f32) (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (extf .f32 (extractStridedSlice S8x2048x1024 ![0, 0, 2560] z slices_S8x2048x7680_S8x2048x1024_0_0_2560) bitsLt_bf16_f32)))))) (shapeCast S8x2048x1024 (mulf ct (broadcastInDim S8x2048x4x256 ![0, 1, 2, 3] bcast_S8x2048x4x1_S8x2048x4x256_0_1_2_3 (Host.rsqrt (addf (Host.divf (broadcastInDim S8x2048x4x1 ![0, 1, 2] bcast_S8x2048x4_S8x2048x4x1_0_1_2 (Host.reduceAdd (mulf ct ct) (constant S_ .f32 0x00000000#32) reducesTo_S8x2048x4x256_S8x2048x4_d3 h_S_)) (broadcastInDim S8x2048x4x1 ![] bcast_S_S8x2048x4x1 (constant S_ .f32 0x43800000#32))) (broadcastInDim S8x2048x4x1 ![] bcast_S_S8x2048x4x1 (constant S_ .f32 0x358637BD#32)))))) shapeCasts_S8x2048x4x256_S8x2048x1024)) bitsLt_bf16_f32

/-- One chunk of the queries or keys. -/
def cutQ (x : FVec Ideal S16x8x4x128x128 .f32) (n : ℕ) : FVec Ideal S8x4x128x128 .f32 :=
  shapeCast S8x4x128x128 (Host.dynamicSlice S1x8x4x128x128 x (fun k => (((![(fun _ => BitVec.ofNat 32 n), constantI S_ 32 0#32, constantI S_ 32 0#32, constantI S_ 32 0#32, constantI S_ 32 0#32] : Fin 5 → (⟨S_, .i32⟩ : BufTy).Contents (Elt Ideal))) k (Shape.Idx.first h_S_)).toInt) sliceFits_S16x8x4x128x128_S1x8x4x128x128) shapeCasts_S1x8x4x128x128_S8x4x128x128

/-- One chunk of the values. -/
def cutV (x : FVec Ideal S16x8x4x128x256 .f32) (n : ℕ) : FVec Ideal S8x4x128x256 .f32 :=
  shapeCast S8x4x128x256 (Host.dynamicSlice S1x8x4x128x256 x (fun k => (((![(fun _ => BitVec.ofNat 32 n), constantI S_ 32 0#32, constantI S_ 32 0#32, constantI S_ 32 0#32, constantI S_ 32 0#32] : Fin 5 → (⟨S_, .i32⟩ : BufTy).Contents (Elt Ideal))) k (Shape.Idx.first h_S_)).toInt) sliceFits_S16x8x4x128x256_S1x8x4x128x256) shapeCasts_S1x8x4x128x256_S8x4x128x256

/-- The array of outputs with one chunk written. -/
def putO (a : FVec Ideal S16x8x4x128x256 .f32) (o : FVec Ideal S8x4x128x256 .f32) (n : ℕ) : FVec Ideal S16x8x4x128x256 .f32 :=
  Host.dynamicUpdateSlice a (broadcastInDim S1x8x4x128x256 ![1, 2, 3, 4] bcast_S8x4x128x256_S1x8x4x128x256_1_2_3_4 o) (fun k => (((![(fun _ => BitVec.ofNat 32 n), constantI S_ 32 0#32, constantI S_ 32 0#32, constantI S_ 32 0#32, constantI S_ 32 0#32] : Fin 5 → (⟨S_, .i32⟩ : BufTy).Contents (Elt Ideal))) k (Shape.Idx.first h_S_)).toInt) updateFits_S16x8x4x128x256_S1x8x4x128x256

/-- The start of chunk `n`'s slice. -/
theorem start_eq (n : Fin 16) (k : Fin 5) : (((![(fun _ => BitVec.ofNat 32 n.val), constantI S_ 32 0#32, constantI S_ 32 0#32, constantI S_ 32 0#32, constantI S_ 32 0#32] : Fin 5 → (⟨S_, .i32⟩ : BufTy).Contents (Elt Ideal))) k (Shape.Idx.first h_S_)).toInt = ((![n.val, 0, 0, 0, 0] : Fin 5 → ℕ) k : ℤ) := by
  fin_cases k
  · exact toInt_ofNat_of_lt (by have := n.isLt; omega)
  all_goals rfl

theorem cutQ_apply (x : FVec Ideal S16x8x4x128x128 .f32) (n : Fin 16) (b : Fin 8) (h : Fin 4) (r d : Fin 128) :
    cutQ x n.val (ix4 b h r d) = x (ix5 n b h r d) := by
  unfold cutQ
  rw [Host.dynamicSlice_eq_extractStridedSlice S1x8x4x128x128 x _ ![n.val, 0, 0, 0, 0] _ ⟨rfl, fun a => by fin_cases a <;> simp <;> omega⟩ (fun k => start_eq n k)]
  pointwise

theorem cutV_apply (x : FVec Ideal S16x8x4x128x256 .f32) (n : Fin 16) (b : Fin 8) (h : Fin 4) (r : Fin 128) (d : Fin 256) :
    cutV x n.val (ix4 b h r d) = x (ix5 n b h r d) := by
  unfold cutV
  rw [Host.dynamicSlice_eq_extractStridedSlice S1x8x4x128x256 x _ ![n.val, 0, 0, 0, 0] _ ⟨rfl, fun a => by fin_cases a <;> simp <;> omega⟩ (fun k => start_eq n k)]
  pointwise

theorem putO_apply (a : FVec Ideal S16x8x4x128x256 .f32) (o : FVec Ideal S8x4x128x256 .f32) (n n' : Fin 16) (b : Fin 8) (h : Fin 4) (r : Fin 128) (d : Fin 256) :
    putO a o n.val (ix5 n' b h r d) = if n' = n then o (ix4 b h r d) else a (ix5 n' b h r d) := by
  unfold putO
  have hu : S16x8x4x128x256.Slices ![n.val, 0, 0, 0, 0] S1x8x4x128x256 := ⟨rfl, fun a => by fin_cases a <;> simp <;> omega⟩
  refine (show _ = updateSlice (s := S16x8x4x128x256) a (broadcastInDim S1x8x4x128x256 ![1, 2, 3, 4] bcast_S8x4x128x256_S1x8x4x128x256_1_2_3_4 o) ![n.val, 0, 0, 0, 0] hu (ix5 n' b h r d)
    from congrFun (Host.dynamicUpdateSlice_eq_updateSlice _ _ _ _ _ ?_ hu) _).trans ?_
  · intro k
    rw [start_eq n k]
    have := n.isLt
    fin_cases k <;> simp <;> omega
  pointwise
  by_cases hh : n' = n
  · subst hh; simp
  · have : ¬ (n.val ≤ n'.val ∧ n'.val < n.val + 1) := fun hc => hh (Fin.ext (by omega))
    rw [dif_neg this, if_neg hh]

theorem refS_apply (l : FVec Ideal S4 .f32) (s : FVec Ideal S8x4x128x256 .f32) (k : FVec Ideal S8x4x128x128 .f32) (v : FVec Ideal S8x4x128x256 .f32)
    (hl : ∀ h : Fin 4, l (ix1 h) = lg h.val) (b : Fin 8) (h : Fin 4) (d : Fin 128) (e : Fin 256) :
    refS l s k v (ix4 b h d e) = fdc h.val * s (ix4 b h d e) + ∑ x : Fin 128, k (ix4 b h x d) * kdc h.val x.val * v (ix4 b h x e) := by
  pointwise [refS]
  simp only [hl]
  rfl

theorem refO_apply (l : FVec Ideal S4 .f32) (s : FVec Ideal S8x4x128x256 .f32) (q k : FVec Ideal S8x4x128x128 .f32) (v : FVec Ideal S8x4x128x256 .f32)
    (hl : ∀ h : Fin 4, l (ix1 h) = lg h.val) (b : Fin 8) (h : Fin 4) (x : Fin 128) (e : Fin 256) :
    refO l s q k v (ix4 b h x e) = (∑ y : Fin 128, (∑ d : Fin 128, q (ix4 b h x d) * k (ix4 b h y d)) * dec h.val x.val y.val * v (ix4 b h y e))
      + (∑ d : Fin 128, q (ix4 b h x d) * s (ix4 b h d e)) * crs h.val x.val := by
  pointwise [refO]
  simp only [hl]
  rfl

theorem refA_apply (a : FVec Ideal S16x8x4x128x256 .f32) (b : Fin 8) (n : Fin 16) (x : Fin 128) (h : Fin 4) (e : Fin 256) :
    refA a (ix4 b (row n x) h e) = a (ix5 n b h x e) := by
  pointwise [refA]
  have e1 : (row n x).val / 128 = n.val := by show (128 * n.val + x.val) / 128 = _; omega
  have e2 : (row n x).val % 128 = x.val := by show (128 * n.val + x.val) % 128 = _; omega
  simp only [e1, e2]

theorem refC_apply (o : FVec Ideal S8x2048x4x256 .f32) (b : Fin 8) (r : Fin 2048) (h : Fin 4) (e : Fin 256) :
    refC o (ix4 b r h e) = ctr (fun e => o (ix4 b r h e)) e := by
  pointwise [refC]
  rfl

theorem refN_apply (z : FVec Ideal S8x2048x7680 .bf16) (ct : FVec Ideal S8x2048x4x256 .f32) (b : Fin 8) (r : Fin 2048) (h : Fin 4) (e : Fin 256) (j : Fin 1024)
    (hj : j.val = 256 * h.val + e.val) :
    refN z ct (ix3 b r j) = val z 2560 b r h e * Ideal.logistic (val z 2560 b r h e)
      * (ct (ix4 b r h e) * Ideal.rsqrt (Ideal.div (∑ e', ct (ix4 b r h e') * ct (ix4 b r h e')) (Ideal.ofBits .f32 1132462080#32) + Ideal.ofBits .f32 897988541#32)) := by
  have he := e.isLt
  have hj1 : j.val / 256 = h.val := by omega
  have hj2 : j.val % 256 = e.val := by omega
  pointwise [refN]
  simp only [hj1, hj2]
  have hz : ∀ hp, z (ix3 b r ⟨2560 + j.val, hp⟩) = val z 2560 b r h e := fun hp =>
    congrArg (fun i => z (ix3 b r i)) (Fin.ext (by show 2560 + j.val = 2560 + 256 * h.val + e.val; omega))
  rw [hz]
  rfl

variable (m : (ℓ : Loc nD τ sig) → Buf (Elt Ideal) ℓ) (c : Dev nD)

/-- The argument `z`. -/
abbrev rZ : FVec Ideal S8x2048x7680 .bf16 := m ((c.tc : Thread nD τ).loc main_arg0)
/-- The argument `state0`. -/
abbrev rS : FVec Ideal S8x4x128x256 .f32 := m ((c.tc : Thread nD τ).loc main_arg1)

theorem entry_lg (h : Fin 4) : (entryContents preI m c (Proc.devRef .tc main_v88_3) : FVec Ideal S4 .f32) (ix1 h) = lg h.val := by
  simp only [entryContents, preI, afterL_cons, afterL_nil]
  entry_read
  pointwise
  rfl

theorem entry_s (b : Fin 8) (h : Fin 4) (d : Fin 128) (e : Fin 256) :
    (entryContents preI m c (Proc.devRef .tc main_v88_5) : FVec Ideal S8x4x128x256 .f32) (ix4 b h d e) = rS m c (ix4 b h d e) := by
  simp only [entryContents, preI, afterL_cons, afterL_nil]
  entry_read
  rfl

theorem entry_v (n : Fin 16) (b : Fin 8) (h : Fin 4) (x : Fin 128) (e : Fin 256) :
    (entryContents preI m c (Proc.devRef .tc main_v88_2) : FVec Ideal S16x8x4x128x256 .f32) (ix5 n b h x e) = val (rZ m c) 1536 b (row n x) h e := by
  simp only [entryContents, preI, afterL_cons, afterL_nil]
  entry_read
  pointwise
  show transpose S16x8x4x128x256 [2, 0, 1, 3, 4] _ transposes_S8x4x16x128x256_S16x8x4x128x256_2_0_1_3_4 (ix5 n b h x e) = _
  pointwise
  simp only [val, row, Nat.mul_comm n.val 128, Nat.mul_comm h.val 256, Nat.add_assoc]
  rfl

theorem entry_q (n : Fin 16) (b : Fin 8) (h : Fin 4) (x d : Fin 128) :
    (entryContents preI m c (Proc.devRef .tc main_v88_0) : FVec Ideal S16x8x4x128x128 .f32) (ix5 n b h x d) = rope (rZ m c) 512 b (row n x) h d := by
  simp only [entryContents, preI, afterL_cons, afterL_nil]
  entry_read
  pointwise
  show transpose S16x8x4x128x128 [2, 0, 1, 3, 4] _ transposes_S8x4x16x128x128_S16x8x4x128x128_2_0_1_3_4 (ix5 n b h x d) = _
  pointwise
  split
  · rename_i hd
    simp only [rope, ang, row, dif_pos hd, Nat.mul_comm n.val 128, Nat.mul_comm h.val 128, Nat.add_assoc]
    rfl
  · rename_i hd
    have e64 : 64 + (d.val - 64) = d.val := by omega
    simp only [rope, ang, row, dif_neg hd, e64, Nat.mul_comm n.val 128, Nat.mul_comm h.val 128, Nat.add_assoc]
    rfl

theorem entry_k (n : Fin 16) (b : Fin 8) (h : Fin 4) (x d : Fin 128) :
    (entryContents preI m c (Proc.devRef .tc main_v88_1) : FVec Ideal S16x8x4x128x128 .f32) (ix5 n b h x d) = kx (rZ m c) b n h x d := by
  simp only [entryContents, preI, afterL_cons, afterL_nil]
  entry_read
  pointwise
  show transpose S16x8x4x128x128 [2, 0, 1, 3, 4] _ transposes_S8x4x16x128x128_S16x8x4x128x128_2_0_1_3_4 (ix5 n b h x d) = _
  pointwise
  split
  · rename_i hd
    simp only [kx, rope, ang, row, dif_pos hd, Nat.mul_comm n.val 128, Nat.mul_comm h.val 128, Nat.add_assoc]
    rfl
  · rename_i hd
    have e64 : 64 + (d.val - 64) = d.val := by omega
    simp only [kx, rope, ang, row, dif_neg hd, e64, Nat.mul_comm n.val 128, Nat.mul_comm h.val 128, Nat.add_assoc]
    rfl

theorem ctr_entry : entryContents preI m c (Proc.devRef .tc main_v88_4) = fun _ => BitVec.ofNat 32 0 := by
  simp only [entryContents, preI, afterL_cons, afterL_nil]
  entry_read
  rfl

theorem res116_eq (V0 : Valuation τ sig (Elt Ideal)) (n : ℕ) (hc : V0 (Proc.devRef .tc main_v88_4) = fun _ => BitVec.ofNat 32 n) :
    res_main_while0b_v116 V0 = cutQ (V0 (Proc.devRef .tc main_v88_0)) n := by
  unfold res_main_while0b_v116
  rw [hc]
  rfl

theorem res117_eq (V0 : Valuation τ sig (Elt Ideal)) (n : ℕ) (hc : V0 (Proc.devRef .tc main_v88_4) = fun _ => BitVec.ofNat 32 n) :
    res_main_while0b_v117 V0 = cutQ (V0 (Proc.devRef .tc main_v88_1)) n := by
  unfold res_main_while0b_v117
  rw [hc]
  rfl

theorem res118_eq (V0 : Valuation τ sig (Elt Ideal)) (n : ℕ) (hc : V0 (Proc.devRef .tc main_v88_4) = fun _ => BitVec.ofNat 32 n) :
    res_main_while0b_v118 V0 = cutV (V0 (Proc.devRef .tc main_v88_2)) n := by
  unfold res_main_while0b_v118
  rw [hc]
  rfl

/-- The state after a trip. -/
theorem step5_eq (V0 : Valuation τ sig (Elt Ideal)) (n : ℕ) (hc : V0 (Proc.devRef .tc main_v88_4) = fun _ => BitVec.ofNat 32 n) :
    step_main_v88_5 V0 = refS (V0 (Proc.devRef .tc main_v88_3)) (V0 (Proc.devRef .tc main_v88_5))
      (cutQ (V0 (Proc.devRef .tc main_v88_1)) n) (cutV (V0 (Proc.devRef .tc main_v88_2)) n) := by
  unfold step_main_v88_5
  rw [res117_eq V0 n hc, res118_eq V0 n hc]
  rfl

/-- The array of outputs after a trip. -/
theorem step6_eq (V0 : Valuation τ sig (Elt Ideal)) (n : ℕ) (hc : V0 (Proc.devRef .tc main_v88_4) = fun _ => BitVec.ofNat 32 n) :
    step_main_v88_6 V0 = putO (V0 (Proc.devRef .tc main_v88_6)) (refO (V0 (Proc.devRef .tc main_v88_3)) (V0 (Proc.devRef .tc main_v88_5))
      (cutQ (V0 (Proc.devRef .tc main_v88_0)) n) (cutQ (V0 (Proc.devRef .tc main_v88_1)) n) (cutV (V0 (Proc.devRef .tc main_v88_2)) n)) n := by
  unfold step_main_v88_6
  rw [res116_eq V0 n hc, res117_eq V0 n hc, res118_eq V0 n hc, hc]
  rfl

theorem out_eq (V0 : Valuation τ sig (Elt Ideal)) :
    out_main_v115 V0 = refN (V0 (Proc.devRef .tc main_arg0)) (refC (refA (V0 (Proc.devRef .tc main_v88_6)))) := rfl

/-- What the loop carries before trip `t`, for any state `st` of the recurrence. -/
structure Inv (st : Fin 8 → ℕ → Fin 4 → Fin 128 → Fin 256 → EReal) (t : ℕ) (V0 : Valuation τ sig (Elt Ideal)) : Prop where
  q : ∀ n b h x d, (V0 (Proc.devRef .tc main_v88_0) : FVec Ideal S16x8x4x128x128 .f32) (ix5 n b h x d) = rope (rZ m c) 512 b (row n x) h d
  k : ∀ n b h x d, (V0 (Proc.devRef .tc main_v88_1) : FVec Ideal S16x8x4x128x128 .f32) (ix5 n b h x d) = kx (rZ m c) b n h x d
  v : ∀ n b h x e, (V0 (Proc.devRef .tc main_v88_2) : FVec Ideal S16x8x4x128x256 .f32) (ix5 n b h x e) = val (rZ m c) 1536 b (row n x) h e
  l : ∀ h : Fin 4, (V0 (Proc.devRef .tc main_v88_3) : FVec Ideal S4 .f32) (ix1 h) = lg h.val
  ctr : V0 (Proc.devRef .tc main_v88_4) = fun _ => BitVec.ofNat 32 t
  s : ∀ b h d e, (V0 (Proc.devRef .tc main_v88_5) : FVec Ideal S8x4x128x256 .f32) (ix4 b h d e) = st b t h d e
  o : ∀ (n : Fin 16) b h x e, n.val < t →
    (V0 (Proc.devRef .tc main_v88_6) : FVec Ideal S16x8x4x128x256 .f32) (ix5 n b h x e) = inn (rZ m c) b n h (st b n.val h) x e

/-- One trip carries the invariant on. -/
theorem inv_succ (st : Fin 8 → ℕ → Fin 4 → Fin 128 → Fin 256 → EReal)
    (hs : ∀ (b : Fin 8) (n : Fin 16) (h : Fin 4) (d : Fin 128) (e : Fin 256), st b (n.val + 1) h d e
      = fdc h.val * st b n.val h d e + ∑ x : Fin 128, kx (rZ m c) b n h x d * kdc h.val x.val * val (rZ m c) 1536 b (row n x) h e)
    (n : Fin 16) (V0 : Valuation τ sig (Elt Ideal)) (H : Inv m c st n.val V0) : Inv m c st (n.val + 1) (STEP V0) where
  q := fun _ _ _ _ _ => by rw [STEP_main_v88_0]; exact H.q _ _ _ _ _
  k := fun _ _ _ _ _ => by rw [STEP_main_v88_1]; exact H.k _ _ _ _ _
  v := fun _ _ _ _ _ => by rw [STEP_main_v88_2]; exact H.v _ _ _ _ _
  l := fun _ => by rw [STEP_main_v88_3]; exact H.l _
  ctr := by
    rw [STEP_main_v88_4]
    unfold step_main_v88_4
    rw [H.ctr]
    funext i
    show BitVec.ofNat 32 n.val + 1#32 = _
    rw [BitVec.ofNat_add]
  s := fun b h d e => by
    rw [STEP_main_v88_5, step5_eq V0 n.val H.ctr]
    refine (refS_apply _ _ _ _ H.l b h d e).trans ?_
    rw [hs, H.s]
    simp only [cutQ_apply, cutV_apply, H.k, H.v]
  o := fun n' b h x e hn => by
    rw [STEP_main_v88_6, step6_eq V0 n.val H.ctr]
    refine (putO_apply _ _ n n' b h x e).trans ?_
    by_cases hh : n' = n
    · subst hh
      rw [if_pos rfl, refO_apply _ _ _ _ _ H.l]
      simp only [cutQ_apply, cutV_apply, H.q, H.k, H.v, H.s]
      rfl
    · rw [if_neg hh]
      exact H.o n' b h x e (by have : n'.val ≠ n.val := fun hc => hh (Fin.ext hc); omega)

/-- The invariant at every trip. -/
theorem inv_iter (st : Fin 8 → ℕ → Fin 4 → Fin 128 → Fin 256 → EReal)
    (h0 : ∀ b h d e, st b 0 h d e = rS m c (ix4 b h d e))
    (hs : ∀ (b : Fin 8) (n : Fin 16) (h : Fin 4) (d : Fin 128) (e : Fin 256), st b (n.val + 1) h d e
      = fdc h.val * st b n.val h d e + ∑ x : Fin 128, kx (rZ m c) b n h x d * kdc h.val x.val * val (rZ m c) 1536 b (row n x) h e)
    (k : ℕ) (hk : k ≤ 16) : Inv m c st k (STEP^[k] (entryContents preI m c)) := by
  induction k with
  | zero => exact ⟨entry_q m c, entry_k m c, entry_v m c, entry_lg m c, ctr_entry m c, fun b h d e => (entry_s m c b h d e).trans (h0 b h d e).symm,
      fun n _ _ _ _ hn => absurd hn (by omega)⟩
  | succ k ih =>
    rw [Function.iterate_succ_apply']
    exact inv_succ m c st hs ⟨k, by omega⟩ _ (ih (by omega))

/-- The state the reference returns. -/
theorem state_apply (st : Fin 8 → ℕ → Fin 4 → Fin 128 → Fin 256 → EReal)
    (h0 : ∀ b h d e, st b 0 h d e = rS m c (ix4 b h d e))
    (hs : ∀ (b : Fin 8) (n : Fin 16) (h : Fin 4) (d : Fin 128) (e : Fin 256), st b (n.val + 1) h d e
      = fdc h.val * st b n.val h d e + ∑ x : Fin 128, kx (rZ m c) b n h x d * kdc h.val x.val * val (rZ m c) 1536 b (row n x) h e)
    (b : Fin 8) (h : Fin 4) (d : Fin 128) (e : Fin 256) :
    ((STEP^[16] (entryContents preI m c)) (Proc.devRef .tc main_v88_5) : FVec Ideal S8x4x128x256 .f32) (ix4 b h d e) = st b 16 h d e :=
  (inv_iter m c st h0 hs 16 le_rfl).s b h d e

/-- The output the reference returns. -/
theorem out_apply (st : Fin 8 → ℕ → Fin 4 → Fin 128 → Fin 256 → EReal)
    (h0 : ∀ b h d e, st b 0 h d e = rS m c (ix4 b h d e))
    (hs : ∀ (b : Fin 8) (n : Fin 16) (h : Fin 4) (d : Fin 128) (e : Fin 256), st b (n.val + 1) h d e
      = fdc h.val * st b n.val h d e + ∑ x : Fin 128, kx (rZ m c) b n h x d * kdc h.val x.val * val (rZ m c) 1536 b (row n x) h e)
    (b : Fin 8) (n : Fin 16) (x : Fin 128) (h : Fin 4) (e : Fin 256) (j : Fin 1024) (hj : j.val = 256 * h.val + e.val) :
    (out_main_v115 (STEP^[16] (entryContents preI m c)) : FVec Ideal S8x2048x1024 .bf16) (ix3 b (row n x) j)
      = oE (rZ m c) b n h (inn (rZ m c) b n h (st b n.val h) x) x e := by
  have H := inv_iter m c st h0 hs 16 le_rfl
  rw [out_eq, iter_main_arg0]
  refine (refN_apply _ _ b (row n x) h e j hj).trans ?_
  simp only [refC_apply, refA_apply, H.o n b h x _ n.isLt]
  rfl

end Cert.ReferenceIdeal.Ret

end
-- ==== Proof.RetAlg.lean ====
module
public import proofs.«01_k».proof.Defs
public import proofs.«01_k».proof.Proof.RetRef
public import proofs.«01_k».proof.Proof.Gen.KernelIdeal.Value

/-!
# The retention: the kernel and the reference agree

Both results are the same function of the arguments: the kernel's state after a chunk is a state of the recurrence the reference's loop
runs, and the outputs are the same function of it.
-/

@[expose] public section

set_option maxRecDepth 16384

open Idealize.ShloMosaic Idealize.ShloMosaic.TcCoe Idealize.SL.Sem

noncomputable section

namespace Cert.Proof.Ret

open Cert.KernelIdeal.Ret (aZ aS stE stE_zero stE_succ fdc kx kdc val row)
open Cert.ReferenceIdeal.Ret (rZ rS)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

theorem st_zero (hs : rS m' c = aS m c) (b : Fin 8) (h : Fin 4) (d : Fin 128) (e : Fin 256) : stE m c b 0 h d e = rS m' c (ix4 b h d e) := by
  rw [hs]
  exact stE_zero m c b h d e

theorem st_succ (hz : rZ m' c = aZ m c) (b : Fin 8) (n : Fin 16) (h : Fin 4) (d : Fin 128) (e : Fin 256) : stE m c b (n.val + 1) h d e
    = fdc h.val * stE m c b n.val h d e + ∑ x : Fin 128, kx (rZ m' c) b n h x d * kdc h.val x.val * val (rZ m' c) 1536 b (row n x) h e := by
  rw [hz]
  exact stE_succ m c b n h d e

/-- The normalised, gated output. -/
theorem out_eq (hz : rZ m' c = aZ m c) (hs : rS m' c = aS m c) :
    (Cert.ReferenceIdeal.Value.out_main_v115 (Cert.ReferenceIdeal.Value.STEP^[16] (StableHlo.entryContents Cert.ReferenceIdeal.Value.preI m' c)) : FVec Ideal Cert.KernelIdeal.S8x2048x1024 .bf16)
      = (Cert.KernelIdeal.Value.G13 m c : FVec Ideal Cert.KernelIdeal.S8x2048x1024 .bf16) := by
  funext i
  idx_vars i
  revert i0 i1 i2
  intro b r j
  have hr := r.isLt
  have hj := j.isLt
  have er : r = row ⟨r.val / 128, by omega⟩ ⟨r.val % 128, by omega⟩ := Fin.ext (by show r.val = 128 * (r.val / 128) + r.val % 128; omega)
  have ej : j.val = 256 * (⟨j.val / 256, by omega⟩ : Fin 4).val + (⟨j.val % 256, by omega⟩ : Fin 256).val := by
    show j.val = 256 * (j.val / 256) + j.val % 256; omega
  have H := Cert.ReferenceIdeal.Ret.out_apply m' c (stE m c) (st_zero m m' c hs) (st_succ m m' c hz) b ⟨r.val / 128, by omega⟩ ⟨r.val % 128, by omega⟩
    ⟨j.val / 256, by omega⟩ ⟨j.val % 256, by omega⟩ j ej
  rw [← er, hz] at H
  exact H.trans (Cert.KernelIdeal.Ret.G13_apply m c b r j _ _ _ _ (by show r.val = 128 * (r.val / 128) + r.val % 128; omega) ej).symm

/-- The final state. -/
theorem state_eq (hz : rZ m' c = aZ m c) (hs : rS m' c = aS m c) :
    ((Cert.ReferenceIdeal.Value.STEP^[16] (StableHlo.entryContents Cert.ReferenceIdeal.Value.preI m' c)) (Proc.devRef .tc Cert.ReferenceIdeal.main_v88_5) : FVec Ideal Cert.KernelIdeal.S8x4x128x256 .f32)
      = (Cert.KernelIdeal.Value.G14 m c : FVec Ideal Cert.KernelIdeal.S8x4x128x256 .f32) := by
  funext i
  idx_vars i
  revert i0 i1 i2 i3
  intro b h d e
  exact (Cert.ReferenceIdeal.Ret.state_apply m' c (stE m c) (st_zero m m' c hs) (st_succ m m' c hz) b h d e).trans
    (Cert.KernelIdeal.Ret.G14_apply m c b h d e).symm

end Cert.Proof.Ret

end
-- ==== Proof.Ffn.lean ====
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

/-!
# The dense feed-forward kernel

The kernel walks 32 blocks of 512 rows, each in two halves of the 2816 hidden columns: the first half's point stores the
residual plus its part of the output product, the second adds its own part. Read block by block, the result is the residual
plus the whole sum over the hidden columns, which is the reference's composed term.
-/

@[expose] public section

set_option maxRecDepth 16384

open Idealize.ShloMosaic Idealize.ShloMosaic.TcCoe Idealize.SL.Sem
open Cert.Kernel2Ideal Cert.Kernel2Ideal.Gen

noncomputable section

namespace Cert.Kernel2Ideal.Ffn

/-- One hidden column's contribution to an output element, from the two projections of the row and the output weight. -/
def part (g u w : EReal) : EReal := g * Ideal.logistic g * u * w

/-- Hidden column `f`'s contribution to element `(r, q)` of the result. -/
def col (U : FVec Ideal S16384x1024 .bf16) (Wg Wu : FVec Ideal S1024x2816 .bf16) (Wd : FVec Ideal S2816x1024 .bf16)
    (r : Fin 16384) (q : Fin 1024) (f : Fin 2816) : EReal :=
  part (∑ l : Fin 1024, U (ix2 r l) * Wg (ix2 l f)) (∑ l : Fin 1024, U (ix2 r l) * Wu (ix2 l f)) (Wd (ix2 f q))

/-- The feed-forward result: the residual plus, summed over the 2816 hidden columns, the gated product times the output weight. -/
def ffn (H : FVec Ideal S16384x1024 .f32) (U : FVec Ideal S16384x1024 .bf16) (Wg Wu : FVec Ideal S1024x2816 .bf16)
    (Wd : FVec Ideal S2816x1024 .bf16) : FVec Ideal S16384x1024 .f32 := fun i =>
  H i + ∑ f : Fin 2816, col U Wg Wu Wd (i 0) (i 1) f

/-- Contributions of equal projections and weights are equal. -/
theorem part_congr {g g' u u' w w' : EReal} (hg : g = g') (hu : u = u') (hw : w = w') : part g u w = part g' u' w' := by
  rw [hg, hu, hw]

/-- Contractions of equal rows and columns are equal. -/
theorem dot_congr {a a' b b' : Fin 1024 → EReal} (ha : ∀ l, a l = a' l) (hb : ∀ l, b l = b' l) :
    ∑ l, a l * b l = ∑ l, a' l * b' l :=
  Finset.sum_congr rfl fun l _ => by rw [ha l, hb l]

/-- The window indices at a grid point: row block `t / 2`, half of the hidden columns `t % 2`. -/
theorem idx : ∀ t : Fin cfg0.N, win0_0.index t = ![t.val / 2, 0] ∧ win0_1.index t = ![t.val / 2, 0]
    ∧ win0_2.index t = ![0, t.val % 2] ∧ win0_3.index t = ![0, t.val % 2]
    ∧ win0_4.index t = ![t.val % 2, 0] ∧ win0_5.index t = ![t.val / 2, 0] :=
  (by decide +kernel : ∀ t : Fin grid0.N, _)

/-- A half's product at an element: the sum of its 1408 hidden columns' contributions. -/
theorem pay1_at (u : FVec Ideal S512x1024 .bf16) (wg wu : FVec Ideal S1024x1408 .bf16) (wd : FVec Ideal S1408x1024 .bf16)
    (j : S512x1024.Idx) : k0_pay1 (F := Ideal) u wg wu wd j
      = ∑ k : Fin 1408, part (∑ l : Fin 1024, u (ix2 (j 0) l) * wg (ix2 l k)) (∑ l : Fin 1024, u (ix2 (j 0) l) * wu (ix2 l k))
          (wd (ix2 k (j 1))) := by
  pointwise [k0_pay1]
  rfl

/-- The first half's store: the residual plus that half's product. -/
theorem pay2_at (u : FVec Ideal S512x1024 .bf16) (wg wu : FVec Ideal S1024x1408 .bf16) (wd : FVec Ideal S1408x1024 .bf16)
    (h : FVec Ideal S512x1024 .f32) (j : S512x1024.Idx) :
    k0_pay2 (F := Ideal) u wg wu wd h j = h j + k0_pay1 (F := Ideal) u wg wu wd j := rfl

/-- The second half's store: what the first left plus the second half's product. -/
theorem pay3_at (u : FVec Ideal S512x1024 .bf16) (wg wu : FVec Ideal S1024x1408 .bf16) (wd : FVec Ideal S1408x1024 .bf16)
    (a : FVec Ideal S512x1024 .f32) (j : S512x1024.Idx) :
    k0_pay3 (F := Ideal) u wg wu wd a j = a j + k0_pay1 (F := Ideal) u wg wu wd j := by
  pointwise [k0_pay3]

/-- A sum over the 2816 hidden columns is the sum over the first 1408 plus the sum over the others. -/
theorem sum_halves (F : Fin 2816 → EReal) :
    ∑ f : Fin 2816, F f = (∑ k : Fin 1408, F ⟨k.val, by omega⟩) + ∑ k : Fin 1408, F ⟨1408 + k.val, by omega⟩ :=
  Fin.sum_univ_add (a := 1408) (b := 1408) F

variable (m : (ℓ : Loc nD τ sig) → Buf (Elt Ideal) ℓ)

/-- A point's product, read in the arrays: the contributions of the hidden columns of its half to the row it works on. -/
theorem pay1_arr (c : Dev nD) (t : Fin cfg0.N) (y : S512x1024.Idx) (i : S16384x1024.Idx)
    (h0 : (i 0).val = 512 * (t.val / 2) + (y 0).val) (h1 : (i 1).val = (y 1).val) :
    k0_pay1 (F := Ideal) (iblk m c 1 t) (iblk m c 2 t) (iblk m c 3 t) (iblk m c 4 t) y
      = ∑ k : Fin 1408, col (m ((c : Thread nD τ).loc main_arg1)) (m ((c : Thread nD τ).loc main_arg2))
          (m ((c : Thread nD τ).loc main_arg3)) (m ((c : Thread nD τ).loc main_arg4)) (i 0) (i 1)
          ⟨1408 * (t.val % 2) + k.val, by omega⟩ := by
  rw [pay1_at]
  have e1 : ∀ l : Fin 1024, (show FVec Ideal S512x1024 .bf16 from iblk m c 1 t) (ix2 (y 0) l)
      = (show FVec Ideal S16384x1024 .bf16 from m ((c : Thread nD τ).loc main_arg1)) (ix2 (i 0) l) := fun l => by
    blk_point [iblk, V, idx t]
  have e2 : ∀ (l : Fin 1024) (k : Fin 1408), (show FVec Ideal S1024x1408 .bf16 from iblk m c 2 t) (ix2 l k)
      = (show FVec Ideal S1024x2816 .bf16 from m ((c : Thread nD τ).loc main_arg2)) (ix2 l ⟨1408 * (t.val % 2) + k.val, by omega⟩) :=
    fun l k => by blk_point [iblk, V, idx t]
  have e3 : ∀ (l : Fin 1024) (k : Fin 1408), (show FVec Ideal S1024x1408 .bf16 from iblk m c 3 t) (ix2 l k)
      = (show FVec Ideal S1024x2816 .bf16 from m ((c : Thread nD τ).loc main_arg3)) (ix2 l ⟨1408 * (t.val % 2) + k.val, by omega⟩) :=
    fun l k => by blk_point [iblk, V, idx t]
  have e4 : ∀ (k : Fin 1408), (show FVec Ideal S1408x1024 .bf16 from iblk m c 4 t) (ix2 k (y 1))
      = (show FVec Ideal S2816x1024 .bf16 from m ((c : Thread nD τ).loc main_arg4)) (ix2 ⟨1408 * (t.val % 2) + k.val, by omega⟩ (i 1)) :=
    fun k => by blk_point [iblk, V, idx t]
  refine Finset.sum_congr rfl fun k _ => ?_
  exact part_congr (dot_congr e1 fun l => e2 l k) (dot_congr e1 fun l => e3 l k) (e4 k)

/-- The array the kernel leaves is the feed-forward result of its arguments. -/
theorem final (c : Dev nD) : (dats m 0 c).arrAt 5 (cfgs 0).N
    = ffn (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  have h1 := (flush0_5 t).mp hf
  have hp : t.val - 1 < cfg0.N := Nat.lt_of_le_of_lt (Nat.sub_le _ _) t.isLt
  blk_simp
  rw [after0_5, outsAt0_B m c t (by omega) h1]
  frame_out
  rw [outsAt0_A m c ⟨t.val - 1, hp⟩ (by show (t.val - 1) % 2 = 0; omega) (by show ¬(t.val - 1) % 2 = 1; omega)]
  generalize hi : ((View.whole main_v0).slice (win0_5.rect t)).emb y = i
  have hi0 : (i 0).val = 512 * (t.val / 2) + (y 0).val := by rw [← hi]; blk_simp [idx t]; omega
  have hi1 : (i 1).val = (y 1).val := by rw [← hi]; blk_simp [idx t]
  rw [pay3_at]
  frame_out
  rw [pay2_at, pay1_arr m c t y i hi0 hi1, pay1_arr m c ⟨t.val - 1, hp⟩ y i (by rw [hi0]; show _ = 512 * ((t.val - 1) / 2) + _; omega) hi1]
  have e0 : iblk m c 0 ⟨t.val - 1, hp⟩ y = m ((c : Thread nD τ).loc main_arg0) i := by blk_point [iblk, V, idx ⟨t.val - 1, hp⟩]
  have v0 : ∀ k : Fin 1408, (⟨1408 * ((t.val - 1) % 2) + k.val, by omega⟩ : Fin 2816) = ⟨k.val, by omega⟩ := fun k => by
    apply Fin.ext; show 1408 * ((t.val - 1) % 2) + k.val = k.val; omega
  have v1 : ∀ k : Fin 1408, (⟨1408 * (t.val % 2) + k.val, by omega⟩ : Fin 2816) = ⟨1408 + k.val, by omega⟩ := fun k => by
    apply Fin.ext; show 1408 * (t.val % 2) + k.val = 1408 + k.val; omega
  rw [e0]
  unfold ffn
  rw [sum_halves, ← add_assoc]
  exact congrArg₂ (fun a b : EReal => a + b) (congrArg (fun a : EReal => (show FVec Ideal S16384x1024 .f32 from m ((c : Thread nD τ).loc main_arg0)) i + a) (Finset.sum_congr rfl fun k _ => congrArg _ (v0 k)))
    (Finset.sum_congr rfl fun k _ => congrArg _ (v1 k))

/-- The reference's composed term is the same feed-forward result. -/
theorem reference_eq (H : FVec Ideal S16384x1024 .f32) (U : FVec Ideal S16384x1024 .bf16) (Wg Wu : FVec Ideal S1024x2816 .bf16)
    (Wd : FVec Ideal S2816x1024 .bf16) :
    addf H (Host.dotGeneral Cert.Reference2Ideal.dot_S16384x2816_S2816x1024_S16384x1024_1_0_0_1_n_n none
      (mulf (mulf (Host.dotGeneral Cert.Reference2Ideal.dot_S16384x1024_S1024x2816_S16384x2816_1_0_0_1_n_n none (extf .f32 U Cert.Reference2Ideal.Gen.bitsLt_bf16_f32) (extf .f32 Wg Cert.Reference2Ideal.Gen.bitsLt_bf16_f32))
        (Host.divf (broadcastInDim Cert.Reference2Ideal.S16384x2816 ![] Cert.Reference2Ideal.Gen.bcast_S_S16384x2816 (constant Cert.Reference2Ideal.S_ .f32 0x3F800000#32))
          (addf (broadcastInDim Cert.Reference2Ideal.S16384x2816 ![] Cert.Reference2Ideal.Gen.bcast_S_S16384x2816 (constant Cert.Reference2Ideal.S_ .f32 0x3F800000#32))
            (Host.exp (Host.negf (Host.dotGeneral Cert.Reference2Ideal.dot_S16384x1024_S1024x2816_S16384x2816_1_0_0_1_n_n none (extf .f32 U Cert.Reference2Ideal.Gen.bitsLt_bf16_f32) (extf .f32 Wg Cert.Reference2Ideal.Gen.bitsLt_bf16_f32)))))))
        (Host.dotGeneral Cert.Reference2Ideal.dot_S16384x1024_S1024x2816_S16384x2816_1_0_0_1_n_n none (extf .f32 U Cert.Reference2Ideal.Gen.bitsLt_bf16_f32) (extf .f32 Wu Cert.Reference2Ideal.Gen.bitsLt_bf16_f32)))
      (extf .f32 Wd Cert.Reference2Ideal.Gen.bitsLt_bf16_f32)) = ffn H U Wg Wu Wd := by
  funext i
  pointwise [ffn, col, part]
  rfl

end Cert.Kernel2Ideal.Ffn

end
-- ==== Proof.Merge.lean ====
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

/-!
# The branch merge kernel

The kernel walks the eight batch entries in blocks of 512 rows. It reads the gates as six tiles of 512 columns of the projected
inputs, gates the three projected branch outputs, projects their sum, adds the residual, and stores that and its normalised rows.
Read at a row of a block, its arithmetic is the reference's at that row of the arrays; the only difference is that sums over 1024
columns run in two halves where the gates are two tiles.
-/

@[expose] public section

set_option maxRecDepth 16384

open Idealize.ShloMosaic Idealize.ShloMosaic.TcCoe Idealize.SL.Sem

noncomputable section

namespace Cert.Kernel3Ideal.Merge

open Cert.Kernel3Ideal Cert.Kernel3Ideal.Gen

/-- Gate column `n` of a row: the logistic function of column `4608 + n` of the projected inputs. -/
def gate (Z : FVec Ideal S8x2048x7680 .bf16) (b : Fin 8) (r : Fin 2048) (n : Fin 3072) : EReal :=
  Ideal.logistic (Z (ix3 b r ⟨4608 + n.val, by omega⟩))

/-- Column `n` of the gated sum of the first two projected branches. -/
def two (Z : FVec Ideal S8x2048x7680 .bf16) (S : FVec Ideal S8x2048x512 .bf16) (R : FVec Ideal S8x2048x1024 .bf16)
    (Ps : FVec Ideal S512x1024 .bf16) (Pr : FVec Ideal S1024x1024 .bf16) (b : Fin 8) (r : Fin 2048) (n : Fin 1024) : EReal :=
  gate Z b r ⟨n.val, by omega⟩ * (∑ k : Fin 512, S (ix3 b r k) * Ps (ix2 k n))
    + gate Z b r ⟨1024 + n.val, by omega⟩ * (∑ k : Fin 1024, R (ix3 b r k) * Pr (ix2 k n))

/-- Column `n` of the gated sum of the three projected branches. -/
def three (Z : FVec Ideal S8x2048x7680 .bf16) (S : FVec Ideal S8x2048x512 .bf16) (R : FVec Ideal S8x2048x1024 .bf16)
    (C : FVec Ideal S8x2048x512 .bf16) (Ps : FVec Ideal S512x1024 .bf16) (Pr : FVec Ideal S1024x1024 .bf16)
    (Pc : FVec Ideal S512x1024 .bf16) (b : Fin 8) (r : Fin 2048) (n : Fin 1024) : EReal :=
  two Z S R Ps Pr b r n + gate Z b r ⟨2048 + n.val, by omega⟩ * (∑ k : Fin 512, C (ix3 b r k) * Pc (ix2 k n))

/-- The new residual at a row and column. -/
def hid (X : FVec Ideal S8x2048x1024 .f32) (S : FVec Ideal S8x2048x512 .bf16) (R : FVec Ideal S8x2048x1024 .bf16)
    (C : FVec Ideal S8x2048x512 .bf16) (Z : FVec Ideal S8x2048x7680 .bf16) (Ps : FVec Ideal S512x1024 .bf16)
    (Pr : FVec Ideal S1024x1024 .bf16) (Pc : FVec Ideal S512x1024 .bf16) (W : FVec Ideal S1024x1024 .bf16)
    (b : Fin 8) (r : Fin 2048) (q : Fin 1024) : EReal :=
  X (ix3 b r q) + ∑ n : Fin 1024, three Z S R C Ps Pr Pc b r n * W (ix2 n q)

/-- A row `h` divided by its root mean square and scaled by `g`, at column `q`. -/
def nrm (h : Fin 1024 → EReal) (g : Fin 1024 → EReal) (q : Fin 1024) : EReal :=
  h q * Ideal.rsqrt (Ideal.div (∑ k : Fin 1024, h k * h k) (FloatOps.ofBits (F := Ideal) .f32 0x44800000#32)
    + FloatOps.ofBits (F := Ideal) .f32 0x358637BD#32) * g q

/-- The window indices at a grid point: batch entry `t / 4`, row block `t % 4`, and the gates' column tiles 9 to 14. -/
theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, t.val % 4, 0]
    ∧ win0_4.index t = ![t.val / 4, t.val % 4, 9] ∧ win0_5.index t = ![t.val / 4, t.val % 4, 10]
    ∧ win0_6.index t = ![t.val / 4, t.val % 4, 11] ∧ win0_7.index t = ![t.val / 4, t.val % 4, 12]
    ∧ win0_8.index t = ![t.val / 4, t.val % 4, 13] ∧ win0_9.index t = ![t.val / 4, t.val % 4, 14]
    ∧ win0_10.index t = ![0, 0] ∧ win0_11.index t = ![0, 0] ∧ win0_12.index t = ![0, 0] ∧ win0_13.index t = ![0, 0]
    ∧ win0_14.index t = ![0, 0] ∧ win0_15.index t = ![t.val / 4, t.val % 4, 0] ∧ win0_16.index t = ![t.val / 4, t.val % 4, 0] :=
  (by decide +kernel : ∀ t : Fin grid0.N, _)

/-- The blocks of a grid point, seen from one of their rows: row `r` of each block is row `ρ` of batch entry `b` of its array,
    and the weights are whole. -/
structure Row (Z : FVec Ideal S8x2048x7680 .bf16) (S : FVec Ideal S8x2048x512 .bf16) (R : FVec Ideal S8x2048x1024 .bf16)
    (C : FVec Ideal S8x2048x512 .bf16) (X : FVec Ideal S8x2048x1024 .f32) (b : Fin 8) (ρ : Fin 2048) (r : Fin 512)
    (x : FVec Ideal S1x512x1024 .f32) (s : FVec Ideal S1x512x512 .bf16) (rr : FVec Ideal S1x512x1024 .bf16)
    (cc a4 a5 a6 a7 a8 a9 : FVec Ideal S1x512x512 .bf16) : Prop where
  hx : ∀ k : Fin 1024, x (ix3 0 r k) = X (ix3 b ρ k)
  hs : ∀ k : Fin 512, s (ix3 0 r k) = S (ix3 b ρ k)
  hr : ∀ k : Fin 1024, rr (ix3 0 r k) = R (ix3 b ρ k)
  hc : ∀ k : Fin 512, cc (ix3 0 r k) = C (ix3 b ρ k)
  h4 : ∀ k : Fin 512, a4 (ix3 0 r k) = Z (ix3 b ρ ⟨4608 + k.val, by omega⟩)
  h5 : ∀ k : Fin 512, a5 (ix3 0 r k) = Z (ix3 b ρ ⟨5120 + k.val, by omega⟩)
  h6 : ∀ k : Fin 512, a6 (ix3 0 r k) = Z (ix3 b ρ ⟨5632 + k.val, by omega⟩)
  h7 : ∀ k : Fin 512, a7 (ix3 0 r k) = Z (ix3 b ρ ⟨6144 + k.val, by omega⟩)
  h8 : ∀ k : Fin 512, a8 (ix3 0 r k) = Z (ix3 b ρ ⟨6656 + k.val, by omega⟩)
  h9 : ∀ k : Fin 512, a9 (ix3 0 r k) = Z (ix3 b ρ ⟨7168 + k.val, by omega⟩)

variable {Z : FVec Ideal S8x2048x7680 .bf16} {S : FVec Ideal S8x2048x512 .bf16} {R : FVec Ideal S8x2048x1024 .bf16}
  {C : FVec Ideal S8x2048x512 .bf16} {X : FVec Ideal S8x2048x1024 .f32} {b : Fin 8} {ρ : Fin 2048} {r : Fin 512}
  {x : FVec Ideal S1x512x1024 .f32} {s : FVec Ideal S1x512x512 .bf16} {rr : FVec Ideal S1x512x1024 .bf16}
  {cc a4 a5 a6 a7 a8 a9 : FVec Ideal S1x512x512 .bf16}

/-- Two tiles of 512 gate inputs side by side, read at column `n`, are the projected inputs from the first tile's column on. -/
theorem tiles {f g : Fin 512 → EReal} {F : Fin 3072 → EReal} (o : ℕ) (ho : o + 1024 ≤ 3072)
    (hf : ∀ k : Fin 512, f k = F ⟨o + k.val, by omega⟩) (hg : ∀ k : Fin 512, g k = F ⟨o + 512 + k.val, by omega⟩) (n : Fin 1024) :
    (if h : n.val < 512 then f ⟨n.val, h⟩ else g ⟨n.val - 512, by omega⟩) = F ⟨o + n.val, by omega⟩ := by
  by_cases h : n.val < 512
  · rw [dif_pos h, hf]
  · rw [dif_neg h, hg]; exact congrArg F (Fin.ext (by show o + 512 + (n.val - 512) = o + n.val; omega))

/-- The first two gated branches, from the blocks, at a row and column. -/
theorem pay2_at (H : Row Z S R C X b ρ r x s rr cc a4 a5 a6 a7 a8 a9) (Ps : FVec Ideal S512x1024 .bf16)
    (Pr : FVec Ideal S1024x1024 .bf16) (n : Fin 1024) :
    k0_pay2 (F := Ideal) a4 a5 s Ps a6 a7 rr Pr (ix2 r n) = two Z S R Ps Pr b ρ n := by
  have g1 := tiles (F := fun k => Z (ix3 b ρ ⟨4608 + k.val, by omega⟩)) 0 (by omega) (fun k => (H.h4 k).trans (congrArg Z (by congr 1; apply Fin.ext; show 4608 + k.val = 4608 + (0 + k.val); omega)))
    (fun k => (H.h5 k).trans (congrArg Z (by congr 1; apply Fin.ext; show 5120 + k.val = 4608 + (0 + 512 + k.val); omega))) n
  have g2 := tiles (F := fun k => Z (ix3 b ρ ⟨4608 + k.val, by omega⟩)) 1024 (by omega) (fun k => (H.h6 k).trans (congrArg Z (by congr 1; apply Fin.ext; show 5632 + k.val = 4608 + (1024 + k.val); omega)))
    (fun k => (H.h7 k).trans (congrArg Z (by congr 1; apply Fin.ext; show 6144 + k.val = 4608 + (1024 + 512 + k.val); omega))) n
  have e : k0_pay2 (F := Ideal) a4 a5 s Ps a6 a7 rr Pr (ix2 r n)
      = Ideal.logistic (if h : n.val < 512 then a4 (ix3 0 r ⟨n.val, h⟩) else a5 (ix3 0 r ⟨n.val - 512, by omega⟩))
          * (∑ k : Fin 512, s (ix3 0 r k) * Ps (ix2 k n))
        + Ideal.logistic (if h : n.val < 512 then a6 (ix3 0 r ⟨n.val, h⟩) else a7 (ix3 0 r ⟨n.val - 512, by omega⟩))
          * (∑ k : Fin 1024, rr (ix3 0 r k) * Pr (ix2 k n)) := by pointwise [k0_pay2]
  rw [e, g1, g2, Finset.sum_congr rfl fun k _ => congrArg (· * Ps (ix2 k n)) (H.hs k),
    Finset.sum_congr rfl fun k _ => congrArg (· * Pr (ix2 k n)) (H.hr k)]
  unfold two gate
  simp only [Nat.zero_add]

/-- The new residual, from the blocks, at a row and column. -/
theorem pay4_at (H : Row Z S R C X b ρ r x s rr cc a4 a5 a6 a7 a8 a9) (Ps : FVec Ideal S512x1024 .bf16)
    (Pr : FVec Ideal S1024x1024 .bf16) (Pc : FVec Ideal S512x1024 .bf16) (W : FVec Ideal S1024x1024 .bf16) (q : Fin 1024) :
    k0_pay4 (F := Ideal) (k0_pay2 (F := Ideal) a4 a5 s Ps a6 a7 rr Pr) (k0_pay3 (F := Ideal) a8) a9 cc Pc x W (ix2 r q)
      = hid X S R C Z Ps Pr Pc W b ρ q := by
  have e : ∀ (u : FVec Ideal S512x1024 .f32), k0_pay4 (F := Ideal) u (k0_pay3 (F := Ideal) a8) a9 cc Pc x W (ix2 r q)
      = x (ix3 0 r q) + ((∑ n : Fin 512, (u (ix2 r ⟨n.val, by omega⟩) + Ideal.logistic (a8 (ix3 0 r n))
            * (∑ k : Fin 512, cc (ix3 0 r k) * Pc (ix2 k ⟨n.val, by omega⟩))) * W (ix2 ⟨n.val, by omega⟩ q))
          + ∑ n : Fin 512, (u (ix2 r ⟨512 + n.val, by omega⟩) + Ideal.logistic (a9 (ix3 0 r n))
            * (∑ k : Fin 512, cc (ix3 0 r k) * Pc (ix2 k ⟨512 + n.val, by omega⟩))) * W (ix2 ⟨512 + n.val, by omega⟩ q)) := fun u => by
    pointwise [k0_pay4, k0_pay3]
  have hC : ∀ n : Fin 1024, (∑ k : Fin 512, cc (ix3 0 r k) * Pc (ix2 k n)) = ∑ k : Fin 512, C (ix3 b ρ k) * Pc (ix2 k n) := fun n =>
    Finset.sum_congr rfl fun k _ => congrArg (· * Pc (ix2 k n)) (H.hc k)
  have lo : ∀ n : Fin 512, Ideal.logistic (a8 (ix3 0 r n)) = gate Z b ρ ⟨2048 + n.val, by omega⟩ := fun n => by
    rw [H.h8]; unfold gate; exact congrArg (fun i => Ideal.logistic (Z (ix3 b ρ i))) (Fin.ext (by show 6656 + n.val = 4608 + (2048 + n.val); omega))
  have hi : ∀ n : Fin 512, Ideal.logistic (a9 (ix3 0 r n)) = gate Z b ρ ⟨2048 + (512 + n.val), by omega⟩ := fun n => by
    rw [H.h9]; unfold gate; exact congrArg (fun i => Ideal.logistic (Z (ix3 b ρ i))) (Fin.ext (by show 7168 + n.val = 4608 + (2048 + (512 + n.val)); omega))
  rw [e, H.hx]
  simp only [pay2_at H, hC, lo, hi]
  unfold hid
  rw [show (∑ n : Fin 1024, three Z S R C Ps Pr Pc b ρ n * W (ix2 n q)) = _ from Fin.sum_univ_add (a := 512) (b := 512) _]
  rfl

/-- The normalised row, from the blocks, at a row and column. -/
theorem pay6_at (u : FVec Ideal S512x1024 .f32) (v : FVec Ideal S512x512 .bf16) (a c : FVec Ideal S1x512x512 .bf16)
    (Pc : FVec Ideal S512x1024 .bf16) (x : FVec Ideal S1x512x1024 .f32) (W : FVec Ideal S1024x1024 .bf16)
    (g : FVec Ideal S1x1024 .f32) (q : Fin 1024) :
    k0_pay6 (F := Ideal) u v a c Pc x W g (ix2 r q)
      = nrm (fun k => k0_pay4 (F := Ideal) u v a c Pc x W (ix2 r k)) (fun k => g (ix2 0 k)) q := by
  unfold k0_pay6
  generalize k0_pay4 (F := Ideal) u v a c Pc x W = h
  pointwise [nrm]

variable (m : (ℓ : Loc nD τ sig) → Buf (Elt Ideal) ℓ)

/-- The residual array the merge must leave: `hid` of its arguments. -/
def hidA (c : Dev nD) : FVec Ideal S8x2048x1024 .f32 := fun i =>
  hid (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (i 0) (i 1) (i 2)

/-- The normalised array the merge must leave. -/
def nrmA (c : Dev nD) : FVec Ideal S8x2048x1024 .bf16 := fun i =>
  nrm (fun k => hidA m c (ix3 (i 0) (i 1) k)) (fun k => (show FVec Ideal S1024 .f32 from m ((c : Thread nD τ).loc main_arg9)) (ix1 k)) (i 2)

/-- The blocks of a point, seen from row `r`. -/
theorem row (c : Dev nD) (t : Fin cfg0.N) (r : Fin 512) (b : Fin 8) (ρ : Fin 2048) (hb : b.val = t.val / 4)
    (hρ : ρ.val = 512 * (t.val % 4) + r.val) :
    Row (m ((c : Thread nD τ).loc main_arg4)) (m ((c : Thread nD τ).loc main_arg1)) (m ((c : Thread nD τ).loc main_arg2))
      (m ((c : Thread nD τ).loc main_arg3)) (m ((c : Thread nD τ).loc main_arg0)) b ρ r (iblk m c 0 t) (iblk m c 1 t)
      (iblk m c 2 t) (iblk m c 3 t) (iblk m c 4 t) (iblk m c 5 t) (iblk m c 6 t) (iblk m c 7 t) (iblk m c 8 t) (iblk m c 9 t) where
  hx := fun k => by blk_point [iblk, V, idx t]
  hs := fun k => by blk_point [iblk, V, idx t]
  hr := fun k => by blk_point [iblk, V, idx t]
  hc := fun k => by blk_point [iblk, V, idx t]
  h4 := fun k => by blk_point [iblk, V, idx t]
  h5 := fun k => by blk_point [iblk, V, idx t]
  h6 := fun k => by blk_point [iblk, V, idx t]
  h7 := fun k => by blk_point [iblk, V, idx t]
  h8 := fun k => by blk_point [iblk, V, idx t]
  h9 := fun k => by blk_point [iblk, V, idx t]

/-- The first branch's weight block is the whole array. -/
theorem whole10 (c : Dev nD) (t : Fin cfg0.N) : iblk m c 10 t = (show FVec Ideal S512x1024 .bf16 from m ((c : Thread nD τ).loc main_arg5)) := by
  funext x; blk_point [iblk, V, idx t]

/-- The second branch's weight block is the whole array. -/
theorem whole11 (c : Dev nD) (t : Fin cfg0.N) : iblk m c 11 t = (show FVec Ideal S1024x1024 .bf16 from m ((c : Thread nD τ).loc main_arg6)) := by
  funext x; blk_point [iblk, V, idx t]

/-- The third branch's weight block is the whole array. -/
theorem whole12 (c : Dev nD) (t : Fin cfg0.N) : iblk m c 12 t = (show FVec Ideal S512x1024 .bf16 from m ((c : Thread nD τ).loc main_arg7)) := by
  funext x; blk_point [iblk, V, idx t]

/-- The output projection's block is the whole array. -/
theorem whole13 (c : Dev nD) (t : Fin cfg0.N) : iblk m c 13 t = (show FVec Ideal S1024x1024 .bf16 from m ((c : Thread nD τ).loc main_arg8)) := by
  funext x; blk_point [iblk, V, idx t]

/-- The scale block's row is the whole scale vector. -/
theorem scale_at (c : Dev nD) (t : Fin cfg0.N) (k : Fin 1024) : (show FVec Ideal S1x1024 .f32 from iblk m c 14 t) (ix2 0 k)
    = (show FVec Ideal S1024 .f32 from m ((c : Thread nD τ).loc main_arg9)) (ix1 k) := by
  blk_point [iblk, V, idx t]

/-- The stored residual block at an element. -/
theorem pay5_at (u : FVec Ideal S512x1024 .f32) (v : FVec Ideal S512x512 .bf16) (a c : FVec Ideal S1x512x512 .bf16)
    (Pc : FVec Ideal S512x1024 .bf16) (x : FVec Ideal S1x512x1024 .f32) (W : FVec Ideal S1024x1024 .bf16) (y : S1x512x1024.Idx) :
    k0_pay5 (F := Ideal) u v a c Pc x W y = k0_pay4 (F := Ideal) u v a c Pc x W (ix2 (y 1) (y 2)) := by
  unfold k0_pay5
  generalize k0_pay4 (F := Ideal) u v a c Pc x W = h
  pointwise []

/-- The stored normalised block at an element. -/
theorem pay1_at (h : FVec Ideal S512x1024 .bf16) (y : S1x512x1024.Idx) : k0_pay1 (F := Ideal) h y = h (ix2 (y 1) (y 2)) := by
  pointwise [k0_pay1]

/-- The array of new residuals the kernel leaves. -/
theorem final15 (c : Dev nD) : (dats m 0 c).arrAt 15 (cfgs 0).N = hidA m c := by
  refine (dats m 0 c).arrAt_eq_of_covers 15 _ (by decide +kernel) fun t hf y => ?_
  blk_simp
  rw [after0_15]
  unfold_out out0_15
  frame_out
  generalize hi : ((View.whole main_v1_0).slice (win0_15.rect t)).emb y = i
  have hi0 : (i 0).val = t.val / 4 := by rw [← hi]; blk_simp [idx t]
  have hi1 : (i 1).val = 512 * (t.val % 4) + (y 1).val := by rw [← hi]; blk_simp [idx t]; omega
  have hi2 : i 2 = y 2 := Fin.ext (by rw [← hi]; blk_simp [idx t])
  rw [pay5_at, whole10, whole11, whole12, whole13]
  refine (pay4_at (row m c t (y 1) (i 0) (i 1) hi0 hi1) _ _ _ _ (y 2)).trans ?_
  unfold hidA
  rw [hi2]

/-- The array of normalised rows the kernel leaves. -/
theorem final16 (c : Dev nD) : (dats m 0 c).arrAt 16 (cfgs 0).N = nrmA m c := by
  refine (dats m 0 c).arrAt_eq_of_covers 16 _ (by decide +kernel) fun t hf y => ?_
  blk_simp
  rw [after0_16]
  unfold_out out0_16
  frame_out
  generalize hi : ((View.whole main_v1_1).slice (win0_16.rect t)).emb y = i
  have hi0 : (i 0).val = t.val / 4 := by rw [← hi]; blk_simp [idx t]
  have hi1 : (i 1).val = 512 * (t.val % 4) + (y 1).val := by rw [← hi]; blk_simp [idx t]; omega
  have hi2 : i 2 = y 2 := Fin.ext (by rw [← hi]; blk_simp [idx t])
  rw [pay1_at, whole10, whole11, whole12, whole13]
  refine (pay6_at _ _ _ _ _ _ _ _ (y 2)).trans ?_
  unfold nrmA
  rw [hi2]
  refine congrArg₂ (fun h g => nrm h g (y 2)) (funext fun k => ?_) (funext fun k => scale_at m c t k)
  exact pay4_at (row m c t (y 1) (i 0) (i 1) hi0 hi1) _ _ _ _ k

end Cert.Kernel3Ideal.Merge

namespace Cert.Reference3Ideal.Merge

open Cert.Reference3Ideal Cert.Reference3Ideal.Gen
open Cert.Kernel3Ideal.Merge (hid nrm three two gate)

variable (m : (ℓ : Loc nD τ sig) → Buf (Elt Ideal) ℓ) (c : Dev nD)

/-- The reference's new residual: `hid` of its arguments. -/
def hidA : FVec Ideal S8x2048x1024 .f32 := fun i =>
  hid (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) (i 0) (i 1) (i 2)

/-- The reference's normalised rows. -/
def nrmA : FVec Ideal S8x2048x1024 .bf16 := fun i =>
  nrm (fun k => hidA m c (ix3 (i 0) (i 1) k)) (fun k => (show FVec Ideal S1024 .f32 from m ((c.tc : Thread nD τ).loc main_arg9)) (ix1 k)) (i 2)

/-- The composed term of the reference's first result. -/
theorem hid_eq : addf (m ((c.tc : Thread nD τ).loc main_arg0)) (Host.dotGeneral dot_S8x2048x1024_S1024x1024_S8x2048x1024_2_0_01_1_n_n none (addf (addf (mulf (extractStridedSlice S8x2048x1024 ![0, 0, 0] (Host.divf (broadcastInDim S8x2048x3072 ![] bcast_S_S8x2048x3072 (constant S_ .f32 0x3F800000#32)) (addf (broadcastInDim S8x2048x3072 ![] bcast_S_S8x2048x3072 (constant S_ .f32 0x3F800000#32)) (Host.exp (Host.negf (extf .f32 (extractStridedSlice S8x2048x3072 ![0, 0, 4608] (m ((c.tc : Thread nD τ).loc main_arg4)) slices_S8x2048x7680_S8x2048x3072_0_0_4608) bitsLt_bf16_f32))))) slices_S8x2048x3072_S8x2048x1024_0_0_0) (Host.dotGeneral dot_S8x2048x512_S512x1024_S8x2048x1024_2_0_01_1_n_n none (extf .f32 (m ((c.tc : Thread nD τ).loc main_arg1)) bitsLt_bf16_f32) (extf .f32 (m ((c.tc : Thread nD τ).loc main_arg5)) bitsLt_bf16_f32))) (mulf (extractStridedSlice S8x2048x1024 ![0, 0, 1024] (Host.divf (broadcastInDim S8x2048x3072 ![] bcast_S_S8x2048x3072 (constant S_ .f32 0x3F800000#32)) (addf (broadcastInDim S8x2048x3072 ![] bcast_S_S8x2048x3072 (constant S_ .f32 0x3F800000#32)) (Host.exp (Host.negf (extf .f32 (extractStridedSlice S8x2048x3072 ![0, 0, 4608] (m ((c.tc : Thread nD τ).loc main_arg4)) slices_S8x2048x7680_S8x2048x3072_0_0_4608) bitsLt_bf16_f32))))) slices_S8x2048x3072_S8x2048x1024_0_0_1024) (Host.dotGeneral dot_S8x2048x1024_S1024x1024_S8x2048x1024_2_0_01_1_n_n none (extf .f32 (m ((c.tc : Thread nD τ).loc main_arg2)) bitsLt_bf16_f32) (extf .f32 (m ((c.tc : Thread nD τ).loc main_arg6)) bitsLt_bf16_f32)))) (mulf (extractStridedSlice S8x2048x1024 ![0, 0, 2048] (Host.divf (broadcastInDim S8x2048x3072 ![] bcast_S_S8x2048x3072 (constant S_ .f32 0x3F800000#32)) (addf (broadcastInDim S8x2048x3072 ![] bcast_S_S8x2048x3072 (constant S_ .f32 0x3F800000#32)) (Host.exp (Host.negf (extf .f32 (extractStridedSlice S8x2048x3072 ![0, 0, 4608] (m ((c.tc : Thread nD τ).loc main_arg4)) slices_S8x2048x7680_S8x2048x3072_0_0_4608) bitsLt_bf16_f32))))) slices_S8x2048x3072_S8x2048x1024_0_0_2048) (Host.dotGeneral dot_S8x2048x512_S512x1024_S8x2048x1024_2_0_01_1_n_n none (extf .f32 (m ((c.tc : Thread nD τ).loc main_arg3)) bitsLt_bf16_f32) (extf .f32 (m ((c.tc : Thread nD τ).loc main_arg7)) bitsLt_bf16_f32)))) (extf .f32 (m ((c.tc : Thread nD τ).loc main_arg8)) bitsLt_bf16_f32)) = hidA m c := by
  funext i
  idx_vars i
  pointwise [hidA, hid, three, two, gate]
  rfl

/-- The composed term of the reference's second result. -/
theorem nrm_eq : Cert.Reference3Ideal.Value.res_main_v41 (F := Ideal) m c = nrmA m c := by
  unfold Cert.Reference3Ideal.Value.res_main_v41 nrmA
  rw [hid_eq]
  funext i
  generalize hidA m c = h
  idx_vars i
  pointwise [nrm]

/-- The residual of arguments that agree with the kernel's is the kernel's. -/
theorem hidA_agree (m : (ℓ : Loc Cert.Kernel3Ideal.nD Cert.Kernel3Ideal.τ Cert.Kernel3Ideal.sig) → Buf (Elt Ideal) ℓ)
    (m' : (ℓ : Loc nD τ sig) → Buf (Elt Ideal) ℓ) (c : Dev nD)
    (h : m' ((c.tc : Thread nD τ).loc main_arg0) = m ((c.tc : Thread Cert.Kernel3Ideal.nD Cert.Kernel3Ideal.τ).loc Cert.Kernel3Ideal.main_arg0)
      ∧ m' ((c.tc : Thread nD τ).loc main_arg1) = m ((c.tc : Thread Cert.Kernel3Ideal.nD Cert.Kernel3Ideal.τ).loc Cert.Kernel3Ideal.main_arg1)
      ∧ m' ((c.tc : Thread nD τ).loc main_arg2) = m ((c.tc : Thread Cert.Kernel3Ideal.nD Cert.Kernel3Ideal.τ).loc Cert.Kernel3Ideal.main_arg2)
      ∧ m' ((c.tc : Thread nD τ).loc main_arg3) = m ((c.tc : Thread Cert.Kernel3Ideal.nD Cert.Kernel3Ideal.τ).loc Cert.Kernel3Ideal.main_arg3)
      ∧ m' ((c.tc : Thread nD τ).loc main_arg4) = m ((c.tc : Thread Cert.Kernel3Ideal.nD Cert.Kernel3Ideal.τ).loc Cert.Kernel3Ideal.main_arg4)
      ∧ m' ((c.tc : Thread nD τ).loc main_arg5) = m ((c.tc : Thread Cert.Kernel3Ideal.nD Cert.Kernel3Ideal.τ).loc Cert.Kernel3Ideal.main_arg5)
      ∧ m' ((c.tc : Thread nD τ).loc main_arg6) = m ((c.tc : Thread Cert.Kernel3Ideal.nD Cert.Kernel3Ideal.τ).loc Cert.Kernel3Ideal.main_arg6)
      ∧ m' ((c.tc : Thread nD τ).loc main_arg7) = m ((c.tc : Thread Cert.Kernel3Ideal.nD Cert.Kernel3Ideal.τ).loc Cert.Kernel3Ideal.main_arg7)
      ∧ m' ((c.tc : Thread nD τ).loc main_arg8) = m ((c.tc : Thread Cert.Kernel3Ideal.nD Cert.Kernel3Ideal.τ).loc Cert.Kernel3Ideal.main_arg8)
      ∧ m' ((c.tc : Thread nD τ).loc main_arg9) = m ((c.tc : Thread Cert.Kernel3Ideal.nD Cert.Kernel3Ideal.τ).loc Cert.Kernel3Ideal.main_arg9)) : hidA m' c = Cert.Kernel3Ideal.Merge.hidA m c := by
  obtain ⟨h0, h1, h2, h3, h4, h5, h6, h7, h8, h9⟩ := h
  unfold hidA Cert.Kernel3Ideal.Merge.hidA
  rw [h0, h1, h2, h3, h4, h5, h6, h7, h8]

/-- The normalised rows of arguments that agree with the kernel's are the kernel's. -/
theorem nrmA_agree (m : (ℓ : Loc Cert.Kernel3Ideal.nD Cert.Kernel3Ideal.τ Cert.Kernel3Ideal.sig) → Buf (Elt Ideal) ℓ)
    (m' : (ℓ : Loc nD τ sig) → Buf (Elt Ideal) ℓ) (c : Dev nD)
    (h : m' ((c.tc : Thread nD τ).loc main_arg0) = m ((c.tc : Thread Cert.Kernel3Ideal.nD Cert.Kernel3Ideal.τ).loc Cert.Kernel3Ideal.main_arg0)
      ∧ m' ((c.tc : Thread nD τ).loc main_arg1) = m ((c.tc : Thread Cert.Kernel3Ideal.nD Cert.Kernel3Ideal.τ).loc Cert.Kernel3Ideal.main_arg1)
      ∧ m' ((c.tc : Thread nD τ).loc main_arg2) = m ((c.tc : Thread Cert.Kernel3Ideal.nD Cert.Kernel3Ideal.τ).loc Cert.Kernel3Ideal.main_arg2)
      ∧ m' ((c.tc : Thread nD τ).loc main_arg3) = m ((c.tc : Thread Cert.Kernel3Ideal.nD Cert.Kernel3Ideal.τ).loc Cert.Kernel3Ideal.main_arg3)
      ∧ m' ((c.tc : Thread nD τ).loc main_arg4) = m ((c.tc : Thread Cert.Kernel3Ideal.nD Cert.Kernel3Ideal.τ).loc Cert.Kernel3Ideal.main_arg4)
      ∧ m' ((c.tc : Thread nD τ).loc main_arg5) = m ((c.tc : Thread Cert.Kernel3Ideal.nD Cert.Kernel3Ideal.τ).loc Cert.Kernel3Ideal.main_arg5)
      ∧ m' ((c.tc : Thread nD τ).loc main_arg6) = m ((c.tc : Thread Cert.Kernel3Ideal.nD Cert.Kernel3Ideal.τ).loc Cert.Kernel3Ideal.main_arg6)
      ∧ m' ((c.tc : Thread nD τ).loc main_arg7) = m ((c.tc : Thread Cert.Kernel3Ideal.nD Cert.Kernel3Ideal.τ).loc Cert.Kernel3Ideal.main_arg7)
      ∧ m' ((c.tc : Thread nD τ).loc main_arg8) = m ((c.tc : Thread Cert.Kernel3Ideal.nD Cert.Kernel3Ideal.τ).loc Cert.Kernel3Ideal.main_arg8)
      ∧ m' ((c.tc : Thread nD τ).loc main_arg9) = m ((c.tc : Thread Cert.Kernel3Ideal.nD Cert.Kernel3Ideal.τ).loc Cert.Kernel3Ideal.main_arg9)) : nrmA m' c = Cert.Kernel3Ideal.Merge.nrmA m c := by
  unfold nrmA Cert.Kernel3Ideal.Merge.nrmA
  rw [hidA_agree m m' c h, h.2.2.2.2.2.2.2.2.2]

end Cert.Reference3Ideal.Merge

end
-- ==== Proof.ProjRunA.lean ====
module

public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gen.Kernel4Ideal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel4Ideal.Proj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the branch of the body, at grid coordinates `i`. -/
abbrev cond0_0 (i : grid0.Coords) : Prop := k0_cond1 i = 1#1
/-- The branch is taken at the points 0, 32 and 64, where a column tile starts. -/
theorem hcond0_0 : ∀ t : Fin cfg0.N, cond0_0 (grid0.coords t) ↔ t.val % 32 = 0 :=
  (fun t => by
    have ht : t.val < 96 := Nat.lt_of_lt_of_eq t.isLt N_0
    have e0 : (grid0.coords t 0).val = t.val / 32 % 3 := Pipeline.Grid.coords_val t 0 (by decide) rfl
    have e1 : (grid0.coords t 1).val = t.val / 4 % 8 := Pipeline.Grid.coords_val t 1 (by decide) rfl
    have e2 : (grid0.coords t 2).val = t.val / 1 % 4 := Pipeline.Grid.coords_val t 2 (by decide) rfl
    simp only [cond0_0, k0_cond1, e0, e1, e2]
    word_cmp
   : ∀ t : Fin grid0.N, cond0_0 (grid0.coords t) ↔ t.val % 32 = 0)

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- Whether the second output's buffer holds nothing stored by the body, before each point: at the points 0, 32, 64 and after the last. -/
def freshTab0_5 : ℕ → Bool
  | 0 => true
  | n + 1 => (0x800000008000000080000000 : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- Where a column tile starts, the body stores into the second output. -/
theorem liveAt0_5_A : ∀ t : Fin cfg0.N, cond0_0 (grid0.coords t) → cfg0.idle 5 (grid0.coords t) = false := by decide +kernel
/-- At the points of case B the body stores nothing into output 5: the window is idle there. -/
theorem idleAt0_5_B : ∀ t : Fin cfg0.N, ¬cond0_0 (grid0.coords t) → cfg0.idle 5 (grid0.coords t) = true := by decide +kernel
/-- At every other point the buffer of the second output is not fresh. -/
theorem notFresh0_5_B : ∀ t : Fin cfg0.N, ¬cond0_0 (grid0.coords t) → cfg0.fresh 5 t.val = false := by
  intro t; rw [fresh0_5_eq t]; revert t; decide +kernel

/-- One staging buffer of output window 4, through which its contents are stated (`View.read_writes_of_cover`: the
    choice does not matter). -/
abbrev VO0_4 : View sig .tc .vmem S1x512x2560 .bf16 := (Memref.whole cc0_stg4_0 : Memref sig .tc .vmem S1x512x2560 .bf16).view
/-- One staging buffer of output window 5, through which its contents are stated (`View.read_writes_of_cover`: the
    choice does not matter). -/
abbrev VO0_5 : View sig .tc .vmem S128x2560 .bf16 := (Memref.whole cc0_stg5_0 : Memref sig .tc .vmem S128x2560 .bf16).view
/-- Each window's buffer at point `t`, and that it is whole. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x2560 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x2560 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x2560 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x2560 .bf16 := Memref.whole cc0_scratch0
/-- The scratch `arg9` the kernel carries between points, as a view: what it holds is stated through it. -/
abbrev VS0_0 : View sig .tc .vmem S1024x2560 .bf16 := scM0_0.view

/-- The invariant at the launch: the scratch at some contents and the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- The body at a point that starts a column tile (points 0, 32, 64): from the inputs at their contents and the two outputs and the scratch at anything, it ends with the inputs unchanged and with the listed pieces written into the two outputs and into the scratch. -/
noncomputable def kernelRun0_A (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x1024x2560 .f32) (harg5 : arg5.IsWhole) (arg6 : Memref sig .tc .vmem S128x1024 .f32) (harg6 : arg6.IsWhole) (arg7 : Memref sig .tc .vmem S1x512x2560 .bf16) (harg7 : arg7.IsWhole) (arg8 : Memref sig .tc .vmem S128x2560 .bf16) (harg8 : arg8.IsWhole) (arg9 : Memref sig .tc .vmem S1024x2560 .bf16) (harg9 : arg9.IsWhole) (hc0 : cond0_0 i)
    (x0 : Vec F S1x512x1024 .f32) (x1 : Vec F S1x1024 .f32) (x2 : Vec F S1x1024x2560 .f32) (x3 : Vec F S128x1024 .f32) :
    Σ' (L4 : List (View.Piece (Elt F) S1x512x2560 .bf16)), Σ' (L5 : List (View.Piece (Elt F) S128x2560 .bf16)), { LS0 : List (View.Piece (Elt F) S1024x2560 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc0_norm_proj i arg3 harg3 arg4 harg4 arg5 harg5 arg6 harg6 arg7 harg7 arg8 harg8 arg9 harg9) K } := by
  refine ⟨?_, ?_, ?_, fun E K => ?run⟩
  case run =>
    simp only [cc0_norm_proj_eq_skeleton]; unfold cc0_norm_proj_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact HS0

end Cert.Kernel4Ideal.Proj

end
-- ==== Proof.ProjRunB.lean ====
module

public import proofs.«01_k».proof.Proof.ProjRunA

@[expose] public section

set_option maxRecDepth 16384

noncomputable section

namespace Cert.Kernel4Ideal.Proj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at any other point: from the inputs, the second output `xo5` and the scratch `xs0` at their contents, it ends with all of these unchanged and with the listed pieces written into the first output. -/
noncomputable def kernelRun0_B (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x1024x2560 .f32) (harg5 : arg5.IsWhole) (arg6 : Memref sig .tc .vmem S128x1024 .f32) (harg6 : arg6.IsWhole) (arg7 : Memref sig .tc .vmem S1x512x2560 .bf16) (harg7 : arg7.IsWhole) (arg8 : Memref sig .tc .vmem S128x2560 .bf16) (harg8 : arg8.IsWhole) (arg9 : Memref sig .tc .vmem S1024x2560 .bf16) (harg9 : arg9.IsWhole) (hc0 : ¬cond0_0 i)
    (x0 : Vec F S1x512x1024 .f32) (x1 : Vec F S1x1024 .f32) (x2 : Vec F S1x1024x2560 .f32) (x3 : Vec F S128x1024 .f32) (xo5 : Vec F S128x2560 .bf16) (xs0 : Vec F S1024x2560 .bf16) :
    Σ' (L4 : List (View.Piece (Elt F) S1x512x2560 .bf16)), Σ' (L5 : List (View.Piece (Elt F) S128x2560 .bf16)), { LS0 : List (View.Piece (Elt F) S1024x2560 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xo5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ owns (c : Thread nD τ) arg8 fullShare xo5 ∗ owns (c : Thread nD τ) arg9 fullShare xs0) -∗ K ⟨⟩))
          ⊢ wp frame (wpE (defs₀ (F := F)) Variants.none c none) E (cc0_norm_proj i arg3 harg3 arg4 harg4 arg5 harg5 arg6 harg6 arg7 harg7 arg8 harg8 arg9 harg9) K } := by
  refine ⟨?_, [], [], fun E K => ?run⟩
  case run =>
    simp only [cc0_norm_proj_eq_skeleton]; unfold cc0_norm_proj_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hf5; obtain rfl := harg9.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]
    · iexists _; isplitr; · ipureintro; exact harg8.read_unread _
      iexact H5
    iexists _; isplitr; · ipureintro; exact harg9.read_unread _
    iexact HS0

end Cert.Kernel4Ideal.Proj

end
-- ==== Proof.ProjFrame.lean ====
module

public import proofs.«01_k».proof.Proof.ProjRunB
public import Idealize.ShloMosaic.Lib.Claim
public import Idealize.ShloMosaic.Lib.Pipeline.Value

@[expose] public section

set_option maxRecDepth 16384

noncomputable section

namespace Cert.Kernel4Ideal.Proj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces of case A for output 4 cover it. -/
theorem cover0_A_4 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x1024x2560 .f32) (harg5 : arg5.IsWhole) (arg6 : Memref sig .tc .vmem S128x1024 .f32) (harg6 : arg6.IsWhole) (arg7 : Memref sig .tc .vmem S1x512x2560 .bf16) (harg7 : arg7.IsWhole) (arg8 : Memref sig .tc .vmem S128x2560 .bf16) (harg8 : arg8.IsWhole) (arg9 : Memref sig .tc .vmem S1024x2560 .bf16) (harg9 : arg9.IsWhole) (hc0 : cond0_0 i)
    (x0 : Vec F S1x512x1024 .f32) (x1 : Vec F S1x1024 .f32) (x2 : Vec F S1x1024x2560 .f32) (x3 : Vec F S128x1024 .f32) (y : S1x512x2560.Idx) :
    ∃ pc ∈ (kernelRun0_A c i arg3 harg3 arg4 harg4 arg5 harg5 arg6 harg6 arg7 harg7 arg8 harg8 arg9 harg9 hc0 x0 x1 x2 x3).1, y ∈ pc.1.set :=
  View.cover_of_tiledL (kernelRun0_A c i arg3 harg3 arg4 harg4 arg5 harg5 arg6 harg6 arg7 harg7 arg8 harg8 arg9 harg9 hc0 x0 x1 x2 x3).1 S1x256x2560.size (by sl_kernel_rfl) y

/-- What case A leaves in output 4. -/
def out0_A_4 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x1024x2560 .f32) (harg5 : arg5.IsWhole) (arg6 : Memref sig .tc .vmem S128x1024 .f32) (harg6 : arg6.IsWhole) (arg7 : Memref sig .tc .vmem S1x512x2560 .bf16) (harg7 : arg7.IsWhole) (arg8 : Memref sig .tc .vmem S128x2560 .bf16) (harg8 : arg8.IsWhole) (arg9 : Memref sig .tc .vmem S1024x2560 .bf16) (harg9 : arg9.IsWhole) (hc0 : cond0_0 i)
    (x0 : Vec F S1x512x1024 .f32) (x1 : Vec F S1x1024 .f32) (x2 : Vec F S1x1024x2560 .f32) (x3 : Vec F S128x1024 .f32) : Vec F S1x512x2560 .bf16 :=
  VO0_4.read (Elt F) (VO0_4.writes (Elt F) VO0_4.junk (kernelRun0_A c i arg3 harg3 arg4 harg4 arg5 harg5 arg6 harg6 arg7 harg7 arg8 harg8 arg9 harg9 hc0 x0 x1 x2 x3).1)

/-- The pieces of case A for output 5 cover it. -/
theorem cover0_A_5 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x1024x2560 .f32) (harg5 : arg5.IsWhole) (arg6 : Memref sig .tc .vmem S128x1024 .f32) (harg6 : arg6.IsWhole) (arg7 : Memref sig .tc .vmem S1x512x2560 .bf16) (harg7 : arg7.IsWhole) (arg8 : Memref sig .tc .vmem S128x2560 .bf16) (harg8 : arg8.IsWhole) (arg9 : Memref sig .tc .vmem S1024x2560 .bf16) (harg9 : arg9.IsWhole) (hc0 : cond0_0 i)
    (x0 : Vec F S1x512x1024 .f32) (x1 : Vec F S1x1024 .f32) (x2 : Vec F S1x1024x2560 .f32) (x3 : Vec F S128x1024 .f32) (y : S128x2560.Idx) :
    ∃ pc ∈ (kernelRun0_A c i arg3 harg3 arg4 harg4 arg5 harg5 arg6 harg6 arg7 harg7 arg8 harg8 arg9 harg9 hc0 x0 x1 x2 x3).2.1, y ∈ pc.1.set :=
  View.cover_of_tiledL (kernelRun0_A c i arg3 harg3 arg4 harg4 arg5 harg5 arg6 harg6 arg7 harg7 arg8 harg8 arg9 harg9 hc0 x0 x1 x2 x3).2.1 S128x2560.size (by sl_kernel_rfl) y

/-- What case A leaves in output 5. -/
def out0_A_5 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x1024x2560 .f32) (harg5 : arg5.IsWhole) (arg6 : Memref sig .tc .vmem S128x1024 .f32) (harg6 : arg6.IsWhole) (arg7 : Memref sig .tc .vmem S1x512x2560 .bf16) (harg7 : arg7.IsWhole) (arg8 : Memref sig .tc .vmem S128x2560 .bf16) (harg8 : arg8.IsWhole) (arg9 : Memref sig .tc .vmem S1024x2560 .bf16) (harg9 : arg9.IsWhole) (hc0 : cond0_0 i)
    (x0 : Vec F S1x512x1024 .f32) (x1 : Vec F S1x1024 .f32) (x2 : Vec F S1x1024x2560 .f32) (x3 : Vec F S128x1024 .f32) : Vec F S128x2560 .bf16 :=
  VO0_5.read (Elt F) (VO0_5.writes (Elt F) VO0_5.junk (kernelRun0_A c i arg3 harg3 arg4 harg4 arg5 harg5 arg6 harg6 arg7 harg7 arg8 harg8 arg9 harg9 hc0 x0 x1 x2 x3).2.1)

/-- The pieces of case A for the scratch cover it. -/
theorem scover0_A_0 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x1024x2560 .f32) (harg5 : arg5.IsWhole) (arg6 : Memref sig .tc .vmem S128x1024 .f32) (harg6 : arg6.IsWhole) (arg7 : Memref sig .tc .vmem S1x512x2560 .bf16) (harg7 : arg7.IsWhole) (arg8 : Memref sig .tc .vmem S128x2560 .bf16) (harg8 : arg8.IsWhole) (arg9 : Memref sig .tc .vmem S1024x2560 .bf16) (harg9 : arg9.IsWhole) (hc0 : cond0_0 i)
    (x0 : Vec F S1x512x1024 .f32) (x1 : Vec F S1x1024 .f32) (x2 : Vec F S1x1024x2560 .f32) (x3 : Vec F S128x1024 .f32) (y : S1024x2560.Idx) :
    ∃ pc ∈ (kernelRun0_A c i arg3 harg3 arg4 harg4 arg5 harg5 arg6 harg6 arg7 harg7 arg8 harg8 arg9 harg9 hc0 x0 x1 x2 x3).2.2.1, y ∈ pc.1.set :=
  View.cover_of_tiledL (kernelRun0_A c i arg3 harg3 arg4 harg4 arg5 harg5 arg6 harg6 arg7 harg7 arg8 harg8 arg9 harg9 hc0 x0 x1 x2 x3).2.2.1 S1024x2560.size (by sl_kernel_rfl) y

/-- What case A leaves in the scratch. -/
def sout0_A_0 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x1024x2560 .f32) (harg5 : arg5.IsWhole) (arg6 : Memref sig .tc .vmem S128x1024 .f32) (harg6 : arg6.IsWhole) (arg7 : Memref sig .tc .vmem S1x512x2560 .bf16) (harg7 : arg7.IsWhole) (arg8 : Memref sig .tc .vmem S128x2560 .bf16) (harg8 : arg8.IsWhole) (arg9 : Memref sig .tc .vmem S1024x2560 .bf16) (harg9 : arg9.IsWhole) (hc0 : cond0_0 i)
    (x0 : Vec F S1x512x1024 .f32) (x1 : Vec F S1x1024 .f32) (x2 : Vec F S1x1024x2560 .f32) (x3 : Vec F S128x1024 .f32) : Vec F S1024x2560 .bf16 :=
  VS0_0.read (Elt F) (VS0_0.writes (Elt F) VS0_0.junk (kernelRun0_A c i arg3 harg3 arg4 harg4 arg5 harg5 arg6 harg6 arg7 harg7 arg8 harg8 arg9 harg9 hc0 x0 x1 x2 x3).2.2.1)

/-- The pieces of case B for output 4 cover it. -/
theorem cover0_B_4 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x1024x2560 .f32) (harg5 : arg5.IsWhole) (arg6 : Memref sig .tc .vmem S128x1024 .f32) (harg6 : arg6.IsWhole) (arg7 : Memref sig .tc .vmem S1x512x2560 .bf16) (harg7 : arg7.IsWhole) (arg8 : Memref sig .tc .vmem S128x2560 .bf16) (harg8 : arg8.IsWhole) (arg9 : Memref sig .tc .vmem S1024x2560 .bf16) (harg9 : arg9.IsWhole) (hc0 : ¬cond0_0 i)
    (x0 : Vec F S1x512x1024 .f32) (x1 : Vec F S1x1024 .f32) (x2 : Vec F S1x1024x2560 .f32) (x3 : Vec F S128x1024 .f32) (xo5 : Vec F S128x2560 .bf16) (xs0 : Vec F S1024x2560 .bf16) (y : S1x512x2560.Idx) :
    ∃ pc ∈ (kernelRun0_B c i arg3 harg3 arg4 harg4 arg5 harg5 arg6 harg6 arg7 harg7 arg8 harg8 arg9 harg9 hc0 x0 x1 x2 x3 xo5 xs0).1, y ∈ pc.1.set :=
  View.cover_of_tiledL (kernelRun0_B c i arg3 harg3 arg4 harg4 arg5 harg5 arg6 harg6 arg7 harg7 arg8 harg8 arg9 harg9 hc0 x0 x1 x2 x3 xo5 xs0).1 S1x256x2560.size (by sl_kernel_rfl) y

/-- What case B leaves in output 4. -/
def out0_B_4 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x1024x2560 .f32) (harg5 : arg5.IsWhole) (arg6 : Memref sig .tc .vmem S128x1024 .f32) (harg6 : arg6.IsWhole) (arg7 : Memref sig .tc .vmem S1x512x2560 .bf16) (harg7 : arg7.IsWhole) (arg8 : Memref sig .tc .vmem S128x2560 .bf16) (harg8 : arg8.IsWhole) (arg9 : Memref sig .tc .vmem S1024x2560 .bf16) (harg9 : arg9.IsWhole) (hc0 : ¬cond0_0 i)
    (x0 : Vec F S1x512x1024 .f32) (x1 : Vec F S1x1024 .f32) (x2 : Vec F S1x1024x2560 .f32) (x3 : Vec F S128x1024 .f32) (xo5 : Vec F S128x2560 .bf16) (xs0 : Vec F S1024x2560 .bf16) : Vec F S1x512x2560 .bf16 :=
  VO0_4.read (Elt F) (VO0_4.writes (Elt F) VO0_4.junk (kernelRun0_B c i arg3 harg3 arg4 harg4 arg5 harg5 arg6 harg6 arg7 harg7 arg8 harg8 arg9 harg9 hc0 x0 x1 x2 x3 xo5 xs0).1)

/-- What case B leaves in output 5. -/
def out0_B_5 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x1024x2560 .f32) (harg5 : arg5.IsWhole) (arg6 : Memref sig .tc .vmem S128x1024 .f32) (harg6 : arg6.IsWhole) (arg7 : Memref sig .tc .vmem S1x512x2560 .bf16) (harg7 : arg7.IsWhole) (arg8 : Memref sig .tc .vmem S128x2560 .bf16) (harg8 : arg8.IsWhole) (arg9 : Memref sig .tc .vmem S1024x2560 .bf16) (harg9 : arg9.IsWhole) (hc0 : ¬cond0_0 i)
    (x0 : Vec F S1x512x1024 .f32) (x1 : Vec F S1x1024 .f32) (x2 : Vec F S1x1024x2560 .f32) (x3 : Vec F S128x1024 .f32) (xo5 : Vec F S128x2560 .bf16) (xs0 : Vec F S1024x2560 .bf16) : Vec F S128x2560 .bf16 := xo5

/-- What case B leaves in the scratch. -/
def sout0_B_0 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x1024x2560 .f32) (harg5 : arg5.IsWhole) (arg6 : Memref sig .tc .vmem S128x1024 .f32) (harg6 : arg6.IsWhole) (arg7 : Memref sig .tc .vmem S1x512x2560 .bf16) (harg7 : arg7.IsWhole) (arg8 : Memref sig .tc .vmem S128x2560 .bf16) (harg8 : arg8.IsWhole) (arg9 : Memref sig .tc .vmem S1024x2560 .bf16) (harg9 : arg9.IsWhole) (hc0 : ¬cond0_0 i)
    (x0 : Vec F S1x512x1024 .f32) (x1 : Vec F S1x1024 .f32) (x2 : Vec F S1x1024x2560 .f32) (x3 : Vec F S128x1024 .f32) (xo5 : Vec F S128x2560 .bf16) (xs0 : Vec F S1024x2560 .bf16) : Vec F S1024x2560 .bf16 := xs0

/-! ## What the outputs hold after each point -/

/-- What the two outputs' buffers and the scratch hold after point `n`. Where a column tile starts all three are stored; elsewhere only the first output is, and the other two are carried over. -/
def outsAt0 (c : Dev nD) : (n : ℕ) → n < cfg0.N → Vec F S1x512x2560 .bf16 × Vec F S128x2560 .bf16 × Vec F S1024x2560 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 32 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)

/-- `outsAt0` where a column tile starts. -/
theorem outsAt0_A (c : Dev nD) (t : Fin cfg0.N) (h0 : t.val % 32 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at any other point. -/
theorem outsAt0_B (c : Dev nD) (t : Fin cfg0.N) (h0 : ¬t.val % 32 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The invariant before point `n`: the scratch at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- The invariant after point `n`. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- The invariant before a point that is not the first. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data of the pipeline: the arrays as the region finds them, after each point the inputs at their blocks and the outputs at `outsAt0`, and the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q _ := fullShare
  owed _ := 0

/-- The arrays of the proof data are those that the region finds. -/
theorem A_eq (c : Dev nD) (w : Fin cfg0.W) : (dats m 0 c).A w = V m c (Pipeline.arrRef spec0 w) := by
  dsimp only [dats]

/-- The invariant at the start of a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What each point leaves in each window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

/-- Before each point, each input's buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At a point that stores nothing into the second output, its contents are those of the point before. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 96 := lt_of_lt_of_eq t.isLt (show cfg0.N = 96 from N_0)
  rw [after0_5, after0_5]
  by_cases h0 : t.val % 32 = 0
  · rw [liveAt0_5_A t ((hcond0_0 t).mpr h0)] at hi
    exact absurd hi Bool.false_ne_true
  · rw [outsAt0_B m c t h0]
    rfl
/-- At such a point the second output's buffer holds what the point before left. -/
theorem before0_5_B (c : Dev nD) (t : Fin cfg0.N) (h0 : ¬t.val % 32 = 0) (d) :
    (dats m 0 c).before 5 t d = (outsAt0 m c (t.val - 1) (Nat.lt_of_le_of_lt (Nat.sub_le _ _) t.isLt)).2.1 := by
  rw [Dat.before_out_traj _ 5 rfl (fun _ _ => rfl) (hcarry0_5 m c) t.val t rfl d,
    if_neg (by rw [notFresh0_5_B t (fun h => h0 ((hcond0_0 t).mp h))]; exact Bool.false_ne_true)]
  dsimp only [dats]

/-- At a point that stores nothing into the second output the body hands its buffer back as it found it: what the point
    before left there, which is also what is written back where the column tile ends. -/
theorem leaves0_5_B (c : Dev nD) (t : Fin cfg0.N) (h0 : ¬t.val % 32 = 0) :
    owns (c : Thread nD τ) (ms0_5 t) fullShare ((outsAt0 m c (t.val - 1) (Nat.lt_of_le_of_lt (Nat.sub_le _ _) t.isLt)).2.1)
      ⊢ ((dats m 0 c).leavesExact 5 t : sProp 𝕄) := by
  have hi : cfg0.idle 5 (cfg0.grid.coords t) = true := idleAt0_5_B t (fun h => h0 ((hcond0_0 t).mp h))
  cases hf : (cfg0.win 5).flush t
  · rw [Dat.leavesExact_idle _ 5 t hi hf]
    simp only [before0_5_B m c t h0]
    iintro H
    iexists ((outsAt0 m c (t.val - 1) (Nat.lt_of_le_of_lt (Nat.sub_le _ _) t.isLt)).2.1)
    iexact H
  · rw [show (dats m 0 c).leavesExact 5 t = owns (c : Thread nD τ) (ms0_5 t) fullShare ((dats m 0 c).after 5 t) from by
      unfold Dat.leavesExact; rw [hi, hf], after0_5, outsAt0_B m c t h0]
    exact Idealize.SL.BI.Entails.refl _

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 3200000 in
/-- The body is correct at every point. Where a column tile starts it runs by `kernelRun0_A`, elsewhere by `kernelRun0_B`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 96 := lt_of_lt_of_eq t.isLt (show cfg0.N = 96 from N_0)
  by_cases h0 : t.val % 32 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5_A t ((hcond0_0 t).mpr h0)], after0_5]
    by_cases hz : t.val = 0
    · rw [PhiS_castSucc m c t, PhiS_zero m c _ _ hz, PhiA0_eq]
      rw [outsAt0_A m c t h0]
      unfold out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
    · rw [PhiS_castSucc m c t, PhiS_pos m c _ _ hz]
      rw [outsAt0_A m c t h0]
      unfold out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    by_cases hz : t.val = 0
    · exfalso; have hN : t.val < 96 := lt_of_lt_of_eq t.isLt (show cfg0.N = 96 from N_0); omega
    · rw [PhiS_castSucc m c t, PhiS_pos m c _ _ hz]
      rw [outsAt0_B m c t h0]
      simp only [before0_5_B m c t h0]
      unfold out0_B_4 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (iblk m c 0 t) (iblk m c 1 t) (iblk m c 2 t) (iblk m c 3 t) _ _).2.2.2 Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      iintro ⟨H0, H1, H2, H3, ⟨%e4, H4⟩, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _)
      iapply (leaves0_5_B m c t h0)
      iexact H5

/-- The body that the pipeline calls at point `t`, spelled out. -/
theorem defs₀_row (t : Fin cfg0.N) :
    defs₀ (F := F) .tc cfg0.body (cfg0.bodyArgs t (cfg0.slots t)) = bodyAt0 t := by
  unfold defs₀; rw [Defs.onTc_tc]

/-- The obligation that the pipeline lays on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch gives the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- So it does after the last point. -/
theorem hout (c : Dev nD) : (dats m 0 c).Φ (Fin.last cfg0.N) ⊢ Pipeline.ΦA spec0 c :=
  Phi_out m c _ (by rw [Fin.val_last]; have : cfg0.N = 96 := N_0; omega)

/-! ## The run and the frame -/

set_option backward.isDefEq.respectTransparency.types false in
/-- The program terminates with every array at its contents by the proof data, and with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The program terminates, its arguments end unchanged, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v1_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v1_1) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 3 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 2 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 2).trans (((dats m 0 c).arrAt_in 2 rfl _).trans ((A_eq m c 2).trans (V_main_arg3 m c)))

/-- The program terminates with each result at its array by the proof data, and with its arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 4 cfg0.N
      ∧ r.2.mem ((c : Thread nD τ).loc main_v1_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      kept_main_arg0 m r h c,
      kept_main_arg1 m r h c,
      kept_main_arg2 m r h c,
      kept_main_arg3 m r h c⟩)
    (run_main m ρ)

end Cert.Kernel4Ideal.Proj

end
-- ==== Proof.Proj.lean ====
module

public import proofs.«01_k».proof.Proof.ProjFrame
public import proofs.«01_k».proof.Proof.Merge
public import proofs.«01_k».proof.Proof.Gen.Reference4Ideal.Run
public import Idealize.ShloMosaic.Lib.Pipeline.ValueKit
public import Idealize.ShloMosaic.Lib.Pipeline.ReadBack
public import Idealize.ShloMosaic.Lib.Pointwise
public import Idealize.ShloMosaic.Lib.ViewIndex

@[expose] public section

set_option maxRecDepth 16384

open Idealize.ShloMosaic Idealize.ShloMosaic.TcCoe Idealize.SL.Sem

noncomputable section

namespace Cert.Kernel4Ideal.Proj

open Cert.Kernel4Ideal Cert.Kernel4Ideal.Gen
open Cert.Kernel3Ideal.Merge (nrm)

/-- The projection of a row `h`: normalised, scaled by `g`, times a weight column `w`. -/
def prj (h g w : Fin 1024 → EReal) : EReal := ∑ l : Fin 1024, nrm h g l * w l

/-- The first half's store at an element. -/
theorem pay4_at (x : FVec Ideal S1x256x1024 .f32) (g : FVec Ideal S1x1024 .f32) (w : FVec Ideal S1024x2560 .bf16)
    (y : S1x256x2560.Idx) : k0_pay4 (F := Ideal) x g w y
      = prj (fun k => x (ix3 0 (y 1) k)) (fun k => g (ix2 0 k)) (fun l => w (ix2 l (y 2))) := by
  pointwise [k0_pay4, prj, nrm]

/-- The second half's store at an element. -/
theorem pay1_at (x : FVec Ideal S1x256x1024 .f32) (g : FVec Ideal S1x1024 .f32) (w : FVec Ideal S1024x2560 .bf16)
    (y : S1x256x2560.Idx) : k0_pay1 (F := Ideal) (k0_pay5 x) (k0_pay6 x) (Scalar.ofBits .f32 0x44800000#32) g w y
      = prj (fun k => x (ix3 0 (y 1) k)) (fun k => g (ix2 0 k)) (fun l => w (ix2 l (y 2))) := by
  pointwise [k0_pay1, k0_pay5, k0_pay6, prj, nrm]

/-- The sample rows' store at an element. -/
theorem pay3_at (x : FVec Ideal S128x1024 .f32) (g : FVec Ideal S1x1024 .f32) (w : FVec Ideal S1024x2560 .bf16)
    (y : S128x2560.Idx) : k0_pay3 (F := Ideal) x g w y
      = prj (fun k => x (ix2 (y 0) k)) (fun k => g (ix2 0 k)) (fun l => w (ix2 l (y 1))) := by
  pointwise [k0_pay3, prj, nrm]

/-- The stored weight tile at an element. -/
theorem pay2_at (w : FVec Ideal S1x1024x2560 .f32) (y : S1024x2560.Idx) :
    k0_pay2 (F := Ideal) w y = w (ix3 0 (y 0) (y 1)) := by
  pointwise [k0_pay2]

/-- The window indices at a grid point: column tile `t / 32`, batch entry `t / 4 % 8`, row block `t % 4`. -/
theorem idx : ∀ t : Fin cfg0.N, win0_0.index t = ![t.val / 4 % 8, t.val % 4, 0] ∧ win0_1.index t = ![0, 0]
    ∧ win0_2.index t = ![0, 0, t.val / 32] ∧ win0_3.index t = ![0, 0]
    ∧ win0_4.index t = ![t.val / 4 % 8, t.val % 4, t.val / 32] ∧ win0_5.index t = ![0, t.val / 32] :=
  (by decide +kernel : ∀ t : Fin grid0.N, _)

variable (m : (ℓ : Loc nD τ sig) → Buf (Elt Ideal) ℓ)

/-- Every row of a block, projected. -/
def rowsOf (x : FVec Ideal S1x512x1024 .f32) (g : FVec Ideal S1x1024 .f32) (w : FVec Ideal S1024x2560 .bf16) :
    FVec Ideal S1x512x2560 .bf16 := fun y => prj (fun k => x (ix3 0 (y 1) k)) (fun k => g (ix2 0 k)) (fun l => w (ix2 l (y 2)))

/-- The two stores of a grid point, read at an element of the block: the projection of its row. -/
theorem halves (x : FVec Ideal S1x512x1024 .f32) (g : FVec Ideal S1x1024 .f32) (w : FVec Ideal S1024x2560 .bf16) (y : S1x512x2560.Idx) :
    (show FVec Ideal S1x512x2560 .bf16 from View.canon (Val := Elt Ideal) (e := .bf16) [⟨Rect.unit (s := S1x512x2560) ![0, 256, 0] S1x256x2560.size inb_S1x512x2560_S1x256x2560_0_256_0,
        k0_pay1 (F := Ideal)
          (k0_pay5 (View.ld x (Rect.unit (s := S1x512x1024) ![0, 256, 0] S1x256x1024.size inb_S1x512x1024_S1x256x1024_0_256_0)))
          (k0_pay6 (View.ld x (Rect.unit (s := S1x512x1024) ![0, 256, 0] S1x256x1024.size inb_S1x512x1024_S1x256x1024_0_256_0)))
          (Scalar.ofBits .f32 0x44800000#32) g w⟩,
      ⟨Rect.unit (s := S1x512x2560) ![0, 0, 0] S1x256x2560.size inb_S1x512x2560_S1x256x2560_0_0_0,
        k0_pay4 (F := Ideal) (View.ld x (Rect.unit (s := S1x512x1024) ![0, 0, 0] S1x256x1024.size inb_S1x512x1024_S1x256x1024_0_0_0)) g w⟩]) y
      = rowsOf x g w y := by
  refine View.canon_apply_of_pieces (Val := Elt Ideal) (S := S1x512x2560) (e := .bf16) (rowsOf x g w) _ (View.PiecesOf.mem ?_) y ?_
  rotate_left
  · exact View.cover_of_tiledL (s := S1x512x2560) _ S1x256x2560.size (by sl_kernel_rfl) y
  refine ⟨fun z => ?_, fun z => ?_, trivial⟩
  · refine (pay1_at _ _ _ z).trans ?_
    show prj _ _ _ = prj _ _ _
    refine congrArg₂ (fun h v => prj h (fun k => g (ix2 0 k)) v) (funext fun k => ?_) (funext fun l => ?_)
    · exact congrArg x (Shape.idx3_ext rfl rfl (by show 0 + 1 * k.val = k.val; omega))
    · exact congrArg (fun q => w (ix2 l q)) (Fin.ext (by show (z 2).val = 0 + 1 * (z 2).val; omega))
  · refine (pay4_at _ _ _ z).trans ?_
    show prj _ _ _ = prj _ _ _
    refine congrArg₂ (fun h v => prj h (fun k => g (ix2 0 k)) v) (funext fun k => ?_) (funext fun l => ?_)
    · exact congrArg x (Shape.idx3_ext rfl rfl (by show 0 + 1 * k.val = k.val; omega))
    · exact congrArg (fun q => w (ix2 l q)) (Fin.ext (by show (z 2).val = 0 + 1 * (z 2).val; omega))

/-- The scale block's row is the whole scale vector. -/
theorem scale_at (c : Dev nD) (t : Fin cfg0.N) (k : Fin 1024) : (show FVec Ideal S1x1024 .f32 from iblk m c 1 t) (ix2 0 k)
    = (show FVec Ideal S1024 .f32 from m ((c : Thread nD τ).loc main_arg2)) (ix1 k) := by
  blk_point [iblk, V, idx t]

/-- The first output's block where a column tile starts. -/
theorem out4_A (c : Dev nD) (t : Fin cfg0.N) (h : t.val % 32 = 0) (y : S1x512x2560.Idx) :
    (show FVec Ideal S1x512x2560 .bf16 from (outsAt0 m c t.val t.isLt).1) y
      = prj (fun k => (show FVec Ideal S1x512x1024 .f32 from iblk m c 0 t) (ix3 0 (y 1) k))
          (fun k => (show FVec Ideal S1x1024 .f32 from iblk m c 1 t) (ix2 0 k))
          (fun l => (show FVec Ideal S1024x2560 .bf16 from (outsAt0 m c t.val t.isLt).2.2) (ix2 l (y 2))) := by
  have e : (outsAt0 m c t.val t.isLt).2.2 = k0_pay2 (iblk m c 2 t) := by
    rw [outsAt0_A m c t h]
    dsimp only
    unfold sout0_A_0
    funext z
    frame_out
  rw [e, outsAt0_A m c t h]
  dsimp only
  unfold out0_A_4
  frame_out
  exact halves _ _ _ y

/-- The first output's block elsewhere. -/
theorem out4_B (c : Dev nD) (t : Fin cfg0.N) (h : ¬ t.val % 32 = 0) (y : S1x512x2560.Idx) :
    (show FVec Ideal S1x512x2560 .bf16 from (outsAt0 m c t.val t.isLt).1) y
      = prj (fun k => (show FVec Ideal S1x512x1024 .f32 from iblk m c 0 t) (ix3 0 (y 1) k))
          (fun k => (show FVec Ideal S1x1024 .f32 from iblk m c 1 t) (ix2 0 k))
          (fun l => (show FVec Ideal S1024x2560 .bf16 from (outsAt0 m c t.val t.isLt).2.2) (ix2 l (y 2))) := by
  have e : (outsAt0 m c t.val t.isLt).2.2 = (outsAt0 m c (t.val - 1) (Nat.lt_of_le_of_lt (Nat.sub_le _ _) t.isLt)).2.2 := by
    rw [outsAt0_B m c t h]
    rfl
  rw [e, outsAt0_B m c t h]
  dsimp only
  unfold out0_B_4
  frame_out
  rw [read_unread_whole]
  exact halves _ _ _ y

/-- The first output's block after a point, at an element: the projection of its row by the carried weight tile. -/
theorem out4 (c : Dev nD) (t : Fin cfg0.N) (y : S1x512x2560.Idx) :
    (show FVec Ideal S1x512x2560 .bf16 from (outsAt0 m c t.val t.isLt).1) y
      = prj (fun k => (show FVec Ideal S1x512x1024 .f32 from iblk m c 0 t) (ix3 0 (y 1) k))
          (fun k => (show FVec Ideal S1x1024 .f32 from iblk m c 1 t) (ix2 0 k))
          (fun l => (show FVec Ideal S1024x2560 .bf16 from (outsAt0 m c t.val t.isLt).2.2) (ix2 l (y 2))) :=
  if h : t.val % 32 = 0 then out4_A m c t h y else out4_B m c t h y

/-- The carried weight tile, at an element: the tile of the point's column tile. -/
theorem tile (c : Dev nD) : ∀ (n : ℕ) (hn : n < cfg0.N) (l : Fin 1024) (q : Fin 2560),
    (show FVec Ideal S1024x2560 .bf16 from (outsAt0 m c n hn).2.2) (ix2 l q)
      = (show FVec Ideal S2x1024x7680 .f32 from m ((c : Thread nD τ).loc main_arg3)) (ix3 0 l ⟨2560 * (n / 32) + q.val, by have : n < 96 := hn; omega⟩)
  | n, hn, l, q => by
    by_cases h : n % 32 = 0
    · have e : (outsAt0 m c n hn).2.2 = k0_pay2 (iblk m c 2 ⟨n, hn⟩) := by
        rw [outsAt0_A m c ⟨n, hn⟩ h]
        dsimp only
        unfold sout0_A_0
        funext z
        frame_out
      rw [e]
      refine (pay2_at _ _).trans ?_
      blk_point [iblk, V, idx ⟨n, hn⟩]
    · cases n with
      | zero => exact absurd rfl h
      | succ n =>
        have e : (outsAt0 m c (n + 1) hn).2.2 = (outsAt0 m c n (Nat.lt_of_succ_lt hn)).2.2 := by
          rw [outsAt0_B m c ⟨n + 1, hn⟩ h]
          rfl
        rw [e]
        refine (tile c n _ l q).trans ?_
        have : (n + 1) / 32 = n / 32 := by omega
        simp only [this]

/-- The second output's block after a point, at an element: the projection of its sample row. -/
theorem out5 (c : Dev nD) : ∀ (n : ℕ) (hn : n < cfg0.N) (y : S128x2560.Idx),
    (show FVec Ideal S128x2560 .bf16 from (outsAt0 m c n hn).2.1) y
      = prj (fun k => (show FVec Ideal S128x1024 .f32 from m ((c : Thread nD τ).loc main_arg1)) (ix2 (y 0) k))
          (fun k => (show FVec Ideal S1024 .f32 from m ((c : Thread nD τ).loc main_arg2)) (ix1 k))
          (fun l => (show FVec Ideal S1024x2560 .bf16 from (outsAt0 m c n hn).2.2) (ix2 l (y 1)))
  | n, hn, y => by
    by_cases h : n % 32 = 0
    · have e : (outsAt0 m c n hn).2.2 = k0_pay2 (iblk m c 2 ⟨n, hn⟩) := by
        rw [outsAt0_A m c ⟨n, hn⟩ h]
        dsimp only
        unfold sout0_A_0
        funext z
        frame_out
      rw [e, outsAt0_A m c ⟨n, hn⟩ h]
      dsimp only
      unfold out0_A_5
      frame_out
      refine (pay3_at _ _ _ y).trans ?_
      have e3 : ∀ k : Fin 1024, (show FVec Ideal S128x1024 .f32 from iblk m c 3 ⟨n, hn⟩) (ix2 (y 0) k)
          = (show FVec Ideal S128x1024 .f32 from m ((c : Thread nD τ).loc main_arg1)) (ix2 (y 0) k) := fun k => by
        blk_point [iblk, V, idx ⟨n, hn⟩]
      exact congrArg₂ (fun a b => prj a b _) (funext e3) (funext fun k => scale_at m c ⟨n, hn⟩ k)
    · cases n with
      | zero => exact absurd rfl h
      | succ n =>
        have e : (outsAt0 m c (n + 1) hn).2 = (outsAt0 m c n (Nat.lt_of_succ_lt hn)).2 := by
          rw [outsAt0_B m c ⟨n + 1, hn⟩ h]
          rfl
        rw [e]
        exact out5 c n _ y

/-- The array the kernel's first result must be: every row of `main_arg0` normalised and projected. -/
def prjA (c : Dev nD) : FVec Ideal S8x2048x7680 .bf16 := fun i =>
  prj (fun k => (show FVec Ideal S8x2048x1024 .f32 from m ((c : Thread nD τ).loc main_arg0)) (ix3 (i 0) (i 1) k))
    (fun k => (show FVec Ideal S1024 .f32 from m ((c : Thread nD τ).loc main_arg2)) (ix1 k))
    (fun l => (show FVec Ideal S2x1024x7680 .f32 from m ((c : Thread nD τ).loc main_arg3)) (ix3 0 l (i 2)))

/-- The array the kernel's second result must be: every row of `main_arg1` normalised and projected. -/
def prjB (c : Dev nD) : FVec Ideal S128x7680 .bf16 := fun i =>
  prj (fun k => (show FVec Ideal S128x1024 .f32 from m ((c : Thread nD τ).loc main_arg1)) (ix2 (i 0) k))
    (fun k => (show FVec Ideal S1024 .f32 from m ((c : Thread nD τ).loc main_arg2)) (ix1 k))
    (fun l => (show FVec Ideal S2x1024x7680 .f32 from m ((c : Thread nD τ).loc main_arg3)) (ix3 0 l (i 1)))

/-- The first array the kernel leaves. -/
theorem final4 (c : Dev nD) : (dats m 0 c).arrAt 4 cfg0.N = prjA m c := by
  refine (dats m 0 c).arrAt_eq_of_covers 4 _ (by decide +kernel) fun t hf y => ?_
  blk_simp
  rw [after0_4]
  generalize hi : ((View.whole main_v1_0).slice (win0_4.rect t)).emb y = i
  have hi0 : (i 0).val = t.val / 4 % 8 := by rw [← hi]; blk_simp [idx t]
  have hi1 : (i 1).val = 512 * (t.val % 4) + (y 1).val := by rw [← hi]; blk_simp [idx t]; omega
  have hi2 : (i 2).val = 2560 * (t.val / 32) + (y 2).val := by rw [← hi]; blk_simp [idx t]; omega
  refine (out4 m c t y).trans ?_
  unfold prjA
  have ex : ∀ k : Fin 1024, (show FVec Ideal S1x512x1024 .f32 from iblk m c 0 t) (ix3 0 (y 1) k)
      = (show FVec Ideal S8x2048x1024 .f32 from m ((c : Thread nD τ).loc main_arg0)) (ix3 (i 0) (i 1) k) := fun k => by
    blk_point [iblk, V, idx t]
  have ew : ∀ l : Fin 1024, (show FVec Ideal S1024x2560 .bf16 from (outsAt0 m c t.val t.isLt).2.2) (ix2 l (y 2))
      = (show FVec Ideal S2x1024x7680 .f32 from m ((c : Thread nD τ).loc main_arg3)) (ix3 0 l (i 2)) := fun l =>
    (tile m c t.val t.isLt l (y 2)).trans (congrArg (fun q => (show FVec Ideal S2x1024x7680 .f32 from m ((c : Thread nD τ).loc main_arg3)) (ix3 0 l q)) (Fin.ext hi2.symm))
  rw [funext ex, funext ew, funext (scale_at m c t)]

/-- The second array the kernel leaves. -/
theorem final5 (c : Dev nD) : (dats m 0 c).arrAt 5 cfg0.N = prjB m c := by
  refine (dats m 0 c).arrAt_eq_of_covers 5 _ (by decide +kernel) fun t hf y => ?_
  blk_simp
  rw [after0_5]
  generalize hi : ((View.whole main_v1_1).slice (win0_5.rect t)).emb y = i
  have hi0 : i 0 = y 0 := Fin.ext (by rw [← hi]; blk_simp [idx t])
  have hi1 : (i 1).val = 2560 * (t.val / 32) + (y 1).val := by rw [← hi]; blk_simp [idx t]; omega
  refine (out5 m c t.val t.isLt y).trans ?_
  unfold prjB
  have ew : ∀ l : Fin 1024, (show FVec Ideal S1024x2560 .bf16 from (outsAt0 m c t.val t.isLt).2.2) (ix2 l (y 1))
      = (show FVec Ideal S2x1024x7680 .f32 from m ((c : Thread nD τ).loc main_arg3)) (ix3 0 l (i 1)) := fun l =>
    (tile m c t.val t.isLt l (y 1)).trans (congrArg (fun q => (show FVec Ideal S2x1024x7680 .f32 from m ((c : Thread nD τ).loc main_arg3)) (ix3 0 l q)) (Fin.ext hi1.symm))
  rw [funext ew, hi0]

end Cert.Kernel4Ideal.Proj

namespace Cert.Reference4Ideal.Proj

open Cert.Reference4Ideal Cert.Reference4Ideal.Gen
open Cert.Kernel4Ideal.Proj (prj)
open Cert.Kernel3Ideal.Merge (nrm)

variable (X : FVec Ideal S8x2048x1024 .f32) (Y : FVec Ideal S128x1024 .f32) (g : FVec Ideal S1024 .f32) (W : FVec Ideal S2x1024x7680 .f32)

/-- The composed term of the reference's first result: every row of `X` normalised and projected. -/
theorem first_eq : truncf .bf16 (Host.dotGeneral dot_S8x2048x1024_S1024x7680_S8x2048x7680_2_0_01_1_n_n none (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))) (shapeCast _ (extractStridedSlice S1x1024x7680 ![0, 0, 0] W slices_S2x1024x7680_S1x1024x7680_0_0_0) shapeCasts_S1x1024x7680_S1024x7680)) bitsLt_bf16_f32
      = fun i => prj (fun k => X (ix3 (i 0) (i 1) k)) (fun k => g (ix1 k)) (fun l => W (ix3 0 l (i 2))) := by
  funext i
  idx_vars i
  pointwise [prj, nrm]

/-- The composed term of the reference's second result: every row of `Y` normalised and projected. -/
theorem second_eq : truncf .bf16 (Host.dotGeneral dot_S128x1024_S1024x7680_S128x7680_1_0_0_1_n_n none (mulf (mulf Y (broadcastInDim S128x1024 ![0, 1] bcast_S128x1_S128x1024_0_1 (Host.rsqrt (addf (Host.divf (broadcastInDim S128x1 ![0] bcast_S128_S128x1_0 (Host.reduceAdd (mulf Y Y) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 g))) (shapeCast _ (extractStridedSlice S1x1024x7680 ![0, 0, 0] W slices_S2x1024x7680_S1x1024x7680_0_0_0) shapeCasts_S1x1024x7680_S1024x7680)) bitsLt_bf16_f32
      = fun i => prj (fun k => Y (ix2 (i 0) k)) (fun k => g (ix1 k)) (fun l => W (ix3 0 l (i 1))) := by
  funext i
  idx_vars i
  pointwise [prj, nrm]

end Cert.Reference4Ideal.Proj

end
-- ==== Proof.ExpTab.lean ====
module

public import proofs.«01_k».proof.Proof.Gen.Kernel5Ideal.Skeleton
public import proofs.«01_k».proof.Proof.Gen.Kernel5Ideal.Launch
public import Idealize.ShloMosaic.Lib.Affine
public import Idealize.ShloMosaic.Lib.WordCmp
public import Idealize.ShloMosaic.PureOps.BitExact
public import Idealize.ShloMosaic.PureOps.Ideal
public import Idealize.ShloMosaic.Init

/-!
# The experts' kernel: which tables are admissible
-/

@[expose] public section

set_option maxRecDepth 16384

noncomputable section

namespace Cert.Kernel5Ideal.Exp

open Cert.Kernel5Ideal Cert.Kernel5Ideal.Gen
open Idealize.ShloMosaic Idealize.ShloMosaic.TcCoe

theorem tile_le (k : Fin 72) (w : BitVec 32) (h : 1 ≤ w.toInt) :
    (Scalar.minsi (BitVec.ofNat 32 k.val) (Scalar.subi w 1#32)).toNat ≤ 71 := by
  have hk := k.isLt
  have hw : w.toNat < 2 ^ 31 ∧ 1 ≤ w.toNat := by
    have := w.isLt
    rw [BitVec.toInt_eq_toNat_cond] at h
    split at h <;> omega
  have hs : (w - 1#32).toNat = w.toNat - 1 := by
    rw [BitVec.toNat_sub]; have : (1#32 : BitVec 32).toNat = 1 := rfl
    rw [this]; omega
  have hk' : (BitVec.ofNat 32 k.val).toNat = k.val := by rw [BitVec.toNat_ofNat]; omega
  show (IntOp.minsi (BitVec.ofNat 32 k.val) (w - 1#32)).toNat ≤ 71
  unfold IntOp.minsi
  split
  · omega
  · rename_i hc
    rw [BitVec.slt_eq_decide, decide_eq_true_eq, BitVec.toInt_eq_toNat_of_lt (by omega), BitVec.toInt_eq_toNat_of_lt (by omega)] at hc
    omega

theorem half_le (k : Fin 2) (b : BitVec 1) : (Scalar.select b (BitVec.ofNat 32 k.val) 1#32).toNat ≤ 1 := by
  revert k b; decide

theorem expert_le (w : BitVec 32) (h : 0 ≤ w.toInt ∧ w.toInt ≤ 7) : w.toNat ≤ 7 := by
  have := w.isLt
  rw [BitVec.toInt_eq_toNat_cond] at h
  split at h <;> omega

/-- Every block lies inside its array as soon as the experts are 0 to 7 and at least one tile is in use. -/
theorem ok_of (pf : pre0.Contents (Elt Ideal)) (hE : ∀ x : S72.Idx, 0 ≤ BitVec.toInt (n := 32) (pf 0 x) ∧ BitVec.toInt (n := 32) (pf 0 x) ≤ 7)
    (hU : ∀ x : S73.Idx, (x 0).val = 0 → 1 ≤ BitVec.toInt (n := 32) (pf 1 x)) : ok0 (F := Ideal) pf := by
  have g (i : grid0.Coords) : 1 ≤ BitVec.toInt (n := 32) (pf.at 1 (Rect.unit (s := S73) ![0] S1.size inb_S73_S1_0) numel1_S1) := hU _ rfl
  refine ⟨fun i => ⟨fun b => ?_, .inl rfl⟩, fun i => ⟨fun b => ?_, .inr (Affine.block_words_dvd (s := S8x1024x3584) (p := EltTy.packing .bf16) (by decide) (by decide))⟩,
    fun i => ⟨fun b => ?_, .inr (Affine.block_words_dvd (s := S8x1024x3584) (p := EltTy.packing .bf16) (by decide) (by decide))⟩,
    fun i => ⟨fun b => ?_, .inr (Affine.block_words_dvd (s := S8x3584x1024) (p := EltTy.packing .bf16) (by decide) (by decide))⟩⟩
  · match b with
    | ⟨0, _⟩ =>
      have := tile_le (i 0) _ (g i)
      show ((Scalar.minsi (BitVec.ofNat 32 (i 0).val) (Scalar.subi (pf.at 1 (Rect.unit (s := S73) ![0] S1.size inb_S73_S1_0) numel1_S1) 1#32)).toNat + 1) * 4096 ≤ 294912
      omega
    | ⟨1, _⟩ => exact le_of_eq rfl
  · match b with
    | ⟨0, _⟩ =>
      have := expert_le _ (hE ((Rect.unit (s := S72) (k0_off1 i) S1.size (k0_off1_inb i)).emb (Shape.Idx.first (numel1_S1.symm ▸ Nat.one_pos))))
      show (BitVec.toNat (w := 32) (pf 0 ((Rect.unit (s := S72) (k0_off1 i) S1.size (k0_off1_inb i)).emb (Shape.Idx.first (numel1_S1.symm ▸ Nat.one_pos)))) + 1) * 1 ≤ 8
      omega
    | ⟨1, _⟩ => exact le_of_eq rfl
    | ⟨2, _⟩ =>
      have := half_le (i 1) (Scalar.cmpi .slt (BitVec.ofNat 32 (i 0).val) (pf.at 1 (Rect.unit (s := S73) ![0] S1.size inb_S73_S1_0) numel1_S1))
      show ((Scalar.select _ _ 1#32).toNat + 1) * 1792 ≤ 3584
      exact (Nat.mul_le_mul_right 1792 (Nat.succ_le_succ this)).trans (by decide)
  · match b with
    | ⟨0, _⟩ =>
      have := expert_le _ (hE ((Rect.unit (s := S72) (k0_off1 i) S1.size (k0_off1_inb i)).emb (Shape.Idx.first (numel1_S1.symm ▸ Nat.one_pos))))
      show (BitVec.toNat (w := 32) (pf 0 ((Rect.unit (s := S72) (k0_off1 i) S1.size (k0_off1_inb i)).emb (Shape.Idx.first (numel1_S1.symm ▸ Nat.one_pos)))) + 1) * 1 ≤ 8
      omega
    | ⟨1, _⟩ => exact le_of_eq rfl
    | ⟨2, _⟩ =>
      have := half_le (i 1) (Scalar.cmpi .slt (BitVec.ofNat 32 (i 0).val) (pf.at 1 (Rect.unit (s := S73) ![0] S1.size inb_S73_S1_0) numel1_S1))
      show ((Scalar.select _ _ 1#32).toNat + 1) * 1792 ≤ 3584
      exact (Nat.mul_le_mul_right 1792 (Nat.succ_le_succ this)).trans (by decide)
  · match b with
    | ⟨0, _⟩ =>
      have := expert_le _ (hE ((Rect.unit (s := S72) (k0_off1 i) S1.size (k0_off1_inb i)).emb (Shape.Idx.first (numel1_S1.symm ▸ Nat.one_pos))))
      show (BitVec.toNat (w := 32) (pf 0 ((Rect.unit (s := S72) (k0_off1 i) S1.size (k0_off1_inb i)).emb (Shape.Idx.first (numel1_S1.symm ▸ Nat.one_pos)))) + 1) * 1 ≤ 8
      omega
    | ⟨1, _⟩ =>
      have := half_le (i 1) (Scalar.cmpi .slt (BitVec.ofNat 32 (i 0).val) (pf.at 1 (Rect.unit (s := S73) ![0] S1.size inb_S73_S1_0) numel1_S1))
      show ((Scalar.select _ _ 1#32).toNat + 1) * 1792 ≤ 3584
      exact (Nat.mul_le_mul_right 1792 (Nat.succ_le_succ this)).trans (by decide)
    | ⟨2, _⟩ => exact le_of_eq rfl

end Cert.Kernel5Ideal.Exp

end
-- ==== Proof.ExpRun.lean ====
module

public import proofs.«01_k».proof.Proof.Gen.Kernel5Ideal.Skeleton
public import proofs.«01_k».proof.Proof.Gen.Kernel5Ideal.Launch
public import Idealize.ShloMosaic.Lib.Pipeline.Quiescent
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.BitExact
public import Idealize.ShloMosaic.PureOps.Ideal
public import Idealize.ShloMosaic.Init

/-!
# The experts' kernel: one run of its body

A grid point works on one tile of rows and one half of the hidden columns. What the body does depends on two words of the second
table, the number of tiles in use and the number of rows of this tile, and on the half. There are five cases, each run here over
arbitrary tables:

* `runA`, `runB`: a tile in use with more than 256 rows, first and second half;
* `runC`, `runD`: a tile in use with at most 256 rows, first and second half;
* `runE`: a tile not in use, whose output block is set to zero.
-/

@[expose] public section

set_option maxRecDepth 16384
set_option Elab.async false

noncomputable section

namespace Cert.Kernel5Ideal.Exp

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The resources the proof speaks of. -/
local notation "𝕄" => MT nD τ sig Unit (Elt Ideal) ℕ (UR sig nD τ) ℕ

/-- The two tables and the two scratch buffers, whole. -/
abbrev tabE : Memref sig .tc .smem S72 .i32 := Memref.whole main_arg0
abbrev tabR : Memref sig .tc .smem S73 .i32 := Memref.whole main_arg1
abbrev scrX : Memref sig .tc .vmem S512x1024 .bf16 := Memref.whole cc0_scratch0
abbrev scrA : Memref sig .tc .vmem S512x1024 .f32 := Memref.whole cc0_scratch1

/-- The number of tiles in use, as the body reads it. -/
abbrev wordU (T1 : S73.Idx → Elt Ideal .i32) : BitVec 32 :=
  View.readAt (Elt Ideal) tabR.view (Rect.unit (s := S73) ![0] S1.size inb_S73_S1_0).toLoadRect T1 (Shape.Idx.first (numel1_S1.symm ▸ Nat.one_pos))

/-- The number of rows of the tile, as the body reads it. -/
abbrev wordR (i : grid0.Coords) (T1 : S73.Idx → Elt Ideal .i32) : BitVec 32 :=
  View.readAt (Elt Ideal) tabR.view (Rect.unit (s := S73) (k0_off2 i) S1.size (k0_off2_inb i)).toLoadRect T1 (Shape.Idx.first (numel1_S1.symm ▸ Nat.one_pos))

/-- The tile is in use. -/
def Used (i : grid0.Coords) (T1 : S73.Idx → Elt Ideal .i32) : Prop := k0_cond1 i (wordU T1) = 1#1

/-- The tile has more than 256 rows. -/
def Many (i : grid0.Coords) (T1 : S73.Idx → Elt Ideal .i32) : Prop :=
  Scalar.cmpi .ne (Scalar.extui (Scalar.cmpi .sgt (wordR i T1) 256#32)) 0#32 = 1#1

instance (i : grid0.Coords) (T1 : S73.Idx → Elt Ideal .i32) : Decidable (Used i T1) := by unfold Used; infer_instance
instance (i : grid0.Coords) (T1 : S73.Idx → Elt Ideal .i32) : Decidable (Many i T1) := by unfold Many; infer_instance

/-- A one-bit word, tested against zero, is itself. -/
theorem bit_ne : ∀ b : BitVec 1, Scalar.cmpi .ne (Scalar.extui b) 0#32 = 1#1 ↔ b = 1#1 := by decide

theorem ofBool_eq (b : Bool) : BitVec.ofBool b = 1#1 ↔ b = true := by cases b <;> decide

/-- The half is the first one exactly where its number is zero. -/
theorem first_iff : ∀ i : grid0.Coords, (Scalar.cmpi .ne (Scalar.extui (Scalar.cmpi .eq (BitVec.ofNat 32 (i 1).val) 0#32)) 0#32 = 1#1) ↔ (i 1).val = 0 :=
  fun i => (by decide : ∀ k : Fin 2, (Scalar.cmpi .ne (Scalar.extui (Scalar.cmpi .eq (BitVec.ofNat 32 k.val) 0#32)) 0#32 = 1#1) ↔ k.val = 0) (i 1)

theorem later_iff : ∀ i : grid0.Coords, (Scalar.cmpi .ne (Scalar.extui (Scalar.cmpi .sgt (BitVec.ofNat 32 (i 1).val) 0#32)) 0#32 = 1#1) ↔ ¬ (i 1).val = 0 :=
  fun i => (by decide : ∀ k : Fin 2, (Scalar.cmpi .ne (Scalar.extui (Scalar.cmpi .sgt (BitVec.ofNat 32 k.val) 0#32)) 0#32 = 1#1) ↔ ¬ k.val = 0) (i 1)

theorem last_iff : ∀ i : grid0.Coords, k0_cond9 i = 1#1 ↔ ¬ (i 1).val = 0 :=
  fun i => (by decide : ∀ k : Fin 2, (Scalar.cmpi .ne (Scalar.extui (Scalar.cmpi .eq (BitVec.ofNat 32 k.val) 1#32)) 0#32 = 1#1) ↔ ¬ k.val = 0) (i 1)

/-- Exactly one of the two tests on the number of tiles in use holds. -/
theorem unused_iff (i : grid0.Coords) (w : BitVec 32) : k0_cond10 i w = 1#1 ↔ ¬ k0_cond1 i w = 1#1 := by
  unfold k0_cond10 k0_cond1
  dsimp only
  rw [bit_ne, bit_ne]
  unfold Scalar.cmpi IntOp.cmpi
  rw [ofBool_eq, ofBool_eq]
  simp [BitVec.sle_eq_not_slt]

/-- Exactly one of the two tests on the rows of the tile holds. -/
theorem few_iff (w : BitVec 32) : Scalar.cmpi .ne (Scalar.extui (Scalar.cmpi .sle w 256#32)) 0#32 = 1#1
    ↔ ¬ Scalar.cmpi .ne (Scalar.extui (Scalar.cmpi .sgt w 256#32)) 0#32 = 1#1 := by
  rw [bit_ne, bit_ne]
  unfold Scalar.cmpi IntOp.cmpi
  rw [ofBool_eq, ofBool_eq]
  simp [BitVec.sle_eq_not_slt]

/-- What every run is handed and hands back: the four input blocks and the two tables. -/
noncomputable def held (c : Dev nD) (a4 : Memref sig .tc .vmem S4096x128 .f32) (a5 a6 : Memref sig .tc .vmem S1x1024x1792 .bf16)
    (a7 : Memref sig .tc .vmem S1x1792x1024 .bf16) (T0 : S72.Idx → Elt Ideal .i32) (T1 : S73.Idx → Elt Ideal .i32)
    (x0 : S4096x128.Idx → Elt Ideal .f32) (x1 x2 : S1x1024x1792.Idx → Elt Ideal .bf16) (x3 : S1x1792x1024.Idx → Elt Ideal .bf16) : sProp 𝕄 :=
  iprop((a4.view.loc (c : Thread nD τ) ↦[a4.view.set]{fullShare} a4.view.rep x0)
    ∗ (a5.view.loc (c : Thread nD τ) ↦[a5.view.set]{fullShare} a5.view.rep x1)
    ∗ (a6.view.loc (c : Thread nD τ) ↦[a6.view.set]{fullShare} a6.view.rep x2)
    ∗ (a7.view.loc (c : Thread nD τ) ↦[a7.view.set]{fullShare} a7.view.rep x3)
    ∗ (tabE.view.loc (c : Thread nD τ) ↦{fullShare.right} T0)
    ∗ (tabR.view.loc (c : Thread nD τ) ↦{fullShare.right} T1))

/-- The contents of the two scratch buffers. -/
abbrev BufX (c : Dev nD) : Type := Buf (Elt Ideal) ((c : Thread nD τ).loc cc0_scratch0)
abbrev BufA (c : Dev nD) : Type := Buf (Elt Ideal) ((c : Thread nD τ).loc cc0_scratch1)

/-- The two scratch buffers at given contents. -/
noncomputable def scr (c : Dev nD) (X : BufX c) (A : BufA c) : sProp 𝕄 :=
  iprop((scrX.view.loc (c : Thread nD τ) ↦{fullShare} X) ∗ (scrA.view.loc (c : Thread nD τ) ↦{fullShare} A))

variable (c : Dev nD) (i : grid0.Coords)
  {a4 : Memref sig .tc .vmem S4096x128 .f32} (h4 : a4.IsWhole) {a5 : Memref sig .tc .vmem S1x1024x1792 .bf16} (h5 : a5.IsWhole)
  {a6 : Memref sig .tc .vmem S1x1024x1792 .bf16} (h6 : a6.IsWhole) {a7 : Memref sig .tc .vmem S1x1792x1024 .bf16} (h7 : a7.IsWhole)
  {a8 : Memref sig .tc .vmem S4096x128 .f32} (h8 : a8.IsWhole)
  (T0 : S72.Idx → Elt Ideal .i32) (T1 : S73.Idx → Elt Ideal .i32)
  (x0 : S4096x128.Idx → Elt Ideal .f32) (x1 x2 : S1x1024x1792.Idx → Elt Ideal .bf16) (x3 : S1x1792x1024.Idx → Elt Ideal .bf16)

/-- The body at the given buffers. -/
abbrev body : Prog (TpuEff nD τ sig (Elt Ideal) Λ₀ .tc) PUnit :=
  cc0_moe_experts i tabE (Memref.isWhole_whole _) tabR (Memref.isWhole_whole _) a4 h4 a5 h5 a6 h6 a7 h7 a8 h8 scrX (Memref.isWhole_whole _) scrA (Memref.isWhole_whole _)

set_option backward.proofsInPublic true in
set_option maxHeartbeats 8000000 in
/-- First half of a tile with more than 256 rows. What it leaves in the two scratch buffers, with the proof that it runs; the output's block is untouched. -/
noncomputable def runA (hu : Used i T1) (hf : (i 1).val = 0) (hm : Many i T1) :
    Σ' X' : BufX c, { A' : BufA c // ∀ (y : S4096x128.Idx → Elt Ideal .f32) (X : BufX c) (A : BufA c) (K : PUnit → sProp 𝕄),
      iprop(held c a4 a5 a6 a7 T0 T1 x0 x1 x2 x3 ∗ owns (c : Thread nD τ) a8 fullShare y ∗ scr c X A
        ∗ (iprop(held c a4 a5 a6 a7 T0 T1 x0 x1 x2 x3 ∗ owns (c : Thread nD τ) a8 fullShare y ∗ scr c X' A') -∗ K ⟨⟩))
      ⊢ wp frame (wpE (defs₀ (F := Ideal)) Variants.none c none) Set.univ (body i h4 h5 h6 h7 h8) K } :=
  ⟨_, _, fun y X A K => by
    unfold held scr
    rw [body, cc0_moe_experts_eq_skeleton]; unfold cc0_moe_experts_skel
    unfold owns
    iintro ⟨⟨H0, H1, H2, H3, HT0, HT1⟩, ⟨%f8, %e8, HO⟩, ⟨HX, HA⟩, Hk⟩
    obtain rfl := h8.eq_unread e8
    have hSX : scrX.IsWhole := Memref.isWhole_whole _
    have hSA : scrA.IsWhole := Memref.isWhole_whole _
    have hTE : tabE.IsWhole := Memref.isWhole_whole _
    have hTR : tabR.IsWhole := Memref.isWhole_whole _
    have k1 : k0_cond1 i (wordU T1) = 1#1 := hu
    have k10 : ¬(k0_cond10 i (wordU T1) = 1#1) := fun h => (unused_iff i _).mp h hu
    have k2 : (Scalar.cmpi .ne (Scalar.extui (Scalar.cmpi .eq (BitVec.ofNat 32 (i 1).val) 0#32)) 0#32 = 1#1) := (first_iff i).mpr hf
    have k5 : ¬(Scalar.cmpi .ne (Scalar.extui (Scalar.cmpi .sgt (BitVec.ofNat 32 (i 1).val) 0#32)) 0#32 = 1#1) := fun h => (later_iff i).mp h hf
    have k9 : ¬(k0_cond9 i = 1#1) := fun h => (last_iff i).mp h hf
    have km : (Scalar.cmpi .ne (Scalar.extui (Scalar.cmpi .sgt (wordR i T1) 256#32)) 0#32 = 1#1) := hm
    have kf : ¬(Scalar.cmpi .ne (Scalar.extui (Scalar.cmpi .sle (wordR i T1) 256#32)) 0#32 = 1#1) := fun h => (few_iff _).mp h hm
    sl_exec! (disch := first | (guard_target = k0_cond1 _ _ = _; exact k1) | (guard_target = ¬(k0_cond10 _ _ = _); exact k10) | (guard_target = ¬(k0_cond9 _ = _); exact k9) | (guard_target = Scalar.cmpi = _; exact km) | (guard_target = ¬(Scalar.cmpi = _); exact kf) | (guard_target = Scalar.cmpi = _; exact k2) | (guard_target = ¬(Scalar.cmpi = _); exact k5))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO]
    · iexists _; isplitr; · ipureintro; exact h8.read_unread _
      iexact HO
    isplitl [HX]; · iexact HX
    iexact HA⟩

set_option backward.proofsInPublic true in
set_option maxHeartbeats 8000000 in
/-- Second half of a tile with more than 256 rows. The pieces it stores into the output's block and what it leaves in the scratch buffers, with the proof that it runs. -/
noncomputable def runB (X : BufX c) (A : BufA c) (hu : Used i T1) (hf : ¬(i 1).val = 0) (hm : Many i T1) :
    Σ' (O : List (View.Piece (Elt Ideal) S4096x128 .f32)) (X' : BufX c), { A' : BufA c // ∀ (K : PUnit → sProp 𝕄),
      iprop(held c a4 a5 a6 a7 T0 T1 x0 x1 x2 x3 ∗ (∃ d, owns (c : Thread nD τ) a8 fullShare d) ∗ scr c X A
        ∗ (iprop(held c a4 a5 a6 a7 T0 T1 x0 x1 x2 x3 ∗ (∃ f, a8.view.loc (c : Thread nD τ) ↦[a8.view.set]{fullShare} a8.view.writes (Elt Ideal) f O) ∗ scr c X' A') -∗ K ⟨⟩))
      ⊢ wp frame (wpE (defs₀ (F := Ideal)) Variants.none c none) Set.univ (body i h4 h5 h6 h7 h8) K } :=
  ⟨_, _, _, fun K => by
    unfold held scr
    rw [body, cc0_moe_experts_eq_skeleton]; unfold cc0_moe_experts_skel
    unfold owns
    iintro ⟨⟨H0, H1, H2, H3, HT0, HT1⟩, ⟨%d8, %f8, -, HO⟩, ⟨HX, HA⟩, Hk⟩
    have hSX : scrX.IsWhole := Memref.isWhole_whole _
    have hSA : scrA.IsWhole := Memref.isWhole_whole _
    have hTE : tabE.IsWhole := Memref.isWhole_whole _
    have hTR : tabR.IsWhole := Memref.isWhole_whole _
    have k1 : k0_cond1 i (wordU T1) = 1#1 := hu
    have k10 : ¬(k0_cond10 i (wordU T1) = 1#1) := fun h => (unused_iff i _).mp h hu
    have k2 : ¬(Scalar.cmpi .ne (Scalar.extui (Scalar.cmpi .eq (BitVec.ofNat 32 (i 1).val) 0#32)) 0#32 = 1#1) := fun h => hf ((first_iff i).mp h)
    have k5 : (Scalar.cmpi .ne (Scalar.extui (Scalar.cmpi .sgt (BitVec.ofNat 32 (i 1).val) 0#32)) 0#32 = 1#1) := (later_iff i).mpr hf
    have k9 : (k0_cond9 i = 1#1) := (last_iff i).mpr hf
    have km : (Scalar.cmpi .ne (Scalar.extui (Scalar.cmpi .sgt (wordR i T1) 256#32)) 0#32 = 1#1) := hm
    have kf : ¬(Scalar.cmpi .ne (Scalar.extui (Scalar.cmpi .sle (wordR i T1) 256#32)) 0#32 = 1#1) := fun h => (few_iff _).mp h hm
    sl_exec! (disch := first | (guard_target = k0_cond1 _ _ = _; exact k1) | (guard_target = ¬(k0_cond10 _ _ = _); exact k10) | (guard_target = k0_cond9 _ = _; exact k9) | (guard_target = Scalar.cmpi = _; exact km) | (guard_target = ¬(Scalar.cmpi = _); exact kf) | (guard_target = ¬(Scalar.cmpi = _); exact k2) | (guard_target = Scalar.cmpi = _; exact k5))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO]; · iexists _; iexact HO
    isplitl [HX]; · iexact HX
    iexact HA⟩

set_option backward.proofsInPublic true in
set_option maxHeartbeats 8000000 in
/-- First half of a tile with at most 256 rows. What it leaves in the two scratch buffers, with the proof that it runs; the output's block is untouched. -/
noncomputable def runC (hu : Used i T1) (hf : (i 1).val = 0) (hm : ¬Many i T1) :
    Σ' X' : BufX c, { A' : BufA c // ∀ (y : S4096x128.Idx → Elt Ideal .f32) (X : BufX c) (A : BufA c) (K : PUnit → sProp 𝕄),
      iprop(held c a4 a5 a6 a7 T0 T1 x0 x1 x2 x3 ∗ owns (c : Thread nD τ) a8 fullShare y ∗ scr c X A
        ∗ (iprop(held c a4 a5 a6 a7 T0 T1 x0 x1 x2 x3 ∗ owns (c : Thread nD τ) a8 fullShare y ∗ scr c X' A') -∗ K ⟨⟩))
      ⊢ wp frame (wpE (defs₀ (F := Ideal)) Variants.none c none) Set.univ (body i h4 h5 h6 h7 h8) K } :=
  ⟨_, _, fun y X A K => by
    unfold held scr
    rw [body, cc0_moe_experts_eq_skeleton]; unfold cc0_moe_experts_skel
    unfold owns
    iintro ⟨⟨H0, H1, H2, H3, HT0, HT1⟩, ⟨%f8, %e8, HO⟩, ⟨HX, HA⟩, Hk⟩
    obtain rfl := h8.eq_unread e8
    have hSX : scrX.IsWhole := Memref.isWhole_whole _
    have hSA : scrA.IsWhole := Memref.isWhole_whole _
    have hTE : tabE.IsWhole := Memref.isWhole_whole _
    have hTR : tabR.IsWhole := Memref.isWhole_whole _
    have k1 : k0_cond1 i (wordU T1) = 1#1 := hu
    have k10 : ¬(k0_cond10 i (wordU T1) = 1#1) := fun h => (unused_iff i _).mp h hu
    have k2 : (Scalar.cmpi .ne (Scalar.extui (Scalar.cmpi .eq (BitVec.ofNat 32 (i 1).val) 0#32)) 0#32 = 1#1) := (first_iff i).mpr hf
    have k5 : ¬(Scalar.cmpi .ne (Scalar.extui (Scalar.cmpi .sgt (BitVec.ofNat 32 (i 1).val) 0#32)) 0#32 = 1#1) := fun h => (later_iff i).mp h hf
    have k9 : ¬(k0_cond9 i = 1#1) := fun h => (last_iff i).mp h hf
    have km : ¬(Scalar.cmpi .ne (Scalar.extui (Scalar.cmpi .sgt (wordR i T1) 256#32)) 0#32 = 1#1) := hm
    have kf : (Scalar.cmpi .ne (Scalar.extui (Scalar.cmpi .sle (wordR i T1) 256#32)) 0#32 = 1#1) := (few_iff _).mpr hm
    sl_exec! (disch := first | (guard_target = k0_cond1 _ _ = _; exact k1) | (guard_target = ¬(k0_cond10 _ _ = _); exact k10) | (guard_target = ¬(k0_cond9 _ = _); exact k9) | (guard_target = ¬(Scalar.cmpi = _); exact km) | (guard_target = Scalar.cmpi = _; exact kf) | (guard_target = Scalar.cmpi = _; exact k2) | (guard_target = ¬(Scalar.cmpi = _); exact k5))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO]
    · iexists _; isplitr; · ipureintro; exact h8.read_unread _
      iexact HO
    isplitl [HX]; · iexact HX
    iexact HA⟩

set_option backward.proofsInPublic true in
set_option maxHeartbeats 8000000 in
/-- Second half of a tile with at most 256 rows. The pieces it stores into the output's block and what it leaves in the scratch buffers, with the proof that it runs. -/
noncomputable def runD (X : BufX c) (A : BufA c) (hu : Used i T1) (hf : ¬(i 1).val = 0) (hm : ¬Many i T1) :
    Σ' (O : List (View.Piece (Elt Ideal) S4096x128 .f32)) (X' : BufX c), { A' : BufA c // ∀ (K : PUnit → sProp 𝕄),
      iprop(held c a4 a5 a6 a7 T0 T1 x0 x1 x2 x3 ∗ (∃ d, owns (c : Thread nD τ) a8 fullShare d) ∗ scr c X A
        ∗ (iprop(held c a4 a5 a6 a7 T0 T1 x0 x1 x2 x3 ∗ (∃ f, a8.view.loc (c : Thread nD τ) ↦[a8.view.set]{fullShare} a8.view.writes (Elt Ideal) f O) ∗ scr c X' A') -∗ K ⟨⟩))
      ⊢ wp frame (wpE (defs₀ (F := Ideal)) Variants.none c none) Set.univ (body i h4 h5 h6 h7 h8) K } :=
  ⟨_, _, _, fun K => by
    unfold held scr
    rw [body, cc0_moe_experts_eq_skeleton]; unfold cc0_moe_experts_skel
    unfold owns
    iintro ⟨⟨H0, H1, H2, H3, HT0, HT1⟩, ⟨%d8, %f8, -, HO⟩, ⟨HX, HA⟩, Hk⟩
    have hSX : scrX.IsWhole := Memref.isWhole_whole _
    have hSA : scrA.IsWhole := Memref.isWhole_whole _
    have hTE : tabE.IsWhole := Memref.isWhole_whole _
    have hTR : tabR.IsWhole := Memref.isWhole_whole _
    have k1 : k0_cond1 i (wordU T1) = 1#1 := hu
    have k10 : ¬(k0_cond10 i (wordU T1) = 1#1) := fun h => (unused_iff i _).mp h hu
    have k2 : ¬(Scalar.cmpi .ne (Scalar.extui (Scalar.cmpi .eq (BitVec.ofNat 32 (i 1).val) 0#32)) 0#32 = 1#1) := fun h => hf ((first_iff i).mp h)
    have k5 : (Scalar.cmpi .ne (Scalar.extui (Scalar.cmpi .sgt (BitVec.ofNat 32 (i 1).val) 0#32)) 0#32 = 1#1) := (later_iff i).mpr hf
    have k9 : (k0_cond9 i = 1#1) := (last_iff i).mpr hf
    have km : ¬(Scalar.cmpi .ne (Scalar.extui (Scalar.cmpi .sgt (wordR i T1) 256#32)) 0#32 = 1#1) := hm
    have kf : (Scalar.cmpi .ne (Scalar.extui (Scalar.cmpi .sle (wordR i T1) 256#32)) 0#32 = 1#1) := (few_iff _).mpr hm
    sl_exec! (disch := first | (guard_target = k0_cond1 _ _ = _; exact k1) | (guard_target = ¬(k0_cond10 _ _ = _); exact k10) | (guard_target = k0_cond9 _ = _; exact k9) | (guard_target = ¬(Scalar.cmpi = _); exact km) | (guard_target = Scalar.cmpi = _; exact kf) | (guard_target = ¬(Scalar.cmpi = _); exact k2) | (guard_target = Scalar.cmpi = _; exact k5))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO]; · iexists _; iexact HO
    isplitl [HX]; · iexact HX
    iexact HA⟩

set_option backward.proofsInPublic true in
set_option maxHeartbeats 8000000 in
/-- A tile not in use: the piece stored into the output's block, with the proof that the body runs. -/
noncomputable def runE (hu : ¬Used i T1) :
    { O : List (View.Piece (Elt Ideal) S4096x128 .f32) // ∀ (X : BufX c) (A : BufA c) (K : PUnit → sProp 𝕄),
      iprop(held c a4 a5 a6 a7 T0 T1 x0 x1 x2 x3 ∗ (∃ d, owns (c : Thread nD τ) a8 fullShare d) ∗ scr c X A
        ∗ (iprop(held c a4 a5 a6 a7 T0 T1 x0 x1 x2 x3 ∗ (∃ f, a8.view.loc (c : Thread nD τ) ↦[a8.view.set]{fullShare} a8.view.writes (Elt Ideal) f O) ∗ scr c X A) -∗ K ⟨⟩))
      ⊢ wp frame (wpE (defs₀ (F := Ideal)) Variants.none c none) Set.univ (body i h4 h5 h6 h7 h8) K } :=
  ⟨_, fun X A K => by
    unfold held scr
    rw [body, cc0_moe_experts_eq_skeleton]; unfold cc0_moe_experts_skel
    unfold owns
    iintro ⟨⟨H0, H1, H2, H3, HT0, HT1⟩, ⟨%d8, %f8, -, HO⟩, ⟨HX, HA⟩, Hk⟩
    have hSX : scrX.IsWhole := Memref.isWhole_whole _
    have hSA : scrA.IsWhole := Memref.isWhole_whole _
    have hTE : tabE.IsWhole := Memref.isWhole_whole _
    have hTR : tabR.IsWhole := Memref.isWhole_whole _
    have k1 : ¬(k0_cond1 i (wordU T1) = 1#1) := hu
    have k10 : k0_cond10 i (wordU T1) = 1#1 := (unused_iff i _).mpr hu
    sl_exec! (disch := first | (guard_target = ¬(k0_cond1 _ _ = _); exact k1) | (guard_target = k0_cond10 _ _ = _; exact k10))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO]; · iexists _; iexact HO
    isplitl [HX]; · iexact HX
    iexact HA⟩

end Cert.Kernel5Ideal.Exp

end
-- ==== Proof.ExpFrame.lean ====
module

public import proofs.«01_k».proof.Proof.ExpRun
public import Idealize.ShloMosaic.Lib.Claim
public import Idealize.ShloMosaic.Lib.Pipeline.Kit
public import Idealize.ShloMosaic.Lib.Pipeline.TableIdle
public import Idealize.ShloMosaic.Lib.Affine
public import Idealize.ShloMosaic.Lib.WordCmp
public import Idealize.ShloMosaic.Adequacy

/-!
# The experts' kernel: its frame, for every routing

The two tables stay arbitrary: `a` is any content of them for which every block lies inside its array. Between two grid points the
scratch buffers matter only inside a tile in use: after its first half they hold `mid`, which its second half reads.
-/

@[expose] public section

set_option maxRecDepth 16384
set_option Elab.async false

noncomputable section

namespace Cert.Kernel5Ideal.Exp

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources the proof speaks of. -/
local notation "𝕄" => MT nD τ sig Unit (Elt Ideal) ℕ (UR sig nD τ) ℕ

abbrev EP : Emb (UR sig nD τ) 𝕄 := emb₁

/-! ## The eight interleaved stores fill the block -/

/-- Eight pieces, the `c`-th at the rows `c, c + 8, c + 16, …`, fill the block: row `r` lies in piece `r mod 8`. -/
theorem cover8 (L : List (View.Piece (Elt Ideal) S4096x128 .f32))
    (h : L.map (fun p => (p.1.off 0, p.1.off 1, p.1.size 0, p.1.size 1, p.1.stride 0, p.1.stride 1))
      = [(7, 0, 512, 128, 8, 1), (6, 0, 512, 128, 8, 1), (5, 0, 512, 128, 8, 1), (4, 0, 512, 128, 8, 1),
         (3, 0, 512, 128, 8, 1), (2, 0, 512, 128, 8, 1), (1, 0, 512, 128, 8, 1), (0, 0, 512, 128, 8, 1)])
    (y : S4096x128.Idx) : ∃ p ∈ L, y ∈ p.1.set := by
  have hm : ((y 0).val % 8, 0, 512, 128, 8, 1) ∈ L.map (fun p => (p.1.off 0, p.1.off 1, p.1.size 0, p.1.size 1, p.1.stride 0, p.1.stride 1)) := by
    rw [h]
    have : ∀ c : Fin 8, (c.val, 0, 512, 128, 8, 1) ∈ [(7, 0, 512, 128, 8, 1), (6, 0, 512, 128, 8, 1), (5, 0, 512, 128, 8, 1), (4, 0, 512, 128, 8, 1),
         (3, 0, 512, 128, 8, 1), (2, 0, 512, 128, 8, 1), (1, 0, 512, 128, 8, 1), (0, 0, 512, 128, 8, 1)] := by decide
    exact this ⟨(y 0).val % 8, Nat.mod_lt _ (by decide)⟩
  obtain ⟨p, hp, e⟩ := List.mem_map.mp hm
  refine ⟨p, hp, ?_⟩
  simp only [Prod.mk.injEq] at e
  obtain ⟨e0, e1, e2, e3, e4, e5⟩ := e
  have h0 : (y 0).val < 4096 := (y 0).isLt
  have h1 : (y 1).val < 128 := (y 1).isLt
  refine (LoadRect.mem_set _).mpr fun b => ?_
  match b with
  | ⟨0, _⟩ => exact ⟨(y 0).val / 8, by show _ < p.1.size 0; omega, by show (y 0).val = p.1.off 0 + p.1.stride 0 * _; rw [e0, e4]; omega⟩
  | ⟨1, _⟩ => exact ⟨(y 1).val, by show _ < p.1.size 1; omega, by show (y 1).val = p.1.off 1 + p.1.stride 1 * _; rw [e1, e5]; omega⟩

/-! ## The grid -/

/-- Point `t` is tile `t / 2`, half `t mod 2`. -/
theorem coords : ∀ t : Fin grid0.N, (grid0.coords t 0).val = t.val / 2 ∧ (grid0.coords t 1).val = t.val % 2 := by decide +kernel

/-- Whether a tile is in use does not depend on the half. -/
theorem used_congr {i j : grid0.Coords} (h : (i 0).val = (j 0).val) (T1 : S73.Idx → Elt Ideal .i32) : Used i T1 ↔ Used j T1 := by
  unfold Used k0_cond1; rw [h]

variable (a : (pcfg0 (F := Ideal)).Adm)

/-- The pipeline at the tables' contents `a`. -/
abbrev cfgA : Pipeline.Cfg sig Λ₀ := cfg0 (F := Ideal) a
abbrev pcs : Fin 1 → Pipeline.Cfg sig Λ₀ := Pipeline.pin (pcfgs (F := Ideal)) fun _ => a
abbrev T0 : S72.Idx → Elt Ideal .i32 := a.1 0
abbrev T1 : S73.Idx → Elt Ideal .i32 := a.1 1

variable (m : (ℓ : Loc nD τ sig) → Buf (Elt Ideal) ℓ) (ρ : Dev nD → PrngReg)

abbrev crd (t : Fin (cfgA a).N) : grid0.Coords := (cfgA a).grid.coords t

/-- The staging buffers at point `t`. -/
abbrev ms4 (t : Fin (cfgA a).N) : Memref sig .tc .vmem S4096x128 .f32 := spec0_0.stage ((cfgA a).slots t (0 : Fin 5))
abbrev hs4 (t : Fin (cfgA a).N) : (ms4 a t).IsWhole := hstage0_0 (((cfgA a).slots t (0 : Fin 5)).cast nbuf0_0)
abbrev ms5 (t : Fin (cfgA a).N) : Memref sig .tc .vmem S1x1024x1792 .bf16 := spec0_1.stage ((cfgA a).slots t (1 : Fin 5))
abbrev hs5 (t : Fin (cfgA a).N) : (ms5 a t).IsWhole := hstage0_1 (((cfgA a).slots t (1 : Fin 5)).cast nbuf0_1)
abbrev ms6 (t : Fin (cfgA a).N) : Memref sig .tc .vmem S1x1024x1792 .bf16 := spec0_2.stage ((cfgA a).slots t (2 : Fin 5))
abbrev hs6 (t : Fin (cfgA a).N) : (ms6 a t).IsWhole := hstage0_2 (((cfgA a).slots t (2 : Fin 5)).cast nbuf0_2)
abbrev ms7 (t : Fin (cfgA a).N) : Memref sig .tc .vmem S1x1792x1024 .bf16 := spec0_3.stage ((cfgA a).slots t (3 : Fin 5))
abbrev hs7 (t : Fin (cfgA a).N) : (ms7 a t).IsWhole := hstage0_3 (((cfgA a).slots t (3 : Fin 5)).cast nbuf0_3)
abbrev ms8 (t : Fin (cfgA a).N) : Memref sig .tc .vmem S4096x128 .f32 := spec0_4.stage ((cfgA a).slots t (4 : Fin 5))
abbrev hs8 (t : Fin (cfgA a).N) : (ms8 a t).IsWhole := hstage0_4 (((cfgA a).slots t (4 : Fin 5)).cast nbuf0_4)

/-- Window `w`'s block at point `t`, read off its array at launch. -/
def iblk (c : Dev nD) (w : Fin (cfgA a).W) (t : Fin (cfgA a).N) : (((cfgA a).win w).xblock (crd a t)).Idx → Elt Ideal ((cfgA a).win w).elt :=
  (((cfgA a).win w).blk t).view.read (Elt Ideal) ((s₀ m ρ).mem (((cfgA a).win w).arr.view.loc (c : Thread nD τ)))

theorem lt_N (t : Fin (cfgA a).N) : t.val < 144 := lt_of_lt_of_eq t.isLt N_0

theorem crd0 (t : Fin (cfgA a).N) : (crd a t 0).val = t.val / 2 := (coords t).1
theorem crd1 (t : Fin (cfgA a).N) : (crd a t 1).val = t.val % 2 := (coords t).2

/-- The point before `t` (the first one's is itself). -/
def before (t : Fin (cfgA a).N) : Fin (cfgA a).N := ⟨t.val - 1, lt_of_le_of_lt (Nat.sub_le _ _) t.isLt⟩

/-- Before a second half there is the first half of the same tile. -/
theorem before_facts (t : Fin (cfgA a).N) (hf : ¬(crd a t 1).val = 0) :
    (before a t).val + 1 = t.val ∧ (crd a (before a t) 1).val = 0 ∧ (crd a (before a t) 0).val = (crd a t 0).val := by
  rw [crd1] at hf
  have e : (before a t).val = t.val - 1 := rfl
  rw [crd1, crd0, crd0, e]
  omega

/-! ## What the buffers hold -/

instance (c : Dev nD) : Inhabited (BufX c) := ⟨fun _ => (0 : EReal)⟩
instance (c : Dev nD) : Inhabited (BufA c) := ⟨fun _ => (0 : EReal)⟩

/-- What the scratch buffers hold after the first half of a tile in use. -/
def mid (c : Dev nD) (t : Fin (cfgA a).N) : BufX c × BufA c :=
  if hu : Used (crd a t) (T1 a) then
    if hf : (crd a t 1).val = 0 then
      if hm : Many (crd a t) (T1 a) then
        let R := runA c (crd a t) (hs4 a t) (hs5 a t) (hs6 a t) (hs7 a t) (hs8 a t) (T0 a) (T1 a) (iblk a m ρ c 0 t) (iblk a m ρ c 1 t) (iblk a m ρ c 2 t) (iblk a m ρ c 3 t) hu hf hm
        (R.1, R.2.1)
      else
        let R := runC c (crd a t) (hs4 a t) (hs5 a t) (hs6 a t) (hs7 a t) (hs8 a t) (T0 a) (T1 a) (iblk a m ρ c 0 t) (iblk a m ρ c 1 t) (iblk a m ρ c 2 t) (iblk a m ρ c 3 t) hu hf hm
        (R.1, R.2.1)
    else default
  else default

/-- The output's block written over arbitrary contents, read back. -/
abbrev VO : View sig .tc .vmem S4096x128 .f32 := View.whole cc0_stg4_0
abbrev readO (L : List (View.Piece (Elt Ideal) S4096x128 .f32)) : S4096x128.Idx → Elt Ideal .f32 :=
  VO.read (Elt Ideal) (VO.writes (Elt Ideal) VO.junk L)

/-- What the output's block holds after point `t`: zero in a tile not in use, the tile's rows after the second half of one in use. -/
def fin (c : Dev nD) (t : Fin (cfgA a).N) : S4096x128.Idx → Elt Ideal .f32 :=
  if hu : Used (crd a t) (T1 a) then
    if hf : (crd a t 1).val = 0 then readO []
    else
      if hm : Many (crd a t) (T1 a) then
        readO (runB c (crd a t) (hs4 a t) (hs5 a t) (hs6 a t) (hs7 a t) (hs8 a t) (T0 a) (T1 a) (iblk a m ρ c 0 t) (iblk a m ρ c 1 t) (iblk a m ρ c 2 t) (iblk a m ρ c 3 t)
          (mid a m ρ c (before a t)).1 (mid a m ρ c (before a t)).2 hu hf hm).1
      else
        readO (runD c (crd a t) (hs4 a t) (hs5 a t) (hs6 a t) (hs7 a t) (hs8 a t) (T0 a) (T1 a) (iblk a m ρ c 0 t) (iblk a m ρ c 1 t) (iblk a m ρ c 2 t) (iblk a m ρ c 3 t)
          (mid a m ρ c (before a t)).1 (mid a m ρ c (before a t)).2 hu hf hm).1
  else
    readO (runE c (crd a t) (hs4 a t) (hs5 a t) (hs6 a t) (hs7 a t) (hs8 a t) (T0 a) (T1 a) (iblk a m ρ c 0 t) (iblk a m ρ c 1 t) (iblk a m ρ c 2 t) (iblk a m ρ c 3 t) hu).1

/-- Between two points: the tables, and the scratch buffers, at `mid` after the first half of a tile in use. -/
def Phi (c : Dev nD) (n : Fin ((cfgA a).N + 1)) : sProp 𝕄 :=
  iprop((∃ X A, ⌜∀ t : Fin (cfgA a).N, t.val + 1 = n.val → (crd a t 1).val = 0 → Used (crd a t) (T1 a) → X = (mid a m ρ c t).1 ∧ A = (mid a m ρ c t).2⌝ ∗ scr c X A)
    ∗ (tabE.view.loc (c : Thread nD τ) ↦{fullShare.right} T0 a) ∗ (tabR.view.loc (c : Thread nD τ) ↦{fullShare.right} T1 a))

/-- The proof data of the pipeline on core `c`. -/
def dats (_ : Fin 1) (c : Dev nD) : Dat τ (Elt Ideal) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => fin a m ρ c t
  Φ t := Phi a m ρ c t
  q _ := fullShare
  owed _ := 0

theorem after_0 (c : Dev nD) (t : Fin (cfgA a).N) : (dats a m ρ 0 c).after (0 : Fin 5) t = iblk a m ρ c (0 : Fin 5) t := rfl
theorem after_1 (c : Dev nD) (t : Fin (cfgA a).N) : (dats a m ρ 0 c).after (1 : Fin 5) t = iblk a m ρ c (1 : Fin 5) t := rfl
theorem after_2 (c : Dev nD) (t : Fin (cfgA a).N) : (dats a m ρ 0 c).after (2 : Fin 5) t = iblk a m ρ c (2 : Fin 5) t := rfl
theorem after_3 (c : Dev nD) (t : Fin (cfgA a).N) : (dats a m ρ 0 c).after (3 : Fin 5) t = iblk a m ρ c (3 : Fin 5) t := rfl
theorem after_4 (c : Dev nD) (t : Fin (cfgA a).N) : (dats a m ρ 0 c).after (4 : Fin 5) t = fin a m ρ c t := rfl

/-! Every input's staging buffer holds its block when the body runs. -/

theorem before_0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after_0]; unfold Dat.blockOf iblk; rfl) t d).trans
    (by unfold Dat.fetched Dat.blockOf iblk; rfl)

theorem before_1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after_1]; unfold Dat.blockOf iblk; rfl) t d).trans
    (by unfold Dat.fetched Dat.blockOf iblk; rfl)

theorem before_2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after_2]; unfold Dat.blockOf iblk; rfl) t d).trans
    (by unfold Dat.fetched Dat.blockOf iblk; rfl)

theorem before_3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after_3]; unfold Dat.blockOf iblk; rfl) t d).trans
    (by unfold Dat.fetched Dat.blockOf iblk; rfl)

/-! ## Where the output's block is idle, and where it is written back -/

/-- The word the pipeline's table of idle points reads is the one the body reads. -/
theorem atD_eq : Pipeline.Prefetch.Contents.atD a.1 1 ![0] = wordU (T1 a) := by
  unfold Pipeline.Prefetch.Contents.atD
  rw [dif_pos (by decide)]
  exact congrArg (T1 a) (funext fun b => Fin.ext (by fin_cases b; rfl))

theorem idle_eq (t : Fin (cfgA a).N) : (cfgA a).idle (4 : Fin 5) ((cfgA a).grid.coords t)
    = (!(k0_cond1 (crd a t) (wordU (T1 a)) == 1#1 && k0_cond9 (crd a t) == 1#1) && !(k0_cond10 (crd a t) (wordU (T1 a)) == 1#1)) := by
  rw [← atD_eq]

theorem idle_first (t : Fin (cfgA a).N) (hu : Used (crd a t) (T1 a)) (hf : (crd a t 1).val = 0) :
    (cfgA a).idle (4 : Fin 5) ((cfgA a).grid.coords t) = true := by
  rw [idle_eq]
  have h9 : ¬(k0_cond9 (crd a t) = 1#1) := fun h => (last_iff _).mp h hf
  have h10 : ¬(k0_cond10 (crd a t) (wordU (T1 a)) = 1#1) := fun h => (unused_iff _ _).mp h hu
  simp [h9, h10]

theorem idle_later (t : Fin (cfgA a).N) (hu : Used (crd a t) (T1 a)) (hf : ¬(crd a t 1).val = 0) :
    (cfgA a).idle (4 : Fin 5) ((cfgA a).grid.coords t) = false := by
  rw [idle_eq]
  have h1 : k0_cond1 (crd a t) (wordU (T1 a)) = 1#1 := hu
  have h9 : k0_cond9 (crd a t) = 1#1 := (last_iff _).mpr hf
  simp [h1, h9]

theorem idle_unused (t : Fin (cfgA a).N) (hu : ¬Used (crd a t) (T1 a)) : (cfgA a).idle (4 : Fin 5) ((cfgA a).grid.coords t) = false := by
  rw [idle_eq]
  have h10 : k0_cond10 (crd a t) (wordU (T1 a)) = 1#1 := (unused_iff _ _).mpr hu
  simp [h10]

theorem flush_grid : ∀ t : Fin grid0.N, Pipeline.Window.flushOf grid0 true cc0_transform_4 t = decide (t.val % 2 = 1) := by decide +kernel

/-- The output's block is written back after second halves only. -/
theorem flush_first (t : Fin (cfgA a).N) (hf : (crd a t 1).val = 0) : ((cfgA a).win (4 : Fin 5)).flush t = false := by
  rw [crd1] at hf
  refine (show _ = Pipeline.Window.flushOf grid0 true cc0_transform_4 t from rfl).trans ((flush_grid t).trans ?_)
  simp [hf]

/-! ## The body, at every point -/

abbrev bodyAt (t : Fin (cfgA a).N) : Prog (TpuEff nD τ sig (Elt Ideal) Λ₀ .tc) PUnit :=
  body (crd a t) (hs4 a t) (hs5 a t) (hs6 a t) (hs7 a t) (hs8 a t)

set_option maxHeartbeats 4000000 in
/-- The body's obligation at point `t`, in the five cases. -/
theorem sound_body (c : Dev nD) (t : Fin (cfgA a).N) :
    iprop((dats a m ρ 0 c).Φ t.castSucc ∗ (dats a m ρ 0 c).owesAt () t.castSucc
        ∗ (∃ d, owns (c : Thread nD τ) (ms4 a t) fullShare ((dats a m ρ 0 c).before (0 : Fin 5) t d))
        ∗ (∃ d, owns (c : Thread nD τ) (ms5 a t) fullShare ((dats a m ρ 0 c).before (1 : Fin 5) t d))
        ∗ (∃ d, owns (c : Thread nD τ) (ms6 a t) fullShare ((dats a m ρ 0 c).before (2 : Fin 5) t d))
        ∗ (∃ d, owns (c : Thread nD τ) (ms7 a t) fullShare ((dats a m ρ 0 c).before (3 : Fin 5) t d))
        ∗ (∃ d, owns (c : Thread nD τ) (ms8 a t) fullShare ((dats a m ρ 0 c).before (4 : Fin 5) t d)))
      ⊢ wp frame (wpE (defs₀ (F := Ideal)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  by_cases hu : Used (crd a t) (T1 a)
  · by_cases hf : (crd a t 1).val = 0
    · by_cases hm : Many (crd a t) (T1 a)
      · rewrite [idle_first a t hu hf]
        simp only [before_0, before_1, before_2, before_3, after_0, after_1, after_2, after_3, after_4, flush_first a t hf]
        rewrite [show (dats a m ρ 0 c).Φ t.succ = Phi a m ρ c t.succ from rfl, show (dats a m ρ 0 c).Φ t.castSucc = Phi a m ρ c t.castSucc from rfl,
          show (dats a m ρ 0 c).owesAt () t.succ = (dats a m ρ 0 c).owesAt () t.castSucc from rfl]
        unfold Phi
        iintro ⟨⟨⟨%X, %A, %hXA, HS⟩, HT0, HT1⟩, Ho, ⟨%d0, H0⟩, ⟨%d1, H1⟩, ⟨%d2, H2⟩, ⟨%d3, H3⟩, ⟨%d4, H4⟩⟩
        have hmid : mid a m ρ c t = ((runA c (crd a t) (hs4 a t) (hs5 a t) (hs6 a t) (hs7 a t) (hs8 a t) (T0 a) (T1 a) (iblk a m ρ c 0 t) (iblk a m ρ c 1 t) (iblk a m ρ c 2 t) (iblk a m ρ c 3 t) hu hf hm).1, (runA c (crd a t) (hs4 a t) (hs5 a t) (hs6 a t) (hs7 a t) (hs8 a t) (T0 a) (T1 a) (iblk a m ρ c 0 t) (iblk a m ρ c 1 t) (iblk a m ρ c 2 t) (iblk a m ρ c 3 t) hu hf hm).2.1) := by
          unfold mid; rw [dif_pos hu, dif_pos hf, dif_pos hm]
        iapply ((runA c (crd a t) (hs4 a t) (hs5 a t) (hs6 a t) (hs7 a t) (hs8 a t) (T0 a) (T1 a) (iblk a m ρ c 0 t) (iblk a m ρ c 1 t) (iblk a m ρ c 2 t) (iblk a m ρ c 3 t) hu hf hm).2.2 _ X A _)
        isplitl [H0 H1 H2 H3 HT0 HT1]
        · unfold held
          isplitl [H0]; · iapply rep_of_owns; iexact H0
          isplitl [H1]; · iapply rep_of_owns; iexact H1
          isplitl [H2]; · iapply rep_of_owns; iexact H2
          isplitl [H3]; · iapply rep_of_owns; iexact H3
          isplitl [HT0]; · iexact HT0
          iexact HT1
        isplitl [H4]; · iexact H4
        isplitl [HS]; · iexact HS
        unfold held
        iintro ⟨⟨H0, H1, H2, H3, HT0, HT1⟩, H4, HS⟩
        isplitl [HS HT0 HT1]
        · isplitl [HS]
          · iexists _; iexists _; isplitr; swap
            · iexact HS
            · ipureintro; intro t' ht' hf' hu'
              obtain rfl : t' = t := Fin.ext (Nat.succ_injective ht')
              rw [hmid]; exact ⟨rfl, rfl⟩
          isplitl [HT0]; · iexact HT0
          iexact HT1
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        iexists d4; iexact H4
      · rewrite [idle_first a t hu hf]
        simp only [before_0, before_1, before_2, before_3, after_0, after_1, after_2, after_3, after_4, flush_first a t hf]
        rewrite [show (dats a m ρ 0 c).Φ t.succ = Phi a m ρ c t.succ from rfl, show (dats a m ρ 0 c).Φ t.castSucc = Phi a m ρ c t.castSucc from rfl,
          show (dats a m ρ 0 c).owesAt () t.succ = (dats a m ρ 0 c).owesAt () t.castSucc from rfl]
        unfold Phi
        iintro ⟨⟨⟨%X, %A, %hXA, HS⟩, HT0, HT1⟩, Ho, ⟨%d0, H0⟩, ⟨%d1, H1⟩, ⟨%d2, H2⟩, ⟨%d3, H3⟩, ⟨%d4, H4⟩⟩
        have hmid : mid a m ρ c t = ((runC c (crd a t) (hs4 a t) (hs5 a t) (hs6 a t) (hs7 a t) (hs8 a t) (T0 a) (T1 a) (iblk a m ρ c 0 t) (iblk a m ρ c 1 t) (iblk a m ρ c 2 t) (iblk a m ρ c 3 t) hu hf hm).1, (runC c (crd a t) (hs4 a t) (hs5 a t) (hs6 a t) (hs7 a t) (hs8 a t) (T0 a) (T1 a) (iblk a m ρ c 0 t) (iblk a m ρ c 1 t) (iblk a m ρ c 2 t) (iblk a m ρ c 3 t) hu hf hm).2.1) := by
          unfold mid; rw [dif_pos hu, dif_pos hf, dif_neg hm]
        iapply ((runC c (crd a t) (hs4 a t) (hs5 a t) (hs6 a t) (hs7 a t) (hs8 a t) (T0 a) (T1 a) (iblk a m ρ c 0 t) (iblk a m ρ c 1 t) (iblk a m ρ c 2 t) (iblk a m ρ c 3 t) hu hf hm).2.2 _ X A _)
        isplitl [H0 H1 H2 H3 HT0 HT1]
        · unfold held
          isplitl [H0]; · iapply rep_of_owns; iexact H0
          isplitl [H1]; · iapply rep_of_owns; iexact H1
          isplitl [H2]; · iapply rep_of_owns; iexact H2
          isplitl [H3]; · iapply rep_of_owns; iexact H3
          isplitl [HT0]; · iexact HT0
          iexact HT1
        isplitl [H4]; · iexact H4
        isplitl [HS]; · iexact HS
        unfold held
        iintro ⟨⟨H0, H1, H2, H3, HT0, HT1⟩, H4, HS⟩
        isplitl [HS HT0 HT1]
        · isplitl [HS]
          · iexists _; iexists _; isplitr; swap
            · iexact HS
            · ipureintro; intro t' ht' hf' hu'
              obtain rfl : t' = t := Fin.ext (Nat.succ_injective ht')
              rw [hmid]; exact ⟨rfl, rfl⟩
          isplitl [HT0]; · iexact HT0
          iexact HT1
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        iexists d4; iexact H4
    · obtain ⟨e1, e2, e3⟩ := before_facts a t hf
      have hub : Used (crd a (before a t)) (T1 a) := (used_congr e3 (T1 a)).mpr hu
      by_cases hm : Many (crd a t) (T1 a)
      · rewrite [idle_later a t hu hf]
        simp only [before_0, before_1, before_2, before_3, after_0, after_1, after_2, after_3, after_4]
        rewrite [show (dats a m ρ 0 c).Φ t.succ = Phi a m ρ c t.succ from rfl, show (dats a m ρ 0 c).Φ t.castSucc = Phi a m ρ c t.castSucc from rfl,
          show (dats a m ρ 0 c).owesAt () t.succ = (dats a m ρ 0 c).owesAt () t.castSucc from rfl]
        unfold Phi
        iintro ⟨⟨⟨%X, %A, %hXA, HS⟩, HT0, HT1⟩, Ho, ⟨%d0, H0⟩, ⟨%d1, H1⟩, ⟨%d2, H2⟩, ⟨%d3, H3⟩, ⟨%d4, H4⟩⟩
        obtain ⟨rfl, rfl⟩ := hXA (before a t) e1 e2 hub
        iapply ((runB c (crd a t) (hs4 a t) (hs5 a t) (hs6 a t) (hs7 a t) (hs8 a t) (T0 a) (T1 a) (iblk a m ρ c 0 t) (iblk a m ρ c 1 t) (iblk a m ρ c 2 t) (iblk a m ρ c 3 t) _ _ hu hf hm).2.2.2 _)
        isplitl [H0 H1 H2 H3 HT0 HT1]
        · unfold held
          isplitl [H0]; · iapply rep_of_owns; iexact H0
          isplitl [H1]; · iapply rep_of_owns; iexact H1
          isplitl [H2]; · iapply rep_of_owns; iexact H2
          isplitl [H3]; · iapply rep_of_owns; iexact H3
          isplitl [HT0]; · iexact HT0
          iexact HT1
        isplitl [H4]; · iexists _; iexact H4
        isplitl [HS]; · iexact HS
        unfold held
        iintro ⟨⟨H0, H1, H2, H3, HT0, HT1⟩, ⟨%e4, H4⟩, HS⟩
        isplitl [HS HT0 HT1]
        · isplitl [HS]
          · iexists _; iexists _; isplitr; swap
            · iexact HS
            · ipureintro; intro t' ht' hf' hu'
              obtain rfl : t' = t := Fin.ext (Nat.succ_injective ht')
              exact absurd hf' hf
          isplitl [HT0]; · iexact HT0
          iexact HT1
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        unfold fin; rw [dif_pos hu, dif_neg hf, dif_pos hm]
        unfold owns; iexists _; isplitr; swap
        · iexact H4
        · ipureintro; exact View.read_writes_of_cover _ _ _ _ _ (cover8 _ (by sl_kernel_rfl))
      · rewrite [idle_later a t hu hf]
        simp only [before_0, before_1, before_2, before_3, after_0, after_1, after_2, after_3, after_4]
        rewrite [show (dats a m ρ 0 c).Φ t.succ = Phi a m ρ c t.succ from rfl, show (dats a m ρ 0 c).Φ t.castSucc = Phi a m ρ c t.castSucc from rfl,
          show (dats a m ρ 0 c).owesAt () t.succ = (dats a m ρ 0 c).owesAt () t.castSucc from rfl]
        unfold Phi
        iintro ⟨⟨⟨%X, %A, %hXA, HS⟩, HT0, HT1⟩, Ho, ⟨%d0, H0⟩, ⟨%d1, H1⟩, ⟨%d2, H2⟩, ⟨%d3, H3⟩, ⟨%d4, H4⟩⟩
        obtain ⟨rfl, rfl⟩ := hXA (before a t) e1 e2 hub
        iapply ((runD c (crd a t) (hs4 a t) (hs5 a t) (hs6 a t) (hs7 a t) (hs8 a t) (T0 a) (T1 a) (iblk a m ρ c 0 t) (iblk a m ρ c 1 t) (iblk a m ρ c 2 t) (iblk a m ρ c 3 t) _ _ hu hf hm).2.2.2 _)
        isplitl [H0 H1 H2 H3 HT0 HT1]
        · unfold held
          isplitl [H0]; · iapply rep_of_owns; iexact H0
          isplitl [H1]; · iapply rep_of_owns; iexact H1
          isplitl [H2]; · iapply rep_of_owns; iexact H2
          isplitl [H3]; · iapply rep_of_owns; iexact H3
          isplitl [HT0]; · iexact HT0
          iexact HT1
        isplitl [H4]; · iexists _; iexact H4
        isplitl [HS]; · iexact HS
        unfold held
        iintro ⟨⟨H0, H1, H2, H3, HT0, HT1⟩, ⟨%e4, H4⟩, HS⟩
        isplitl [HS HT0 HT1]
        · isplitl [HS]
          · iexists _; iexists _; isplitr; swap
            · iexact HS
            · ipureintro; intro t' ht' hf' hu'
              obtain rfl : t' = t := Fin.ext (Nat.succ_injective ht')
              exact absurd hf' hf
          isplitl [HT0]; · iexact HT0
          iexact HT1
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        unfold fin; rw [dif_pos hu, dif_neg hf, dif_neg hm]
        unfold owns; iexists _; isplitr; swap
        · iexact H4
        · ipureintro; exact View.read_writes_of_cover _ _ _ _ _ (cover8 _ (by sl_kernel_rfl))
  · rewrite [idle_unused a t hu]
    simp only [before_0, before_1, before_2, before_3, after_0, after_1, after_2, after_3, after_4]
    rewrite [show (dats a m ρ 0 c).Φ t.succ = Phi a m ρ c t.succ from rfl, show (dats a m ρ 0 c).Φ t.castSucc = Phi a m ρ c t.castSucc from rfl,
      show (dats a m ρ 0 c).owesAt () t.succ = (dats a m ρ 0 c).owesAt () t.castSucc from rfl]
    unfold Phi
    iintro ⟨⟨⟨%X, %A, %hXA, HS⟩, HT0, HT1⟩, Ho, ⟨%d0, H0⟩, ⟨%d1, H1⟩, ⟨%d2, H2⟩, ⟨%d3, H3⟩, ⟨%d4, H4⟩⟩
    iapply ((runE c (crd a t) (hs4 a t) (hs5 a t) (hs6 a t) (hs7 a t) (hs8 a t) (T0 a) (T1 a) (iblk a m ρ c 0 t) (iblk a m ρ c 1 t) (iblk a m ρ c 2 t) (iblk a m ρ c 3 t) hu).2 X A _)
    isplitl [H0 H1 H2 H3 HT0 HT1]
    · unfold held
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      iexact HT1
    isplitl [H4]; · iexists _; iexact H4
    isplitl [HS]; · iexact HS
    unfold held
    iintro ⟨⟨H0, H1, H2, H3, HT0, HT1⟩, ⟨%e4, H4⟩, HS⟩
    isplitl [HS HT0 HT1]
    · isplitl [HS]
      · iexists _; iexists _; isplitr; swap
        · iexact HS
        · ipureintro; intro t' ht' hf' hu'
          obtain rfl : t' = t := Fin.ext (Nat.succ_injective ht')
          exact absurd hu' hu
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold fin; rw [dif_neg hu]
    unfold owns; iexists _; isplitr; swap
    · iexact H4
    · ipureintro; exact View.read_writes_of_cover _ _ _ _ _ (View.cover_of_tiledL _ S4096x128.size (by sl_kernel_rfl))

/-- The body's obligation, at every point. -/
theorem body_obligation (c : Dev nD) : BodyObligation (dats a m ρ 0 c) (defs₀ (F := Ideal)) Variants.none () Set.univ := fun t => by
  rw [bigSep_W0]
  exact sound_body a m ρ c t

/-! ## The launch -/

def u₀ : UR sig nD τ :=
  initOf (Pipeline.cells (pcs a) ((launch0 (F := Ideal)).cellOf_inj fun _ => a))
    (Pipeline.launchToks (pcs a) ((launch0 (F := Ideal)).cellOf_inj fun _ => a))

theorem share_eq (c : Dev nD) (w : Fin (cfgA a).W) : (dats a m ρ 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- Before the first point the scratch buffers hold anything. -/
theorem phi_start (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi scr
  iintro ⟨-, ⟨HT0, HT1⟩, ⟨%X, HX⟩, ⟨%A, HA⟩⟩
  isplitl [HX HA]
  · iexists X; iexists A; isplitr
    · ipureintro; intro t h; exact absurd h (Nat.succ_ne_zero _)
    isplitl [HX]; · iexact HX
    iexact HA
  isplitl [HT0]; · iexact HT0
  iexact HT1

/-- After the last point they are given back. -/
theorem phi_end (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi scr
  iintro ⟨⟨%X, %A, -, HX, HA⟩, -, -⟩
  isplitr; · iempintro
  isplitl [HX]
  · iexists X; iexact HX
  iexists A; iexact HA

/-- At the end every array is at what the pipeline computes, and the tables are as they were. -/
def QC : PUnit × MemSt nD τ sig (Elt Ideal) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
/-- The call runs, from any memory whose tables are `a`. -/
theorem run_main (hp : ∀ (c : Dev nD) (j : Fin 2), m ((c : Thread nD τ).loc (pre0.ref j)) = a.1 j) :
    θ_run (defs (F := Ideal)) (onTc (τ := τ) (main (F := Ideal))) (s₀ m ρ) (fun r => QC a m ρ r ∧ r.2.sem = fun _ => 0) :=
  Pipeline.θ_run_region_noSem_pf_quiescent pcfgs (fun _ => a) (dats a m ρ) () ((launch0 (F := Ideal)).cellOf_inj fun _ => a) (0 : Fin 1)
    (launch0 (F := Ideal)).win.to₀ (launch0 (F := Ideal)).pre EP defs₀ Variants.none m ρ main
    (hbody := fun c => (body_obligation a m ρ c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Ideal)).win.arr_inj c (launch0 (F := Ideal)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_start a m ρ)
    (hout := phi_end a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The six arguments end as they were. -/
def Kept (r : PUnit × MemSt nD τ sig (Elt Ideal)) : Prop := ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)

theorem kept_of (hp : ∀ (c : Dev nD) (j : Fin 2), m ((c : Thread nD τ).loc (pre0.ref j)) = a.1 j) (r) (h : QC a m ρ r) : Kept m r := fun c =>
  ⟨((h c).2 0).trans (hp c 0).symm, ((h c).2 1).trans (hp c 1).symm, ((h c).1 (0 : Fin 5)).trans ((dats a m ρ 0 c).arrAt_in (0 : Fin 5) rfl _),
    ((h c).1 (1 : Fin 5)).trans ((dats a m ρ 0 c).arrAt_in (1 : Fin 5) rfl _), ((h c).1 (2 : Fin 5)).trans ((dats a m ρ 0 c).arrAt_in (2 : Fin 5) rfl _),
    ((h c).1 (3 : Fin 5)).trans ((dats a m ρ 0 c).arrAt_in (3 : Fin 5) rfl _)⟩

/-- The frame: the call runs, its arguments end unchanged and every counter reads zero. -/
theorem frame_at (hp : ∀ (c : Dev nD) (j : Fin 2), m ((c : Thread nD τ).loc (pre0.ref j)) = a.1 j) :
    θ_run (defs (F := Ideal)) (onTc (τ := τ) (main (F := Ideal))) ⟨m, fun _ => 0, ρ⟩ (fun r => Kept m r ∧ r.2.sem = fun _ => 0) :=
  (θ_run defs _ _).mono (fun r h => ⟨kept_of a m ρ hp r h.1, h.2⟩) (run_main a m ρ hp)

end Cert.Kernel5Ideal.Exp

end
-- ==== Proof.ExpPre.lean ====
module

public import proofs.«01_k».proof.Defs
public import proofs.«01_k».proof.Proof.Gen.Pre_tables_fit
public import proofs.«01_k».proof.Proof.ExpTab
public import proofs.«01_k».proof.Proof.ExpFrame
public import Idealize.ShloMosaic.Lib.WordCmp

/-!
# The experts' kernel: its frame under the condition on the tables

The condition says that every expert number is 0 to 7 and that at least one tile is in use. Such tables are admissible, so the call runs.
-/

@[expose] public section

set_option maxRecDepth 16384

noncomputable section

namespace Cert.Kernel5Ideal.Exp

open Cert.Kernel5Ideal Cert.Kernel5Ideal.Gen
open Idealize.ShloMosaic Idealize.ShloMosaic.TcCoe Idealize.ShloMosaic.WordCmp Idealize.SL.Sem

attribute [local instance] Cert.Pre_tables_fit.Gen.facts

/-- The condition on the first table, read at one entry: the expert is 0 to 7. -/
theorem experts_fit {F : FTy → Type} [FloatOps F] (E : IVec S72 32) (R : IVec S73 32) (X : FVec F S294912x128 .f32) (G U : FVec F S8x1024x3584 .bf16)
    (D : FVec F S8x3584x1024 .bf16) (h : (Cert.Pre_tables_fit.fn (F := F) E R X G U D).1 = fun _ => 1#1) (x : S72.Idx) :
    0 ≤ (E x).toInt ∧ (E x).toInt ≤ 7 := by
  have h1 : IntOp.andi (IntOp.cmpi .sge (E x) 0#32) (IntOp.cmpi .sle (E x) 7#32) = 1#1 := congrFun h x
  rw [cmpi_sge_eq, cmpi_sle_eq, andi_ofBool, ofBool_eq_one_iff, Bool.and_eq_true, decide_eq_true_eq, decide_eq_true_eq] at h1
  exact h1

/-- The condition on the second table: at least one tile is in use. -/
theorem tiles_fit {F : FTy → Type} [FloatOps F] (E : IVec S72 32) (R : IVec S73 32) (X : FVec F S294912x128 .f32) (G U : FVec F S8x1024x3584 .bf16)
    (D : FVec F S8x3584x1024 .bf16) (h : (Cert.Pre_tables_fit.fn (F := F) E R X G U D).2 = fun _ => 1#1) (x : S73.Idx)
    (hx : (x 0).val = 0) : 1 ≤ (R x).toInt := by
  let z : Cert.Pre_tables_fit.S1.Idx := fun b => match b with | ⟨0, _⟩ => (0 : Fin 1)
  have h1 : IntOp.cmpi .sge (extractStridedSlice Cert.Pre_tables_fit.S1 ![0] R Cert.Pre_tables_fit.Facts.slices_S73_S1_0 z) 1#32 = 1#1 := congrFun h z
  rw [cmpi_sge_eq, ofBool_decide_eq_one_iff] at h1
  refine h1.trans (le_of_eq (congrArg (fun y => BitVec.toInt (R y)) (funext fun b => ?_)))
  match b with
  | ⟨0, _⟩ => exact Fin.ext hx.symm

variable (m : (ℓ : Loc nD τ sig) → Buf (Elt Ideal) ℓ)

/-- The tables a memory holds. -/
def tables : pre0.Contents (Elt Ideal) := fun j => m (((0 : Dev nD) : Thread nD τ).loc (pre0.ref j))

/-- Tables that meet the condition are admissible. -/
def adm (hE : ∀ x : S72.Idx, 0 ≤ BitVec.toInt (n := 32) (tables m 0 x) ∧ BitVec.toInt (n := 32) (tables m 0 x) ≤ 7)
    (hU : ∀ x : S73.Idx, (x 0).val = 0 → 1 ≤ BitVec.toInt (n := 32) (tables m 1 x)) : (pcfg0 (F := Ideal)).Adm :=
  ⟨tables m, ok_of (tables m) hE hU⟩

/-- There is one core. -/
theorem tables_eq (c : Dev nD) (j : Fin 2) : m ((c : Thread nD τ).loc (pre0.ref j)) = tables m j := by
  obtain rfl : c = 0 := Subsingleton.elim _ _
  rfl

/-- The frame of the call. -/
theorem frame : Cert.quiescent_Kernel5Ideal (hKernel5Ideal := Cert.Kernel5Ideal.Gen.facts) (hPre_tables_fit := Cert.Pre_tables_fit.Gen.facts) :=
  fun m g hm => frame_at (adm m (experts_fit _ _ _ _ _ _ (hm 0).1) (tiles_fit _ _ _ _ _ _ (hm 0).2)) m g (tables_eq m)

end Cert.Kernel5Ideal.Exp

end
-- ==== Proof.ExpBitsRun.lean ====
module

public import proofs.«01_k».proof.Proof.Gen.Kernel5.Skeleton
public import proofs.«01_k».proof.Proof.Gen.Kernel5.Launch
public import Idealize.ShloMosaic.Lib.Pipeline.Quiescent
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.BitExact
public import Idealize.ShloMosaic.PureOps.Ideal
public import Idealize.ShloMosaic.Init

/-!
# The experts' kernel as it runs: one run of its body

A grid point works on one tile of rows and one half of the hidden columns. What the body does depends on two words of the second
table, the number of tiles in use and the number of rows of this tile, and on the half. There are five cases, each run here over
arbitrary tables:

* `runA`, `runB`: a tile in use with more than 256 rows, first and second half;
* `runC`, `runD`: a tile in use with at most 256 rows, first and second half;
* `runE`: a tile not in use, whose output block is set to zero.
-/

@[expose] public section

set_option maxRecDepth 16384
set_option Elab.async false

noncomputable section

namespace Cert.Kernel5.Exp

open Cert.Kernel5 Cert.Kernel5.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The resources the proof speaks of. -/
local notation "𝕄" => MT nD τ sig Unit (Elt Bits) ℕ (UR sig nD τ) ℕ

/-- The two tables and the two scratch buffers, whole. -/
abbrev tabE : Memref sig .tc .smem S72 .i32 := Memref.whole main_arg0
abbrev tabR : Memref sig .tc .smem S73 .i32 := Memref.whole main_arg1
abbrev scrX : Memref sig .tc .vmem S512x1024 .bf16 := Memref.whole cc0_scratch0
abbrev scrA : Memref sig .tc .vmem S512x1024 .f32 := Memref.whole cc0_scratch1

/-- The number of tiles in use, as the body reads it. -/
abbrev wordU (T1 : S73.Idx → Elt Bits .i32) : BitVec 32 :=
  View.readAt (Elt Bits) tabR.view (Rect.unit (s := S73) ![0] S1.size inb_S73_S1_0).toLoadRect T1 (Shape.Idx.first (numel1_S1.symm ▸ Nat.one_pos))

/-- The number of rows of the tile, as the body reads it. -/
abbrev wordR (i : grid0.Coords) (T1 : S73.Idx → Elt Bits .i32) : BitVec 32 :=
  View.readAt (Elt Bits) tabR.view (Rect.unit (s := S73) (k0_off2 i) S1.size (k0_off2_inb i)).toLoadRect T1 (Shape.Idx.first (numel1_S1.symm ▸ Nat.one_pos))

/-- The tile is in use. -/
def Used (i : grid0.Coords) (T1 : S73.Idx → Elt Bits .i32) : Prop := k0_cond1 i (wordU T1) = 1#1

/-- The tile has more than 256 rows. -/
def Many (i : grid0.Coords) (T1 : S73.Idx → Elt Bits .i32) : Prop :=
  Scalar.cmpi .ne (Scalar.extui (Scalar.cmpi .sgt (wordR i T1) 256#32)) 0#32 = 1#1

instance (i : grid0.Coords) (T1 : S73.Idx → Elt Bits .i32) : Decidable (Used i T1) := by unfold Used; infer_instance
instance (i : grid0.Coords) (T1 : S73.Idx → Elt Bits .i32) : Decidable (Many i T1) := by unfold Many; infer_instance

/-- A one-bit word, tested against zero, is itself. -/
theorem bit_ne : ∀ b : BitVec 1, Scalar.cmpi .ne (Scalar.extui b) 0#32 = 1#1 ↔ b = 1#1 := by decide

theorem ofBool_eq (b : Bool) : BitVec.ofBool b = 1#1 ↔ b = true := by cases b <;> decide

/-- The half is the first one exactly where its number is zero. -/
theorem first_iff : ∀ i : grid0.Coords, (Scalar.cmpi .ne (Scalar.extui (Scalar.cmpi .eq (BitVec.ofNat 32 (i 1).val) 0#32)) 0#32 = 1#1) ↔ (i 1).val = 0 :=
  fun i => (by decide : ∀ k : Fin 2, (Scalar.cmpi .ne (Scalar.extui (Scalar.cmpi .eq (BitVec.ofNat 32 k.val) 0#32)) 0#32 = 1#1) ↔ k.val = 0) (i 1)

theorem later_iff : ∀ i : grid0.Coords, (Scalar.cmpi .ne (Scalar.extui (Scalar.cmpi .sgt (BitVec.ofNat 32 (i 1).val) 0#32)) 0#32 = 1#1) ↔ ¬ (i 1).val = 0 :=
  fun i => (by decide : ∀ k : Fin 2, (Scalar.cmpi .ne (Scalar.extui (Scalar.cmpi .sgt (BitVec.ofNat 32 k.val) 0#32)) 0#32 = 1#1) ↔ ¬ k.val = 0) (i 1)

theorem last_iff : ∀ i : grid0.Coords, k0_cond9 i = 1#1 ↔ ¬ (i 1).val = 0 :=
  fun i => (by decide : ∀ k : Fin 2, (Scalar.cmpi .ne (Scalar.extui (Scalar.cmpi .eq (BitVec.ofNat 32 k.val) 1#32)) 0#32 = 1#1) ↔ ¬ k.val = 0) (i 1)

/-- Exactly one of the two tests on the number of tiles in use holds. -/
theorem unused_iff (i : grid0.Coords) (w : BitVec 32) : k0_cond10 i w = 1#1 ↔ ¬ k0_cond1 i w = 1#1 := by
  unfold k0_cond10 k0_cond1
  dsimp only
  rw [bit_ne, bit_ne]
  unfold Scalar.cmpi IntOp.cmpi
  rw [ofBool_eq, ofBool_eq]
  simp [BitVec.sle_eq_not_slt]

/-- Exactly one of the two tests on the rows of the tile holds. -/
theorem few_iff (w : BitVec 32) : Scalar.cmpi .ne (Scalar.extui (Scalar.cmpi .sle w 256#32)) 0#32 = 1#1
    ↔ ¬ Scalar.cmpi .ne (Scalar.extui (Scalar.cmpi .sgt w 256#32)) 0#32 = 1#1 := by
  rw [bit_ne, bit_ne]
  unfold Scalar.cmpi IntOp.cmpi
  rw [ofBool_eq, ofBool_eq]
  simp [BitVec.sle_eq_not_slt]

/-- What every run is handed and hands back: the four input blocks and the two tables. -/
noncomputable def held (c : Dev nD) (a4 : Memref sig .tc .vmem S4096x128 .f32) (a5 a6 : Memref sig .tc .vmem S1x1024x1792 .bf16)
    (a7 : Memref sig .tc .vmem S1x1792x1024 .bf16) (T0 : S72.Idx → Elt Bits .i32) (T1 : S73.Idx → Elt Bits .i32)
    (x0 : S4096x128.Idx → Elt Bits .f32) (x1 x2 : S1x1024x1792.Idx → Elt Bits .bf16) (x3 : S1x1792x1024.Idx → Elt Bits .bf16) : sProp 𝕄 :=
  iprop((a4.view.loc (c : Thread nD τ) ↦[a4.view.set]{fullShare} a4.view.rep x0)
    ∗ (a5.view.loc (c : Thread nD τ) ↦[a5.view.set]{fullShare} a5.view.rep x1)
    ∗ (a6.view.loc (c : Thread nD τ) ↦[a6.view.set]{fullShare} a6.view.rep x2)
    ∗ (a7.view.loc (c : Thread nD τ) ↦[a7.view.set]{fullShare} a7.view.rep x3)
    ∗ (tabE.view.loc (c : Thread nD τ) ↦{fullShare.right} T0)
    ∗ (tabR.view.loc (c : Thread nD τ) ↦{fullShare.right} T1))

/-- The contents of the two scratch buffers. -/
abbrev BufX (c : Dev nD) : Type := Buf (Elt Bits) ((c : Thread nD τ).loc cc0_scratch0)
abbrev BufA (c : Dev nD) : Type := Buf (Elt Bits) ((c : Thread nD τ).loc cc0_scratch1)

/-- The two scratch buffers at given contents. -/
noncomputable def scr (c : Dev nD) (X : BufX c) (A : BufA c) : sProp 𝕄 :=
  iprop((scrX.view.loc (c : Thread nD τ) ↦{fullShare} X) ∗ (scrA.view.loc (c : Thread nD τ) ↦{fullShare} A))

variable (c : Dev nD) (i : grid0.Coords)
  {a4 : Memref sig .tc .vmem S4096x128 .f32} (h4 : a4.IsWhole) {a5 : Memref sig .tc .vmem S1x1024x1792 .bf16} (h5 : a5.IsWhole)
  {a6 : Memref sig .tc .vmem S1x1024x1792 .bf16} (h6 : a6.IsWhole) {a7 : Memref sig .tc .vmem S1x1792x1024 .bf16} (h7 : a7.IsWhole)
  {a8 : Memref sig .tc .vmem S4096x128 .f32} (h8 : a8.IsWhole)
  (T0 : S72.Idx → Elt Bits .i32) (T1 : S73.Idx → Elt Bits .i32)
  (x0 : S4096x128.Idx → Elt Bits .f32) (x1 x2 : S1x1024x1792.Idx → Elt Bits .bf16) (x3 : S1x1792x1024.Idx → Elt Bits .bf16)

/-- The body at the given buffers. -/
abbrev body : Prog (TpuEff nD τ sig (Elt Bits) Λ₀ .tc) PUnit :=
  cc0_moe_experts i tabE (Memref.isWhole_whole _) tabR (Memref.isWhole_whole _) a4 h4 a5 h5 a6 h6 a7 h7 a8 h8 scrX (Memref.isWhole_whole _) scrA (Memref.isWhole_whole _)

set_option backward.proofsInPublic true in
set_option maxHeartbeats 8000000 in
/-- First half of a tile with more than 256 rows. What it leaves in the two scratch buffers, with the proof that it runs; the output's block is untouched. -/
noncomputable def runA (hu : Used i T1) (hf : (i 1).val = 0) (hm : Many i T1) :
    Σ' X' : BufX c, { A' : BufA c // ∀ (y : S4096x128.Idx → Elt Bits .f32) (X : BufX c) (A : BufA c) (K : PUnit → sProp 𝕄),
      iprop(held c a4 a5 a6 a7 T0 T1 x0 x1 x2 x3 ∗ owns (c : Thread nD τ) a8 fullShare y ∗ scr c X A
        ∗ (iprop(held c a4 a5 a6 a7 T0 T1 x0 x1 x2 x3 ∗ owns (c : Thread nD τ) a8 fullShare y ∗ scr c X' A') -∗ K ⟨⟩))
      ⊢ wp frame (wpE (defs₀ (F := Bits)) Variants.none c none) Set.univ (body i h4 h5 h6 h7 h8) K } :=
  ⟨_, _, fun y X A K => by
    unfold held scr
    rw [body, cc0_moe_experts_eq_skeleton]; unfold cc0_moe_experts_skel
    unfold owns
    iintro ⟨⟨H0, H1, H2, H3, HT0, HT1⟩, ⟨%f8, %e8, HO⟩, ⟨HX, HA⟩, Hk⟩
    obtain rfl := h8.eq_unread e8
    have hSX : scrX.IsWhole := Memref.isWhole_whole _
    have hSA : scrA.IsWhole := Memref.isWhole_whole _
    have hTE : tabE.IsWhole := Memref.isWhole_whole _
    have hTR : tabR.IsWhole := Memref.isWhole_whole _
    have k1 : k0_cond1 i (wordU T1) = 1#1 := hu
    have k10 : ¬(k0_cond10 i (wordU T1) = 1#1) := fun h => (unused_iff i _).mp h hu
    have k2 : (Scalar.cmpi .ne (Scalar.extui (Scalar.cmpi .eq (BitVec.ofNat 32 (i 1).val) 0#32)) 0#32 = 1#1) := (first_iff i).mpr hf
    have k5 : ¬(Scalar.cmpi .ne (Scalar.extui (Scalar.cmpi .sgt (BitVec.ofNat 32 (i 1).val) 0#32)) 0#32 = 1#1) := fun h => (later_iff i).mp h hf
    have k9 : ¬(k0_cond9 i = 1#1) := fun h => (last_iff i).mp h hf
    have km : (Scalar.cmpi .ne (Scalar.extui (Scalar.cmpi .sgt (wordR i T1) 256#32)) 0#32 = 1#1) := hm
    have kf : ¬(Scalar.cmpi .ne (Scalar.extui (Scalar.cmpi .sle (wordR i T1) 256#32)) 0#32 = 1#1) := fun h => (few_iff _).mp h hm
    sl_exec! (disch := first | (guard_target = k0_cond1 _ _ = _; exact k1) | (guard_target = ¬(k0_cond10 _ _ = _); exact k10) | (guard_target = ¬(k0_cond9 _ = _); exact k9) | (guard_target = Scalar.cmpi = _; exact km) | (guard_target = ¬(Scalar.cmpi = _); exact kf) | (guard_target = Scalar.cmpi = _; exact k2) | (guard_target = ¬(Scalar.cmpi = _); exact k5))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO]
    · iexists _; isplitr; · ipureintro; exact h8.read_unread _
      iexact HO
    isplitl [HX]; · iexact HX
    iexact HA⟩

set_option backward.proofsInPublic true in
set_option maxHeartbeats 8000000 in
/-- Second half of a tile with more than 256 rows. The pieces it stores into the output's block and what it leaves in the scratch buffers, with the proof that it runs. -/
noncomputable def runB (X : BufX c) (A : BufA c) (hu : Used i T1) (hf : ¬(i 1).val = 0) (hm : Many i T1) :
    Σ' (O : List (View.Piece (Elt Bits) S4096x128 .f32)) (X' : BufX c), { A' : BufA c // ∀ (K : PUnit → sProp 𝕄),
      iprop(held c a4 a5 a6 a7 T0 T1 x0 x1 x2 x3 ∗ (∃ d, owns (c : Thread nD τ) a8 fullShare d) ∗ scr c X A
        ∗ (iprop(held c a4 a5 a6 a7 T0 T1 x0 x1 x2 x3 ∗ (∃ f, a8.view.loc (c : Thread nD τ) ↦[a8.view.set]{fullShare} a8.view.writes (Elt Bits) f O) ∗ scr c X' A') -∗ K ⟨⟩))
      ⊢ wp frame (wpE (defs₀ (F := Bits)) Variants.none c none) Set.univ (body i h4 h5 h6 h7 h8) K } :=
  ⟨_, _, _, fun K => by
    unfold held scr
    rw [body, cc0_moe_experts_eq_skeleton]; unfold cc0_moe_experts_skel
    unfold owns
    iintro ⟨⟨H0, H1, H2, H3, HT0, HT1⟩, ⟨%d8, %f8, -, HO⟩, ⟨HX, HA⟩, Hk⟩
    have hSX : scrX.IsWhole := Memref.isWhole_whole _
    have hSA : scrA.IsWhole := Memref.isWhole_whole _
    have hTE : tabE.IsWhole := Memref.isWhole_whole _
    have hTR : tabR.IsWhole := Memref.isWhole_whole _
    have k1 : k0_cond1 i (wordU T1) = 1#1 := hu
    have k10 : ¬(k0_cond10 i (wordU T1) = 1#1) := fun h => (unused_iff i _).mp h hu
    have k2 : ¬(Scalar.cmpi .ne (Scalar.extui (Scalar.cmpi .eq (BitVec.ofNat 32 (i 1).val) 0#32)) 0#32 = 1#1) := fun h => hf ((first_iff i).mp h)
    have k5 : (Scalar.cmpi .ne (Scalar.extui (Scalar.cmpi .sgt (BitVec.ofNat 32 (i 1).val) 0#32)) 0#32 = 1#1) := (later_iff i).mpr hf
    have k9 : (k0_cond9 i = 1#1) := (last_iff i).mpr hf
    have km : (Scalar.cmpi .ne (Scalar.extui (Scalar.cmpi .sgt (wordR i T1) 256#32)) 0#32 = 1#1) := hm
    have kf : ¬(Scalar.cmpi .ne (Scalar.extui (Scalar.cmpi .sle (wordR i T1) 256#32)) 0#32 = 1#1) := fun h => (few_iff _).mp h hm
    sl_exec! (disch := first | (guard_target = k0_cond1 _ _ = _; exact k1) | (guard_target = ¬(k0_cond10 _ _ = _); exact k10) | (guard_target = k0_cond9 _ = _; exact k9) | (guard_target = Scalar.cmpi = _; exact km) | (guard_target = ¬(Scalar.cmpi = _); exact kf) | (guard_target = ¬(Scalar.cmpi = _); exact k2) | (guard_target = Scalar.cmpi = _; exact k5))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO]; · iexists _; iexact HO
    isplitl [HX]; · iexact HX
    iexact HA⟩

set_option backward.proofsInPublic true in
set_option maxHeartbeats 8000000 in
/-- First half of a tile with at most 256 rows. What it leaves in the two scratch buffers, with the proof that it runs; the output's block is untouched. -/
noncomputable def runC (hu : Used i T1) (hf : (i 1).val = 0) (hm : ¬Many i T1) :
    Σ' X' : BufX c, { A' : BufA c // ∀ (y : S4096x128.Idx → Elt Bits .f32) (X : BufX c) (A : BufA c) (K : PUnit → sProp 𝕄),
      iprop(held c a4 a5 a6 a7 T0 T1 x0 x1 x2 x3 ∗ owns (c : Thread nD τ) a8 fullShare y ∗ scr c X A
        ∗ (iprop(held c a4 a5 a6 a7 T0 T1 x0 x1 x2 x3 ∗ owns (c : Thread nD τ) a8 fullShare y ∗ scr c X' A') -∗ K ⟨⟩))
      ⊢ wp frame (wpE (defs₀ (F := Bits)) Variants.none c none) Set.univ (body i h4 h5 h6 h7 h8) K } :=
  ⟨_, _, fun y X A K => by
    unfold held scr
    rw [body, cc0_moe_experts_eq_skeleton]; unfold cc0_moe_experts_skel
    unfold owns
    iintro ⟨⟨H0, H1, H2, H3, HT0, HT1⟩, ⟨%f8, %e8, HO⟩, ⟨HX, HA⟩, Hk⟩
    obtain rfl := h8.eq_unread e8
    have hSX : scrX.IsWhole := Memref.isWhole_whole _
    have hSA : scrA.IsWhole := Memref.isWhole_whole _
    have hTE : tabE.IsWhole := Memref.isWhole_whole _
    have hTR : tabR.IsWhole := Memref.isWhole_whole _
    have k1 : k0_cond1 i (wordU T1) = 1#1 := hu
    have k10 : ¬(k0_cond10 i (wordU T1) = 1#1) := fun h => (unused_iff i _).mp h hu
    have k2 : (Scalar.cmpi .ne (Scalar.extui (Scalar.cmpi .eq (BitVec.ofNat 32 (i 1).val) 0#32)) 0#32 = 1#1) := (first_iff i).mpr hf
    have k5 : ¬(Scalar.cmpi .ne (Scalar.extui (Scalar.cmpi .sgt (BitVec.ofNat 32 (i 1).val) 0#32)) 0#32 = 1#1) := fun h => (later_iff i).mp h hf
    have k9 : ¬(k0_cond9 i = 1#1) := fun h => (last_iff i).mp h hf
    have km : ¬(Scalar.cmpi .ne (Scalar.extui (Scalar.cmpi .sgt (wordR i T1) 256#32)) 0#32 = 1#1) := hm
    have kf : (Scalar.cmpi .ne (Scalar.extui (Scalar.cmpi .sle (wordR i T1) 256#32)) 0#32 = 1#1) := (few_iff _).mpr hm
    sl_exec! (disch := first | (guard_target = k0_cond1 _ _ = _; exact k1) | (guard_target = ¬(k0_cond10 _ _ = _); exact k10) | (guard_target = ¬(k0_cond9 _ = _); exact k9) | (guard_target = ¬(Scalar.cmpi = _); exact km) | (guard_target = Scalar.cmpi = _; exact kf) | (guard_target = Scalar.cmpi = _; exact k2) | (guard_target = ¬(Scalar.cmpi = _); exact k5))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO]
    · iexists _; isplitr; · ipureintro; exact h8.read_unread _
      iexact HO
    isplitl [HX]; · iexact HX
    iexact HA⟩

set_option backward.proofsInPublic true in
set_option maxHeartbeats 8000000 in
/-- Second half of a tile with at most 256 rows. The pieces it stores into the output's block and what it leaves in the scratch buffers, with the proof that it runs. -/
noncomputable def runD (X : BufX c) (A : BufA c) (hu : Used i T1) (hf : ¬(i 1).val = 0) (hm : ¬Many i T1) :
    Σ' (O : List (View.Piece (Elt Bits) S4096x128 .f32)) (X' : BufX c), { A' : BufA c // ∀ (K : PUnit → sProp 𝕄),
      iprop(held c a4 a5 a6 a7 T0 T1 x0 x1 x2 x3 ∗ (∃ d, owns (c : Thread nD τ) a8 fullShare d) ∗ scr c X A
        ∗ (iprop(held c a4 a5 a6 a7 T0 T1 x0 x1 x2 x3 ∗ (∃ f, a8.view.loc (c : Thread nD τ) ↦[a8.view.set]{fullShare} a8.view.writes (Elt Bits) f O) ∗ scr c X' A') -∗ K ⟨⟩))
      ⊢ wp frame (wpE (defs₀ (F := Bits)) Variants.none c none) Set.univ (body i h4 h5 h6 h7 h8) K } :=
  ⟨_, _, _, fun K => by
    unfold held scr
    rw [body, cc0_moe_experts_eq_skeleton]; unfold cc0_moe_experts_skel
    unfold owns
    iintro ⟨⟨H0, H1, H2, H3, HT0, HT1⟩, ⟨%d8, %f8, -, HO⟩, ⟨HX, HA⟩, Hk⟩
    have hSX : scrX.IsWhole := Memref.isWhole_whole _
    have hSA : scrA.IsWhole := Memref.isWhole_whole _
    have hTE : tabE.IsWhole := Memref.isWhole_whole _
    have hTR : tabR.IsWhole := Memref.isWhole_whole _
    have k1 : k0_cond1 i (wordU T1) = 1#1 := hu
    have k10 : ¬(k0_cond10 i (wordU T1) = 1#1) := fun h => (unused_iff i _).mp h hu
    have k2 : ¬(Scalar.cmpi .ne (Scalar.extui (Scalar.cmpi .eq (BitVec.ofNat 32 (i 1).val) 0#32)) 0#32 = 1#1) := fun h => hf ((first_iff i).mp h)
    have k5 : (Scalar.cmpi .ne (Scalar.extui (Scalar.cmpi .sgt (BitVec.ofNat 32 (i 1).val) 0#32)) 0#32 = 1#1) := (later_iff i).mpr hf
    have k9 : (k0_cond9 i = 1#1) := (last_iff i).mpr hf
    have km : ¬(Scalar.cmpi .ne (Scalar.extui (Scalar.cmpi .sgt (wordR i T1) 256#32)) 0#32 = 1#1) := hm
    have kf : (Scalar.cmpi .ne (Scalar.extui (Scalar.cmpi .sle (wordR i T1) 256#32)) 0#32 = 1#1) := (few_iff _).mpr hm
    sl_exec! (disch := first | (guard_target = k0_cond1 _ _ = _; exact k1) | (guard_target = ¬(k0_cond10 _ _ = _); exact k10) | (guard_target = k0_cond9 _ = _; exact k9) | (guard_target = ¬(Scalar.cmpi = _); exact km) | (guard_target = Scalar.cmpi = _; exact kf) | (guard_target = ¬(Scalar.cmpi = _); exact k2) | (guard_target = Scalar.cmpi = _; exact k5))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO]; · iexists _; iexact HO
    isplitl [HX]; · iexact HX
    iexact HA⟩

set_option backward.proofsInPublic true in
set_option maxHeartbeats 8000000 in
/-- A tile not in use: the piece stored into the output's block, with the proof that the body runs. -/
noncomputable def runE (hu : ¬Used i T1) :
    { O : List (View.Piece (Elt Bits) S4096x128 .f32) // ∀ (X : BufX c) (A : BufA c) (K : PUnit → sProp 𝕄),
      iprop(held c a4 a5 a6 a7 T0 T1 x0 x1 x2 x3 ∗ (∃ d, owns (c : Thread nD τ) a8 fullShare d) ∗ scr c X A
        ∗ (iprop(held c a4 a5 a6 a7 T0 T1 x0 x1 x2 x3 ∗ (∃ f, a8.view.loc (c : Thread nD τ) ↦[a8.view.set]{fullShare} a8.view.writes (Elt Bits) f O) ∗ scr c X A) -∗ K ⟨⟩))
      ⊢ wp frame (wpE (defs₀ (F := Bits)) Variants.none c none) Set.univ (body i h4 h5 h6 h7 h8) K } :=
  ⟨_, fun X A K => by
    unfold held scr
    rw [body, cc0_moe_experts_eq_skeleton]; unfold cc0_moe_experts_skel
    unfold owns
    iintro ⟨⟨H0, H1, H2, H3, HT0, HT1⟩, ⟨%d8, %f8, -, HO⟩, ⟨HX, HA⟩, Hk⟩
    have hSX : scrX.IsWhole := Memref.isWhole_whole _
    have hSA : scrA.IsWhole := Memref.isWhole_whole _
    have hTE : tabE.IsWhole := Memref.isWhole_whole _
    have hTR : tabR.IsWhole := Memref.isWhole_whole _
    have k1 : ¬(k0_cond1 i (wordU T1) = 1#1) := hu
    have k10 : k0_cond10 i (wordU T1) = 1#1 := (unused_iff i _).mpr hu
    sl_exec! (disch := first | (guard_target = ¬(k0_cond1 _ _ = _); exact k1) | (guard_target = k0_cond10 _ _ = _; exact k10))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO]; · iexists _; iexact HO
    isplitl [HX]; · iexact HX
    iexact HA⟩

end Cert.Kernel5.Exp

end
-- ==== Proof.ExpBitsFrame.lean ====
module

public import proofs.«01_k».proof.Proof.ExpBitsRun
public import Idealize.ShloMosaic.Lib.Claim
public import Idealize.ShloMosaic.Lib.Pipeline.Kit
public import Idealize.ShloMosaic.Lib.Pipeline.TableIdle
public import Idealize.ShloMosaic.Lib.Affine
public import Idealize.ShloMosaic.Lib.WordCmp
public import Idealize.ShloMosaic.Adequacy

/-!
# The experts' kernel as it runs: its frame, for every routing

The two tables stay arbitrary: `a` is any content of them for which every block lies inside its array. Between two grid points the
scratch buffers matter only inside a tile in use: after its first half they hold `mid`, which its second half reads.
-/

@[expose] public section

set_option maxRecDepth 16384
set_option Elab.async false

noncomputable section

namespace Cert.Kernel5.Exp

open Cert.Kernel5 Cert.Kernel5.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources the proof speaks of. -/
local notation "𝕄" => MT nD τ sig Unit (Elt Bits) ℕ (UR sig nD τ) ℕ

abbrev EP : Emb (UR sig nD τ) 𝕄 := emb₁

/-! ## The eight interleaved stores fill the block -/

/-- Eight pieces, the `c`-th at the rows `c, c + 8, c + 16, …`, fill the block: row `r` lies in piece `r mod 8`. -/
theorem cover8 (L : List (View.Piece (Elt Bits) S4096x128 .f32))
    (h : L.map (fun p => (p.1.off 0, p.1.off 1, p.1.size 0, p.1.size 1, p.1.stride 0, p.1.stride 1))
      = [(7, 0, 512, 128, 8, 1), (6, 0, 512, 128, 8, 1), (5, 0, 512, 128, 8, 1), (4, 0, 512, 128, 8, 1),
         (3, 0, 512, 128, 8, 1), (2, 0, 512, 128, 8, 1), (1, 0, 512, 128, 8, 1), (0, 0, 512, 128, 8, 1)])
    (y : S4096x128.Idx) : ∃ p ∈ L, y ∈ p.1.set := by
  have hm : ((y 0).val % 8, 0, 512, 128, 8, 1) ∈ L.map (fun p => (p.1.off 0, p.1.off 1, p.1.size 0, p.1.size 1, p.1.stride 0, p.1.stride 1)) := by
    rw [h]
    have : ∀ c : Fin 8, (c.val, 0, 512, 128, 8, 1) ∈ [(7, 0, 512, 128, 8, 1), (6, 0, 512, 128, 8, 1), (5, 0, 512, 128, 8, 1), (4, 0, 512, 128, 8, 1),
         (3, 0, 512, 128, 8, 1), (2, 0, 512, 128, 8, 1), (1, 0, 512, 128, 8, 1), (0, 0, 512, 128, 8, 1)] := by decide
    exact this ⟨(y 0).val % 8, Nat.mod_lt _ (by decide)⟩
  obtain ⟨p, hp, e⟩ := List.mem_map.mp hm
  refine ⟨p, hp, ?_⟩
  simp only [Prod.mk.injEq] at e
  obtain ⟨e0, e1, e2, e3, e4, e5⟩ := e
  have h0 : (y 0).val < 4096 := (y 0).isLt
  have h1 : (y 1).val < 128 := (y 1).isLt
  refine (LoadRect.mem_set _).mpr fun b => ?_
  match b with
  | ⟨0, _⟩ => exact ⟨(y 0).val / 8, by show _ < p.1.size 0; omega, by show (y 0).val = p.1.off 0 + p.1.stride 0 * _; rw [e0, e4]; omega⟩
  | ⟨1, _⟩ => exact ⟨(y 1).val, by show _ < p.1.size 1; omega, by show (y 1).val = p.1.off 1 + p.1.stride 1 * _; rw [e1, e5]; omega⟩

/-! ## The grid -/

/-- Point `t` is tile `t / 2`, half `t mod 2`. -/
theorem coords : ∀ t : Fin grid0.N, (grid0.coords t 0).val = t.val / 2 ∧ (grid0.coords t 1).val = t.val % 2 := by decide +kernel

/-- Whether a tile is in use does not depend on the half. -/
theorem used_congr {i j : grid0.Coords} (h : (i 0).val = (j 0).val) (T1 : S73.Idx → Elt Bits .i32) : Used i T1 ↔ Used j T1 := by
  unfold Used k0_cond1; rw [h]

variable (a : (pcfg0 (F := Bits)).Adm)

/-- The pipeline at the tables' contents `a`. -/
abbrev cfgA : Pipeline.Cfg sig Λ₀ := cfg0 (F := Bits) a
abbrev pcs : Fin 1 → Pipeline.Cfg sig Λ₀ := Pipeline.pin (pcfgs (F := Bits)) fun _ => a
abbrev T0 : S72.Idx → Elt Bits .i32 := a.1 0
abbrev T1 : S73.Idx → Elt Bits .i32 := a.1 1

variable (m : (ℓ : Loc nD τ sig) → Buf (Elt Bits) ℓ) (ρ : Dev nD → PrngReg)

abbrev crd (t : Fin (cfgA a).N) : grid0.Coords := (cfgA a).grid.coords t

/-- The staging buffers at point `t`. -/
abbrev ms4 (t : Fin (cfgA a).N) : Memref sig .tc .vmem S4096x128 .f32 := spec0_0.stage ((cfgA a).slots t (0 : Fin 5))
abbrev hs4 (t : Fin (cfgA a).N) : (ms4 a t).IsWhole := hstage0_0 (((cfgA a).slots t (0 : Fin 5)).cast nbuf0_0)
abbrev ms5 (t : Fin (cfgA a).N) : Memref sig .tc .vmem S1x1024x1792 .bf16 := spec0_1.stage ((cfgA a).slots t (1 : Fin 5))
abbrev hs5 (t : Fin (cfgA a).N) : (ms5 a t).IsWhole := hstage0_1 (((cfgA a).slots t (1 : Fin 5)).cast nbuf0_1)
abbrev ms6 (t : Fin (cfgA a).N) : Memref sig .tc .vmem S1x1024x1792 .bf16 := spec0_2.stage ((cfgA a).slots t (2 : Fin 5))
abbrev hs6 (t : Fin (cfgA a).N) : (ms6 a t).IsWhole := hstage0_2 (((cfgA a).slots t (2 : Fin 5)).cast nbuf0_2)
abbrev ms7 (t : Fin (cfgA a).N) : Memref sig .tc .vmem S1x1792x1024 .bf16 := spec0_3.stage ((cfgA a).slots t (3 : Fin 5))
abbrev hs7 (t : Fin (cfgA a).N) : (ms7 a t).IsWhole := hstage0_3 (((cfgA a).slots t (3 : Fin 5)).cast nbuf0_3)
abbrev ms8 (t : Fin (cfgA a).N) : Memref sig .tc .vmem S4096x128 .f32 := spec0_4.stage ((cfgA a).slots t (4 : Fin 5))
abbrev hs8 (t : Fin (cfgA a).N) : (ms8 a t).IsWhole := hstage0_4 (((cfgA a).slots t (4 : Fin 5)).cast nbuf0_4)

/-- Window `w`'s block at point `t`, read off its array at launch. -/
def iblk (c : Dev nD) (w : Fin (cfgA a).W) (t : Fin (cfgA a).N) : (((cfgA a).win w).xblock (crd a t)).Idx → Elt Bits ((cfgA a).win w).elt :=
  (((cfgA a).win w).blk t).view.read (Elt Bits) ((s₀ m ρ).mem (((cfgA a).win w).arr.view.loc (c : Thread nD τ)))

theorem lt_N (t : Fin (cfgA a).N) : t.val < 144 := lt_of_lt_of_eq t.isLt N_0

theorem crd0 (t : Fin (cfgA a).N) : (crd a t 0).val = t.val / 2 := (coords t).1
theorem crd1 (t : Fin (cfgA a).N) : (crd a t 1).val = t.val % 2 := (coords t).2

/-- The point before `t` (the first one's is itself). -/
def before (t : Fin (cfgA a).N) : Fin (cfgA a).N := ⟨t.val - 1, lt_of_le_of_lt (Nat.sub_le _ _) t.isLt⟩

/-- Before a second half there is the first half of the same tile. -/
theorem before_facts (t : Fin (cfgA a).N) (hf : ¬(crd a t 1).val = 0) :
    (before a t).val + 1 = t.val ∧ (crd a (before a t) 1).val = 0 ∧ (crd a (before a t) 0).val = (crd a t 0).val := by
  rw [crd1] at hf
  have e : (before a t).val = t.val - 1 := rfl
  rw [crd1, crd0, crd0, e]
  omega

/-! ## What the buffers hold -/

instance (c : Dev nD) : Inhabited (BufX c) := ⟨fun _ => (0 : BitVec 16)⟩
instance (c : Dev nD) : Inhabited (BufA c) := ⟨fun _ => (0 : BitVec 32)⟩

/-- What the scratch buffers hold after the first half of a tile in use. -/
def mid (c : Dev nD) (t : Fin (cfgA a).N) : BufX c × BufA c :=
  if hu : Used (crd a t) (T1 a) then
    if hf : (crd a t 1).val = 0 then
      if hm : Many (crd a t) (T1 a) then
        let R := runA c (crd a t) (hs4 a t) (hs5 a t) (hs6 a t) (hs7 a t) (hs8 a t) (T0 a) (T1 a) (iblk a m ρ c 0 t) (iblk a m ρ c 1 t) (iblk a m ρ c 2 t) (iblk a m ρ c 3 t) hu hf hm
        (R.1, R.2.1)
      else
        let R := runC c (crd a t) (hs4 a t) (hs5 a t) (hs6 a t) (hs7 a t) (hs8 a t) (T0 a) (T1 a) (iblk a m ρ c 0 t) (iblk a m ρ c 1 t) (iblk a m ρ c 2 t) (iblk a m ρ c 3 t) hu hf hm
        (R.1, R.2.1)
    else default
  else default

/-- The output's block written over arbitrary contents, read back. -/
abbrev VO : View sig .tc .vmem S4096x128 .f32 := View.whole cc0_stg4_0
abbrev readO (L : List (View.Piece (Elt Bits) S4096x128 .f32)) : S4096x128.Idx → Elt Bits .f32 :=
  VO.read (Elt Bits) (VO.writes (Elt Bits) VO.junk L)

/-- What the output's block holds after point `t`: zero in a tile not in use, the tile's rows after the second half of one in use. -/
def fin (c : Dev nD) (t : Fin (cfgA a).N) : S4096x128.Idx → Elt Bits .f32 :=
  if hu : Used (crd a t) (T1 a) then
    if hf : (crd a t 1).val = 0 then readO []
    else
      if hm : Many (crd a t) (T1 a) then
        readO (runB c (crd a t) (hs4 a t) (hs5 a t) (hs6 a t) (hs7 a t) (hs8 a t) (T0 a) (T1 a) (iblk a m ρ c 0 t) (iblk a m ρ c 1 t) (iblk a m ρ c 2 t) (iblk a m ρ c 3 t)
          (mid a m ρ c (before a t)).1 (mid a m ρ c (before a t)).2 hu hf hm).1
      else
        readO (runD c (crd a t) (hs4 a t) (hs5 a t) (hs6 a t) (hs7 a t) (hs8 a t) (T0 a) (T1 a) (iblk a m ρ c 0 t) (iblk a m ρ c 1 t) (iblk a m ρ c 2 t) (iblk a m ρ c 3 t)
          (mid a m ρ c (before a t)).1 (mid a m ρ c (before a t)).2 hu hf hm).1
  else
    readO (runE c (crd a t) (hs4 a t) (hs5 a t) (hs6 a t) (hs7 a t) (hs8 a t) (T0 a) (T1 a) (iblk a m ρ c 0 t) (iblk a m ρ c 1 t) (iblk a m ρ c 2 t) (iblk a m ρ c 3 t) hu).1

/-- Between two points: the tables, and the scratch buffers, at `mid` after the first half of a tile in use. -/
def Phi (c : Dev nD) (n : Fin ((cfgA a).N + 1)) : sProp 𝕄 :=
  iprop((∃ X A, ⌜∀ t : Fin (cfgA a).N, t.val + 1 = n.val → (crd a t 1).val = 0 → Used (crd a t) (T1 a) → X = (mid a m ρ c t).1 ∧ A = (mid a m ρ c t).2⌝ ∗ scr c X A)
    ∗ (tabE.view.loc (c : Thread nD τ) ↦{fullShare.right} T0 a) ∗ (tabR.view.loc (c : Thread nD τ) ↦{fullShare.right} T1 a))

/-- The proof data of the pipeline on core `c`. -/
def dats (_ : Fin 1) (c : Dev nD) : Dat τ (Elt Bits) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => fin a m ρ c t
  Φ t := Phi a m ρ c t
  q _ := fullShare
  owed _ := 0

theorem after_0 (c : Dev nD) (t : Fin (cfgA a).N) : (dats a m ρ 0 c).after (0 : Fin 5) t = iblk a m ρ c (0 : Fin 5) t := rfl
theorem after_1 (c : Dev nD) (t : Fin (cfgA a).N) : (dats a m ρ 0 c).after (1 : Fin 5) t = iblk a m ρ c (1 : Fin 5) t := rfl
theorem after_2 (c : Dev nD) (t : Fin (cfgA a).N) : (dats a m ρ 0 c).after (2 : Fin 5) t = iblk a m ρ c (2 : Fin 5) t := rfl
theorem after_3 (c : Dev nD) (t : Fin (cfgA a).N) : (dats a m ρ 0 c).after (3 : Fin 5) t = iblk a m ρ c (3 : Fin 5) t := rfl
theorem after_4 (c : Dev nD) (t : Fin (cfgA a).N) : (dats a m ρ 0 c).after (4 : Fin 5) t = fin a m ρ c t := rfl

/-! Every input's staging buffer holds its block when the body runs. -/

theorem before_0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after_0]; unfold Dat.blockOf iblk; rfl) t d).trans
    (by unfold Dat.fetched Dat.blockOf iblk; rfl)

theorem before_1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after_1]; unfold Dat.blockOf iblk; rfl) t d).trans
    (by unfold Dat.fetched Dat.blockOf iblk; rfl)

theorem before_2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after_2]; unfold Dat.blockOf iblk; rfl) t d).trans
    (by unfold Dat.fetched Dat.blockOf iblk; rfl)

theorem before_3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after_3]; unfold Dat.blockOf iblk; rfl) t d).trans
    (by unfold Dat.fetched Dat.blockOf iblk; rfl)

/-! ## Where the output's block is idle, and where it is written back -/

/-- The word the pipeline's table of idle points reads is the one the body reads. -/
theorem atD_eq : Pipeline.Prefetch.Contents.atD a.1 1 ![0] = wordU (T1 a) := by
  unfold Pipeline.Prefetch.Contents.atD
  rw [dif_pos (by decide)]
  exact congrArg (T1 a) (funext fun b => Fin.ext (by fin_cases b; rfl))

theorem idle_eq (t : Fin (cfgA a).N) : (cfgA a).idle (4 : Fin 5) ((cfgA a).grid.coords t)
    = (!(k0_cond1 (crd a t) (wordU (T1 a)) == 1#1 && k0_cond9 (crd a t) == 1#1) && !(k0_cond10 (crd a t) (wordU (T1 a)) == 1#1)) := by
  rw [← atD_eq]

theorem idle_first (t : Fin (cfgA a).N) (hu : Used (crd a t) (T1 a)) (hf : (crd a t 1).val = 0) :
    (cfgA a).idle (4 : Fin 5) ((cfgA a).grid.coords t) = true := by
  rw [idle_eq]
  have h9 : ¬(k0_cond9 (crd a t) = 1#1) := fun h => (last_iff _).mp h hf
  have h10 : ¬(k0_cond10 (crd a t) (wordU (T1 a)) = 1#1) := fun h => (unused_iff _ _).mp h hu
  simp [h9, h10]

theorem idle_later (t : Fin (cfgA a).N) (hu : Used (crd a t) (T1 a)) (hf : ¬(crd a t 1).val = 0) :
    (cfgA a).idle (4 : Fin 5) ((cfgA a).grid.coords t) = false := by
  rw [idle_eq]
  have h1 : k0_cond1 (crd a t) (wordU (T1 a)) = 1#1 := hu
  have h9 : k0_cond9 (crd a t) = 1#1 := (last_iff _).mpr hf
  simp [h1, h9]

theorem idle_unused (t : Fin (cfgA a).N) (hu : ¬Used (crd a t) (T1 a)) : (cfgA a).idle (4 : Fin 5) ((cfgA a).grid.coords t) = false := by
  rw [idle_eq]
  have h10 : k0_cond10 (crd a t) (wordU (T1 a)) = 1#1 := (unused_iff _ _).mpr hu
  simp [h10]

theorem flush_grid : ∀ t : Fin grid0.N, Pipeline.Window.flushOf grid0 true cc0_transform_4 t = decide (t.val % 2 = 1) := by decide +kernel

/-- The output's block is written back after second halves only. -/
theorem flush_first (t : Fin (cfgA a).N) (hf : (crd a t 1).val = 0) : ((cfgA a).win (4 : Fin 5)).flush t = false := by
  rw [crd1] at hf
  refine (show _ = Pipeline.Window.flushOf grid0 true cc0_transform_4 t from rfl).trans ((flush_grid t).trans ?_)
  simp [hf]

/-! ## The body, at every point -/

abbrev bodyAt (t : Fin (cfgA a).N) : Prog (TpuEff nD τ sig (Elt Bits) Λ₀ .tc) PUnit :=
  body (crd a t) (hs4 a t) (hs5 a t) (hs6 a t) (hs7 a t) (hs8 a t)

set_option maxHeartbeats 4000000 in
/-- The body's obligation at point `t`, in the five cases. -/
theorem sound_body (c : Dev nD) (t : Fin (cfgA a).N) :
    iprop((dats a m ρ 0 c).Φ t.castSucc ∗ (dats a m ρ 0 c).owesAt () t.castSucc
        ∗ (∃ d, owns (c : Thread nD τ) (ms4 a t) fullShare ((dats a m ρ 0 c).before (0 : Fin 5) t d))
        ∗ (∃ d, owns (c : Thread nD τ) (ms5 a t) fullShare ((dats a m ρ 0 c).before (1 : Fin 5) t d))
        ∗ (∃ d, owns (c : Thread nD τ) (ms6 a t) fullShare ((dats a m ρ 0 c).before (2 : Fin 5) t d))
        ∗ (∃ d, owns (c : Thread nD τ) (ms7 a t) fullShare ((dats a m ρ 0 c).before (3 : Fin 5) t d))
        ∗ (∃ d, owns (c : Thread nD τ) (ms8 a t) fullShare ((dats a m ρ 0 c).before (4 : Fin 5) t d)))
      ⊢ wp frame (wpE (defs₀ (F := Bits)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  by_cases hu : Used (crd a t) (T1 a)
  · by_cases hf : (crd a t 1).val = 0
    · by_cases hm : Many (crd a t) (T1 a)
      · rewrite [idle_first a t hu hf]
        simp only [before_0, before_1, before_2, before_3, after_0, after_1, after_2, after_3, after_4, flush_first a t hf]
        rewrite [show (dats a m ρ 0 c).Φ t.succ = Phi a m ρ c t.succ from rfl, show (dats a m ρ 0 c).Φ t.castSucc = Phi a m ρ c t.castSucc from rfl,
          show (dats a m ρ 0 c).owesAt () t.succ = (dats a m ρ 0 c).owesAt () t.castSucc from rfl]
        unfold Phi
        iintro ⟨⟨⟨%X, %A, %hXA, HS⟩, HT0, HT1⟩, Ho, ⟨%d0, H0⟩, ⟨%d1, H1⟩, ⟨%d2, H2⟩, ⟨%d3, H3⟩, ⟨%d4, H4⟩⟩
        have hmid : mid a m ρ c t = ((runA c (crd a t) (hs4 a t) (hs5 a t) (hs6 a t) (hs7 a t) (hs8 a t) (T0 a) (T1 a) (iblk a m ρ c 0 t) (iblk a m ρ c 1 t) (iblk a m ρ c 2 t) (iblk a m ρ c 3 t) hu hf hm).1, (runA c (crd a t) (hs4 a t) (hs5 a t) (hs6 a t) (hs7 a t) (hs8 a t) (T0 a) (T1 a) (iblk a m ρ c 0 t) (iblk a m ρ c 1 t) (iblk a m ρ c 2 t) (iblk a m ρ c 3 t) hu hf hm).2.1) := by
          unfold mid; rw [dif_pos hu, dif_pos hf, dif_pos hm]
        iapply ((runA c (crd a t) (hs4 a t) (hs5 a t) (hs6 a t) (hs7 a t) (hs8 a t) (T0 a) (T1 a) (iblk a m ρ c 0 t) (iblk a m ρ c 1 t) (iblk a m ρ c 2 t) (iblk a m ρ c 3 t) hu hf hm).2.2 _ X A _)
        isplitl [H0 H1 H2 H3 HT0 HT1]
        · unfold held
          isplitl [H0]; · iapply rep_of_owns; iexact H0
          isplitl [H1]; · iapply rep_of_owns; iexact H1
          isplitl [H2]; · iapply rep_of_owns; iexact H2
          isplitl [H3]; · iapply rep_of_owns; iexact H3
          isplitl [HT0]; · iexact HT0
          iexact HT1
        isplitl [H4]; · iexact H4
        isplitl [HS]; · iexact HS
        unfold held
        iintro ⟨⟨H0, H1, H2, H3, HT0, HT1⟩, H4, HS⟩
        isplitl [HS HT0 HT1]
        · isplitl [HS]
          · iexists _; iexists _; isplitr; swap
            · iexact HS
            · ipureintro; intro t' ht' hf' hu'
              obtain rfl : t' = t := Fin.ext (Nat.succ_injective ht')
              rw [hmid]; exact ⟨rfl, rfl⟩
          isplitl [HT0]; · iexact HT0
          iexact HT1
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        iexists d4; iexact H4
      · rewrite [idle_first a t hu hf]
        simp only [before_0, before_1, before_2, before_3, after_0, after_1, after_2, after_3, after_4, flush_first a t hf]
        rewrite [show (dats a m ρ 0 c).Φ t.succ = Phi a m ρ c t.succ from rfl, show (dats a m ρ 0 c).Φ t.castSucc = Phi a m ρ c t.castSucc from rfl,
          show (dats a m ρ 0 c).owesAt () t.succ = (dats a m ρ 0 c).owesAt () t.castSucc from rfl]
        unfold Phi
        iintro ⟨⟨⟨%X, %A, %hXA, HS⟩, HT0, HT1⟩, Ho, ⟨%d0, H0⟩, ⟨%d1, H1⟩, ⟨%d2, H2⟩, ⟨%d3, H3⟩, ⟨%d4, H4⟩⟩
        have hmid : mid a m ρ c t = ((runC c (crd a t) (hs4 a t) (hs5 a t) (hs6 a t) (hs7 a t) (hs8 a t) (T0 a) (T1 a) (iblk a m ρ c 0 t) (iblk a m ρ c 1 t) (iblk a m ρ c 2 t) (iblk a m ρ c 3 t) hu hf hm).1, (runC c (crd a t) (hs4 a t) (hs5 a t) (hs6 a t) (hs7 a t) (hs8 a t) (T0 a) (T1 a) (iblk a m ρ c 0 t) (iblk a m ρ c 1 t) (iblk a m ρ c 2 t) (iblk a m ρ c 3 t) hu hf hm).2.1) := by
          unfold mid; rw [dif_pos hu, dif_pos hf, dif_neg hm]
        iapply ((runC c (crd a t) (hs4 a t) (hs5 a t) (hs6 a t) (hs7 a t) (hs8 a t) (T0 a) (T1 a) (iblk a m ρ c 0 t) (iblk a m ρ c 1 t) (iblk a m ρ c 2 t) (iblk a m ρ c 3 t) hu hf hm).2.2 _ X A _)
        isplitl [H0 H1 H2 H3 HT0 HT1]
        · unfold held
          isplitl [H0]; · iapply rep_of_owns; iexact H0
          isplitl [H1]; · iapply rep_of_owns; iexact H1
          isplitl [H2]; · iapply rep_of_owns; iexact H2
          isplitl [H3]; · iapply rep_of_owns; iexact H3
          isplitl [HT0]; · iexact HT0
          iexact HT1
        isplitl [H4]; · iexact H4
        isplitl [HS]; · iexact HS
        unfold held
        iintro ⟨⟨H0, H1, H2, H3, HT0, HT1⟩, H4, HS⟩
        isplitl [HS HT0 HT1]
        · isplitl [HS]
          · iexists _; iexists _; isplitr; swap
            · iexact HS
            · ipureintro; intro t' ht' hf' hu'
              obtain rfl : t' = t := Fin.ext (Nat.succ_injective ht')
              rw [hmid]; exact ⟨rfl, rfl⟩
          isplitl [HT0]; · iexact HT0
          iexact HT1
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        iexists d4; iexact H4
    · obtain ⟨e1, e2, e3⟩ := before_facts a t hf
      have hub : Used (crd a (before a t)) (T1 a) := (used_congr e3 (T1 a)).mpr hu
      by_cases hm : Many (crd a t) (T1 a)
      · rewrite [idle_later a t hu hf]
        simp only [before_0, before_1, before_2, before_3, after_0, after_1, after_2, after_3, after_4]
        rewrite [show (dats a m ρ 0 c).Φ t.succ = Phi a m ρ c t.succ from rfl, show (dats a m ρ 0 c).Φ t.castSucc = Phi a m ρ c t.castSucc from rfl,
          show (dats a m ρ 0 c).owesAt () t.succ = (dats a m ρ 0 c).owesAt () t.castSucc from rfl]
        unfold Phi
        iintro ⟨⟨⟨%X, %A, %hXA, HS⟩, HT0, HT1⟩, Ho, ⟨%d0, H0⟩, ⟨%d1, H1⟩, ⟨%d2, H2⟩, ⟨%d3, H3⟩, ⟨%d4, H4⟩⟩
        obtain ⟨rfl, rfl⟩ := hXA (before a t) e1 e2 hub
        iapply ((runB c (crd a t) (hs4 a t) (hs5 a t) (hs6 a t) (hs7 a t) (hs8 a t) (T0 a) (T1 a) (iblk a m ρ c 0 t) (iblk a m ρ c 1 t) (iblk a m ρ c 2 t) (iblk a m ρ c 3 t) _ _ hu hf hm).2.2.2 _)
        isplitl [H0 H1 H2 H3 HT0 HT1]
        · unfold held
          isplitl [H0]; · iapply rep_of_owns; iexact H0
          isplitl [H1]; · iapply rep_of_owns; iexact H1
          isplitl [H2]; · iapply rep_of_owns; iexact H2
          isplitl [H3]; · iapply rep_of_owns; iexact H3
          isplitl [HT0]; · iexact HT0
          iexact HT1
        isplitl [H4]; · iexists _; iexact H4
        isplitl [HS]; · iexact HS
        unfold held
        iintro ⟨⟨H0, H1, H2, H3, HT0, HT1⟩, ⟨%e4, H4⟩, HS⟩
        isplitl [HS HT0 HT1]
        · isplitl [HS]
          · iexists _; iexists _; isplitr; swap
            · iexact HS
            · ipureintro; intro t' ht' hf' hu'
              obtain rfl : t' = t := Fin.ext (Nat.succ_injective ht')
              exact absurd hf' hf
          isplitl [HT0]; · iexact HT0
          iexact HT1
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        unfold fin; rw [dif_pos hu, dif_neg hf, dif_pos hm]
        unfold owns; iexists _; isplitr; swap
        · iexact H4
        · ipureintro; exact View.read_writes_of_cover _ _ _ _ _ (cover8 _ (by sl_kernel_rfl))
      · rewrite [idle_later a t hu hf]
        simp only [before_0, before_1, before_2, before_3, after_0, after_1, after_2, after_3, after_4]
        rewrite [show (dats a m ρ 0 c).Φ t.succ = Phi a m ρ c t.succ from rfl, show (dats a m ρ 0 c).Φ t.castSucc = Phi a m ρ c t.castSucc from rfl,
          show (dats a m ρ 0 c).owesAt () t.succ = (dats a m ρ 0 c).owesAt () t.castSucc from rfl]
        unfold Phi
        iintro ⟨⟨⟨%X, %A, %hXA, HS⟩, HT0, HT1⟩, Ho, ⟨%d0, H0⟩, ⟨%d1, H1⟩, ⟨%d2, H2⟩, ⟨%d3, H3⟩, ⟨%d4, H4⟩⟩
        obtain ⟨rfl, rfl⟩ := hXA (before a t) e1 e2 hub
        iapply ((runD c (crd a t) (hs4 a t) (hs5 a t) (hs6 a t) (hs7 a t) (hs8 a t) (T0 a) (T1 a) (iblk a m ρ c 0 t) (iblk a m ρ c 1 t) (iblk a m ρ c 2 t) (iblk a m ρ c 3 t) _ _ hu hf hm).2.2.2 _)
        isplitl [H0 H1 H2 H3 HT0 HT1]
        · unfold held
          isplitl [H0]; · iapply rep_of_owns; iexact H0
          isplitl [H1]; · iapply rep_of_owns; iexact H1
          isplitl [H2]; · iapply rep_of_owns; iexact H2
          isplitl [H3]; · iapply rep_of_owns; iexact H3
          isplitl [HT0]; · iexact HT0
          iexact HT1
        isplitl [H4]; · iexists _; iexact H4
        isplitl [HS]; · iexact HS
        unfold held
        iintro ⟨⟨H0, H1, H2, H3, HT0, HT1⟩, ⟨%e4, H4⟩, HS⟩
        isplitl [HS HT0 HT1]
        · isplitl [HS]
          · iexists _; iexists _; isplitr; swap
            · iexact HS
            · ipureintro; intro t' ht' hf' hu'
              obtain rfl : t' = t := Fin.ext (Nat.succ_injective ht')
              exact absurd hf' hf
          isplitl [HT0]; · iexact HT0
          iexact HT1
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        unfold fin; rw [dif_pos hu, dif_neg hf, dif_neg hm]
        unfold owns; iexists _; isplitr; swap
        · iexact H4
        · ipureintro; exact View.read_writes_of_cover _ _ _ _ _ (cover8 _ (by sl_kernel_rfl))
  · rewrite [idle_unused a t hu]
    simp only [before_0, before_1, before_2, before_3, after_0, after_1, after_2, after_3, after_4]
    rewrite [show (dats a m ρ 0 c).Φ t.succ = Phi a m ρ c t.succ from rfl, show (dats a m ρ 0 c).Φ t.castSucc = Phi a m ρ c t.castSucc from rfl,
      show (dats a m ρ 0 c).owesAt () t.succ = (dats a m ρ 0 c).owesAt () t.castSucc from rfl]
    unfold Phi
    iintro ⟨⟨⟨%X, %A, %hXA, HS⟩, HT0, HT1⟩, Ho, ⟨%d0, H0⟩, ⟨%d1, H1⟩, ⟨%d2, H2⟩, ⟨%d3, H3⟩, ⟨%d4, H4⟩⟩
    iapply ((runE c (crd a t) (hs4 a t) (hs5 a t) (hs6 a t) (hs7 a t) (hs8 a t) (T0 a) (T1 a) (iblk a m ρ c 0 t) (iblk a m ρ c 1 t) (iblk a m ρ c 2 t) (iblk a m ρ c 3 t) hu).2 X A _)
    isplitl [H0 H1 H2 H3 HT0 HT1]
    · unfold held
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      iexact HT1
    isplitl [H4]; · iexists _; iexact H4
    isplitl [HS]; · iexact HS
    unfold held
    iintro ⟨⟨H0, H1, H2, H3, HT0, HT1⟩, ⟨%e4, H4⟩, HS⟩
    isplitl [HS HT0 HT1]
    · isplitl [HS]
      · iexists _; iexists _; isplitr; swap
        · iexact HS
        · ipureintro; intro t' ht' hf' hu'
          obtain rfl : t' = t := Fin.ext (Nat.succ_injective ht')
          exact absurd hu' hu
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold fin; rw [dif_neg hu]
    unfold owns; iexists _; isplitr; swap
    · iexact H4
    · ipureintro; exact View.read_writes_of_cover _ _ _ _ _ (View.cover_of_tiledL _ S4096x128.size (by sl_kernel_rfl))

/-- The body's obligation, at every point. -/
theorem body_obligation (c : Dev nD) : BodyObligation (dats a m ρ 0 c) (defs₀ (F := Bits)) Variants.none () Set.univ := fun t => by
  rw [bigSep_W0]
  exact sound_body a m ρ c t

/-! ## The launch -/

def u₀ : UR sig nD τ :=
  initOf (Pipeline.cells (pcs a) ((launch0 (F := Bits)).cellOf_inj fun _ => a))
    (Pipeline.launchToks (pcs a) ((launch0 (F := Bits)).cellOf_inj fun _ => a))

theorem share_eq (c : Dev nD) (w : Fin (cfgA a).W) : (dats a m ρ 0 c).share w = fullShare := by unfold Dat.share; split <;> rfl

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- Before the first point the scratch buffers hold anything. -/
theorem phi_start (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi scr
  iintro ⟨-, ⟨HT0, HT1⟩, ⟨%X, HX⟩, ⟨%A, HA⟩⟩
  isplitl [HX HA]
  · iexists X; iexists A; isplitr
    · ipureintro; intro t h; exact absurd h (Nat.succ_ne_zero _)
    isplitl [HX]; · iexact HX
    iexact HA
  isplitl [HT0]; · iexact HT0
  iexact HT1

/-- After the last point they are given back. -/
theorem phi_end (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi scr
  iintro ⟨⟨%X, %A, -, HX, HA⟩, -, -⟩
  isplitr; · iempintro
  isplitl [HX]
  · iexists X; iexact HX
  iexists A; iexact HA

/-- At the end every array is at what the pipeline computes, and the tables are as they were. -/
def QC : PUnit × MemSt nD τ sig (Elt Bits) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
/-- The call runs, from any memory whose tables are `a`. -/
theorem run_main (hp : ∀ (c : Dev nD) (j : Fin 2), m ((c : Thread nD τ).loc (pre0.ref j)) = a.1 j) :
    θ_run (defs (F := Bits)) (onTc (τ := τ) (main (F := Bits))) (s₀ m ρ) (fun r => QC a m ρ r ∧ r.2.sem = fun _ => 0) :=
  Pipeline.θ_run_region_noSem_pf_quiescent pcfgs (fun _ => a) (dats a m ρ) () ((launch0 (F := Bits)).cellOf_inj fun _ => a) (0 : Fin 1)
    (launch0 (F := Bits)).win.to₀ (launch0 (F := Bits)).pre EP defs₀ Variants.none m ρ main
    (hbody := fun c => (body_obligation a m ρ c).loose) (hne := (launch0 (F := Bits)).block_pos)
    (harr := (launch0 (F := Bits)).arr_whole) (hstage := (launch0 (F := Bits)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Bits)).win.arr_inj c (launch0 (F := Bits)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_start a m ρ)
    (hout := phi_end a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The six arguments end as they were. -/
def Kept (r : PUnit × MemSt nD τ sig (Elt Bits)) : Prop := ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)

theorem kept_of (hp : ∀ (c : Dev nD) (j : Fin 2), m ((c : Thread nD τ).loc (pre0.ref j)) = a.1 j) (r) (h : QC a m ρ r) : Kept m r := fun c =>
  ⟨((h c).2 0).trans (hp c 0).symm, ((h c).2 1).trans (hp c 1).symm, ((h c).1 (0 : Fin 5)).trans ((dats a m ρ 0 c).arrAt_in (0 : Fin 5) rfl _),
    ((h c).1 (1 : Fin 5)).trans ((dats a m ρ 0 c).arrAt_in (1 : Fin 5) rfl _), ((h c).1 (2 : Fin 5)).trans ((dats a m ρ 0 c).arrAt_in (2 : Fin 5) rfl _),
    ((h c).1 (3 : Fin 5)).trans ((dats a m ρ 0 c).arrAt_in (3 : Fin 5) rfl _)⟩

/-- The frame: the call runs, its arguments end unchanged and every counter reads zero. -/
theorem frame_at (hp : ∀ (c : Dev nD) (j : Fin 2), m ((c : Thread nD τ).loc (pre0.ref j)) = a.1 j) :
    θ_run (defs (F := Bits)) (onTc (τ := τ) (main (F := Bits))) ⟨m, fun _ => 0, ρ⟩ (fun r => Kept m r ∧ r.2.sem = fun _ => 0) :=
  (θ_run defs _ _).mono (fun r h => ⟨kept_of a m ρ hp r h.1, h.2⟩) (run_main a m ρ hp)

end Cert.Kernel5.Exp

end
-- ==== Proof.ExpBitsPre.lean ====
module

public import proofs.«01_k».proof.Defs
public import proofs.«01_k».proof.Proof.Gen.Pre_tables_fit
public import proofs.«01_k».proof.Proof.ExpBitsTab
public import proofs.«01_k».proof.Proof.ExpBitsFrame
public import Idealize.ShloMosaic.Lib.WordCmp

/-!
# The experts' kernel as it runs: its frame under the condition on the tables

The condition says that every expert number is 0 to 7 and that at least one tile is in use. Such tables are admissible, so the call runs.
-/

@[expose] public section

set_option maxRecDepth 16384

noncomputable section

namespace Cert.Kernel5.Exp

open Cert.Kernel5 Cert.Kernel5.Gen
open Idealize.ShloMosaic Idealize.ShloMosaic.TcCoe Idealize.ShloMosaic.WordCmp Idealize.SL.Sem

attribute [local instance] Cert.Pre_tables_fit.Gen.facts

/-- The condition on the first table, read at one entry: the expert is 0 to 7. -/
theorem experts_fit {F : FTy → Type} [FloatOps F] (E : IVec S72 32) (R : IVec S73 32) (X : FVec F S294912x128 .f32) (G U : FVec F S8x1024x3584 .bf16)
    (D : FVec F S8x3584x1024 .bf16) (h : (Cert.Pre_tables_fit.fn (F := F) E R X G U D).1 = fun _ => 1#1) (x : S72.Idx) :
    0 ≤ (E x).toInt ∧ (E x).toInt ≤ 7 := by
  have h1 : IntOp.andi (IntOp.cmpi .sge (E x) 0#32) (IntOp.cmpi .sle (E x) 7#32) = 1#1 := congrFun h x
  rw [cmpi_sge_eq, cmpi_sle_eq, andi_ofBool, ofBool_eq_one_iff, Bool.and_eq_true, decide_eq_true_eq, decide_eq_true_eq] at h1
  exact h1

/-- The condition on the second table: at least one tile is in use. -/
theorem tiles_fit {F : FTy → Type} [FloatOps F] (E : IVec S72 32) (R : IVec S73 32) (X : FVec F S294912x128 .f32) (G U : FVec F S8x1024x3584 .bf16)
    (D : FVec F S8x3584x1024 .bf16) (h : (Cert.Pre_tables_fit.fn (F := F) E R X G U D).2 = fun _ => 1#1) (x : S73.Idx)
    (hx : (x 0).val = 0) : 1 ≤ (R x).toInt := by
  let z : Cert.Pre_tables_fit.S1.Idx := fun b => match b with | ⟨0, _⟩ => (0 : Fin 1)
  have h1 : IntOp.cmpi .sge (extractStridedSlice Cert.Pre_tables_fit.S1 ![0] R Cert.Pre_tables_fit.Facts.slices_S73_S1_0 z) 1#32 = 1#1 := congrFun h z
  rw [cmpi_sge_eq, ofBool_decide_eq_one_iff] at h1
  refine h1.trans (le_of_eq (congrArg (fun y => BitVec.toInt (R y)) (funext fun b => ?_)))
  match b with
  | ⟨0, _⟩ => exact Fin.ext hx.symm

variable (m : (ℓ : Loc nD τ sig) → Buf (Elt Bits) ℓ)

/-- The tables a memory holds. -/
def tables : pre0.Contents (Elt Bits) := fun j => m (((0 : Dev nD) : Thread nD τ).loc (pre0.ref j))

/-- Tables that meet the condition are admissible. -/
def adm (hE : ∀ x : S72.Idx, 0 ≤ BitVec.toInt (n := 32) (tables m 0 x) ∧ BitVec.toInt (n := 32) (tables m 0 x) ≤ 7)
    (hU : ∀ x : S73.Idx, (x 0).val = 0 → 1 ≤ BitVec.toInt (n := 32) (tables m 1 x)) : (pcfg0 (F := Bits)).Adm :=
  ⟨tables m, ok_of (tables m) hE hU⟩

/-- There is one core. -/
theorem tables_eq (c : Dev nD) (j : Fin 2) : m ((c : Thread nD τ).loc (pre0.ref j)) = tables m j := by
  obtain rfl : c = 0 := Subsingleton.elim _ _
  rfl

/-- The frame of the call. -/
theorem frame : Cert.quiescent_Kernel5 (hKernel5 := Cert.Kernel5.Gen.facts) (hPre_tables_fit := Cert.Pre_tables_fit.Gen.facts) :=
  fun m g hm => frame_at (adm m (experts_fit _ _ _ _ _ _ (hm 0).1) (tiles_fit _ _ _ _ _ _ (hm 0).2)) m g (tables_eq m)

end Cert.Kernel5.Exp

end
-- ==== Proof.ExpVal.lean ====
module

public import proofs.«01_k».proof.Proof.ExpRun
public import Idealize.ShloMosaic.Lib.Pipeline.ValueKit
public import Idealize.ShloMosaic.Lib.Pointwise

/-!
# The experts' kernel: what one run of its body computes

A tile's first half leaves in the accumulator the product over the first 1792 hidden columns, its second half adds the product over
the others. The hidden columns of a half are computed in seven chunks of 256, which are joined before the product with the output
weights.
-/

@[expose] public section

set_option maxRecDepth 16384

noncomputable section

namespace Cert.Kernel5Ideal.Exp

open Cert.Kernel5Ideal Cert.Kernel5Ideal.Gen
open Idealize.ShloMosaic Idealize.ShloMosaic.TcCoe

/-- One hidden column of a row: the gated product of its two projections. -/
def hid (x : Fin 1024 → EReal) (g u : S1x1024x1792.Idx → EReal) (k : Fin 1792) : EReal :=
  (∑ l : Fin 1024, x l * g (ix3 0 l k)) * Ideal.logistic (∑ l : Fin 1024, x l * g (ix3 0 l k)) * (∑ l : Fin 1024, x l * u (ix3 0 l k))

/-- A row's product with one output column over the hidden columns of a half. -/
def prd (x : Fin 1024 → EReal) (g u : S1x1024x1792.Idx → EReal) (d : S1x1792x1024.Idx → EReal) (q : Fin 1024) : EReal :=
  ∑ k : Fin 1792, hid x g u k * d (ix3 0 k q)

/-- Column `k` of the `n`-th chunk. -/
def colOf (n : Fin 7) (k : Fin 256) : Fin 1792 := ⟨256 * n.val + k.val, by omega⟩

/-- A chunk of the hidden columns, 512 rows. -/
theorem chunk512 (v : FVec Ideal S512x1024 .bf16) (a b : FVec Ideal S1x1024x256 .bf16) (g u : S1x1024x1792.Idx → EReal) (n : Fin 7)
    (ha : ∀ (l : Fin 1024) (k : Fin 256), a (ix3 0 l k) = g (ix3 0 l (colOf n k)))
    (hb : ∀ (l : Fin 1024) (k : Fin 256), b (ix3 0 l k) = u (ix3 0 l (colOf n k))) (j : S512x256.Idx) :
    k0_pay18 (F := Ideal) v a b j = hid (fun l => v (ix2 (j 0) l)) g u (colOf n (j 1)) := by
  have e : k0_pay18 (F := Ideal) v a b j = (∑ l : Fin 1024, v (ix2 (j 0) l) * a (ix3 0 l (j 1)))
      * Ideal.logistic (∑ l : Fin 1024, v (ix2 (j 0) l) * a (ix3 0 l (j 1))) * (∑ l : Fin 1024, v (ix2 (j 0) l) * b (ix3 0 l (j 1))) := by
    pointwise [k0_pay18]
  have eA : (∑ l : Fin 1024, v (ix2 (j 0) l) * a (ix3 0 l (j 1))) = ∑ l : Fin 1024, v (ix2 (j 0) l) * g (ix3 0 l (colOf n (j 1))) :=
    Finset.sum_congr rfl fun l _ => congrArg (v (ix2 (j 0) l) * ·) (ha l (j 1))
  have eB : (∑ l : Fin 1024, v (ix2 (j 0) l) * b (ix3 0 l (j 1))) = ∑ l : Fin 1024, v (ix2 (j 0) l) * u (ix3 0 l (colOf n (j 1))) :=
    Finset.sum_congr rfl fun l _ => congrArg (v (ix2 (j 0) l) * ·) (hb l (j 1))
  rw [e, eA, eB]
  rfl

/-- The product over a half's hidden columns, 512 rows. -/
theorem prod512 (v : FVec Ideal S512x1024 .bf16) (a b : Fin 7 → FVec Ideal S1x1024x256 .bf16) (d : FVec Ideal S1x1792x1024 .bf16)
    (g u : S1x1024x1792.Idx → EReal)
    (ha : ∀ (n : Fin 7) (l : Fin 1024) (k : Fin 256), a n (ix3 0 l k) = g (ix3 0 l (colOf n k)))
    (hb : ∀ (n : Fin 7) (l : Fin 1024) (k : Fin 256), b n (ix3 0 l k) = u (ix3 0 l (colOf n k))) (j : S512x1024.Idx) :
    k0_pay2 (F := Ideal) v (k0_pay18 v (a 0) (b 0)) (k0_pay18 v (a 1) (b 1)) (k0_pay18 v (a 2) (b 2)) (k0_pay18 v (a 3) (b 3)) (k0_pay18 v (a 4) (b 4))
      (k0_pay18 v (a 5) (b 5)) (k0_pay24 v (a 6)) (b 6) d j = prd (fun l => v (ix2 (j 0) l)) g u d (j 1) := by
  have h7 : Shape.Concatenates ((List.ofFn fun n : Fin 7 => (⟨S512x256, k0_pay18 (F := Ideal) v (a n) (b n)⟩ : (s : Shape) × (s.Idx → EReal))).map (·.1)) S512x1792 1 :=
    concatenates_S512x256_S512x256_S512x256_S512x256_S512x256_S512x256_S512x256_S512x1792_d1
  have e : k0_pay2 (F := Ideal) v (k0_pay18 v (a 0) (b 0)) (k0_pay18 v (a 1) (b 1)) (k0_pay18 v (a 2) (b 2)) (k0_pay18 v (a 3) (b 3)) (k0_pay18 v (a 4) (b 4))
      (k0_pay18 v (a 5) (b 5)) (k0_pay24 v (a 6)) (b 6) d
      = matmul dot_S512x1792_S1792x1024_S512x1024_1_0_0_1_n_n none
          (show FVec Ideal S512x1792 .bf16 from concatenate S512x1792 1 (List.ofFn fun n : Fin 7 => (⟨S512x256, k0_pay18 (F := Ideal) v (a n) (b n)⟩ : (s : Shape) × (s.Idx → EReal))) h7)
          (shapeCast S1792x1024 d shapeCasts_S1x1792x1024_S1792x1024) (constant S512x1024 .f32 0x00000000#32) := rfl
  rw [e]
  generalize hC : concatenate S512x1792 1 (List.ofFn fun n : Fin 7 => (⟨S512x256, k0_pay18 (F := Ideal) v (a n) (b n)⟩ : (s : Shape) × (s.Idx → EReal))) h7 = C
  have hCk : ∀ k : Fin 1792, C (ix2 (j 0) k) = hid (fun l => v (ix2 (j 0) l)) g u k := fun k => by
    rw [← hC]
    have hn : k.val / 256 < 7 := by omega
    have hm : k.val % 256 < 256 := Nat.mod_lt _ (by decide)
    rw [concatenate_ofFn_apply (t := S512x1792) (s₁ := S512x256) (1 : Fin 2) (fun n => k0_pay18 (F := Ideal) v (a n) (b n)) h7 rfl 256 rfl (ix2 (j 0) k) ⟨k.val / 256, hn⟩ rfl
      (ix2 (j 0) ⟨k.val % 256, hm⟩) rfl (fun b hb => by
        match b with
        | ⟨0, _⟩ => rfl
        | ⟨1, _⟩ => exact absurd rfl hb)]
    rw [chunk512 v _ _ g u ⟨k.val / 256, hn⟩ (ha _) (hb _)]
    refine congrArg (hid _ g u) (Fin.ext ?_)
    show 256 * (k.val / 256) + k.val % 256 = k.val
    omega
  have e2 : matmul dot_S512x1792_S1792x1024_S512x1024_1_0_0_1_n_n none (show FVec Ideal S512x1792 .bf16 from C)
      (shapeCast S1792x1024 d shapeCasts_S1x1792x1024_S1792x1024) (constant S512x1024 .f32 0x00000000#32) j
      = ∑ k : Fin 1792, C (ix2 (j 0) k) * d (ix3 0 k (j 1)) := by
    pointwise []
  rw [e2]
  exact Finset.sum_congr rfl fun k _ => by rw [hCk k]

/-- A chunk of the hidden columns, 256 rows. -/
theorem chunk256 (v : FVec Ideal S256x1024 .bf16) (a b : FVec Ideal S1x1024x256 .bf16) (g u : S1x1024x1792.Idx → EReal) (n : Fin 7)
    (ha : ∀ (l : Fin 1024) (k : Fin 256), a (ix3 0 l k) = g (ix3 0 l (colOf n k)))
    (hb : ∀ (l : Fin 1024) (k : Fin 256), b (ix3 0 l k) = u (ix3 0 l (colOf n k))) (j : S256x256.Idx) :
    k0_pay25 (F := Ideal) v a b j = hid (fun l => v (ix2 (j 0) l)) g u (colOf n (j 1)) := by
  have e : k0_pay25 (F := Ideal) v a b j = (∑ l : Fin 1024, v (ix2 (j 0) l) * a (ix3 0 l (j 1)))
      * Ideal.logistic (∑ l : Fin 1024, v (ix2 (j 0) l) * a (ix3 0 l (j 1))) * (∑ l : Fin 1024, v (ix2 (j 0) l) * b (ix3 0 l (j 1))) := by
    pointwise [k0_pay25]
  have eA : (∑ l : Fin 1024, v (ix2 (j 0) l) * a (ix3 0 l (j 1))) = ∑ l : Fin 1024, v (ix2 (j 0) l) * g (ix3 0 l (colOf n (j 1))) :=
    Finset.sum_congr rfl fun l _ => congrArg (v (ix2 (j 0) l) * ·) (ha l (j 1))
  have eB : (∑ l : Fin 1024, v (ix2 (j 0) l) * b (ix3 0 l (j 1))) = ∑ l : Fin 1024, v (ix2 (j 0) l) * u (ix3 0 l (colOf n (j 1))) :=
    Finset.sum_congr rfl fun l _ => congrArg (v (ix2 (j 0) l) * ·) (hb l (j 1))
  rw [e, eA, eB]
  rfl

/-- The product over a half's hidden columns, 256 rows. -/
theorem prod256 (v : FVec Ideal S256x1024 .bf16) (a b : Fin 7 → FVec Ideal S1x1024x256 .bf16) (d : FVec Ideal S1x1792x1024 .bf16)
    (g u : S1x1024x1792.Idx → EReal)
    (ha : ∀ (n : Fin 7) (l : Fin 1024) (k : Fin 256), a n (ix3 0 l k) = g (ix3 0 l (colOf n k)))
    (hb : ∀ (n : Fin 7) (l : Fin 1024) (k : Fin 256), b n (ix3 0 l k) = u (ix3 0 l (colOf n k))) (j : S256x1024.Idx) :
    k0_pay5 (F := Ideal) v (k0_pay25 v (a 0) (b 0)) (k0_pay25 v (a 1) (b 1)) (k0_pay25 v (a 2) (b 2)) (k0_pay25 v (a 3) (b 3)) (k0_pay25 v (a 4) (b 4))
      (k0_pay25 v (a 5) (b 5)) (k0_pay31 v (a 6)) (b 6) d j = prd (fun l => v (ix2 (j 0) l)) g u d (j 1) := by
  have h7 : Shape.Concatenates ((List.ofFn fun n : Fin 7 => (⟨S256x256, k0_pay25 (F := Ideal) v (a n) (b n)⟩ : (s : Shape) × (s.Idx → EReal))).map (·.1)) S256x1792 1 :=
    concatenates_S256x256_S256x256_S256x256_S256x256_S256x256_S256x256_S256x256_S256x1792_d1
  have e : k0_pay5 (F := Ideal) v (k0_pay25 v (a 0) (b 0)) (k0_pay25 v (a 1) (b 1)) (k0_pay25 v (a 2) (b 2)) (k0_pay25 v (a 3) (b 3)) (k0_pay25 v (a 4) (b 4))
      (k0_pay25 v (a 5) (b 5)) (k0_pay31 v (a 6)) (b 6) d
      = matmul dot_S256x1792_S1792x1024_S256x1024_1_0_0_1_n_n none
          (show FVec Ideal S256x1792 .bf16 from concatenate S256x1792 1 (List.ofFn fun n : Fin 7 => (⟨S256x256, k0_pay25 (F := Ideal) v (a n) (b n)⟩ : (s : Shape) × (s.Idx → EReal))) h7)
          (shapeCast S1792x1024 d shapeCasts_S1x1792x1024_S1792x1024) (constant S256x1024 .f32 0x00000000#32) := rfl
  rw [e]
  generalize hC : concatenate S256x1792 1 (List.ofFn fun n : Fin 7 => (⟨S256x256, k0_pay25 (F := Ideal) v (a n) (b n)⟩ : (s : Shape) × (s.Idx → EReal))) h7 = C
  have hCk : ∀ k : Fin 1792, C (ix2 (j 0) k) = hid (fun l => v (ix2 (j 0) l)) g u k := fun k => by
    rw [← hC]
    have hn : k.val / 256 < 7 := by omega
    have hm : k.val % 256 < 256 := Nat.mod_lt _ (by decide)
    rw [concatenate_ofFn_apply (t := S256x1792) (s₁ := S256x256) (1 : Fin 2) (fun n => k0_pay25 (F := Ideal) v (a n) (b n)) h7 rfl 256 rfl (ix2 (j 0) k) ⟨k.val / 256, hn⟩ rfl
      (ix2 (j 0) ⟨k.val % 256, hm⟩) rfl (fun b hb => by
        match b with
        | ⟨0, _⟩ => rfl
        | ⟨1, _⟩ => exact absurd rfl hb)]
    rw [chunk256 v _ _ g u ⟨k.val / 256, hn⟩ (ha _) (hb _)]
    refine congrArg (hid _ g u) (Fin.ext ?_)
    show 256 * (k.val / 256) + k.val % 256 = k.val
    omega
  have e2 : matmul dot_S256x1792_S1792x1024_S256x1024_1_0_0_1_n_n none (show FVec Ideal S256x1792 .bf16 from C)
      (shapeCast S1792x1024 d shapeCasts_S1x1792x1024_S1792x1024) (constant S256x1024 .f32 0x00000000#32) j
      = ∑ k : Fin 1792, C (ix2 (j 0) k) * d (ix3 0 k (j 1)) := by
    pointwise []
  rw [e2]
  exact Finset.sum_congr rfl fun k _ => by rw [hCk k]

/-- A tile's rows, gathered from the eight interleaved column groups. -/
theorem rows_at (f : Fin 8 → FVec Ideal S512x128 .f32) (j : S512x1024.Idx) (n : Fin 8) (k : Fin 128) (hj : (j 1).val = 128 * n.val + k.val) :
    k0_pay1 (F := Ideal) (f 0) (f 1) (f 2) (f 3) (f 4) (f 5) (f 6) (f 7) j = f n (ix2 (j 0) k) := by
  have h8 : Shape.Concatenates ((List.ofFn fun n : Fin 8 => (⟨S512x128, f n⟩ : (s : Shape) × (s.Idx → EReal))).map (·.1)) S512x1024 1 :=
    concatenates_S512x128_S512x128_S512x128_S512x128_S512x128_S512x128_S512x128_S512x128_S512x1024_d1
  have e : k0_pay1 (F := Ideal) (f 0) (f 1) (f 2) (f 3) (f 4) (f 5) (f 6) (f 7)
      = shapeCast S512x1024 (show FVec Ideal S512x1024 .bf16 from concatenate S512x1024 1 (List.ofFn fun n : Fin 8 => (⟨S512x128, f n⟩ : (s : Shape) × (s.Idx → EReal))) h8) shapeCasts_S512x1024_S512x1024 := rfl
  rw [e, shapeCast_self]
  exact concatenate_ofFn_apply (t := S512x1024) (s₁ := S512x128) (1 : Fin 2) f h8 rfl 128 rfl j n (by omega) (ix2 (j 0) k) (by show k.val = _; rw [hj]; omega)
    (fun b hb => by
        match b with
        | ⟨0, _⟩ => rfl
        | ⟨1, _⟩ => exact absurd rfl hb)

/-- A strided load of a block's interleaved rows. -/
theorem load_at (a4 : Memref sig .tc .vmem S4096x128 .f32) (x0 : S4096x128.Idx → Elt Ideal .f32) (o : ℕ) (inb)
    (r : Fin 512) (k : Fin 128) (i : S4096x128.Idx) (h0 : (i 0).val = o + 8 * r.val) (h1 : (i 1).val = k.val) :
    View.readAt (Elt Ideal) a4.view (⟨![o, 0], S512x128.size, ![8, 1], inb⟩ : LoadRect S4096x128) (a4.view.rep x0) (ix2 r k) = x0 i := by
  rw [View.readAt_rep]
  refine congrArg x0 (funext fun b => Fin.ext ?_)
  match b with
  | ⟨0, _⟩ => exact h0.symm
  | ⟨1, _⟩ => exact (show 0 + 1 * k.val = (i 1).val by omega)

/-- A load of 256 of a weight block's columns. -/
theorem cols_at (a5 : Memref sig .tc .vmem S1x1024x1792 .bf16) (x1 : S1x1024x1792.Idx → Elt Ideal .bf16) (o : ℕ) (inb)
    (l : Fin 1024) (k : Fin 256) (q : Fin 1792) (h : q.val = o + k.val) :
    View.readAt (Elt Ideal) a5.view (Rect.unit (s := S1x1024x1792) ![0, 0, o] S1x1024x256.size inb).toLoadRect (a5.view.rep x1) (ix3 0 l k) = x1 (ix3 0 l q) := by
  rw [View.readAt_rep]
  refine congrArg x1 (funext fun b => Fin.ext ?_)
  match b with
  | ⟨0, _⟩ => rfl
  | ⟨1, _⟩ => exact (show 0 + 1 * l.val = l.val by omega)
  | ⟨2, _⟩ => exact (show o + 1 * k.val = q.val by omega)

end Cert.Kernel5Ideal.Exp

end
-- ==== Proof.ExpLeft.lean ====
module

public import proofs.«01_k».proof.Proof.ExpVal
public import proofs.«01_k».proof.Proof.ExpFrame
public import Idealize.ShloMosaic.Lib.VecWindow

/-!
# The experts' kernel: what the runs of its body leave

The tile's rows, the product over the first half of the hidden columns, and the output's block, as functions of the input blocks.
-/

@[expose] public section

set_option maxRecDepth 16384

noncomputable section

namespace Cert.Kernel5Ideal.Exp

open Cert.Kernel5Ideal Cert.Kernel5Ideal.Gen
open Idealize.ShloMosaic Idealize.ShloMosaic.TcCoe

/-- A block's rows as a tile: column group `n` of row `r` is row `8 r + n` of the block. -/
def tileOf (x0 : S4096x128.Idx → EReal) : S512x1024.Idx → EReal := fun j =>
  x0 (ix2 (⟨8 * (j 0).val + (j 1).val / 128, by have h0 : (j 0).val < 512 := (j 0).isLt; have h1 : (j 1).val < 1024 := (j 1).isLt; show _ < 4096; omega⟩ : Fin 4096)
    (⟨(j 1).val % 128, Nat.mod_lt _ (by decide)⟩ : Fin 128))

/-- Row `y / 8` and column `128 (y mod 8) + k` of a tile, at row `y` and column `k` of the block. -/
def spread (F : S512x1024.Idx → EReal) : S4096x128.Idx → EReal := fun y =>
  F (ix2 (⟨(y 0).val / 8, by have h0 : (y 0).val < 4096 := (y 0).isLt; show _ < 512; omega⟩ : Fin 512)
    (⟨128 * ((y 0).val % 8) + (y 1).val, by have h1 : (y 1).val < 128 := (y 1).isLt; show _ < 1024; omega⟩ : Fin 1024))

variable (c : Dev nD) (i : grid0.Coords)
  {a4 : Memref sig .tc .vmem S4096x128 .f32} (h4 : a4.IsWhole) {a5 : Memref sig .tc .vmem S1x1024x1792 .bf16} (h5 : a5.IsWhole)
  {a6 : Memref sig .tc .vmem S1x1024x1792 .bf16} (h6 : a6.IsWhole) {a7 : Memref sig .tc .vmem S1x1792x1024 .bf16} (h7 : a7.IsWhole)
  {a8 : Memref sig .tc .vmem S4096x128 .f32} (h8 : a8.IsWhole)
  (T0 : S72.Idx → Elt Ideal .i32) (T1 : S73.Idx → Elt Ideal .i32)
  (x0 : S4096x128.Idx → Elt Ideal .f32) (x1 x2 : S1x1024x1792.Idx → Elt Ideal .bf16) (x3 : S1x1792x1024.Idx → Elt Ideal .bf16)

/-- The strided load of column group `n`. -/
def ldX (a4 : Memref sig .tc .vmem S4096x128 .f32) (x0 : S4096x128.Idx → Elt Ideal .f32) (n : Fin 8) : FVec Ideal S512x128 .f32 :=
  View.readAt (Elt Ideal) a4.view (⟨![n.val, 0], S512x128.size, ![8, 1], fun b => by
    match b with
    | ⟨0, _⟩ => exact Or.inr (show n.val + 8 * (512 - 1) < 4096 by omega)
    | ⟨1, _⟩ => exact Or.inr (show 0 + 1 * (128 - 1) < 128 by omega)⟩ : LoadRect S4096x128) (a4.view.rep x0)

/-- The load of chunk `n` of a weight block. -/
def ldW (a5 : Memref sig .tc .vmem S1x1024x1792 .bf16) (x1 : S1x1024x1792.Idx → Elt Ideal .bf16) (n : Fin 7) : FVec Ideal S1x1024x256 .bf16 :=
  View.readAt (Elt Ideal) a5.view (Rect.unit (s := S1x1024x1792) ![0, 0, 256 * n.val] S1x1024x256.size fun b => by
    match b with
    | ⟨0, _⟩ => show 0 + 1 ≤ 1; omega
    | ⟨1, _⟩ => show 0 + 1024 ≤ 1024; omega
    | ⟨2, _⟩ => show 256 * n.val + 256 ≤ 1792; omega).toLoadRect (a5.view.rep x1)

theorem ldW_at (n : Fin 7) (l : Fin 1024) (k : Fin 256) : ldW a5 x1 n (ix3 0 l k) = x1 (ix3 0 l (colOf n k)) :=
  cols_at a5 x1 (256 * n.val) _ l k (colOf n k) rfl

theorem rows_tile : k0_pay1 (F := Ideal) (ldX a4 x0 0) (ldX a4 x0 1) (ldX a4 x0 2) (ldX a4 x0 3) (ldX a4 x0 4) (ldX a4 x0 5) (ldX a4 x0 6) (ldX a4 x0 7) = tileOf x0 := by
  funext j
  have h0 : (j 0).val < 512 := (j 0).isLt
  have h1 : (j 1).val < 1024 := (j 1).isLt
  rw [rows_at (fun n => ldX a4 x0 n) j ⟨(j 1).val / 128, by omega⟩ ⟨(j 1).val % 128, Nat.mod_lt _ (by decide)⟩ (by show _ = 128 * ((j 1).val / 128) + (j 1).val % 128; omega)]
  exact load_at a4 x0 _ _ (j 0) _ _ (by show 8 * (j 0).val + (j 1).val / 128 = (j 1).val / 128 + 8 * (j 0).val; omega) rfl

theorem prod_tile (v : FVec Ideal S512x1024 .bf16) (j : S512x1024.Idx) :
    k0_pay2 (F := Ideal) v (k0_pay18 v (ldW a5 x1 0) (ldW a6 x2 0)) (k0_pay18 v (ldW a5 x1 1) (ldW a6 x2 1)) (k0_pay18 v (ldW a5 x1 2) (ldW a6 x2 2))
      (k0_pay18 v (ldW a5 x1 3) (ldW a6 x2 3)) (k0_pay18 v (ldW a5 x1 4) (ldW a6 x2 4)) (k0_pay18 v (ldW a5 x1 5) (ldW a6 x2 5)) (k0_pay24 v (ldW a5 x1 6)) (ldW a6 x2 6) x3 j
      = prd (fun l => v (ix2 (j 0) l)) x1 x2 x3 (j 1) :=
  prod512 v (fun n => ldW a5 x1 n) (fun n => ldW a6 x2 n) x3 x1 x2 (ldW_at x1) (ldW_at x2) j

theorem prod_few (v : FVec Ideal S256x1024 .bf16) (j : S256x1024.Idx) :
    k0_pay5 (F := Ideal) v (k0_pay25 v (ldW a5 x1 0) (ldW a6 x2 0)) (k0_pay25 v (ldW a5 x1 1) (ldW a6 x2 1)) (k0_pay25 v (ldW a5 x1 2) (ldW a6 x2 2))
      (k0_pay25 v (ldW a5 x1 3) (ldW a6 x2 3)) (k0_pay25 v (ldW a5 x1 4) (ldW a6 x2 4)) (k0_pay25 v (ldW a5 x1 5) (ldW a6 x2 5)) (k0_pay31 v (ldW a5 x1 6)) (ldW a6 x2 6) x3 j
      = prd (fun l => v (ix2 (j 0) l)) x1 x2 x3 (j 1) :=
  prod256 v (fun n => ldW a5 x1 n) (fun n => ldW a6 x2 n) x3 x1 x2 (ldW_at x1) (ldW_at x2) j

/-- The scratch buffers' contents. -/
abbrev rdX (X : BufX c) : S512x1024.Idx → EReal := scrX.view.read (Elt Ideal) X
abbrev rdA (A : BufA c) : S512x1024.Idx → EReal := scrA.view.read (Elt Ideal) A

theorem runA_X (hu : Used i T1) (hf : (i 1).val = 0) (hm : Many i T1) :
    rdX c (runA c i h4 h5 h6 h7 h8 T0 T1 x0 x1 x2 x3 hu hf hm).1 = tileOf x0 := by
  delta runA; dsimp only; unfold runA.sl.HX_1
  exact (View.read_writes_full _ _ _ _ _).trans (rows_tile x0)

theorem runC_X (hu : Used i T1) (hf : (i 1).val = 0) (hm : ¬Many i T1) :
    rdX c (runC c i h4 h5 h6 h7 h8 T0 T1 x0 x1 x2 x3 hu hf hm).1 = tileOf x0 := by
  delta runC; dsimp only; unfold runC.sl.HX_1
  exact (View.read_writes_full _ _ _ _ _).trans (rows_tile x0)

theorem v23A : runA.sl.v23 x0 (a4 := a4) = tileOf x0 := by
  unfold runA.sl.v23 runA.sl.HX_1
  exact (View.readCov_full _ _ _ _ _).trans (rows_tile x0)

theorem runA_A (hu : Used i T1) (hf : (i 1).val = 0) (hm : Many i T1) :
    rdA c (runA c i h4 h5 h6 h7 h8 T0 T1 x0 x1 x2 x3 hu hf hm).2.1 = fun j => prd (fun l => tileOf x0 (ix2 (j 0) l)) x1 x2 x3 (j 1) := by
  delta runA; dsimp only; unfold runA.sl.HA_1 runA.sl.r_2 runA.sl.r_3 runA.sl.r_4 runA.sl.r_5 runA.sl.r_6 runA.sl.r_7 runA.sl.r_8
  rw [v23A]
  refine (View.read_writes_full _ _ _ _ _).trans (funext fun j => ?_)
  rw [View.readAt_rep_full]
  unfold k0_pay3
  dsimp only
  rw [shapeCast_self]
  exact prod_tile x1 x2 x3 (tileOf x0) j

theorem v23C (r : Fin 256) (l : Fin 1024) : runC.sl.v23 x0 (a4 := a4) (ix2 r l) = tileOf x0 (ix2 (⟨r.val, by omega⟩ : Fin 512) l) := by
  unfold runC.sl.v23 runC.sl.HX_1
  rw [← rows_tile (a4 := a4) x0]
  refine (View.readAt_apply ..).trans ?_
  refine (congrFun (View.read_writes_full _ _ _ _ _) _).trans ?_
  refine congrArg (k0_pay1 (F := Ideal) _ _ _ _ _ _ _ _) (funext fun b => Fin.ext ?_)
  match b with
  | ⟨0, _⟩ => exact (show 0 + 1 * r.val = r.val by omega)
  | ⟨1, _⟩ => exact (show 0 + 1 * l.val = l.val by omega)

theorem runC_A_low (hu : Used i T1) (hf : (i 1).val = 0) (hm : ¬Many i T1) (r : Fin 256) (q : Fin 1024) :
    rdA c (runC c i h4 h5 h6 h7 h8 T0 T1 x0 x1 x2 x3 hu hf hm).2.1 (ix2 (⟨r.val, by omega⟩ : Fin 512) q)
      = prd (fun l => tileOf x0 (ix2 (⟨r.val, by omega⟩ : Fin 512) l)) x1 x2 x3 q := by
  delta runC; dsimp only; unfold runC.sl.HA_2
  refine (View.read_writes_cons_miss_of_axis _ _ _ _ _ (0 : Fin 2) 256 256 rfl rfl rfl (Or.inl r.isLt)).trans ?_
  try unfold runC.sl.HA_1
  refine (View.read_writes_cons_hit_of_coords _ _ _ _ _ (ix2 r q) _ (fun b => by
    match b with
    | ⟨0, _⟩ => exact (show r.val = 0 + 1 * r.val by omega)
    | ⟨1, _⟩ => exact (show q.val = 0 + 1 * q.val by omega))).trans ?_
  unfold runC.sl.r_2 runC.sl.r_3 runC.sl.r_4 runC.sl.r_5 runC.sl.r_6 runC.sl.r_7 runC.sl.r_8
  rw [View.readAt_rep_full]
  unfold k0_pay6
  dsimp only
  rw [shapeCast_self]
  refine (prod_few x1 x2 x3 (runC.sl.v23 x0 (a4 := a4)) (ix2 r q)).trans ?_
  exact congrArg (fun f => prd f x1 x2 x3 q) (funext fun l => v23C x0 r l)

theorem runC_A_high (hu : Used i T1) (hf : (i 1).val = 0) (hm : ¬Many i T1) (r : Fin 512) (hr : 256 ≤ r.val) (q : Fin 1024) :
    rdA c (runC c i h4 h5 h6 h7 h8 T0 T1 x0 x1 x2 x3 hu hf hm).2.1 (ix2 r q) = 0 := by
  delta runC; dsimp only; unfold runC.sl.HA_2
  refine (View.read_writes_cons_hit_of_coords _ _ _ _ _ (ix2 (⟨r.val - 256, by omega⟩ : Fin 256) q) _ (fun b => by
    match b with
    | ⟨0, _⟩ => exact (show r.val = 256 + 1 * (r.val - 256) by omega)
    | ⟨1, _⟩ => exact (show q.val = 0 + 1 * q.val by omega))).trans ?_
  pointwise [k0_pay7]

/-- A column group of the accumulator, stored at its rows of the block. -/
theorem spread_piece (F : S512x1024.Idx → EReal) (n : ℕ) (hn : n < 8) (inb) (hs) (w : S512x128.Idx → EReal)
    (hw : ∀ (r : Fin 512) (k : Fin 128), w (ix2 r k) = F (ix2 r (⟨128 * n + k.val, by omega⟩ : Fin 1024)))
    (x : (⟨⟨![n, 0], S512x128.size, ![8, 1], inb⟩, hs⟩ : Rect S4096x128).shape.Idx) :
    w x = spread F ((⟨⟨![n, 0], S512x128.size, ![8, 1], inb⟩, hs⟩ : Rect S4096x128).emb x) := by
  have hx : x = ix2 (x 0) (x 1) := funext fun b => by
    match b with
    | ⟨0, _⟩ => rfl
    | ⟨1, _⟩ => rfl
  have h1 : (x 1).val < 128 := (x 1).isLt
  refine ((congrArg w hx).trans (hw (x 0) (x 1))).trans (congrArg F (funext fun b => Fin.ext ?_))
  match b with
  | ⟨0, _⟩ => exact (show (x 0).val = (n + 8 * (x 0).val) / 8 by omega)
  | ⟨1, _⟩ => exact (show 128 * n + (x 1).val = 128 * ((n + 8 * (x 0).val) % 8) + (0 + 1 * (x 1).val) by omega)

/-- The eight stores of the accumulator's column groups. -/
theorem spread_read (V : FVec Ideal S512x1024 .f32) (L : List (View.Piece (Elt Ideal) S4096x128 .f32))
    (hc : ∀ y, ∃ p ∈ L, y ∈ p.1.set) (hL : ∀ p ∈ L, ∀ x : p.1.shape.Idx, p.2 x = spread V (p.1.emb x)) : readO L = spread V :=
  funext fun y => View.read_writes_apply_of_pieces _ _ _ L hL y (hc y)

/-- The accumulator after the second half: what it held and the second half's product. -/
theorem sum_tile (v : FVec Ideal S512x1024 .bf16) (w : FVec Ideal S512x1024 .f32) (j : S512x1024.Idx) :
    k0_pay4 (F := Ideal) v (k0_pay18 v (ldW a5 x1 0) (ldW a6 x2 0)) (k0_pay19 v (ldW a5 x1 1) (ldW a6 x2 1)) (k0_pay20 v (ldW a5 x1 2) (ldW a6 x2 2))
      (k0_pay21 v (ldW a5 x1 3) (ldW a6 x2 3)) (k0_pay22 v (ldW a5 x1 4) (ldW a6 x2 4)) (k0_pay23 v (ldW a5 x1 5) (ldW a6 x2 5)) (k0_pay24 v (ldW a5 x1 6)) (ldW a6 x2 6) x3 w j
      = w j + prd (fun l => v (ix2 (j 0) l)) x1 x2 x3 (j 1) := by
  unfold k0_pay4
  rw [shapeCast_self]
  exact congrArg (w j + ·) (prod_tile (a5 := a5) (a6 := a6) x1 x2 x3 v j)

theorem sum_few (v : FVec Ideal S256x1024 .bf16) (w : FVec Ideal S256x1024 .f32) (j : S256x1024.Idx) :
    k0_pay8 (F := Ideal) v (k0_pay25 v (ldW a5 x1 0) (ldW a6 x2 0)) (k0_pay26 v (ldW a5 x1 1) (ldW a6 x2 1)) (k0_pay27 v (ldW a5 x1 2) (ldW a6 x2 2))
      (k0_pay28 v (ldW a5 x1 3) (ldW a6 x2 3)) (k0_pay29 v (ldW a5 x1 4) (ldW a6 x2 4)) (k0_pay30 v (ldW a5 x1 5) (ldW a6 x2 5)) (k0_pay31 v (ldW a5 x1 6)) (ldW a6 x2 6) x3 w j
      = w j + prd (fun l => v (ix2 (j 0) l)) x1 x2 x3 (j 1) := by
  unfold k0_pay8
  rw [shapeCast_self]
  exact congrArg (w j + ·) (prod_few (a5 := a5) (a6 := a6) x1 x2 x3 v j)

/-- The second half's accumulator, more than 256 rows. -/
theorem v23B (X : BufX c) (A : BufA c) : runB.sl.v23 c x1 x2 x3 X A (a5 := a5) (a6 := a6) (a7 := a7)
    = fun j => rdA c A j + prd (fun l => rdX c X (ix2 (j 0) l)) x1 x2 x3 (j 1) := by
  have hX : runB.sl.r_2 c X = rdX c X := by
    unfold runB.sl.r_2
    exact View.readAt_full _ _ _
  unfold runB.sl.v23; try unfold runB.sl.HA_1
  unfold runB.sl.r_3 runB.sl.r_4 runB.sl.r_5 runB.sl.r_6 runB.sl.r_7 runB.sl.r_8 runB.sl.r_9
  rw [hX]
  refine (View.readCov_full _ _ _ _ _).trans (funext fun j => ?_)
  rw [View.readAt_rep_full]
  have hA : ∀ inb, View.readAt (Elt Ideal) scrA.view (Rect.unit (s := S512x1024) ![0, 0] S512x1024.size inb).toLoadRect A = rdA c A := fun inb => View.readAt_full scrA.view A inb
  have hXr : ∀ inb, View.readAt (Elt Ideal) scrX.view (Rect.unit (s := S512x1024) ![0, 0] S512x1024.size inb).toLoadRect X = rdX c X := fun inb => View.readAt_full scrX.view X inb
  try rw [hXr]
  generalize hZ : rdX c X = Z
  generalize hW : View.readAt (Elt Ideal) scrA.view (Rect.unit (s := S512x1024) ![0, 0] S512x1024.size _).toLoadRect A = W
  rw [hA] at hW
  rw [hW]
  exact sum_tile (a5 := a5) (a6 := a6) x1 x2 x3 Z W j

theorem runB_O (X : BufX c) (A : BufA c) (hu : Used i T1) (hf : ¬(i 1).val = 0) (hm : Many i T1) :
    readO (runB c i h4 h5 h6 h7 h8 T0 T1 x0 x1 x2 x3 X A hu hf hm).1
      = spread fun j => rdA c A j + prd (fun l => rdX c X (ix2 (j 0) l)) x1 x2 x3 (j 1) := by
  rw [← v23B (a5 := a5) (a6 := a6) (a7 := a7)]
  refine spread_read _ _ (cover8 _ (by sl_kernel_rfl)) ?_
  delta runB; dsimp only
  generalize runB.sl.v23 c x1 x2 x3 X A = V
  simp only [List.forall_mem_cons, List.not_mem_nil, false_imp_iff, implies_true, and_true]
  refine ⟨?_, ?_, ?_, ?_, ?_, ?_, ?_, ?_⟩
  all_goals refine spread_piece V _ (by decide) _ _ _ fun r k => ?_
  · pointwise [k0_pay16]
  · pointwise [k0_pay15]
  · pointwise [k0_pay14]
  · pointwise [k0_pay13]
  · pointwise [k0_pay12]
  · pointwise [k0_pay11]
  · pointwise [k0_pay10]
  · pointwise [k0_pay9]

theorem runD_low (X : BufX c) (A : BufA c) (V : FVec Ideal S512x1024 .f32)
    (hV : V = View.readAt (Elt Ideal) (View.whole cc0_scratch1) (Rect.unit (s := S512x1024) ![0, 0] S512x1024.size inb_S512x1024_S512x1024_0_0).toLoadRect
      ((View.whole cc0_scratch1).writes (Elt Ideal) A (runD.sl.HA_1 c x1 x2 x3 X A (a5 := a5) (a6 := a6) (a7 := a7)))) (r : Fin 256) (q : Fin 1024) :
    V (ix2 (⟨r.val, by omega⟩ : Fin 512) q)
      = rdA c A (ix2 (⟨r.val, by omega⟩ : Fin 512) q) + prd (fun l => rdX c X (ix2 (⟨r.val, by omega⟩ : Fin 512) l)) x1 x2 x3 q := by
  rw [hV]
  refine (congrFun (View.readAt_full (View.whole cc0_scratch1) _ _) _).trans ?_
  unfold runD.sl.HA_1
  refine (View.read_writes_cons_hit_of_coords _ _ _ _ _ (ix2 r q) _ (fun b => by
    match b with
    | ⟨0, _⟩ => exact (show r.val = 0 + 1 * r.val by omega)
    | ⟨1, _⟩ => exact (show q.val = 0 + 1 * q.val by omega))).trans ?_
  unfold runD.sl.r_3 runD.sl.r_4 runD.sl.r_5 runD.sl.r_6 runD.sl.r_7 runD.sl.r_8 runD.sl.r_9
  unfold runD.sl.r_2
  rw [View.readAt_rep_full]
  have hXr : ∀ inb, ∀ l : Fin 1024, View.readAt (Elt Ideal) scrX.view (Rect.unit (s := S512x1024) ![0, 0] S256x1024.size inb).toLoadRect X (ix2 r l) = rdX c X (ix2 (⟨r.val, by omega⟩ : Fin 512) l) := fun inb l => by
    refine (View.readAt_apply ..).trans (congrArg (rdX c X) (funext fun b => Fin.ext ?_))
    match b with
    | ⟨0, _⟩ => exact (show 0 + 1 * r.val = r.val by omega)
    | ⟨1, _⟩ => exact (show 0 + 1 * l.val = l.val by omega)
  have hAr : ∀ inb, View.readAt (Elt Ideal) scrA.view (Rect.unit (s := S512x1024) ![0, 0] S256x1024.size inb).toLoadRect A (ix2 r q) = rdA c A (ix2 (⟨r.val, by omega⟩ : Fin 512) q) := fun inb => by
    refine (View.readAt_apply ..).trans (congrArg (rdA c A) (funext fun b => Fin.ext ?_))
    match b with
    | ⟨0, _⟩ => exact (show 0 + 1 * r.val = r.val by omega)
    | ⟨1, _⟩ => exact (show 0 + 1 * q.val = q.val by omega)
  generalize hZ : View.readAt (Elt Ideal) scrX.view (Rect.unit (s := S512x1024) ![0, 0] S256x1024.size _).toLoadRect X = Z
  generalize hW : View.readAt (Elt Ideal) scrA.view (Rect.unit (s := S512x1024) ![0, 0] S256x1024.size _).toLoadRect A = W
  have e := sum_few (a5 := a5) (a6 := a6) x1 x2 x3 Z W (ix2 r q)
  refine (show _ = _ from e).trans ?_
  refine congrArg₂ (fun u v : EReal => u + v) ?_ (congrArg (fun f => prd f x1 x2 x3 q) (funext fun l => ?_))
  · rw [← hW]; exact hAr _
  · rw [← hZ]; exact hXr _ l

theorem runD_high (X : BufX c) (A : BufA c) (V : FVec Ideal S512x1024 .f32)
    (hV : V = View.readAt (Elt Ideal) (View.whole cc0_scratch1) (Rect.unit (s := S512x1024) ![0, 0] S512x1024.size inb_S512x1024_S512x1024_0_0).toLoadRect
      ((View.whole cc0_scratch1).writes (Elt Ideal) A (runD.sl.HA_1 c x1 x2 x3 X A (a5 := a5) (a6 := a6) (a7 := a7)))) (r : Fin 512) (hr : 256 ≤ r.val) (q : Fin 1024) :
    V (ix2 r q) = rdA c A (ix2 r q) := by
  rw [hV]
  refine (congrFun (View.readAt_full (View.whole cc0_scratch1) _ _) _).trans ?_
  unfold runD.sl.HA_1
  exact View.read_writes_cons_miss_of_axis _ _ _ _ _ (0 : Fin 2) 0 256 rfl rfl rfl (Or.inr hr)

theorem runD_O (X : BufX c) (A : BufA c) (hu : Used i T1) (hf : ¬(i 1).val = 0) (hm : ¬Many i T1) :
    ∃ V : FVec Ideal S512x1024 .f32, readO (runD c i h4 h5 h6 h7 h8 T0 T1 x0 x1 x2 x3 X A hu hf hm).1 = spread V
      ∧ (∀ (r : Fin 256) (q : Fin 1024), V (ix2 (⟨r.val, by omega⟩ : Fin 512) q)
        = rdA c A (ix2 (⟨r.val, by omega⟩ : Fin 512) q) + prd (fun l => rdX c X (ix2 (⟨r.val, by omega⟩ : Fin 512) l)) x1 x2 x3 q)
      ∧ ∀ (r : Fin 512), 256 ≤ r.val → ∀ q : Fin 1024, V (ix2 r q) = rdA c A (ix2 r q) := by
  refine ⟨_, ?_, fun r q => runD_low (a5 := a5) (a6 := a6) (a7 := a7) c x1 x2 x3 X A _ rfl r q, fun r hr q => runD_high (a5 := a5) (a6 := a6) (a7 := a7) c x1 x2 x3 X A _ rfl r hr q⟩
  refine spread_read _ _ (cover8 _ (by sl_kernel_rfl)) ?_
  delta runD; dsimp only
  generalize View.readAt (Elt Ideal) (View.whole cc0_scratch1) _ _ = V
  simp only [List.forall_mem_cons, List.not_mem_nil, false_imp_iff, implies_true, and_true]
  refine ⟨?_, ?_, ?_, ?_, ?_, ?_, ?_, ?_⟩
  all_goals refine spread_piece V _ (by decide) _ _ _ fun r k => ?_
  · pointwise [k0_pay16]
  · pointwise [k0_pay15]
  · pointwise [k0_pay14]
  · pointwise [k0_pay13]
  · pointwise [k0_pay12]
  · pointwise [k0_pay11]
  · pointwise [k0_pay10]
  · pointwise [k0_pay9]

theorem runE_O (hu : ¬Used i T1) (y : S4096x128.Idx) : readO (runE c i h4 h5 h6 h7 h8 T0 T1 x0 x1 x2 x3 hu).1 y = 0 := by
  delta runE; dsimp only
  refine (congrFun (View.read_writes_full _ _ _ _ _) y).trans ?_
  pointwise [k0_pay17]

end Cert.Kernel5Ideal.Exp

end
-- ==== Proof.ExpSpec.lean ====
module

public import proofs.«01_k».proof.Proof.ExpVal

/-!
# The experts' kernel: the mathematics of the call

Row `r` of tile `t` goes through the expert of its tile if the tile is in use and has that row; the other rows of the result are zero.
-/

@[expose] public section

set_option maxRecDepth 16384

noncomputable section

namespace Cert.Kernel5Ideal.Exp

open Cert.Kernel5Ideal Cert.Kernel5Ideal.Gen
open Idealize.ShloMosaic Idealize.ShloMosaic.TcCoe

/-- Row `r` of tile `t`: eight consecutive rows of the operand. -/
def rowOf (X : S294912x128.Idx → EReal) (t : Fin 72) (r : Fin 512) (l : Fin 1024) : EReal :=
  X (ix2 (⟨4096 * t.val + 8 * r.val + l.val / 128, by omega⟩ : Fin 294912) (⟨l.val % 128, Nat.mod_lt _ (by decide)⟩ : Fin 128))

/-- Hidden column `k` of a row in expert `e`. -/
def hiddenCol (x : Fin 1024 → EReal) (G U : S8x1024x3584.Idx → EReal) (e : Fin 8) (k : Fin 3584) : EReal :=
  (∑ l : Fin 1024, x l * G (ix3 e l k)) * Ideal.logistic (∑ l : Fin 1024, x l * G (ix3 e l k)) * (∑ l : Fin 1024, x l * U (ix3 e l k))

/-- Output column `q` of a row in expert `e`. -/
def expert (x : Fin 1024 → EReal) (G U : S8x1024x3584.Idx → EReal) (D : S8x3584x1024.Idx → EReal) (e : Fin 8) (q : Fin 1024) : EReal :=
  ∑ k : Fin 3584, hiddenCol x G U e k * D (ix3 e k q)

/-- The expert of tile `t`. -/
def expertOf (E : IVec S72 32) (t : Fin 72) : Fin 8 := ⟨(E (ix1 t)).toNat % 8, Nat.mod_lt _ (by decide)⟩

/-- Tile `t` is in use and has row `r`. -/
def Live (R : IVec S73 32) (t : Fin 72) (r : Fin 512) : Prop :=
  (t.val : ℤ) < (R (ix1 (0 : Fin 73))).toInt ∧ (r.val : ℤ) < (R (ix1 (⟨1 + t.val, by omega⟩ : Fin 73))).toInt

instance (R : IVec S73 32) (t : Fin 72) (r : Fin 512) : Decidable (Live R t r) := by unfold Live; infer_instance

/-- Entry `q` of row `r` of tile `t` in the result. -/
def entry (E : IVec S72 32) (R : IVec S73 32) (X : S294912x128.Idx → EReal) (G U : S8x1024x3584.Idx → EReal) (D : S8x3584x1024.Idx → EReal)
    (t : Fin 72) (r : Fin 512) (q : Fin 1024) : EReal :=
  if Live R t r then expert (rowOf X t r) G U D (expertOf E t) q else 0

/-- The result. -/
def out (E : IVec S72 32) (R : IVec S73 32) (X : S294912x128.Idx → EReal) (G U : S8x1024x3584.Idx → EReal) (D : S8x3584x1024.Idx → EReal) :
    S294912x128.Idx → EReal := fun y =>
  entry E R X G U D (⟨(y 0).val / 4096, by have h : (y 0).val < 294912 := (y 0).isLt; omega⟩ : Fin 72)
    (⟨(y 0).val % 4096 / 8, by omega⟩ : Fin 512)
    (⟨128 * ((y 0).val % 8) + (y 1).val, by have h : (y 1).val < 128 := (y 1).isLt; omega⟩ : Fin 1024)

/-- A small number as a word. -/
theorem word_toInt (n : ℕ) (h : n < 2 ^ 31) : (BitVec.ofNat 32 n).toInt = (n : ℤ) := by
  have e : (BitVec.ofNat 32 n).toNat = n := by rw [BitVec.toNat_ofNat]; omega
  rw [BitVec.toInt_eq_toNat_of_lt (by omega), e]

/-- A row of zeros goes to zero. -/
theorem expert_zero (x : Fin 1024 → EReal) (h : ∀ l, x l = 0) (G U : S8x1024x3584.Idx → EReal) (D : S8x3584x1024.Idx → EReal) (e : Fin 8) (q : Fin 1024) :
    expert x G U D e q = 0 := by
  have h0 : ∀ k, (∑ l : Fin 1024, x l * G (ix3 e l k)) = 0 := fun k => Finset.sum_eq_zero fun l _ => by rw [h l, zero_mul]
  refine Finset.sum_eq_zero fun k _ => ?_
  unfold hiddenCol
  rw [h0 k, zero_mul, zero_mul, zero_mul]

/-- The sum over an expert's hidden columns is the sum over its two halves. -/
theorem expert_halves (x : Fin 1024 → EReal) (G U : S8x1024x3584.Idx → EReal) (D : S8x3584x1024.Idx → EReal) (e : Fin 8) (q : Fin 1024)
    (g0 u0 g1 u1 : S1x1024x1792.Idx → EReal) (d0 d1 : S1x1792x1024.Idx → EReal)
    (hg0 : ∀ (l : Fin 1024) (k : Fin 1792), g0 (ix3 0 l k) = G (ix3 e l (⟨k.val, by omega⟩ : Fin 3584)))
    (hu0 : ∀ (l : Fin 1024) (k : Fin 1792), u0 (ix3 0 l k) = U (ix3 e l (⟨k.val, by omega⟩ : Fin 3584)))
    (hd0 : ∀ (k : Fin 1792) (q : Fin 1024), d0 (ix3 0 k q) = D (ix3 e (⟨k.val, by omega⟩ : Fin 3584) q))
    (hg1 : ∀ (l : Fin 1024) (k : Fin 1792), g1 (ix3 0 l k) = G (ix3 e l (⟨1792 + k.val, by omega⟩ : Fin 3584)))
    (hu1 : ∀ (l : Fin 1024) (k : Fin 1792), u1 (ix3 0 l k) = U (ix3 e l (⟨1792 + k.val, by omega⟩ : Fin 3584)))
    (hd1 : ∀ (k : Fin 1792) (q : Fin 1024), d1 (ix3 0 k q) = D (ix3 e (⟨1792 + k.val, by omega⟩ : Fin 3584) q)) :
    prd x g0 u0 d0 q + prd x g1 u1 d1 q = expert x G U D e q := by
  refine Eq.trans ?_ (Fin.sum_univ_add (a := 1792) (b := 1792) fun k : Fin 3584 => hiddenCol x G U e k * D (ix3 e k q)).symm
  refine congrArg₂ (· + ·) (Finset.sum_congr rfl fun k _ => ?_) (Finset.sum_congr rfl fun k _ => ?_)
  · unfold hid hiddenCol
    simp only [hg0, hu0, hd0]
    rfl
  · unfold hid hiddenCol
    simp only [hg1, hu1, hd1]
    rfl

end Cert.Kernel5Ideal.Exp

end
-- ==== Proof.ExpOut.lean ====
module

public import proofs.«01_k».proof.Proof.ExpLeft
public import proofs.«01_k».proof.Proof.ExpSpec

/-!
# The experts' kernel: the array it leaves

A tile in use reads its own rows and its own expert's weights, the first half of the hidden columns at its first point and the second half
at its second. The result's block is written back after the second point.
-/

@[expose] public section

set_option maxRecDepth 16384

noncomputable section

namespace Cert.Kernel5Ideal.Exp

open Cert.Kernel5Ideal Cert.Kernel5Ideal.Gen
open Idealize.ShloMosaic Idealize.ShloMosaic.TcCoe Idealize.ShloMosaic.WordCmp
open Idealize.ShloMosaic.Pipeline (Dat Cfg Window)

/-! ## The words the body and the index maps read -/

theorem wordU_eq (R : S73.Idx → Elt Ideal .i32) : wordU R = R (ix1 (0 : Fin 73)) :=
  congrArg R (funext fun b => Fin.ext (by match b with | ⟨0, _⟩ => rfl))

theorem wordR_eq (i : grid0.Coords) (t : Fin 72) (ht : (i 0).val = t.val) (R : S73.Idx → Elt Ideal .i32) :
    wordR i R = R (ix1 (⟨1 + t.val, by omega⟩ : Fin 73)) := by
  refine congrArg R (funext fun b => Fin.ext ?_)
  match b with
  | ⟨0, _⟩ =>
    show (k0_off2 i) 0 + 1 * 0 = 1 + t.val
    have : (k0_off2 i) 0 = 1 + t.val := by
      show (1#32 + BitVec.ofNat 32 (i 0).val).toNat = 1 + t.val
      rw [BitVec.toNat_add, BitVec.toNat_ofNat, BitVec.toNat_ofNat, ht]
      have := t.isLt
      omega
    omega

theorem used_iff (i : grid0.Coords) (R : S73.Idx → Elt Ideal .i32) :
    Used i R ↔ ((i 0).val : ℤ) < BitVec.toInt (n := 32) (R (ix1 (0 : Fin 73))) := by
  unfold Used k0_cond1
  dsimp only
  rw [wordU_eq, bit_ne]
  unfold Scalar.cmpi IntOp.cmpi
  have hi : (i 0).val < 72 := (i 0).isLt
  rw [ofBool_eq, BitVec.slt_eq_decide, decide_eq_true_eq, word_toInt _ (by omega)]

theorem many_iff (i : grid0.Coords) (t : Fin 72) (ht : (i 0).val = t.val) (R : S73.Idx → Elt Ideal .i32) :
    Many i R ↔ (256 : ℤ) < BitVec.toInt (n := 32) (R (ix1 (⟨1 + t.val, by omega⟩ : Fin 73))) := by
  unfold Many
  rw [wordR_eq i t ht, bit_ne]
  unfold Scalar.cmpi IntOp.cmpi
  rw [ofBool_eq]
  exact decide_eq_true_iff

/-- The tile a point reads is its own, when it is in use. -/
theorem min_word (n : ℕ) (hn : n < 72) (w : BitVec 32) (h : (n : ℤ) < w.toInt) :
    (Scalar.minsi (BitVec.ofNat 32 n) (Scalar.subi w 1#32)).toNat = n := by
  have hw : w.toNat < 2 ^ 31 ∧ n < w.toNat := by
    have := w.isLt
    rw [BitVec.toInt_eq_toNat_cond] at h
    split at h <;> omega
  have hs : (w - 1#32).toNat = w.toNat - 1 := by
    rw [BitVec.toNat_sub]; have : (1#32 : BitVec 32).toNat = 1 := rfl
    rw [this]; omega
  have hk : (BitVec.ofNat 32 n).toNat = n := by rw [BitVec.toNat_ofNat]; omega
  show (IntOp.minsi (BitVec.ofNat 32 n) (w - 1#32)).toNat = n
  unfold IntOp.minsi
  split
  · omega
  · rename_i hc
    rw [BitVec.slt_eq_decide, decide_eq_true_eq, BitVec.toInt_eq_toNat_of_lt (by omega), BitVec.toInt_eq_toNat_of_lt (by omega)] at hc
    omega

/-- The half a point reads is its own, when its tile is in use. -/
theorem half_word (i : grid0.Coords) (R : S73.Idx → Elt Ideal .i32) (h : Used i R) :
    (Scalar.select (Scalar.cmpi .slt (BitVec.ofNat 32 (i 0).val) (wordU R)) (BitVec.ofNat 32 (i 1).val) 1#32).toNat = (i 1).val := by
  have hs : Scalar.cmpi .slt (BitVec.ofNat 32 (i 0).val) (wordU R) = 1#1 := by
    have h' := h
    unfold Used k0_cond1 at h'
    dsimp only at h'
    rw [bit_ne] at h'
    exact h'
  have h1 : (i 1).val < 2 := (i 1).isLt
  rw [hs]
  show (BitVec.ofNat 32 (i 1).val).toNat = _
  rw [BitVec.toNat_ofNat]; omega

/-- The expert a point reads is its tile's. -/
theorem expert_word (i : grid0.Coords) (t : Fin 72) (ht : (i 0).val = t.val) (E : S72.Idx → Elt Ideal .i32) :
    E ((Rect.unit (s := S72) (k0_off1 i) S1.size (k0_off1_inb i)).emb (Shape.Idx.first (numel1_S1.symm ▸ Nat.one_pos))) = E (ix1 t) := by
  refine congrArg E (funext fun b => Fin.ext ?_)
  match b with
  | ⟨0, _⟩ =>
    show (BitVec.ofNat 32 (i 0).val).toNat + 1 * 0 = t.val
    rw [BitVec.toNat_ofNat, ht]
    have := t.isLt
    omega

variable (a : (pcfg0 (F := Ideal)).Adm) (m : (ℓ : Loc nD τ sig) → Buf (Elt Ideal) ℓ) (ρ : Dev nD → PrngReg) (c : Dev nD)

abbrev aX : S294912x128.Idx → EReal := m ((c.tc : Thread nD τ).loc main_arg2)
abbrev aG : S8x1024x3584.Idx → EReal := m ((c.tc : Thread nD τ).loc main_arg3)
abbrev aU : S8x1024x3584.Idx → EReal := m ((c.tc : Thread nD τ).loc main_arg4)
abbrev aD : S8x3584x1024.Idx → EReal := m ((c.tc : Thread nD τ).loc main_arg5)

/-! ## The blocks -/

/-- The tile of a point. -/
def tl (t : Fin (cfgA a).N) : Fin 72 := ⟨t.val / 2, by have := lt_N a t; omega⟩

theorem idx0 (t : Fin (cfgA a).N) (hu : Used (crd a t) (T1 a)) : ((cfgA a).win (0 : Fin 5)).index t = ![t.val / 2, 0] := by
  have h := (used_iff _ _).mp hu
  rw [crd0] at h
  have ht := lt_N a t
  have e : (Scalar.minsi (BitVec.ofNat 32 (crd a t 0).val) (Scalar.subi (T1 a (ix1 (0 : Fin 73)) : BitVec 32) 1#32)).toNat = t.val / 2 := by
    rw [crd0]
    exact min_word _ (by omega) _ h
  refine Eq.trans ?_ (congrArg (fun n => ![n, 0]) e)
  show ![(Scalar.minsi (BitVec.ofNat 32 (crd a t 0).val) (Scalar.subi (wordU (T1 a)) 1#32)).toNat, 0] = _
  rw [wordU_eq]

theorem blk0 (t : Fin (cfgA a).N) (hu : Used (crd a t) (T1 a)) (p : Fin 4096) (q : Fin 128) :
    iblk a m ρ c (0 : Fin 5) t (ix2 p q) = aX m c (ix2 (⟨4096 * (tl a t).val + p.val, by have := (tl a t).isLt; omega⟩ : Fin 294912) q) := by
  refine congrArg (aX m c) (funext fun b => Fin.ext ?_)
  match b with
  | ⟨0, _⟩ =>
    show ((cfgA a).win (0 : Fin 5)).index t 0 * 4096 + 1 * p.val = 4096 * (t.val / 2) + p.val
    rw [idx0 a t hu]
    show t.val / 2 * 4096 + 1 * p.val = 4096 * (t.val / 2) + p.val
    omega
  | ⟨1, _⟩ =>
    show ((cfgA a).win (0 : Fin 5)).index t 1 * 128 + 1 * q.val = q.val
    rw [idx0 a t hu]
    show 0 * 128 + 1 * q.val = q.val
    omega

theorem idx1 (t : Fin (cfgA a).N) (hu : Used (crd a t) (T1 a)) :
    ((cfgA a).win (1 : Fin 5)).index t = ![BitVec.toNat (w := 32) (T0 a (ix1 (tl a t))), 0, t.val % 2] :=
  congrArg₂ (fun n k => ![n, 0, k]) (congrArg (BitVec.toNat (w := 32)) (expert_word (crd a t) (tl a t) (crd0 a t) (T0 a))) ((half_word (crd a t) (T1 a) hu).trans (crd1 a t))

theorem idx2 (t : Fin (cfgA a).N) (hu : Used (crd a t) (T1 a)) :
    ((cfgA a).win (2 : Fin 5)).index t = ![BitVec.toNat (w := 32) (T0 a (ix1 (tl a t))), 0, t.val % 2] :=
  congrArg₂ (fun n k => ![n, 0, k]) (congrArg (BitVec.toNat (w := 32)) (expert_word (crd a t) (tl a t) (crd0 a t) (T0 a))) ((half_word (crd a t) (T1 a) hu).trans (crd1 a t))

theorem idx3 (t : Fin (cfgA a).N) (hu : Used (crd a t) (T1 a)) :
    ((cfgA a).win (3 : Fin 5)).index t = ![BitVec.toNat (w := 32) (T0 a (ix1 (tl a t))), t.val % 2, 0] :=
  congrArg₂ (fun n k => ![n, k, 0]) (congrArg (BitVec.toNat (w := 32)) (expert_word (crd a t) (tl a t) (crd0 a t) (T0 a))) ((half_word (crd a t) (T1 a) hu).trans (crd1 a t))

theorem idx4 (t : Fin (cfgA a).N) : ((cfgA a).win (4 : Fin 5)).index t = ![t.val / 2, 0] := by
  refine Eq.trans ?_ (congrArg (fun n => ![n, 0]) (crd0 a t))
  show ![(BitVec.ofNat 32 (crd a t 0).val).toNat, 0] = _
  have h : (crd a t 0).val < 72 := (crd a t 0).isLt
  rw [BitVec.toNat_ofNat, Nat.mod_eq_of_lt (by omega)]

theorem blk1 (hE : ∀ t : Fin 72, BitVec.toNat (w := 32) (T0 a (ix1 t)) < 8) (t : Fin (cfgA a).N) (hu : Used (crd a t) (T1 a)) (l : Fin 1024) (k : Fin 1792) :
    iblk a m ρ c (1 : Fin 5) t (ix3 0 l k) = aG m c (ix3 (expertOf (T0 a) (tl a t)) l (⟨1792 * (t.val % 2) + k.val, by omega⟩ : Fin 3584)) := by
  refine congrArg (aG m c) (funext fun b => Fin.ext ?_)
  match b with
  | ⟨0, _⟩ =>
    show ((cfgA a).win (1 : Fin 5)).index t 0 * 1 + 1 * 0 = BitVec.toNat (w := 32) (T0 a (ix1 (tl a t))) % 8
    rw [idx1 a t hu]
    show BitVec.toNat (w := 32) (T0 a (ix1 (tl a t))) * 1 + 1 * 0 = BitVec.toNat (w := 32) (T0 a (ix1 (tl a t))) % 8
    have := hE (tl a t)
    omega
  | ⟨1, _⟩ =>
    show ((cfgA a).win (1 : Fin 5)).index t 1 * 1024 + 1 * l.val = l.val
    rw [idx1 a t hu]
    show 0 * 1024 + 1 * l.val = l.val
    omega
  | ⟨2, _⟩ =>
    show ((cfgA a).win (1 : Fin 5)).index t 2 * 1792 + 1 * k.val = 1792 * (t.val % 2) + k.val
    rw [idx1 a t hu]
    show t.val % 2 * 1792 + 1 * k.val = 1792 * (t.val % 2) + k.val
    omega

theorem blk2 (hE : ∀ t : Fin 72, BitVec.toNat (w := 32) (T0 a (ix1 t)) < 8) (t : Fin (cfgA a).N) (hu : Used (crd a t) (T1 a)) (l : Fin 1024) (k : Fin 1792) :
    iblk a m ρ c (2 : Fin 5) t (ix3 0 l k) = aU m c (ix3 (expertOf (T0 a) (tl a t)) l (⟨1792 * (t.val % 2) + k.val, by omega⟩ : Fin 3584)) := by
  refine congrArg (aU m c) (funext fun b => Fin.ext ?_)
  match b with
  | ⟨0, _⟩ =>
    show ((cfgA a).win (2 : Fin 5)).index t 0 * 1 + 1 * 0 = BitVec.toNat (w := 32) (T0 a (ix1 (tl a t))) % 8
    rw [idx2 a t hu]
    show BitVec.toNat (w := 32) (T0 a (ix1 (tl a t))) * 1 + 1 * 0 = BitVec.toNat (w := 32) (T0 a (ix1 (tl a t))) % 8
    have := hE (tl a t)
    omega
  | ⟨1, _⟩ =>
    show ((cfgA a).win (2 : Fin 5)).index t 1 * 1024 + 1 * l.val = l.val
    rw [idx2 a t hu]
    show 0 * 1024 + 1 * l.val = l.val
    omega
  | ⟨2, _⟩ =>
    show ((cfgA a).win (2 : Fin 5)).index t 2 * 1792 + 1 * k.val = 1792 * (t.val % 2) + k.val
    rw [idx2 a t hu]
    show t.val % 2 * 1792 + 1 * k.val = 1792 * (t.val % 2) + k.val
    omega

theorem blk3 (hE : ∀ t : Fin 72, BitVec.toNat (w := 32) (T0 a (ix1 t)) < 8) (t : Fin (cfgA a).N) (hu : Used (crd a t) (T1 a)) (k : Fin 1792) (q : Fin 1024) :
    iblk a m ρ c (3 : Fin 5) t (ix3 0 k q) = aD m c (ix3 (expertOf (T0 a) (tl a t)) (⟨1792 * (t.val % 2) + k.val, by omega⟩ : Fin 3584) q) := by
  refine congrArg (aD m c) (funext fun b => Fin.ext ?_)
  match b with
  | ⟨0, _⟩ =>
    show ((cfgA a).win (3 : Fin 5)).index t 0 * 1 + 1 * 0 = BitVec.toNat (w := 32) (T0 a (ix1 (tl a t))) % 8
    rw [idx3 a t hu]
    show BitVec.toNat (w := 32) (T0 a (ix1 (tl a t))) * 1 + 1 * 0 = BitVec.toNat (w := 32) (T0 a (ix1 (tl a t))) % 8
    have := hE (tl a t)
    omega
  | ⟨1, _⟩ =>
    show ((cfgA a).win (3 : Fin 5)).index t 1 * 1792 + 1 * k.val = 1792 * (t.val % 2) + k.val
    rw [idx3 a t hu]
    show t.val % 2 * 1792 + 1 * k.val = 1792 * (t.val % 2) + k.val
    omega
  | ⟨2, _⟩ =>
    show ((cfgA a).win (3 : Fin 5)).index t 2 * 1024 + 1 * q.val = q.val
    rw [idx3 a t hu]
    show 0 * 1024 + 1 * q.val = q.val
    omega

/-! ## A tile's rows and products -/

theorem tl_before (t : Fin (cfgA a).N) (hf : ¬(crd a t 1).val = 0) : tl a (before a t) = tl a t := by
  obtain ⟨h1, h2, h3⟩ := before_facts a t hf
  rw [crd0, crd0] at h3
  exact Fin.ext h3

theorem used_before (t : Fin (cfgA a).N) (hf : ¬(crd a t 1).val = 0) (hu : Used (crd a t) (T1 a)) : Used (crd a (before a t)) (T1 a) :=
  (used_congr (before_facts a t hf).2.2 (T1 a)).mpr hu

theorem many_before (t : Fin (cfgA a).N) (hf : ¬(crd a t 1).val = 0) : Many (crd a (before a t)) (T1 a) ↔ Many (crd a t) (T1 a) := by
  rw [many_iff (crd a t) (tl a t) (crd0 a t), many_iff (crd a (before a t)) (tl a t) ((before_facts a t hf).2.2.trans (crd0 a t))]

theorem row_at (t : Fin (cfgA a).N) (hu : Used (crd a t) (T1 a)) (r : Fin 512) (l : Fin 1024) :
    tileOf (iblk a m ρ c (0 : Fin 5) t) (ix2 r l) = rowOf (aX m c) (tl a t) r l :=
  (blk0 a m ρ c t hu _ _).trans (congrArg (fun z : Fin 294912 => aX m c (ix2 z _)) (Fin.ext (by
    show 4096 * (tl a t).val + (8 * r.val + l.val / 128) = 4096 * (tl a t).val + 8 * r.val + l.val / 128
    omega)))

theorem halves_at (hE : ∀ t : Fin 72, BitVec.toNat (w := 32) (T0 a (ix1 t)) < 8) (t : Fin (cfgA a).N) (hf : ¬(crd a t 1).val = 0)
    (hu : Used (crd a t) (T1 a)) (x : Fin 1024 → EReal) (q : Fin 1024) :
    prd x (iblk a m ρ c (1 : Fin 5) (before a t)) (iblk a m ρ c (2 : Fin 5) (before a t)) (iblk a m ρ c (3 : Fin 5) (before a t)) q
      + prd x (iblk a m ρ c (1 : Fin 5) t) (iblk a m ρ c (2 : Fin 5) t) (iblk a m ρ c (3 : Fin 5) t) q
      = expert x (aG m c) (aU m c) (aD m c) (expertOf (T0 a) (tl a t)) q := by
  have hb := used_before a t hf hu
  have e0 : (before a t).val % 2 = 0 := by rw [← crd1]; exact (before_facts a t hf).2.1
  have e1 : t.val % 2 = 1 := by rw [crd1] at hf; omega
  have z0 : ∀ k : Fin 1792, (⟨1792 * ((before a t).val % 2) + k.val, by omega⟩ : Fin 3584) = ⟨k.val, by omega⟩ := fun k => Fin.ext (by show 1792 * ((before a t).val % 2) + k.val = k.val; omega)
  have z1 : ∀ k : Fin 1792, (⟨1792 * (t.val % 2) + k.val, by omega⟩ : Fin 3584) = ⟨1792 + k.val, by omega⟩ := fun k => Fin.ext (by show 1792 * (t.val % 2) + k.val = 1792 + k.val; omega)
  refine expert_halves x _ _ _ _ q _ _ _ _ _ _ (fun l k => ?_) (fun l k => ?_) (fun k q => ?_) (fun l k => ?_) (fun l k => ?_) (fun k q => ?_)
  · rw [blk1 a m ρ c hE _ hb, z0, tl_before a t hf]
  · rw [blk2 a m ρ c hE _ hb, z0, tl_before a t hf]
  · rw [blk3 a m ρ c hE _ hb, z0, tl_before a t hf]
  · rw [blk1 a m ρ c hE _ hu, z1]
  · rw [blk2 a m ρ c hE _ hu, z1]
  · rw [blk3 a m ρ c hE _ hu, z1]

/-! ## What a tile's block holds -/

abbrev resultOf : S294912x128.Idx → EReal := out (T0 a) (T1 a) (aX m c) (aG m c) (aU m c) (aD m c)
abbrev entryOf (t : Fin 72) (r : Fin 512) (q : Fin 1024) : EReal := entry (T0 a) (T1 a) (aX m c) (aG m c) (aU m c) (aD m c) t r q

theorem spread_congr (V W : S512x1024.Idx → EReal) (h : ∀ (r : Fin 512) (q : Fin 1024), V (ix2 r q) = W (ix2 r q)) : spread V = spread W :=
  funext fun y => h _ _

/-- The condition on the rows: a row a tile in use does not have is zero. -/
def RowsFit : Prop := ∀ (t : Fin 72) (r : Fin 512), (t.val : ℤ) < BitVec.toInt (n := 32) (T1 a (ix1 (0 : Fin 73))) → ¬Live (T1 a) t r → ∀ l, rowOf (aX m c) t r l = 0

/-- Under it, a tile in use is computed on all its rows. -/
theorem entry_used (hR : RowsFit a m c) (t : Fin (cfgA a).N) (hu : Used (crd a t) (T1 a)) (r : Fin 512) (q : Fin 1024) :
    entryOf a m c (tl a t) r q = expert (rowOf (aX m c) (tl a t) r) (aG m c) (aU m c) (aD m c) (expertOf (T0 a) (tl a t)) q := by
  unfold entryOf entry
  by_cases h : Live (T1 a) (tl a t) r
  · rw [if_pos h]
  · rw [if_neg h]
    have h1 := (used_iff _ _).mp hu
    rw [crd0] at h1
    exact (expert_zero _ (hR (tl a t) r h1 h) _ _ _ _ _).symm

theorem mid_many (t : Fin (cfgA a).N) (hu : Used (crd a t) (T1 a)) (hf : (crd a t 1).val = 0) (hm : Many (crd a t) (T1 a)) :
    mid a m ρ c t = ((runA c (crd a t) (hs4 a t) (hs5 a t) (hs6 a t) (hs7 a t) (hs8 a t) (T0 a) (T1 a) (iblk a m ρ c 0 t) (iblk a m ρ c 1 t) (iblk a m ρ c 2 t) (iblk a m ρ c 3 t) hu hf hm).1,
      (runA c (crd a t) (hs4 a t) (hs5 a t) (hs6 a t) (hs7 a t) (hs8 a t) (T0 a) (T1 a) (iblk a m ρ c 0 t) (iblk a m ρ c 1 t) (iblk a m ρ c 2 t) (iblk a m ρ c 3 t) hu hf hm).2.1) := by
  unfold mid
  rw [dif_pos hu, dif_pos hf, dif_pos hm]

theorem mid_few (t : Fin (cfgA a).N) (hu : Used (crd a t) (T1 a)) (hf : (crd a t 1).val = 0) (hm : ¬Many (crd a t) (T1 a)) :
    mid a m ρ c t = ((runC c (crd a t) (hs4 a t) (hs5 a t) (hs6 a t) (hs7 a t) (hs8 a t) (T0 a) (T1 a) (iblk a m ρ c 0 t) (iblk a m ρ c 1 t) (iblk a m ρ c 2 t) (iblk a m ρ c 3 t) hu hf hm).1,
      (runC c (crd a t) (hs4 a t) (hs5 a t) (hs6 a t) (hs7 a t) (hs8 a t) (T0 a) (T1 a) (iblk a m ρ c 0 t) (iblk a m ρ c 1 t) (iblk a m ρ c 2 t) (iblk a m ρ c 3 t) hu hf hm).2.1) := by
  unfold mid
  rw [dif_pos hu, dif_pos hf, dif_neg hm]

theorem fst_of {α β : Type} {p : α × β} {x : α} {y : β} (h : p = (x, y)) : p.1 = x := by rw [h]
theorem snd_of {α β : Type} {p : α × β} {x : α} {y : β} (h : p = (x, y)) : p.2 = y := by rw [h]

theorem mid_X (t : Fin (cfgA a).N) (hu : Used (crd a t) (T1 a)) (hf : (crd a t 1).val = 0) (r : Fin 512) (l : Fin 1024) :
    rdX c (mid a m ρ c t).1 (ix2 r l) = rowOf (aX m c) (tl a t) r l := by
  refine Eq.trans (congrFun ?_ _) (row_at a m ρ c t hu r l)
  by_cases hm : Many (crd a t) (T1 a)
  · exact (congrArg (rdX c) (fst_of (mid_many a m ρ c t hu hf hm))).trans (runA_X c (crd a t) (hs4 a t) (hs5 a t) (hs6 a t) (hs7 a t) (hs8 a t) (T0 a) (T1 a) (iblk a m ρ c 0 t) (iblk a m ρ c 1 t) (iblk a m ρ c 2 t) (iblk a m ρ c 3 t) hu hf hm)
  · exact (congrArg (rdX c) (fst_of (mid_few a m ρ c t hu hf hm))).trans (runC_X c (crd a t) (hs4 a t) (hs5 a t) (hs6 a t) (hs7 a t) (hs8 a t) (T0 a) (T1 a) (iblk a m ρ c 0 t) (iblk a m ρ c 1 t) (iblk a m ρ c 2 t) (iblk a m ρ c 3 t) hu hf hm)

/-- A row's product over a point's half of the hidden columns. -/
def part (t : Fin (cfgA a).N) (x : Fin 1024 → EReal) (q : Fin 1024) : EReal :=
  prd x (iblk a m ρ c (1 : Fin 5) t) (iblk a m ρ c (2 : Fin 5) t) (iblk a m ρ c (3 : Fin 5) t) q

theorem mid_A_many (t : Fin (cfgA a).N) (hu : Used (crd a t) (T1 a)) (hf : (crd a t 1).val = 0) (hm : Many (crd a t) (T1 a)) (r : Fin 512) (q : Fin 1024) :
    rdA c (mid a m ρ c t).2 (ix2 r q) = part a m ρ c t (rowOf (aX m c) (tl a t) r) q := by
  refine (congrFun (congrArg (rdA c) (snd_of (mid_many a m ρ c t hu hf hm))) _).trans ?_
  refine (congrFun (runA_A c (crd a t) (hs4 a t) (hs5 a t) (hs6 a t) (hs7 a t) (hs8 a t) (T0 a) (T1 a) (iblk a m ρ c 0 t) (iblk a m ρ c 1 t) (iblk a m ρ c 2 t) (iblk a m ρ c 3 t) hu hf hm) _).trans ?_
  exact congrArg (fun f => part a m ρ c t f q) (funext fun l => row_at a m ρ c t hu r l)

theorem mid_A_low (t : Fin (cfgA a).N) (hu : Used (crd a t) (T1 a)) (hf : (crd a t 1).val = 0) (hm : ¬Many (crd a t) (T1 a)) (r : Fin 256) (q : Fin 1024) :
    rdA c (mid a m ρ c t).2 (ix2 (⟨r.val, by omega⟩ : Fin 512) q) = part a m ρ c t (rowOf (aX m c) (tl a t) ⟨r.val, by omega⟩) q := by
  refine (congrFun (congrArg (rdA c) (snd_of (mid_few a m ρ c t hu hf hm))) _).trans ?_
  refine (runC_A_low c (crd a t) (hs4 a t) (hs5 a t) (hs6 a t) (hs7 a t) (hs8 a t) (T0 a) (T1 a) (iblk a m ρ c 0 t) (iblk a m ρ c 1 t) (iblk a m ρ c 2 t) (iblk a m ρ c 3 t) hu hf hm r q).trans ?_
  exact congrArg (fun f => part a m ρ c t f q) (funext fun l => row_at a m ρ c t hu _ l)

theorem mid_A_high (t : Fin (cfgA a).N) (hu : Used (crd a t) (T1 a)) (hf : (crd a t 1).val = 0) (hm : ¬Many (crd a t) (T1 a)) (r : Fin 512) (hr : 256 ≤ r.val) (q : Fin 1024) :
    rdA c (mid a m ρ c t).2 (ix2 r q) = 0 :=
  (congrFun (congrArg (rdA c) (snd_of (mid_few a m ρ c t hu hf hm))) _).trans (runC_A_high c (crd a t) (hs4 a t) (hs5 a t) (hs6 a t) (hs7 a t) (hs8 a t) (T0 a) (T1 a) (iblk a m ρ c 0 t) (iblk a m ρ c 1 t) (iblk a m ρ c 2 t) (iblk a m ρ c 3 t) hu hf hm r hr q)

theorem parts_at (hE : ∀ t : Fin 72, BitVec.toNat (w := 32) (T0 a (ix1 t)) < 8) (hR : RowsFit a m c) (t : Fin (cfgA a).N) (hf : ¬(crd a t 1).val = 0)
    (hu : Used (crd a t) (T1 a)) (r : Fin 512) (q : Fin 1024) :
    part a m ρ c (before a t) (rowOf (aX m c) (tl a t) r) q + part a m ρ c t (rowOf (aX m c) (tl a t) r) q = entryOf a m c (tl a t) r q :=
  (halves_at a m ρ c hE t hf hu _ q).trans (entry_used a m c hR t hu r q).symm

theorem fin_many (hE : ∀ t : Fin 72, BitVec.toNat (w := 32) (T0 a (ix1 t)) < 8) (hR : RowsFit a m c) (t : Fin (cfgA a).N) (hf : ¬(crd a t 1).val = 0)
    (hu : Used (crd a t) (T1 a)) (hm : Many (crd a t) (T1 a)) :
    fin a m ρ c t = spread fun j => entryOf a m c (tl a t) (j 0) (j 1) := by
  have hb := used_before a t hf hu
  have hfb := (before_facts a t hf).2.1
  have hmb := (many_before a t hf).mpr hm
  unfold fin
  rw [dif_pos hu, dif_neg hf, dif_pos hm]
  refine (runB_O c (crd a t) (hs4 a t) (hs5 a t) (hs6 a t) (hs7 a t) (hs8 a t) (T0 a) (T1 a) (iblk a m ρ c 0 t) (iblk a m ρ c 1 t) (iblk a m ρ c 2 t) (iblk a m ρ c 3 t) (mid a m ρ c (before a t)).1 (mid a m ρ c (before a t)).2 hu hf hm).trans (spread_congr _ _ fun r q => ?_)
  refine Eq.trans ?_ (parts_at a m ρ c hE hR t hf hu r q)
  have hA := mid_A_many a m ρ c (before a t) hb hfb hmb r q
  have hX := fun l => mid_X a m ρ c (before a t) hb hfb r l
  rw [tl_before a t hf] at hA
  simp only [tl_before a t hf] at hX
  exact congrArg₂ (· + ·) hA (congrArg (fun f => part a m ρ c t f q) (funext hX))

theorem fin_few (hE : ∀ t : Fin 72, BitVec.toNat (w := 32) (T0 a (ix1 t)) < 8) (hR : RowsFit a m c) (t : Fin (cfgA a).N) (hf : ¬(crd a t 1).val = 0)
    (hu : Used (crd a t) (T1 a)) (hm : ¬Many (crd a t) (T1 a)) :
    fin a m ρ c t = spread fun j => entryOf a m c (tl a t) (j 0) (j 1) := by
  have hb := used_before a t hf hu
  have hfb := (before_facts a t hf).2.1
  have hmb := (not_congr (many_before a t hf)).mpr hm
  unfold fin
  rw [dif_pos hu, dif_neg hf, dif_neg hm]
  obtain ⟨V, hV, hlow, hhigh⟩ := runD_O c (crd a t) (hs4 a t) (hs5 a t) (hs6 a t) (hs7 a t) (hs8 a t) (T0 a) (T1 a) (iblk a m ρ c 0 t) (iblk a m ρ c 1 t) (iblk a m ρ c 2 t) (iblk a m ρ c 3 t) (mid a m ρ c (before a t)).1 (mid a m ρ c (before a t)).2 hu hf hm
  refine hV.trans (spread_congr _ _ fun r q => ?_)
  by_cases hr : r.val < 256
  · refine (hlow ⟨r.val, hr⟩ q).trans (Eq.trans ?_ (parts_at a m ρ c hE hR t hf hu r q))
    have hA := mid_A_low a m ρ c (before a t) hb hfb hmb ⟨r.val, hr⟩ q
    have hX := fun l => mid_X a m ρ c (before a t) hb hfb r l
    rw [tl_before a t hf] at hA
    simp only [tl_before a t hf] at hX
    exact congrArg₂ (· + ·) hA (congrArg (fun f => part a m ρ c t f q) (funext hX))
  · refine (hhigh r (by omega) q).trans ((mid_A_high a m ρ c (before a t) hb hfb hmb r (by omega) q).trans ?_)
    have h1 := fun h => hm ((many_iff (crd a t) (tl a t) (crd0 a t) (T1 a)).mpr h)
    show _ = entryOf a m c (tl a t) r q
    unfold entryOf entry
    rw [if_neg]
    intro h
    have h2 := h.2
    have hr' : (256 : ℤ) ≤ (r.val : ℤ) := by omega
    exact h1 (lt_of_le_of_lt hr' h2)

theorem fin_unused (t : Fin (cfgA a).N) (hu : ¬Used (crd a t) (T1 a)) :
    fin a m ρ c t = spread fun j => entryOf a m c (tl a t) (j 0) (j 1) := by
  unfold fin
  rw [dif_neg hu]
  funext y
  refine (runE_O c (crd a t) (hs4 a t) (hs5 a t) (hs6 a t) (hs7 a t) (hs8 a t) (T0 a) (T1 a) (iblk a m ρ c 0 t) (iblk a m ρ c 1 t) (iblk a m ρ c 2 t) (iblk a m ρ c 3 t) hu y).trans ?_
  show _ = entryOf a m c (tl a t) _ _
  unfold entryOf entry
  rw [if_neg]
  intro h
  have h1 := h.1
  exact hu ((used_iff _ _).mpr (by rw [crd0]; exact h1))

theorem fin_eq (hE : ∀ t : Fin 72, BitVec.toNat (w := 32) (T0 a (ix1 t)) < 8) (hR : RowsFit a m c) (t : Fin (cfgA a).N) (hf : ¬(crd a t 1).val = 0) :
    fin a m ρ c t = spread fun j => entryOf a m c (tl a t) (j 0) (j 1) := by
  by_cases hu : Used (crd a t) (T1 a)
  · by_cases hm : Many (crd a t) (T1 a)
    · exact fin_many a m ρ c hE hR t hf hu hm
    · exact fin_few a m ρ c hE hR t hf hu hm
  · exact fin_unused a m ρ c t hu

/-! ## The array -/

/-- After the call the result's array holds the result. -/
theorem final (hE : ∀ t : Fin 72, BitVec.toNat (w := 32) (T0 a (ix1 t)) < 8) (hR : RowsFit a m c) :
    (dats a m ρ 0 c).arrAt (4 : Fin 5) (cfgA a).N = resultOf a m c := by
  refine (dats a m ρ 0 c).arrAt_eq_of_emb (4 : Fin 5) (resultOf a m c) (fun t hfl y => ?_) (fun i => ?_)
  · have ht : ¬(crd a t 1).val = 0 := fun h => by rw [flush_first a t h] at hfl; exact absurd hfl (by decide)
    show (dats a m ρ 0 c).after (4 : Fin 5) t y = _
    rw [after_4, fin_eq a m ρ c hE hR t ht]
    have h0 : ((((cfgA a).win (4 : Fin 5)).blk t).view.emb y 0).val = t.val / 2 * 4096 + 1 * (y 0).val := by
      show ((cfgA a).win (4 : Fin 5)).index t 0 * 4096 + 1 * (y 0).val = _
      rw [idx4]; rfl
    have h1 : ((((cfgA a).win (4 : Fin 5)).blk t).view.emb y 1).val = 0 * 128 + 1 * (y 1).val := by
      show ((cfgA a).win (4 : Fin 5)).index t 1 * 128 + 1 * (y 1).val = _
      rw [idx4]; rfl
    have hy0 : (y 0).val < 4096 := (y 0).isLt
    refine congr (congr (congrArg (entryOf a m c) (Fin.ext ?_)) (Fin.ext ?_)) (Fin.ext ?_)
    · show t.val / 2 = ((((cfgA a).win (4 : Fin 5)).blk t).view.emb y 0).val / 4096
      rw [h0]; omega
    · show (y 0).val / 8 = ((((cfgA a).win (4 : Fin 5)).blk t).view.emb y 0).val % 4096 / 8
      rw [h0]; omega
    · show 128 * ((y 0).val % 8) + (y 1).val = 128 * (((((cfgA a).win (4 : Fin 5)).blk t).view.emb y 0).val % 8) + ((((cfgA a).win (4 : Fin 5)).blk t).view.emb y 1).val
      rw [h0, h1]; omega
  · have hi0 : (i 0).val < 294912 := (i 0).isLt
    have hi1 : (i 1).val < 128 := (i 1).isLt
    have hN : (cfgA a).N = 144 := N_0
    let t : Fin (cfgA a).N := ⟨2 * ((i 0).val / 4096) + 1, by omega⟩
    refine ⟨t, ?_, ?_⟩
    · refine (show _ = Pipeline.Window.flushOf grid0 true cc0_transform_4 t from rfl).trans ((flush_grid t).trans ?_)
      show decide ((2 * ((i 0).val / 4096) + 1) % 2 = 1) = true
      exact decide_eq_true (by omega)
    · let y : S4096x128.Idx := ix2 (⟨(i 0).val % 4096, Nat.mod_lt _ (by decide)⟩ : Fin 4096) (⟨(i 1).val, hi1⟩ : Fin 128)
      have e : (((cfgA a).win (4 : Fin 5)).blk t).view.emb y = i := funext fun b => Fin.ext (by
        match b with
        | ⟨0, _⟩ =>
          show ((cfgA a).win (4 : Fin 5)).index t 0 * 4096 + 1 * ((i 0).val % 4096) = (i 0).val
          rw [idx4]
          show (2 * ((i 0).val / 4096) + 1) / 2 * 4096 + 1 * ((i 0).val % 4096) = (i 0).val
          omega
        | ⟨1, _⟩ =>
          show ((cfgA a).win (4 : Fin 5)).index t 1 * 128 + 1 * (i 1).val = (i 1).val
          rw [idx4]
          show 0 * 128 + 1 * (i 1).val = (i 1).val
          omega)
      rw [← e]
      exact View.emb_mem_set _ _

end Cert.Kernel5Ideal.Exp

end
-- ==== Proof.ExpRef.lean ====
module

public import proofs.«01_k».proof.Proof.Gen.Reference5Ideal.Run
public import proofs.«01_k».proof.Proof.Gen.Pre_rows_fit
public import proofs.«01_k».proof.Proof.ExpSpec
public import Idealize.ShloMosaic.Lib.WordCmp

/-!
# The experts' call: what the reference computes
-/

@[expose] public section

set_option maxRecDepth 16384

noncomputable section

namespace Cert.Reference5Ideal.Value

open Cert.Reference5Ideal Cert.Reference5Ideal.Gen
open Idealize.ShloMosaic Idealize.ShloMosaic.TcCoe Idealize.ShloMosaic.WordCmp
open Cert.Kernel5Ideal.Exp (rowOf hiddenCol expert expertOf Live entry out word_toInt)

/-- The reference's mask, read at one row. -/
theorem mask_at (R : IVec S73 32) (t : Fin 72) (r : Fin 512) :
    (andi (cmpi .slt (iotaInDim S72x512x1 32 0) (broadcastInDim S72x512x1 ![] bcast_S_S72x512x1 (shapeCast S_ (extractStridedSlice S1 ![0] R slices_S73_S1_0) shapeCasts_S1_S_)))
      (cmpi .slt (iotaInDim S72x512x1 32 1) (broadcastInDim S72x512x1 ![0, 1, 2] bcast_S72x1x1_S72x512x1_0_1_2 (shapeCast S72x1x1 (extractStridedSlice S72 ![1] R slices_S73_S72_1) shapeCasts_S72_S72x1x1)))) (ix3 t r 0)
      = BitVec.ofBool (decide (Live R t r)) := by
  pointwise []
  rw [cmpi_slt_eq, cmpi_slt_eq, andi_ofBool, word_toInt _ (by omega), word_toInt _ (by omega)]
  exact congrArg BitVec.ofBool (Bool.decide_and _ _).symm

/-- One expert's part of the reference, without its mask, read at one entry. -/
theorem part_at (X : FVec Ideal S294912x128 .f32) (G U : FVec Ideal S8x1024x3584 .bf16) (D : FVec Ideal S8x3584x1024 .bf16) (e : Fin 8)
    (h1 : S8x1024x3584.Slices ![e.val, 0, 0] S1x1024x3584) (h2 : S8x3584x1024.Slices ![e.val, 0, 0] S1x3584x1024) (t : Fin 72) (r : Fin 512) (q : Fin 1024) :
    shapeCast S72x512x1024 (Host.dotGeneral dot_S36864x3584_S3584x1024_S36864x1024_1_0_0_1_n_n none
      (mulf (mulf (Host.dotGeneral dot_S36864x1024_S1024x3584_S36864x3584_1_0_0_1_n_n none (shapeCast S36864x1024 X shapeCasts_S294912x128_S36864x1024) (extf .f32 (shapeCast S1024x3584 (extractStridedSlice S1x1024x3584 ![e.val, 0, 0] G h1) shapeCasts_S1x1024x3584_S1024x3584) bitsLt_bf16_f32))
        (Host.divf (broadcastInDim S36864x3584 ![] bcast_S_S36864x3584 (constant S_ .f32 0x3F800000#32)) (addf (broadcastInDim S36864x3584 ![] bcast_S_S36864x3584 (constant S_ .f32 0x3F800000#32)) (Host.exp (Host.negf
          (Host.dotGeneral dot_S36864x1024_S1024x3584_S36864x3584_1_0_0_1_n_n none (shapeCast S36864x1024 X shapeCasts_S294912x128_S36864x1024) (extf .f32 (shapeCast S1024x3584 (extractStridedSlice S1x1024x3584 ![e.val, 0, 0] G h1) shapeCasts_S1x1024x3584_S1024x3584) bitsLt_bf16_f32)))))))
        (Host.dotGeneral dot_S36864x1024_S1024x3584_S36864x3584_1_0_0_1_n_n none (shapeCast S36864x1024 X shapeCasts_S294912x128_S36864x1024) (extf .f32 (shapeCast S1024x3584 (extractStridedSlice S1x1024x3584 ![e.val, 0, 0] U h1) shapeCasts_S1x1024x3584_S1024x3584) bitsLt_bf16_f32)))
      (extf .f32 (shapeCast S3584x1024 (extractStridedSlice S1x3584x1024 ![e.val, 0, 0] D h2) shapeCasts_S1x3584x1024_S3584x1024) bitsLt_bf16_f32)) shapeCasts_S36864x1024_S72x512x1024 (ix3 t r q)
      = expert (rowOf X t r) G U D e q := by
  pointwise [expert, hiddenCol, rowOf]
  have hx : ∀ l : Fin 1024, X (ix2 (⟨(t.val * 512 + r.val) * 8 + l.val / 128, by omega⟩ : Fin 294912) (⟨l.val % 128, Nat.mod_lt _ (by decide)⟩ : Fin 128)) = rowOf X t r l := fun l =>
    congrArg (fun z : Fin 294912 => X (ix2 z _)) (Fin.ext (by show (t.val * 512 + r.val) * 8 + l.val / 128 = 4096 * t.val + 8 * r.val + l.val / 128; omega))
  refine Finset.sum_congr rfl fun k _ => ?_
  refine congrArg (· * D (ix3 e k q)) ?_
  have hG : (∑ l : Fin 1024, X (ix2 (⟨(t.val * 512 + r.val) * 8 + l.val / 128, by omega⟩ : Fin 294912) (⟨l.val % 128, Nat.mod_lt _ (by decide)⟩ : Fin 128)) * G (ix3 e l k))
      = ∑ l : Fin 1024, rowOf X t r l * G (ix3 e l k) := Finset.sum_congr rfl fun l _ => congrArg (· * G (ix3 e l k)) (hx l)
  have hU : (∑ l : Fin 1024, X (ix2 (⟨(t.val * 512 + r.val) * 8 + l.val / 128, by omega⟩ : Fin 294912) (⟨l.val % 128, Nat.mod_lt _ (by decide)⟩ : Fin 128)) * U (ix3 e l k))
      = ∑ l : Fin 1024, rowOf X t r l * U (ix3 e l k) := Finset.sum_congr rfl fun l _ => congrArg (· * U (ix3 e l k)) (hx l)
  exact congrArg₂ (fun a b : EReal => a * Ideal.div 1 (1 + Ideal.exp (-a)) * b) hG hU

/-- One expert's part of the reference, under its mask, read at one entry. -/
theorem masked_at (E : IVec S72 32) (R : IVec S73 32) (w : BitVec 32) (M : IVec S72x512x1 1) (Y : FVec Ideal S72x512x1024 .f32) (t : Fin 72) (r : Fin 512) (q : Fin 1024)
    (y : EReal) (hm : M (ix3 t r 0) = BitVec.ofBool (decide (Live R t r))) (hy : Y (ix3 t r q) = y) :
    select (broadcastInDim S72x512x1024 ![0, 1, 2] bcast_S72x512x1_S72x512x1024_0_1_2 (andi M
      (broadcastInDim S72x512x1 ![0, 1, 2] bcast_S72x1x1_S72x512x1_0_1_2 (cmpi .eq (shapeCast S72x1x1 E shapeCasts_S72_S72x1x1) (broadcastInDim S72x1x1 ![] bcast_S_S72x1x1 (constantI S_ 32 w))))))
      Y (broadcastInDim S72x512x1024 ![] bcast_S_S72x512x1024 (id (constant (F := Ideal) S_ .f32 0x00000000#32))) (ix3 t r q)
      = if Live R t r ∧ E (ix1 t) = w then y else 0 := by
  have e : select (broadcastInDim S72x512x1024 ![0, 1, 2] bcast_S72x512x1_S72x512x1024_0_1_2 (andi M
      (broadcastInDim S72x512x1 ![0, 1, 2] bcast_S72x1x1_S72x512x1_0_1_2 (cmpi .eq (shapeCast S72x1x1 E shapeCasts_S72_S72x1x1) (broadcastInDim S72x1x1 ![] bcast_S_S72x1x1 (constantI S_ 32 w))))))
      Y (broadcastInDim S72x512x1024 ![] bcast_S_S72x512x1024 (id (constant (F := Ideal) S_ .f32 0x00000000#32))) (ix3 t r q)
      = Scalar.select (IntOp.andi (M (ix3 t r 0)) (IntOp.cmpi .eq (E (ix1 t)) w)) (Y (ix3 t r q)) (0 : EReal) := by
    unfold id
    pointwise []
  rw [e, hm, hy, cmpi_eq_eq, andi_ofBool, ← Bool.decide_and]
  by_cases h : Live R t r ∧ E (ix1 t) = w
  · rw [if_pos h, decide_eq_true h]; rfl
  · rw [if_neg h, decide_eq_false h]; rfl

/-- Of eight parts, one for each expert, the tile's own is left. -/
theorem pick (b : Prop) [Decidable b] (n : BitVec 32) (hn : n.toNat < 8) (f : Fin 8 → EReal) :
    ((((((((0 : EReal) + if b ∧ n = 0#32 then f 0 else 0) + if b ∧ n = 1#32 then f 1 else 0) + if b ∧ n = 2#32 then f 2 else 0) + if b ∧ n = 3#32 then f 3 else 0)
      + if b ∧ n = 4#32 then f 4 else 0) + if b ∧ n = 5#32 then f 5 else 0) + if b ∧ n = 6#32 then f 6 else 0) + (if b ∧ n = 7#32 then f 7 else 0)
      = if b then f ⟨n.toNat % 8, Nat.mod_lt _ (by decide)⟩ else 0 := by
  by_cases hb : b
  · have hc : n = 0#32 ∨ n = 1#32 ∨ n = 2#32 ∨ n = 3#32 ∨ n = 4#32 ∨ n = 5#32 ∨ n = 6#32 ∨ n = 7#32 := by
      have k : ∀ i : ℕ, i < 8 → n.toNat = i → n = BitVec.ofNat 32 i := fun i hi h => by
        apply BitVec.eq_of_toNat_eq; rw [h, BitVec.toNat_ofNat]; omega
      have : n.toNat = 0 ∨ n.toNat = 1 ∨ n.toNat = 2 ∨ n.toNat = 3 ∨ n.toNat = 4 ∨ n.toNat = 5 ∨ n.toNat = 6 ∨ n.toNat = 7 := by omega
      rcases this with h | h | h | h | h | h | h | h
      · exact .inl (k 0 (by decide) h)
      · exact .inr (.inl (k 1 (by decide) h))
      · exact .inr (.inr (.inl (k 2 (by decide) h)))
      · exact .inr (.inr (.inr (.inl (k 3 (by decide) h))))
      · exact .inr (.inr (.inr (.inr (.inl (k 4 (by decide) h)))))
      · exact .inr (.inr (.inr (.inr (.inr (.inl (k 5 (by decide) h))))))
      · exact .inr (.inr (.inr (.inr (.inr (.inr (.inl (k 6 (by decide) h)))))))
      · exact .inr (.inr (.inr (.inr (.inr (.inr (.inr (k 7 (by decide) h)))))))
    rcases hc with rfl | rfl | rfl | rfl | rfl | rfl | rfl | rfl <;> simp [hb] <;> rfl
  · simp [hb]

variable (V0 : Idealize.ShloMosaic.Valuation τ sig (Elt Ideal))

abbrev vE : IVec S72 32 := V0 (Proc.devRef .tc main_arg0)
abbrev vR : IVec S73 32 := V0 (Proc.devRef .tc main_arg1)
abbrev vX : FVec Ideal S294912x128 .f32 := V0 (Proc.devRef .tc main_arg2)
abbrev vG : FVec Ideal S8x1024x3584 .bf16 := V0 (Proc.devRef .tc main_arg3)
abbrev vU : FVec Ideal S8x1024x3584 .bf16 := V0 (Proc.devRef .tc main_arg4)
abbrev vD : FVec Ideal S8x3584x1024 .bf16 := V0 (Proc.devRef .tc main_arg5)

theorem entry_at (hE : ∀ t : Fin 72, (vE V0 (ix1 t)).toNat < 8) (t : Fin 72) (r : Fin 512) (q : Fin 1024) :
    res_main_v188 (F := Ideal) V0 (ix3 t r q) = entry (vE V0) (vR V0) (vX V0) (vG V0) (vU V0) (vD V0) t r q := by
  refine Eq.trans ?_ (pick (Live (vR V0) t r) (vE V0 (ix1 t)) (hE t) fun e => expert (rowOf (vX V0) t r) (vG V0) (vU V0) (vD V0) e q)
  have hm : res_main_v11 (F := Ideal) V0 (ix3 t r 0) = BitVec.ofBool (decide (Live (vR V0) t r)) := mask_at (vR V0) t r
  have hz : broadcastInDim S72x512x1024 ![] bcast_S_S72x512x1024 (constant (F := Ideal) S_ .f32 0x00000000#32) (ix3 t r q) = (0 : EReal) := by pointwise []
  unfold res_main_v188
  refine congrArg₂ (· + ·) (congrArg₂ (· + ·) (congrArg₂ (· + ·) (congrArg₂ (· + ·) ?_
    (masked_at _ _ 4#32 _ _ t r q _ hm (part_at (vX V0) (vG V0) (vU V0) (vD V0) 4 _ _ t r q)))
    (masked_at _ _ 5#32 _ _ t r q _ hm (part_at (vX V0) (vG V0) (vU V0) (vD V0) 5 _ _ t r q)))
    (masked_at _ _ 6#32 _ _ t r q _ hm (part_at (vX V0) (vG V0) (vU V0) (vD V0) 6 _ _ t r q)))
    (masked_at _ _ 7#32 _ _ t r q _ hm (part_at (vX V0) (vG V0) (vU V0) (vD V0) 7 _ _ t r q))
  unfold res_main_v100
  exact congrArg₂ (· + ·) (congrArg₂ (· + ·) (congrArg₂ (· + ·) (congrArg₂ (· + ·) hz
    (masked_at _ _ 0#32 _ _ t r q _ hm (part_at (vX V0) (vG V0) (vU V0) (vD V0) 0 _ _ t r q)))
    (masked_at _ _ 1#32 _ _ t r q _ hm (part_at (vX V0) (vG V0) (vU V0) (vD V0) 1 _ _ t r q)))
    (masked_at _ _ 2#32 _ _ t r q _ hm (part_at (vX V0) (vG V0) (vU V0) (vD V0) 2 _ _ t r q)))
    (masked_at _ _ 3#32 _ _ t r q _ hm (part_at (vX V0) (vG V0) (vU V0) (vD V0) 3 _ _ t r q))

/-- The reference's result. -/
theorem result_eq (hE : ∀ t : Fin 72, (vE V0 (ix1 t)).toNat < 8) :
    shapeCast S294912x128 (res_main_v188 (F := Ideal) V0) shapeCasts_S72x512x1024_S294912x128 = out (vE V0) (vR V0) (vX V0) (vG V0) (vU V0) (vD V0) := by
  funext y
  unfold out
  rw [← entry_at V0 hE]
  generalize res_main_v188 (F := Ideal) V0 = Y
  pointwise []
  refine congrArg Y (funext fun b => Fin.ext ?_)
  match b with
  | ⟨0, _⟩ => rfl
  | ⟨1, _⟩ => show (y 0).val / 8 % 512 = (y 0).val % 4096 / 8; omega
  | ⟨2, _⟩ => show (y 0).val % 8 * 128 + (y 1).val = 128 * ((y 0).val % 8) + (y 1).val; omega

end Cert.Reference5Ideal.Value

end
-- ==== Proof.ExpAlg.lean ====
module

public import proofs.«01_k».proof.Defs
public import proofs.«01_k».proof.Proof.ExpPre
public import proofs.«01_k».proof.Proof.ExpOut
public import proofs.«01_k».proof.Proof.ExpRef
public import proofs.«01_k».proof.Proof.Gen.Pre_rows_fit

/-!
# The experts' call: the kernel and its reference agree

The condition on the rows, read at one entry, and the two claims it enters.
-/

@[expose] public section

set_option maxRecDepth 16384

noncomputable section

namespace Cert.Kernel5Ideal.Exp

open Cert.Kernel5Ideal Cert.Kernel5Ideal.Gen
open Idealize.ShloMosaic Idealize.ShloMosaic.TcCoe Idealize.ShloMosaic.WordCmp Idealize.SL.Sem

attribute [local instance] Cert.Pre_rows_fit.Gen.facts

variable (E : IVec S72 32) (R : IVec S73 32) (X : FVec Ideal S294912x128 .f32) (G U : FVec Ideal S8x1024x3584 .bf16) (D : FVec Ideal S8x3584x1024 .bf16)

/-- The condition on the first table, read at one entry. -/
theorem experts_rows (h : (Cert.Pre_rows_fit.fn (F := Ideal) E R X G U D).1 = fun _ => 1#1) (x : S72.Idx) : 0 ≤ (E x).toInt ∧ (E x).toInt ≤ 7 := by
  have h1 : IntOp.andi (IntOp.cmpi .sge (E x) 0#32) (IntOp.cmpi .sle (E x) 7#32) = 1#1 := congrFun h x
  rw [cmpi_sge_eq, cmpi_sle_eq, andi_ofBool, ofBool_eq_one_iff, Bool.and_eq_true, decide_eq_true_eq, decide_eq_true_eq] at h1
  exact h1

/-- The condition on the second table. -/
theorem tiles_rows (h : (Cert.Pre_rows_fit.fn (F := Ideal) E R X G U D).2.1 = fun _ => 1#1) (x : S73.Idx) (hx : (x 0).val = 0) : 1 ≤ (R x).toInt := by
  let z : Cert.Pre_rows_fit.S1.Idx := fun b => match b with | ⟨0, _⟩ => (0 : Fin 1)
  have h1 : IntOp.cmpi .sge (extractStridedSlice Cert.Pre_rows_fit.S1 ![0] R Cert.Pre_rows_fit.Facts.slices_S73_S1_0 z) 1#32 = 1#1 := congrFun h z
  rw [cmpi_sge_eq, ofBool_decide_eq_one_iff] at h1
  refine h1.trans (le_of_eq (congrArg (fun y => BitVec.toInt (R y)) (funext fun b => ?_)))
  match b with
  | ⟨0, _⟩ => exact Fin.ext hx.symm

/-- The condition on the rows, at one entry. -/
theorem zeros_at (t : Fin 72) (r : Fin 512) (l : Fin 1024) :
    (Cert.Pre_rows_fit.fn (F := Ideal) E R X G U D).2.2 (ix3 t r l)
      = IntOp.ori (IntOp.ori (IntOp.cmpi .sge (BitVec.ofNat 32 t.val) (R (ix1 (0 : Fin 73))))
          (IntOp.cmpi .slt (BitVec.ofNat 32 r.val) (R (ix1 (⟨1 + t.val, by omega⟩ : Fin 73)))))
        (BitVec.ofBool (decide (rowOf X t r l = 0))) := by
  have hx : rowOf X t r l = X (ix2 (⟨t.val * 4096 + r.val * 8 + l.val / 128, by omega⟩ : Fin 294912) (⟨l.val % 128, Nat.mod_lt _ (by decide)⟩ : Fin 128)) := by
    unfold rowOf
    refine congrArg X (funext fun b => Fin.ext ?_)
    match b with
    | ⟨0, _⟩ => show 4096 * t.val + 8 * r.val + l.val / 128 = t.val * 4096 + r.val * 8 + l.val / 128; omega
    | ⟨1, _⟩ => rfl
  rw [hx]
  pointwise [Cert.Pre_rows_fit.fn, Cert.Pre_rows_fit.fn_part1]

/-- Under it, a row that a tile in use does not have is zero. -/
theorem zeros_rows (h : (Cert.Pre_rows_fit.fn (F := Ideal) E R X G U D).2.2 = fun _ => 1#1) (t : Fin 72) (r : Fin 512)
    (ht : (t.val : ℤ) < (R (ix1 (0 : Fin 73))).toInt) (hl : ¬Live R t r) (l : Fin 1024) : rowOf X t r l = 0 := by
  have e := (zeros_at E R X G U D t r l).symm.trans (congrFun h (ix3 t r l))
  rw [cmpi_sge_eq, cmpi_slt_eq, ori_ofBool, ori_ofBool, ofBool_eq_one_iff, Bool.or_eq_true, Bool.or_eq_true, decide_eq_true_eq, decide_eq_true_eq, decide_eq_true_eq,
    word_toInt _ (by omega), word_toInt _ (by omega)] at e
  rcases e with (e | e) | e
  · exact absurd ht (not_lt.mpr e)
  · exact absurd ⟨ht, e⟩ hl
  · exact e

variable (m : (ℓ : Loc nD τ sig) → Buf (Elt Ideal) ℓ)

/-- The tables of a memory that meets the condition. -/
def admOf (hm : Cert.Pre_Kernel5Ideal_rows_fit m) : (pcfg0 (F := Ideal)).Adm :=
  adm m (experts_rows _ _ _ _ _ _ (hm 0).1) (tiles_rows _ _ _ _ _ _ (hm 0).2.1)

/-- The frame of the call under the condition. -/
theorem frame_rows : Cert.quiescent_Kernel5Ideal_pre_rows_fit (hKernel5Ideal := Cert.Kernel5Ideal.Gen.facts) (hPre_rows_fit := Cert.Pre_rows_fit.Gen.facts) :=
  fun m g hm => frame_at (admOf m hm) m g (tables_eq m)

/-- Every expert is one of the eight. -/
theorem experts_lt (hm : Cert.Pre_Kernel5Ideal_rows_fit m) (t : Fin 72) : BitVec.toNat (w := 32) (T0 (admOf m hm) (ix1 t)) < 8 :=
  Nat.lt_succ_of_le (expert_le _ (experts_rows _ _ _ _ _ _ (hm 0).1 (ix1 t)))

/-- The rows the tiles in use do not have are zero. -/
theorem rows_fit (hm : Cert.Pre_Kernel5Ideal_rows_fit m) (c : Dev nD) : RowsFit (admOf m hm) m c := fun t r ht hl l => by
  obtain rfl : c = 0 := Subsingleton.elim _ _
  exact zeros_rows _ _ _ _ _ _ (hm 0).2.2 t r ht hl l

/-- The call ends with the result in its array. -/
theorem run_result (ρ : Dev nD → PrngReg) (hm : Cert.Pre_Kernel5Ideal_rows_fit m) :
    θ_run (defs (F := Ideal)) (onTc (τ := τ) (main (F := Ideal))) ⟨m, fun _ => 0, ρ⟩ fun r => ∀ c : Dev nD,
      r.2.mem ((c.tc : Thread nD τ).loc main_v0) = resultOf (admOf m hm) m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨((h.1 c).1 (4 : Fin 5)).trans (final (admOf m hm) m ρ c (experts_lt m hm) (rows_fit m hm c)),
    kept_of (admOf m hm) m ρ (tables_eq m) r h.1 c⟩) (run_main (admOf m hm) m ρ (tables_eq m))

/-- From memories that agree on the arguments, the reference's result is the kernel's. -/
theorem reference_eq (hm : Cert.Pre_Kernel5Ideal_rows_fit m) (V0 : Valuation Cert.Reference5Ideal.τ Cert.Reference5Ideal.sig (Elt Ideal)) (c : Dev nD)
    (h0 : Cert.Reference5Ideal.Value.vE V0 = m ((c.tc : Thread nD τ).loc main_arg0))
    (h1 : Cert.Reference5Ideal.Value.vR V0 = m ((c.tc : Thread nD τ).loc main_arg1))
    (h2 : Cert.Reference5Ideal.Value.vX V0 = m ((c.tc : Thread nD τ).loc main_arg2))
    (h3 : Cert.Reference5Ideal.Value.vG V0 = m ((c.tc : Thread nD τ).loc main_arg3))
    (h4 : Cert.Reference5Ideal.Value.vU V0 = m ((c.tc : Thread nD τ).loc main_arg4))
    (h5 : Cert.Reference5Ideal.Value.vD V0 = m ((c.tc : Thread nD τ).loc main_arg5)) :
    shapeCast Cert.Reference5Ideal.S294912x128 (Cert.Reference5Ideal.Value.res_main_v188 (F := Ideal) V0) Cert.Reference5Ideal.Gen.shapeCasts_S72x512x1024_S294912x128
      = resultOf (admOf m hm) m c := by
  obtain rfl : c = 0 := Subsingleton.elim _ _
  refine (Cert.Reference5Ideal.Value.result_eq V0 fun t => ?_).trans ?_
  · rw [h0]; exact experts_lt m hm t
  · rw [h0, h1, h2, h3, h4, h5]; rfl

/-- The reference ends with the kernel's result. -/
theorem run_reference (hm : Cert.Pre_Kernel5Ideal_rows_fit m)
    (m' : (ℓ : Loc Cert.Reference5Ideal.nD Cert.Reference5Ideal.τ Cert.Reference5Ideal.sig) → Buf (Elt Ideal) ℓ) (c : Dev Cert.Reference5Ideal.nD)
    (h : m' ((c.tc : Thread Cert.Reference5Ideal.nD Cert.Reference5Ideal.τ).loc Cert.Reference5Ideal.main_arg0) = m ((c.tc : Thread nD τ).loc main_arg0)
      ∧ m' ((c.tc : Thread Cert.Reference5Ideal.nD Cert.Reference5Ideal.τ).loc Cert.Reference5Ideal.main_arg1) = m ((c.tc : Thread nD τ).loc main_arg1)
      ∧ m' ((c.tc : Thread Cert.Reference5Ideal.nD Cert.Reference5Ideal.τ).loc Cert.Reference5Ideal.main_arg2) = m ((c.tc : Thread nD τ).loc main_arg2)
      ∧ m' ((c.tc : Thread Cert.Reference5Ideal.nD Cert.Reference5Ideal.τ).loc Cert.Reference5Ideal.main_arg3) = m ((c.tc : Thread nD τ).loc main_arg3)
      ∧ m' ((c.tc : Thread Cert.Reference5Ideal.nD Cert.Reference5Ideal.τ).loc Cert.Reference5Ideal.main_arg4) = m ((c.tc : Thread nD τ).loc main_arg4)
      ∧ m' ((c.tc : Thread Cert.Reference5Ideal.nD Cert.Reference5Ideal.τ).loc Cert.Reference5Ideal.main_arg5) = m ((c.tc : Thread nD τ).loc main_arg5)) :
    shapeCast Cert.Reference5Ideal.S294912x128 (Cert.Reference5Ideal.Value.res_main_v188 (F := Ideal) (StableHlo.launchContents m' c)) Cert.Reference5Ideal.Gen.shapeCasts_S72x512x1024_S294912x128
      = resultOf (admOf m hm) m c :=
  reference_eq m hm (StableHlo.launchContents m' c) c h.1 h.2.1 h.2.2.1 h.2.2.2.1 h.2.2.2.2.1 h.2.2.2.2.2

/-- The experts' call and its reference return the same rows. -/
theorem experts : Cert.algebraic_Kernel5Ideal_Reference5Ideal_pre_rows_fit (hKernel5Ideal := Cert.Kernel5Ideal.Gen.facts)
    (hReference5Ideal := Cert.Reference5Ideal.Gen.facts) (hPre_rows_fit := Cert.Pre_rows_fit.Gen.facts) := by
  intro m g m' g' hm hag
  refine ⟨fun c => resultOf (admOf m hm) m c, run_result m g hm, ?_⟩
  refine (θ_run _ _ _).mono (fun r h c => ?_) (Cert.Reference5Ideal.Value.run m' g')
  exact ⟨(h c).1.trans (run_reference m hm m' c (hag c)), (h c).2⟩

end Cert.Kernel5Ideal.Exp

end
-- ==== Proof.lean ====
module

public import proofs.«01_k».proof.Defs
public import proofs.«01_k».proof.Proof.RetAlg
public import proofs.«01_k».proof.Proof.Ffn
public import proofs.«01_k».proof.Proof.Merge
public import proofs.«01_k».proof.Proof.Proj
public import proofs.«01_k».proof.Proof.ProjBitsFrame
public import proofs.«01_k».proof.Proof.ExpPre
public import proofs.«01_k».proof.Proof.ExpBitsPre
public import proofs.«01_k».proof.Proof.Gen.Kernel5
public import proofs.«01_k».proof.Proof.Gen.Kernel5Ideal
public import proofs.«01_k».proof.Proof.Gen.Pre_tables_fit
public import proofs.«01_k».proof.Proof.ExpAlg
public import proofs.«01_k».proof.Proof.Gen.Reference5Ideal.Run
public import proofs.«01_k».proof.Proof.Gen.Reference5Ideal
public import proofs.«01_k».proof.Proof.Gen.Pre_rows_fit
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import Idealize.ShloMosaic.Adequacy
public import Idealize.ShloMosaic.Init

@[expose] public section

noncomputable section

namespace Cert.Proof

open Idealize.ShloMosaic Idealize.SL.Sem

/-- The retention kernel and its reference return the same output and the same state. -/
theorem retention : Cert.algebraic_KernelIdeal_ReferenceIdeal (hKernelIdeal := Cert.KernelIdeal.Gen.facts) (hReferenceIdeal := Cert.ReferenceIdeal.Gen.facts) := by
  pair_intro
  · run_from Cert.KernelIdeal.Value.run m g
  · run_from Cert.ReferenceIdeal.Value.run m' g'
    · exact Ret.out_eq m m' c (hagree c).1 (hagree c).2
    · exact Ret.state_eq m m' c (hagree c).1 (hagree c).2

/-- The reference of the retention terminates with its arguments unchanged; it has no counters. -/
theorem retention_reference_frame : Cert.quiescent_ReferenceIdeal (hReferenceIdeal := Cert.ReferenceIdeal.Gen.facts) := fun m g _ =>
  θ_run_mono (Cert.ReferenceIdeal.Value.run m g) fun r h =>
    ⟨fun c => ⟨(h c).2.2.1, (h c).2.2.2⟩, sem_eq_zero_of_no_sems rfl r.2⟩

/-- The dense feed-forward kernel and its reference return the same residual. -/
theorem ffn : Cert.algebraic_Kernel2Ideal_Reference2Ideal (hKernel2Ideal := Cert.Kernel2Ideal.Gen.facts) (hReference2Ideal := Cert.Reference2Ideal.Gen.facts) := by
  pair_intro
  · run_from Cert.Kernel2Ideal.Value.run_blocks m g
  · run_from Cert.Reference2Ideal.Value.run m' g'
    exact (Cert.Kernel2Ideal.Ffn.reference_eq _ _ _ _ _).trans (Cert.Kernel2Ideal.Ffn.final m c).symm

/-- The reference of the feed-forward terminates with its arguments unchanged; it has no counters. -/
theorem ffn_reference_frame : Cert.quiescent_Reference2Ideal (hReference2Ideal := Cert.Reference2Ideal.Gen.facts) := fun m g _ =>
  θ_run_mono (Cert.Reference2Ideal.Value.run m g) fun r h => ⟨fun c => (h c).2, sem_eq_zero_of_no_sems rfl r.2⟩

/-- The merge kernel and its reference return the same residual and the same normalised rows. -/
theorem merge : Cert.algebraic_Kernel3Ideal_Reference3Ideal (hKernel3Ideal := Cert.Kernel3Ideal.Gen.facts) (hReference3Ideal := Cert.Reference3Ideal.Gen.facts) := by
  pair_intro
  · run_from Cert.Kernel3Ideal.Value.run_blocks m g
  · run_from Cert.Reference3Ideal.Value.run m' g'
    · have e := (Cert.Reference3Ideal.Merge.hid_eq m' c).trans (Cert.Reference3Ideal.Merge.hidA_agree m m' c (hagree c))
      simp only [hagree c] at e
      exact e.trans (Cert.Kernel3Ideal.Merge.final15 m c).symm
    · have e := (Cert.Reference3Ideal.Merge.nrm_eq m' c).trans (Cert.Reference3Ideal.Merge.nrmA_agree m m' c (hagree c))
      exact e.trans (Cert.Kernel3Ideal.Merge.final16 m c).symm

/-- The reference of the merge terminates with its arguments unchanged; it has no counters. -/
theorem merge_reference_frame : Cert.quiescent_Reference3Ideal (hReference3Ideal := Cert.Reference3Ideal.Gen.facts) := fun m g _ =>
  θ_run_mono (Cert.Reference3Ideal.Value.run m g) fun r h => ⟨fun c => (h c).2.2, sem_eq_zero_of_no_sems rfl r.2⟩

/-- The norm and projection kernel and its reference return the same two projections. -/
theorem proj : Cert.algebraic_Kernel4Ideal_Reference4Ideal (hKernel4Ideal := Cert.Kernel4Ideal.Gen.facts) (hReference4Ideal := Cert.Reference4Ideal.Gen.facts) := by
  pair_intro
  · run_from Cert.Kernel4Ideal.Proj.run_blocks m g
  · run_from Cert.Reference4Ideal.Value.run m' g'
    · exact (Cert.Reference4Ideal.Proj.first_eq _ _ _).trans (Cert.Kernel4Ideal.Proj.final4 m c).symm
    · exact (Cert.Reference4Ideal.Proj.second_eq _ _ _).trans (Cert.Kernel4Ideal.Proj.final5 m c).symm

/-- The reference of the projection terminates with its arguments unchanged; it has no counters. -/
theorem proj_reference_frame : Cert.quiescent_Reference4Ideal (hReference4Ideal := Cert.Reference4Ideal.Gen.facts) := fun m g _ =>
  θ_run_mono (Cert.Reference4Ideal.Value.run m g) fun r h => ⟨fun c => (h c).2.2, sem_eq_zero_of_no_sems rfl r.2⟩

/-- The reference of the experts' call terminates with its arguments unchanged, whatever they are; it has no counters. -/
theorem experts_reference_frame : Cert.quiescent_Reference5Ideal (hReference5Ideal := Cert.Reference5Ideal.Gen.facts) := fun m g _ =>
  θ_run_mono (Cert.Reference5Ideal.Value.run m g) fun r h => ⟨fun c => (h c).2, sem_eq_zero_of_no_sems rfl r.2⟩

/-- So it does under the condition on the rows. -/
theorem experts_reference_frame_rows : Cert.quiescent_Reference5Ideal_pre_rows_fit (hReference5Ideal := Cert.Reference5Ideal.Gen.facts)
    (hPre_rows_fit := Cert.Pre_rows_fit.Gen.facts) := fun m g _ => experts_reference_frame m g trivial

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_tables_fit.Gen.facts, Cert.Pre_rows_fit.Gen.facts,
  fun m g _ => Cert.Kernel.Gen.frame m g, fun m g _ => Cert.KernelIdeal.Gen.frame m g, retention_reference_frame,
  fun m g _ => Cert.Kernel2.Gen.frame m g, fun m g _ => Cert.Kernel2Ideal.Gen.frame m g, ffn_reference_frame,
  fun m g _ => Cert.Kernel3.Gen.frame m g, fun m g _ => Cert.Kernel3Ideal.Gen.frame m g, merge_reference_frame,
  fun m g _ => Cert.Kernel4.Proj.frame m g, fun m g _ => Cert.Kernel4Ideal.Proj.frame m g, proj_reference_frame,
  Cert.Kernel5.Exp.frame, Cert.Kernel5Ideal.Exp.frame, Cert.Kernel5Ideal.Exp.frame_rows, experts_reference_frame, experts_reference_frame_rows,
  trivial, retention, trivial, ffn, trivial, merge, trivial, proj, trivial, Cert.Kernel5Ideal.Exp.experts⟩

end Cert.Proof

end
